-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Combine [hPre_rows_exist : Cert.Pre_rows_exist.Facts] (m : (ℓ : Loc Cert.Combine.nD Cert.Combine.τ Cert.Combine.sig) → Buf (Elt Bits) ℓ) : Prop :=
  ∀ c : Dev Cert.Combine.nD,
    (Cert.Pre_rows_exist.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2))) = (fun _ => 1#1)

def Pre_CombineIdeal [hPre_rows_exist : Cert.Pre_rows_exist.Facts] (m : (ℓ : Loc Cert.CombineIdeal.nD Cert.CombineIdeal.τ Cert.CombineIdeal.sig) → Buf (Elt Ideal) ℓ) : Prop :=
  ∀ c : Dev Cert.CombineIdeal.nD,
    (Cert.Pre_rows_exist.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2))) = (fun _ => 1#1)

def Pre_CombineReferenceIdeal (m : (ℓ : Loc Cert.CombineReferenceIdeal.nD Cert.CombineReferenceIdeal.τ Cert.CombineReferenceIdeal.sig) → Buf (Elt Ideal) ℓ) : Prop :=
  True

def Pre_CombineReferenceIdeal_rows_exist [hPre_rows_exist : Cert.Pre_rows_exist.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_rows_exist.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9)
      ∧ r.2.mem ((c.tc : Thread Cert.InProj.nD Cert.InProj.τ).loc Cert.InProj.main_arg10) = m ((c.tc : Thread Cert.InProj.nD Cert.InProj.τ).loc Cert.InProj.main_arg10))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6)
      ∧ r.2.mem ((c.tc : Thread Cert.InProjReferenceIdeal.nD Cert.InProjReferenceIdeal.τ).loc Cert.InProjReferenceIdeal.main_arg7) = m ((c.tc : Thread Cert.InProjReferenceIdeal.nD Cert.InProjReferenceIdeal.τ).loc Cert.InProjReferenceIdeal.main_arg7)
      ∧ r.2.mem ((c.tc : Thread Cert.InProjReferenceIdeal.nD Cert.InProjReferenceIdeal.τ).loc Cert.InProjReferenceIdeal.main_arg8) = m ((c.tc : Thread Cert.InProjReferenceIdeal.nD Cert.InProjReferenceIdeal.τ).loc Cert.InProjReferenceIdeal.main_arg8)
      ∧ r.2.mem ((c.tc : Thread Cert.InProjReferenceIdeal.nD Cert.InProjReferenceIdeal.τ).loc Cert.InProjReferenceIdeal.main_arg9) = m ((c.tc : Thread Cert.InProjReferenceIdeal.nD Cert.InProjReferenceIdeal.τ).loc Cert.InProjReferenceIdeal.main_arg9)
      ∧ r.2.mem ((c.tc : Thread Cert.InProjReferenceIdeal.nD Cert.InProjReferenceIdeal.τ).loc Cert.InProjReferenceIdeal.main_arg10) = m ((c.tc : Thread Cert.InProjReferenceIdeal.nD Cert.InProjReferenceIdeal.τ).loc Cert.InProjReferenceIdeal.main_arg10))
      ∧ r.2.sem = fun _ => 0)

def quiescent_Combine [hCombine : Cert.Combine.Facts] [hPre_rows_exist : Cert.Pre_rows_exist.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineIdeal [hCombineIdeal : Cert.CombineIdeal.Facts] [hPre_rows_exist : Cert.Pre_rows_exist.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2))
      ∧ r.2.sem = fun _ => 0)

def quiescent_CombineReferenceIdeal_pre_rows_exist [hCombineReferenceIdeal : Cert.CombineReferenceIdeal.Facts] [hPre_rows_exist : Cert.Pre_rows_exist.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal_rows_exist m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2))
      ∧ r.2.sem = fun _ => 0)

def preserves_Kernel_KernelIdeal : Prop :=
  IdealRules.named_const.Statement Cert.KernelIdeal.κ "inv_fp8_max" .f32 0x3B124925#32 ((1 / 448 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_InProj_InProjIdeal : Prop :=
  IdealRules.named_const.Statement Cert.InProjIdeal.κ "inv_fp8_max" .f32 0x3B124925#32 ((1 / 448 : ℝ) : EReal)
  ∧ IdealRules.named_const.Statement Cert.InProjIdeal.κ "inv_int8_max" .f32 0x3C010204#32 ((1 / 127 : ℝ) : EReal)

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)
      ∧ m' ((c.tc : Thread Cert.InProjReferenceIdeal.nD Cert.InProjReferenceIdeal.τ).loc Cert.InProjReferenceIdeal.main_arg6) = m ((c.tc : Thread Cert.InProjIdeal.nD Cert.InProjIdeal.τ).loc Cert.InProjIdeal.main_arg6)
      ∧ m' ((c.tc : Thread Cert.InProjReferenceIdeal.nD Cert.InProjReferenceIdeal.τ).loc Cert.InProjReferenceIdeal.main_arg7) = m ((c.tc : Thread Cert.InProjIdeal.nD Cert.InProjIdeal.τ).loc Cert.InProjIdeal.main_arg7)
      ∧ m' ((c.tc : Thread Cert.InProjReferenceIdeal.nD Cert.InProjReferenceIdeal.τ).loc Cert.InProjReferenceIdeal.main_arg8) = m ((c.tc : Thread Cert.InProjIdeal.nD Cert.InProjIdeal.τ).loc Cert.InProjIdeal.main_arg8)
      ∧ m' ((c.tc : Thread Cert.InProjReferenceIdeal.nD Cert.InProjReferenceIdeal.τ).loc Cert.InProjReferenceIdeal.main_arg9) = m ((c.tc : Thread Cert.InProjIdeal.nD Cert.InProjIdeal.τ).loc Cert.InProjIdeal.main_arg9)
      ∧ m' ((c.tc : Thread Cert.InProjReferenceIdeal.nD Cert.InProjReferenceIdeal.τ).loc Cert.InProjReferenceIdeal.main_arg10) = m ((c.tc : Thread Cert.InProjIdeal.nD Cert.InProjIdeal.τ).loc Cert.InProjIdeal.main_arg10)) →
    ∃ (v0 : (c : Dev Cert.InProjIdeal.nD) → Buf (Elt Ideal) ((c.tc : Thread Cert.InProjIdeal.nD Cert.InProjIdeal.τ).loc Cert.InProjIdeal.main_v20_0)) (v1 : (c : Dev Cert.InProjIdeal.nD) → Buf (Elt Ideal) ((c.tc : Thread Cert.InProjIdeal.nD Cert.InProjIdeal.τ).loc Cert.InProjIdeal.main_v20_1)) (v2 : (c : Dev Cert.InProjIdeal.nD) → Buf (Elt Ideal) ((c.tc : Thread Cert.InProjIdeal.nD Cert.InProjIdeal.τ).loc Cert.InProjIdeal.main_v20_2)) (v3 : (c : Dev Cert.InProjIdeal.nD) → Buf (Elt Ideal) ((c.tc : Thread Cert.InProjIdeal.nD Cert.InProjIdeal.τ).loc Cert.InProjIdeal.main_v20_3)) (v4 : (c : Dev Cert.InProjIdeal.nD) → Buf (Elt Ideal) ((c.tc : Thread Cert.InProjIdeal.nD Cert.InProjIdeal.τ).loc Cert.InProjIdeal.main_v20_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v20_0) = v0 c
          ∧ r.2.mem ((c.tc : Thread Cert.InProjIdeal.nD Cert.InProjIdeal.τ).loc Cert.InProjIdeal.main_v20_1) = v1 c
          ∧ r.2.mem ((c.tc : Thread Cert.InProjIdeal.nD Cert.InProjIdeal.τ).loc Cert.InProjIdeal.main_v20_2) = v2 c
          ∧ r.2.mem ((c.tc : Thread Cert.InProjIdeal.nD Cert.InProjIdeal.τ).loc Cert.InProjIdeal.main_v20_3) = v3 c
          ∧ r.2.mem ((c.tc : Thread Cert.InProjIdeal.nD Cert.InProjIdeal.τ).loc Cert.InProjIdeal.main_v20_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
          ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v0_0) = v0 c
          ∧ r.2.mem ((c.tc : Thread Cert.InProjReferenceIdeal.nD Cert.InProjReferenceIdeal.τ).loc Cert.InProjReferenceIdeal.main_v0_1) = v1 c
          ∧ r.2.mem ((c.tc : Thread Cert.InProjReferenceIdeal.nD Cert.InProjReferenceIdeal.τ).loc Cert.InProjReferenceIdeal.main_v0_2) = v2 c
          ∧ r.2.mem ((c.tc : Thread Cert.InProjReferenceIdeal.nD Cert.InProjReferenceIdeal.τ).loc Cert.InProjReferenceIdeal.main_v0_3) = v3 c
          ∧ r.2.mem ((c.tc : Thread Cert.InProjReferenceIdeal.nD Cert.InProjReferenceIdeal.τ).loc Cert.InProjReferenceIdeal.main_v0_4) = v4 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5)
          ∧ r.2.mem ((c.tc : Thread Cert.InProjReferenceIdeal.nD Cert.InProjReferenceIdeal.τ).loc Cert.InProjReferenceIdeal.main_arg6) = m' ((c.tc : Thread Cert.InProjReferenceIdeal.nD Cert.InProjReferenceIdeal.τ).loc Cert.InProjReferenceIdeal.main_arg6)
          ∧ r.2.mem ((c.tc : Thread Cert.InProjReferenceIdeal.nD Cert.InProjReferenceIdeal.τ).loc Cert.InProjReferenceIdeal.main_arg7) = m' ((c.tc : Thread Cert.InProjReferenceIdeal.nD Cert.InProjReferenceIdeal.τ).loc Cert.InProjReferenceIdeal.main_arg7)
          ∧ r.2.mem ((c.tc : Thread Cert.InProjReferenceIdeal.nD Cert.InProjReferenceIdeal.τ).loc Cert.InProjReferenceIdeal.main_arg8) = m' ((c.tc : Thread Cert.InProjReferenceIdeal.nD Cert.InProjReferenceIdeal.τ).loc Cert.InProjReferenceIdeal.main_arg8)
          ∧ r.2.mem ((c.tc : Thread Cert.InProjReferenceIdeal.nD Cert.InProjReferenceIdeal.τ).loc Cert.InProjReferenceIdeal.main_arg9) = m' ((c.tc : Thread Cert.InProjReferenceIdeal.nD Cert.InProjReferenceIdeal.τ).loc Cert.InProjReferenceIdeal.main_arg9)
          ∧ r.2.mem ((c.tc : Thread Cert.InProjReferenceIdeal.nD Cert.InProjReferenceIdeal.τ).loc Cert.InProjReferenceIdeal.main_arg10) = m' ((c.tc : Thread Cert.InProjReferenceIdeal.nD Cert.InProjReferenceIdeal.τ).loc Cert.InProjReferenceIdeal.main_arg10))

def preserves_Combine_CombineIdeal : Prop :=
  IdealRules.named_const.Statement Cert.CombineIdeal.κ "inv_fp8_max" .f32 0x3B124925#32 ((1 / 448 : ℝ) : EReal)

def algebraic_CombineIdeal_CombineReferenceIdeal [hCombineIdeal : Cert.CombineIdeal.Facts] [hCombineReferenceIdeal : Cert.CombineReferenceIdeal.Facts] [hPre_rows_exist : Cert.Pre_rows_exist.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)) →
    ∃ (v0 : (c : Dev Cert.CombineIdeal.nD) → Buf (Elt Ideal) ((c.tc : Thread Cert.CombineIdeal.nD Cert.CombineIdeal.τ).loc Cert.CombineIdeal.main_v2_0)) (v1 : (c : Dev Cert.CombineIdeal.nD) → Buf (Elt Ideal) ((c.tc : Thread Cert.CombineIdeal.nD Cert.CombineIdeal.τ).loc Cert.CombineIdeal.main_v2_1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2_0) = v0 c
          ∧ r.2.mem ((c.tc : Thread Cert.CombineIdeal.nD Cert.CombineIdeal.τ).loc Cert.CombineIdeal.main_v2_1) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v22) = v0 c
          ∧ r.2.mem ((c.tc : Thread Cert.CombineReferenceIdeal.nD Cert.CombineReferenceIdeal.τ).loc Cert.CombineReferenceIdeal.main_v23) = v1 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hCombine : Cert.Combine.Facts) (hCombineIdeal : Cert.CombineIdeal.Facts) (hCombineReferenceIdeal : Cert.CombineReferenceIdeal.Facts) (hPre_rows_exist : Cert.Pre_rows_exist.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Combine (hCombine := hCombine) (hPre_rows_exist := hPre_rows_exist)
    ∧ quiescent_CombineIdeal (hCombineIdeal := hCombineIdeal) (hPre_rows_exist := hPre_rows_exist)
    ∧ quiescent_CombineReferenceIdeal (hCombineReferenceIdeal := hCombineReferenceIdeal)
    ∧ quiescent_CombineReferenceIdeal_pre_rows_exist (hCombineReferenceIdeal := hCombineReferenceIdeal) (hPre_rows_exist := hPre_rows_exist)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjReferenceIdeal (hInProjIdeal := hInProjIdeal) (hInProjReferenceIdeal := hInProjReferenceIdeal)
    ∧ preserves_Combine_CombineIdeal
    ∧ algebraic_CombineIdeal_CombineReferenceIdeal (hCombineIdeal := hCombineIdeal) (hCombineReferenceIdeal := hCombineReferenceIdeal) (hPre_rows_exist := hPre_rows_exist)
-- ==== Pre_rows_exist.lean ====
abbrev S2304x2 : Shape := ⟨2, ![2304, 2]⟩
abbrev S4608x1024 : Shape := ⟨2, ![4608, 1024]⟩
abbrev S_ : Shape := ⟨0, ![]⟩

class Facts : Prop where
  bcast_S_S2304x2 : S_.BroadcastsInDim S2304x2 (![] : Fin 0 → Fin S2304x2.rank)

variable [Facts]

def fn {F : FTy → Type} [FloatOps F] (main_arg0 : IVec S2304x2 32) (main_arg1 : FVec F S2304x2 .f32) (main_arg2 : FVec F S4608x1024 .f32) : IVec S2304x2 1 :=
  let main_c : IVec S_ 32 := constantI S_ 32 0#32
  let main_v0 : IVec S2304x2 32 := broadcastInDim S2304x2 ![] bcast_S_S2304x2 main_c
  let main_v1 : IVec S2304x2 1 := cmpi .sge main_arg0 main_v0
  let main_c_0 : IVec S_ 32 := constantI S_ 32 4608#32
  let main_v2 : IVec S2304x2 32 := broadcastInDim S2304x2 ![] bcast_S_S2304x2 main_c_0
  let main_v3 : IVec S2304x2 1 := cmpi .slt main_arg0 main_v2
  let main_v4 : IVec S2304x2 1 := andi main_v1 main_v3
  main_v4
-- ==== Kernel.lean ====
abbrev S2304x4096 : Shape := ⟨2, ![2304, 4096]⟩
abbrev S2304x1 : Shape := ⟨2, ![2304, 1]⟩
abbrev S4096x5376 : Shape := ⟨2, ![4096, 5376]⟩
abbrev S5376 : Shape := ⟨1, ![5376]⟩
abbrev S5376x4096 : Shape := ⟨2, ![5376, 4096]⟩
abbrev S4096 : Shape := ⟨1, ![4096]⟩
abbrev S2304x1024 : Shape := ⟨2, ![2304, 1024]⟩
abbrev S1024x4096 : Shape := ⟨2, ![1024, 4096]⟩
abbrev S1x5376 : Shape := ⟨2, ![1, 5376]⟩
abbrev S1x4096 : Shape := ⟨2, ![1, 4096]⟩
abbrev S2304x5376 : Shape := ⟨2, ![2304, 5376]⟩
abbrev S576x4096 : Shape := ⟨2, ![576, 4096]⟩
abbrev S576x1 : Shape := ⟨2, ![576, 1]⟩
abbrev S4096x768 : Shape := ⟨2, ![4096, 768]⟩
abbrev S1x768 : Shape := ⟨2, ![1, 768]⟩
abbrev S5376x1024 : Shape := ⟨2, ![5376, 1024]⟩
abbrev S1x1024 : Shape := ⟨2, ![1, 1024]⟩
abbrev S576x1024 : Shape := ⟨2, ![576, 1024]⟩
abbrev S1024x1024 : Shape := ⟨2, ![1024, 1024]⟩
abbrev S576x5376 : Shape := ⟨2, ![576, 5376]⟩
abbrev S576x128 : Shape := ⟨2, ![576, 128]⟩
abbrev S576x768 : Shape := ⟨2, ![576, 768]⟩
abbrev S576 : Shape := ⟨1, ![576]⟩
abbrev S32x5376 : Shape := ⟨2, ![32, 5376]⟩
abbrev S32x1 : Shape := ⟨2, ![32, 1]⟩

abbrev nBuf : Space → Nat
  | .hbm => 17
  | .vmem => 31
  | .smem => 0
  | _ => 0

abbrev bufTy : (tb : Table) → Fin (tcTables nBuf tb) → BufTy
  | .hbm, ⟨0, _⟩ => ⟨S2304x4096, .fp8e4m3⟩
  | .hbm, ⟨1, _⟩ => ⟨S2304x1, .f32⟩
  | .hbm, ⟨2, _⟩ => ⟨S4096x5376, .fp8e4m3⟩
  | .hbm, ⟨3, _⟩ => ⟨S5376, .f32⟩
  | .hbm, ⟨4, _⟩ => ⟨S5376x4096, .fp8e4m3⟩
  | .hbm, ⟨5, _⟩ => ⟨S4096, .f32⟩
  | .hbm, ⟨6, _⟩ => ⟨S2304x1024, .fp8e4m3⟩
  | .hbm, ⟨7, _⟩ => ⟨S2304x1, .f32⟩
  | .hbm, ⟨8, _⟩ => ⟨S1024x4096, .fp8e4m3⟩
  | .hbm, ⟨9, _⟩ => ⟨S4096, .f32⟩
  | .hbm, ⟨10, _⟩ => ⟨S2304x4096, .f32⟩
  | .hbm, ⟨11, _⟩ => ⟨S1x5376, .f32⟩
  | .hbm, ⟨12, _⟩ => ⟨S1x4096, .f32⟩
  | .hbm, ⟨13, _⟩ => ⟨S1x4096, .f32⟩
  | .hbm, ⟨14, _⟩ => ⟨S2304x4096, .bf16⟩
  | .hbm, ⟨15, _⟩ => ⟨S2304x5376, .fp8e4m3⟩
  | .hbm, ⟨16, _⟩ => ⟨S2304x1, .f32⟩
  | .local _ .vmem, ⟨0, _⟩ => ⟨S576x4096, .fp8e4m3⟩
  | .local _ .vmem, ⟨1, _⟩ => ⟨S576x4096, .fp8e4m3⟩
  | .local _ .vmem, ⟨2, _⟩ => ⟨S576x1, .f32⟩
  | .local _ .vmem, ⟨3, _⟩ => ⟨S576x1, .f32⟩
  | .local _ .vmem, ⟨4, _⟩ => ⟨S4096x768, .fp8e4m3⟩
  | .local _ .vmem, ⟨5, _⟩ => ⟨S4096x768, .fp8e4m3⟩
  | .local _ .vmem, ⟨6, _⟩ => ⟨S1x768, .f32⟩
  | .local _ .vmem, ⟨7, _⟩ => ⟨S1x768, .f32⟩
  | .local _ .vmem, ⟨8, _⟩ => ⟨S5376x1024, .fp8e4m3⟩
  | .local _ .vmem, ⟨9, _⟩ => ⟨S5376x1024, .fp8e4m3⟩
  | .local _ .vmem, ⟨10, _⟩ => ⟨S1x1024, .f32⟩
  | .local _ .vmem, ⟨11, _⟩ => ⟨S1x1024, .f32⟩
  | .local _ .vmem, ⟨12, _⟩ => ⟨S576x1024, .fp8e4m3⟩
  | .local _ .vmem, ⟨13, _⟩ => ⟨S576x1024, .fp8e4m3⟩
  | .local _ .vmem, ⟨14, _⟩ => ⟨S576x1, .f32⟩
  | .local _ .vmem, ⟨15, _⟩ => ⟨S576x1, .f32⟩
  | .local _ .vmem, ⟨16, _⟩ => ⟨S1024x1024, .fp8e4m3⟩
  | .local _ .vmem, ⟨17, _⟩ => ⟨S1024x1024, .fp8e4m3⟩
  | .local _ .vmem, ⟨18, _⟩ => ⟨S1x1024, .f32⟩
  | .local _ .vmem, ⟨19, _⟩ => ⟨S1x1024, .f32⟩
  | .local _ .vmem, ⟨20, _⟩ => ⟨S576x1024, .f32⟩
  | .local _ .vmem, ⟨21, _⟩ => ⟨S576x1024, .f32⟩
  | .local _ .vmem, ⟨22, _⟩ => ⟨S576x1024, .bf16⟩
  | .local _ .vmem, ⟨23, _⟩ => ⟨S576x1024, .bf16⟩
  | .local _ .vmem, ⟨24, _⟩ => ⟨S576x5376, .fp8e4m3⟩
  | .local _ .vmem, ⟨25, _⟩ => ⟨S576x5376, .fp8e4m3⟩
  | .local _ .vmem, ⟨26, _⟩ => ⟨S576x1, .f32⟩
  | .local _ .vmem, ⟨27, _⟩ => ⟨S576x1, .f32⟩
  | .local _ .vmem, ⟨28, _⟩ => ⟨S576x5376, .f32⟩
  | .local _ .vmem, ⟨29, _⟩ => ⟨S576x128, .f32⟩
  | .local _ .vmem, ⟨30, _⟩ => ⟨S576x128, .f32⟩
  | _, _ => ⟨S2304x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c7_i32 : BitVec 32 := 7#32
  let v0 : BitVec 1 := Scalar.cmpi .slt arg1 c7_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c768_i32 : BitVec 32 := 768#32
  let v22 : BitVec 32 := Scalar.muli arg1 c768_i32
  v22
def k0_off1 (i : grid0.Coords) : Fin 2 → Nat :=
  let c0_11 : Index := 0#32
  let arg1 : BitVec 32 := BitVec.ofNat 32 (i 1).val
  let c768_i32 : BitVec 32 := 768#32
  let v22 : BitVec 32 := Scalar.muli arg1 c768_i32
  let v23 : BitVec 32 := v22
  let v24 : Index := Scalar.indexCast v23
  ![0, v24.toNat]
def k0_cond2 (i : grid0.Coords) : BitVec 1 :=
  let arg1 : BitVec 32 := BitVec.ofNat 32 (i 1).val
  let c6_i32 : BitVec 32 := 6#32
  let v3 : BitVec 1 := Scalar.cmpi .eq arg1 c6_i32
  let v4 : BitVec 32 := Scalar.extui v3
  let c0_i32_0 : BitVec 32 := 0#32
  let v5 : BitVec 1 := Scalar.cmpi .ne v4 c0_i32_0
  v5

@[reducible] def k0_t1_loop : Scf.Loop 32 :=
  let c0_i32_11 : BitVec 32 := 0#32
  let c18_i32 : BitVec 32 := 18#32
  let v24 : BitVec 32 := Scalar.addi c0_i32_11 c18_i32
  let c1_i32 : BitVec 32 := 1#32
  ⟨c0_i32_11, v24, c1_i32⟩
def k0_mult2 (k0_t1 : Fin k0_t1_loop.trips) : BitVec 32 :=
  let c0_i32_14 : BitVec 32 := 0#32
  let c0_i32_11 : BitVec 32 := 0#32
  let c1_i32 : BitVec 32 := 1#32
  let arg19 : BitVec 32 := Scf.iv c0_i32_11 c1_i32 k0_t1
  let c1_i32_13 : BitVec 32 := 1#32
  let v25 : BitVec 32 := Scalar.muli arg19 c1_i32_13
  let v26 : BitVec 32 := Scalar.addi c0_i32_14 v25
  let c32_i32 : BitVec 32 := 32#32
  let v27 : BitVec 32 := Scalar.muli v26 c32_i32
  v27
def k0_off2 (k0_t1 : Fin k0_t1_loop.trips) : Fin 2 → Nat :=
  let c0_i32_14 : BitVec 32 := 0#32
  let c0_i32_11 : BitVec 32 := 0#32
  let c1_i32 : BitVec 32 := 1#32
  let arg19 : BitVec 32 := Scf.iv c0_i32_11 c1_i32 k0_t1
  let c1_i32_13 : BitVec 32 := 1#32
  let v25 : BitVec 32 := Scalar.muli arg19 c1_i32_13
  let v26 : BitVec 32 := Scalar.addi c0_i32_14 v25
  let c32_i32 : BitVec 32 := 32#32
  let v27 : BitVec 32 := Scalar.muli v26 c32_i32
  let v28 : BitVec 32 := v27
  let v29 : Index := Scalar.indexCast v28
  let c0_15 : Index := 0#32
  ![v29.toNat, 0]
def k0_off3 (k0_t1 : Fin k0_t1_loop.trips) : Fin 2 → Nat :=
  let c0_i32_14 : BitVec 32 := 0#32
  let c0_i32_11 : BitVec 32 := 0#32
  let c1_i32 : BitVec 32 := 1#32
  let arg19 : BitVec 32 := Scf.iv c0_i32_11 c1_i32 k0_t1
  let c1_i32_13 : BitVec 32 := 1#32
  let v25 : BitVec 32 := Scalar.muli arg19 c1_i32_13
  let v26 : BitVec 32 := Scalar.addi c0_i32_14 v25
  let c32_i32 : BitVec 32 := 32#32
  let v27 : BitVec 32 := Scalar.muli v26 c32_i32
  let v28 : BitVec 32 := v27
  let v31 : Index := Scalar.indexCast v28
  let c0_16 : Index := 0#32
  ![v31.toNat, 0]
def k0_cond3 (i : grid0.Coords) : BitVec 1 :=
  let arg1 : BitVec 32 := BitVec.ofNat 32 (i 1).val
  let c7_i32_1 : BitVec 32 := 7#32
  let v6 : BitVec 1 := Scalar.cmpi .sge arg1 c7_i32_1
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_10 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let v1 : BitVec 32 := Scalar.maxsi v0 c0_i32
  let c0_i32_0 : BitVec 32 := 0#32
  ![arg0.toNat, v1.toNat]

def cc0_transform_11 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let v1 : BitVec 32 := Scalar.maxsi v0 c0_i32
  let c0_i32_0 : BitVec 32 := 0#32
  ![arg0.toNat, v1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S576x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S576x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x768 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S5376x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S576x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S576x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S576x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S576x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S576x5376 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S576x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "inv_fp8_max" => some ((1 / 448 : ℝ) : EReal)
  | _ => none
-- ==== ReferenceIdeal.lean ====
abbrev S2304x4096 : Shape := ⟨2, ![2304, 4096]⟩
abbrev S2304x1 : Shape := ⟨2, ![2304, 1]⟩
abbrev S4096x5376 : Shape := ⟨2, ![4096, 5376]⟩
abbrev S5376 : Shape := ⟨1, ![5376]⟩
abbrev S5376x4096 : Shape := ⟨2, ![5376, 4096]⟩
abbrev S4096 : Shape := ⟨1, ![4096]⟩
abbrev S2304x1024 : Shape := ⟨2, ![2304, 1024]⟩
abbrev S1024x4096 : Shape := ⟨2, ![1024, 4096]⟩
abbrev S2304x5376 : Shape := ⟨2, ![2304, 5376]⟩
abbrev S2304 : Shape := ⟨1, ![2304]⟩
abbrev S1x5376 : Shape := ⟨2, ![1, 5376]⟩
abbrev S1x4096 : Shape := ⟨2, ![1, 4096]⟩

abbrev nBuf : Space → Nat
  | .hbm => 14
  | .vmem => 14
  | .smem => 0
  | _ => 0

abbrev bufTy : (tb : Table) → Fin (tcTables nBuf tb) → BufTy
  | .hbm, ⟨0, _⟩ => ⟨S2304x4096, .fp8e4m3⟩
  | .hbm, ⟨1, _⟩ => ⟨S2304x1, .f32⟩
  | .hbm, ⟨2, _⟩ => ⟨S4096x5376, .fp8e4m3⟩
  | .hbm, ⟨3, _⟩ => ⟨S5376, .f32⟩
  | .hbm, ⟨4, _⟩ => ⟨S5376x4096, .fp8e4m3⟩
  | .hbm, ⟨5, _⟩ => ⟨S4096, .f32⟩
  | .hbm, ⟨6, _⟩ => ⟨S2304x1024, .fp8e4m3⟩
  | .hbm, ⟨7, _⟩ => ⟨S2304x1, .f32⟩
  | .hbm, ⟨8, _⟩ => ⟨S1024x4096, .fp8e4m3⟩
  | .hbm, ⟨9, _⟩ => ⟨S4096, .f32⟩
  | .hbm, ⟨10, _⟩ => ⟨S2304x4096, .f32⟩
  | .hbm, ⟨11, _⟩ => ⟨S2304x4096, .bf16⟩
  | .hbm, ⟨12, _⟩ => ⟨S2304x5376, .fp8e4m3⟩
  | .hbm, ⟨13, _⟩ => ⟨S2304x1, .f32⟩
  | .local _ .vmem, ⟨0, _⟩ => ⟨S2304x4096, .fp8e4m3⟩
  | .local _ .vmem, ⟨1, _⟩ => ⟨S2304x1, .f32⟩
  | .local _ .vmem, ⟨2, _⟩ => ⟨S4096x5376, .fp8e4m3⟩
  | .local _ .vmem, ⟨3, _⟩ => ⟨S5376, .f32⟩
  | .local _ .vmem, ⟨4, _⟩ => ⟨S5376x4096, .fp8e4m3⟩
  | .local _ .vmem, ⟨5, _⟩ => ⟨S4096, .f32⟩
  | .local _ .vmem, ⟨6, _⟩ => ⟨S2304x1024, .fp8e4m3⟩
  | .local _ .vmem, ⟨7, _⟩ => ⟨S2304x1, .f32⟩
  | .local _ .vmem, ⟨8, _⟩ => ⟨S1024x4096, .fp8e4m3⟩
  | .local _ .vmem, ⟨9, _⟩ => ⟨S4096, .f32⟩
  | .local _ .vmem, ⟨10, _⟩ => ⟨S2304x4096, .f32⟩
  | .local _ .vmem, ⟨11, _⟩ => ⟨S2304x4096, .bf16⟩
  | .local _ .vmem, ⟨12, _⟩ => ⟨S2304x5376, .fp8e4m3⟩
  | .local _ .vmem, ⟨13, _⟩ => ⟨S2304x1, .f32⟩
  | _, _ => ⟨S2304x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S2304x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x5376 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5376x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2304x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2304x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2304x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2304x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2304x5376 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2304x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== InProj.lean ====
abbrev S2304x4096 : Shape := ⟨2, ![2304, 4096]⟩
abbrev S4096 : Shape := ⟨1, ![4096]⟩
abbrev S4096x2320 : Shape := ⟨2, ![4096, 2320]⟩
abbrev S2320 : Shape := ⟨1, ![2320]⟩
abbrev S4x1280 : Shape := ⟨2, ![4, 1280]⟩
abbrev S1280 : Shape := ⟨1, ![1280]⟩
abbrev S2304x3x1280 : Shape := ⟨3, ![2304, 3, 1280]⟩
abbrev S2304x3x10 : Shape := ⟨3, ![2304, 3, 10]⟩
abbrev S16 : Shape := ⟨1, ![16]⟩
abbrev S1x4096 : Shape := ⟨2, ![1, 4096]⟩
abbrev S2320x4096 : Shape := ⟨2, ![2320, 4096]⟩
abbrev S1x2320 : Shape := ⟨2, ![1, 2320]⟩
abbrev S1x1280 : Shape := ⟨2, ![1, 1280]⟩
abbrev S3x2304x1280 : Shape := ⟨3, ![3, 2304, 1280]⟩
abbrev S10x3x2304 : Shape := ⟨3, ![10, 3, 2304]⟩
abbrev S30x2304 : Shape := ⟨2, ![30, 2304]⟩
abbrev S1x16 : Shape := ⟨2, ![1, 16]⟩
abbrev S1024 : Shape := ⟨1, ![1024]⟩
abbrev S1x1024 : Shape := ⟨2, ![1, 1024]⟩
abbrev S_ : Shape := ⟨0, ![]⟩
abbrev S48 : Shape := ⟨1, ![48]⟩
abbrev S48x1 : Shape := ⟨2, ![48, 1]⟩
abbrev S48x1024 : Shape := ⟨2, ![48, 1024]⟩
abbrev S1x2304 : Shape := ⟨2, ![1, 2304]⟩
abbrev S2304x1024 : Shape := ⟨2, ![2304, 1024]⟩
abbrev S2304x1280 : Shape := ⟨2, ![2304, 1280]⟩
abbrev S10x2304 : Shape := ⟨2, ![10, 2304]⟩
abbrev S2304x8x128 : Shape := ⟨3, ![2304, 8, 128]⟩
abbrev S2304x128 : Shape := ⟨2, ![2304, 128]⟩
abbrev S256x4096 : Shape := ⟨2, ![256, 4096]⟩
abbrev S3x256x1280 : Shape := ⟨3, ![3, 256, 1280]⟩
abbrev S30x256 : Shape := ⟨2, ![30, 256]⟩
abbrev S1x256 : Shape := ⟨2, ![1, 256]⟩
abbrev S256x1024 : Shape := ⟨2, ![256, 1024]⟩
abbrev S256x1280 : Shape := ⟨2, ![256, 1280]⟩
abbrev S10x256 : Shape := ⟨2, ![10, 256]⟩
abbrev S256x8x128 : Shape := ⟨3, ![256, 8, 128]⟩
abbrev S256x128 : Shape := ⟨2, ![256, 128]⟩
abbrev S128x256 : Shape := ⟨2, ![128, 256]⟩
abbrev S128x128 : Shape := ⟨2, ![128, 128]⟩
abbrev S32x4096 : Shape := ⟨2, ![32, 4096]⟩
abbrev S32x128 : Shape := ⟨2, ![32, 128]⟩
abbrev S16x8x128 : Shape := ⟨3, ![16, 8, 128]⟩
abbrev S1x8x128 : Shape := ⟨3, ![1, 8, 128]⟩
abbrev S8x128 : Shape := ⟨2, ![8, 128]⟩
abbrev S1x128 : Shape := ⟨2, ![1, 128]⟩
abbrev S32x1 : Shape := ⟨2, ![32, 1]⟩
abbrev S32 : Shape := ⟨1, ![32]⟩
abbrev S256x1 : Shape := ⟨2, ![256, 1]⟩
abbrev S128x1 : Shape := ⟨2, ![128, 1]⟩
abbrev S256x2048 : Shape := ⟨2, ![256, 2048]⟩
abbrev S1024x2048 : Shape := ⟨2, ![1024, 2048]⟩
abbrev S1280x2048 : Shape := ⟨2, ![1280, 2048]⟩
abbrev S16x2048 : Shape := ⟨2, ![16, 2048]⟩
abbrev S256x16 : Shape := ⟨2, ![256, 16]⟩
abbrev S256 : Shape := ⟨1, ![256]⟩
abbrev S1x256x128 : Shape := ⟨3, ![1, 256, 128]⟩
abbrev S256x48 : Shape := ⟨2, ![256, 48]⟩
abbrev S16x16 : Shape := ⟨2, ![16, 16]⟩
abbrev S16x48 : Shape := ⟨2, ![16, 48]⟩
abbrev S16x1024 : Shape := ⟨2, ![16, 1024]⟩
abbrev S256x1x128 : Shape := ⟨3, ![256, 1, 128]⟩

abbrev nBuf : Space → Nat
  | .hbm => 79
  | .vmem => 40
  | .smem => 0
  | _ => 0

abbrev bufTy : (tb : Table) → Fin (tcTables nBuf tb) → BufTy
  | .hbm, ⟨0, _⟩ => ⟨S2304x4096, .bf16⟩
  | .hbm, ⟨1, _⟩ => ⟨S4096, .f32⟩
  | .hbm, ⟨2, _⟩ => ⟨S4096x2320, .fp8e4m3⟩
  | .hbm, ⟨3, _⟩ => ⟨S2320, .f32⟩
  | .hbm, ⟨4, _⟩ => ⟨S4x1280, .f32⟩
  | .hbm, ⟨5, _⟩ => ⟨S1280, .f32⟩
  | .hbm, ⟨6, _⟩ => ⟨S2304x3x1280, .i8⟩
  | .hbm, ⟨7, _⟩ => ⟨S2304x3x10, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S1x4096, .f32⟩
  | .hbm, ⟨12, _⟩ => ⟨S2320x4096, .fp8e4m3⟩
  | .hbm, ⟨13, _⟩ => ⟨S1x2320, .f32⟩
  | .hbm, ⟨14, _⟩ => ⟨S1x1280, .f32⟩
  | .hbm, ⟨15, _⟩ => ⟨S3x2304x1280, .i8⟩
  | .hbm, ⟨16, _⟩ => ⟨S10x3x2304, .f32⟩
  | .hbm, ⟨17, _⟩ => ⟨S30x2304, .f32⟩
  | .hbm, ⟨18, _⟩ => ⟨S1x16, .f32⟩
  | .hbm, ⟨19, _⟩ => ⟨S1x16, .f32⟩
  | .hbm, ⟨20, _⟩ => ⟨S1x16, .f32⟩
  | .hbm, ⟨21, _⟩ => ⟨S1024, .i32⟩
  | .hbm, ⟨22, _⟩ => ⟨S1x1024, .i32⟩
  | .hbm, ⟨23, _⟩ => ⟨S_, .i32⟩
  | .hbm, ⟨24, _⟩ => ⟨S_, .i32⟩
  | .hbm, ⟨25, _⟩ => ⟨S1x1024, .i32⟩
  | .hbm, ⟨26, _⟩ => ⟨S1x1024, .i32⟩
  | .hbm, ⟨27, _⟩ => ⟨S1x1024, .i32⟩
  | .hbm, ⟨28, _⟩ => ⟨S_, .i32⟩
  | .hbm, ⟨29, _⟩ => ⟨S1x1024, .i32⟩
  | .hbm, ⟨30, _⟩ => ⟨S1x1024, .i1⟩
  | .hbm, ⟨31, _⟩ => ⟨S1x1024, .i32⟩
  | .hbm, ⟨32, _⟩ => ⟨S1x1024, .i32⟩
  | .hbm, ⟨33, _⟩ => ⟨S_, .i32⟩
  | .hbm, ⟨34, _⟩ => ⟨S1x1024, .i32⟩
  | .hbm, ⟨35, _⟩ => ⟨S1x1024, .i1⟩
  | .hbm, ⟨36, _⟩ => ⟨S1x1024, .i1⟩
  | .hbm, ⟨37, _⟩ => ⟨S_, .i32⟩
  | .hbm, ⟨38, _⟩ => ⟨S1x1024, .i32⟩
  | .hbm, ⟨39, _⟩ => ⟨S1x1024, .i32⟩
  | .hbm, ⟨40, _⟩ => ⟨S1x1024, .i32⟩
  | .hbm, ⟨41, _⟩ => ⟨S48, .i32⟩
  | .hbm, ⟨42, _⟩ => ⟨S48x1, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S48x1, .i32⟩
  | .hbm, ⟨50, _⟩ => ⟨S48x1, .i32⟩
  | .hbm, ⟨51, _⟩ => ⟨S_, .i32⟩
  | .hbm, ⟨52, _⟩ => ⟨S48x1, .i32⟩
  | .hbm, ⟨53, _⟩ => ⟨S48x1, .i1⟩
  | .hbm, ⟨54, _⟩ => ⟨S_, .i32⟩
  | .hbm, ⟨55, _⟩ => ⟨S48x1, .i32⟩
  | .hbm, ⟨56, _⟩ => ⟨S48x1, .i1⟩
  | .hbm, ⟨57, _⟩ => ⟨S_, .i32⟩
  | .hbm, ⟨58, _⟩ => ⟨S_, .i1⟩
  | .hbm, ⟨59, _⟩ => ⟨S48x1, .i1⟩
  | .hbm, ⟨60, _⟩ => ⟨S48x1, .i1⟩
  | .hbm, ⟨61, _⟩ => ⟨S48x1, .i1⟩
  | .hbm, ⟨62, _⟩ => ⟨S48x1, .i32⟩
  | .hbm, ⟨63, _⟩ => ⟨S48x1, .i32⟩
  | .hbm, ⟨64, _⟩ => ⟨S48x1, .i32⟩
  | .hbm, ⟨65, _⟩ => ⟨S48x1024, .i32⟩
  | .hbm, ⟨66, _⟩ => ⟨S48x1024, .i32⟩
  | .hbm, ⟨67, _⟩ => ⟨S48x1024, .i1⟩
  | .hbm, ⟨68, _⟩ => ⟨S48x1024, .bf16⟩
  | .hbm, ⟨69, _⟩ => ⟨S2304x4096, .fp8e4m3⟩
  | .hbm, ⟨70, _⟩ => ⟨S1x2304, .f32⟩
  | .hbm, ⟨71, _⟩ => ⟨S2304x1024, .f32⟩
  | .hbm, ⟨72, _⟩ => ⟨S2304x1280, .i8⟩
  | .hbm, ⟨73, _⟩ => ⟨S10x2304, .f32⟩
  | .hbm, ⟨74, _⟩ => ⟨S2304x8x128, .f32⟩
  | .hbm, ⟨75, _⟩ => ⟨S2304x8x128, .f32⟩
  | .hbm, ⟨76, _⟩ => ⟨S2304x8x128, .f32⟩
  | .hbm, ⟨77, _⟩ => ⟨S2304x128, .f32⟩
  | .hbm, ⟨78, _⟩ => ⟨S2304x128, .f32⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S2320x4096, .fp8e4m3⟩
  | .local _ .vmem, ⟨4, _⟩ => ⟨S1x2320, .f32⟩
  | .local _ .vmem, ⟨5, _⟩ => ⟨S4x1280, .f32⟩
  | .local _ .vmem, ⟨6, _⟩ => ⟨S1x1280, .f32⟩
  | .local _ .vmem, ⟨7, _⟩ => ⟨S3x256x1280, .i8⟩
  | .local _ .vmem, ⟨8, _⟩ => ⟨S3x256x1280, .i8⟩
  | .local _ .vmem, ⟨9, _⟩ => ⟨S30x256, .f32⟩
  | .local _ .vmem, ⟨10, _⟩ => ⟨S30x256, .f32⟩
  | .local _ .vmem, ⟨11, _⟩ => ⟨S1x16, .f32⟩
  | .local _ .vmem, ⟨12, _⟩ => ⟨S1x16, .f32⟩
  | .local _ .vmem, ⟨13, _⟩ => ⟨S1x16, .f32⟩
  | .local _ .vmem, ⟨14, _⟩ => ⟨S48x1024, .bf16⟩
  | .local _ .vmem, ⟨15, _⟩ => ⟨S256x4096, .fp8e4m3⟩
  | .local _ .vmem, ⟨16, _⟩ => ⟨S256x4096, .fp8e4m3⟩
  | .local _ .vmem, ⟨17, _⟩ => ⟨S1x256, .f32⟩
  | .local _ .vmem, ⟨18, _⟩ => ⟨S1x256, .f32⟩
  | .local _ .vmem, ⟨19, _⟩ => ⟨S256x1024, .f32⟩
  | .local _ .vmem, ⟨20, _⟩ => ⟨S256x1024, .f32⟩
  | .local _ .vmem, ⟨21, _⟩ => ⟨S256x1280, .i8⟩
  | .local _ .vmem, ⟨22, _⟩ => ⟨S256x1280, .i8⟩
  | .local _ .vmem, ⟨23, _⟩ => ⟨S10x256, .f32⟩
  | .local _ .vmem, ⟨24, _⟩ => ⟨S10x256, .f32⟩
  | .local _ .vmem, ⟨25, _⟩ => ⟨S256x8x128, .f32⟩
  | .local _ .vmem, ⟨26, _⟩ => ⟨S256x8x128, .f32⟩
  | .local _ .vmem, ⟨27, _⟩ => ⟨S256x8x128, .f32⟩
  | .local _ .vmem, ⟨28, _⟩ => ⟨S256x8x128, .f32⟩
  | .local _ .vmem, ⟨29, _⟩ => ⟨S256x8x128, .f32⟩
  | .local _ .vmem, ⟨30, _⟩ => ⟨S256x8x128, .f32⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x128, .f32⟩
  | .local _ .vmem, ⟨35, _⟩ => ⟨S256x128, .f32⟩
  | .local _ .vmem, ⟨36, _⟩ => ⟨S128x256, .f32⟩
  | .local _ .vmem, ⟨37, _⟩ => ⟨S128x128, .f32⟩
  | .local _ .vmem, ⟨38, _⟩ => ⟨S128x128, .f32⟩
  | .local _ .vmem, ⟨39, _⟩ => ⟨S256x1280, .f32⟩
  | _, _ => ⟨S2304x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_0 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20_0 : Ref sig .tc := ⟨.hbm, 69, rfl⟩
abbrev main_v20_1 : Ref sig .tc := ⟨.hbm, 70, rfl⟩
abbrev main_v20_2 : Ref sig .tc := ⟨.hbm, 71, rfl⟩
abbrev main_v20_3 : Ref sig .tc := ⟨.hbm, 72, rfl⟩
abbrev main_v20_4 : Ref sig .tc := ⟨.hbm, 73, rfl⟩
abbrev main_v20_5 : Ref sig .tc := ⟨.hbm, 74, rfl⟩
abbrev main_v20_6 : Ref sig .tc := ⟨.hbm, 75, rfl⟩
abbrev main_v20_7 : Ref sig .tc := ⟨.hbm, 76, rfl⟩
abbrev main_v20_8 : Ref sig .tc := ⟨.hbm, 77, rfl⟩
abbrev main_v20_9 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_scratch3 : Ref sig .tc := ⟨.vmem, 38, rfl⟩
abbrev cc0_scratch4 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨1, ![9], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32_475 : BitVec 32 := 0#32
  let c0_i32 : BitVec 32 := 0#32
  let c1_i32 : BitVec 32 := 1#32
  let arg28 : BitVec 32 := Scf.iv c0_i32 c1_i32 k0_t1
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  v1157
def k0_mult2 (k0_t1 : Fin k0_t1_loop.trips) : BitVec 32 :=
  let c0_i32_476 : BitVec 32 := 0#32
  let c0_i32_475 : BitVec 32 := 0#32
  let c0_i32 : BitVec 32 := 0#32
  let c1_i32 : BitVec 32 := 1#32
  let arg28 : BitVec 32 := Scf.iv c0_i32 c1_i32 k0_t1
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  let v1158 : BitVec 32 := v1157
  let v1159 : BitVec 32 := Scalar.addi c0_i32_476 v1158
  v1159
def k0_off1 (k0_t1 : Fin k0_t1_loop.trips) : Fin 2 → Nat :=
  let c0_i32_476 : BitVec 32 := 0#32
  let c0_i32_475 : BitVec 32 := 0#32
  let c0_i32 : BitVec 32 := 0#32
  let c1_i32 : BitVec 32 := 1#32
  let arg28 : BitVec 32 := Scf.iv c0_i32 c1_i32 k0_t1
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  let v1158 : BitVec 32 := v1157
  let v1159 : BitVec 32 := Scalar.addi c0_i32_476 v1158
  let v1160 : BitVec 32 := v1159
  let v1161 : Index := Scalar.indexCast v1160
  let c0_477 : Index := 0#32
  ![v1161.toNat, 0]
def k0_off2 (k0_t1 : Fin k0_t1_loop.trips) : Fin 2 → Nat :=
  let c0_i32_475 : BitVec 32 := 0#32
  let c0_i32 : BitVec 32 := 0#32
  let c1_i32 : BitVec 32 := 1#32
  let arg28 : BitVec 32 := Scf.iv c0_i32 c1_i32 k0_t1
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  let v1158 : BitVec 32 := v1157
  let v1228 : Index := Scalar.indexCast v1158
  let c0_478 : Index := 0#32
  ![v1228.toNat, 0]
@[reducible] def k0_t2_loop : Scf.Loop 32 :=
  let c0_i32_8 : BitVec 32 := 0#32
  let c4_i32_9 : BitVec 32 := 4#32
  let v71 : BitVec 32 := Scalar.addi c0_i32_8 c4_i32_9
  let c1_i32_10 : BitVec 32 := 1#32
  ⟨c0_i32_8, v71, c1_i32_10⟩
def k0_mult3 (k0_t2 : Fin k0_t2_loop.trips) : BitVec 32 :=
  let c0_i32_475 : BitVec 32 := 0#32
  let c0_i32_8 : BitVec 32 := 0#32
  let c1_i32_10 : BitVec 32 := 1#32
  let arg28 : BitVec 32 := Scf.iv c0_i32_8 c1_i32_10 k0_t2
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  v1157
def k0_mult4 (k0_t2 : Fin k0_t2_loop.trips) : BitVec 32 :=
  let c0_i32_476 : BitVec 32 := 0#32
  let c0_i32_475 : BitVec 32 := 0#32
  let c0_i32_8 : BitVec 32 := 0#32
  let c1_i32_10 : BitVec 32 := 1#32
  let arg28 : BitVec 32 := Scf.iv c0_i32_8 c1_i32_10 k0_t2
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  let v1158 : BitVec 32 := v1157
  let v1159 : BitVec 32 := Scalar.addi c0_i32_476 v1158
  v1159
def k0_off3 (k0_t2 : Fin k0_t2_loop.trips) : Fin 2 → Nat :=
  let c0_i32_476 : BitVec 32 := 0#32
  let c0_i32_475 : BitVec 32 := 0#32
  let c0_i32_8 : BitVec 32 := 0#32
  let c1_i32_10 : BitVec 32 := 1#32
  let arg28 : BitVec 32 := Scf.iv c0_i32_8 c1_i32_10 k0_t2
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  let v1158 : BitVec 32 := v1157
  let v1159 : BitVec 32 := Scalar.addi c0_i32_476 v1158
  let v1160 : BitVec 32 := v1159
  let v1161 : Index := Scalar.indexCast v1160
  let c0_477 : Index := 0#32
  ![v1161.toNat, 0]
def k0_off4 (k0_t2 : Fin k0_t2_loop.trips) : Fin 2 → Nat :=
  let c0_i32_475 : BitVec 32 := 0#32
  let c0_i32_8 : BitVec 32 := 0#32
  let c1_i32_10 : BitVec 32 := 1#32
  let arg28 : BitVec 32 := Scf.iv c0_i32_8 c1_i32_10 k0_t2
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  let v1158 : BitVec 32 := v1157
  let v1164 : Index := Scalar.indexCast v1158
  let c0_478 : Index := 0#32
  ![v1164.toNat, 0]
def k0_mult5 (k0_t2 : Fin k0_t2_loop.trips) : BitVec 32 :=
  let c0_i32_485 : BitVec 32 := 0#32
  let c0_i32_475 : BitVec 32 := 0#32
  let c0_i32_8 : BitVec 32 := 0#32
  let c1_i32_10 : BitVec 32 := 1#32
  let arg28 : BitVec 32 := Scf.iv c0_i32_8 c1_i32_10 k0_t2
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  let v1158 : BitVec 32 := v1157
  let v1181 : BitVec 32 := Scalar.addi c0_i32_485 v1158
  v1181
def k0_off5 (k0_t2 : Fin k0_t2_loop.trips) : Fin 2 → Nat :=
  let c0_i32_485 : BitVec 32 := 0#32
  let c0_i32_475 : BitVec 32 := 0#32
  let c0_i32_8 : BitVec 32 := 0#32
  let c1_i32_10 : BitVec 32 := 1#32
  let arg28 : BitVec 32 := Scf.iv c0_i32_8 c1_i32_10 k0_t2
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  let v1158 : BitVec 32 := v1157
  let v1181 : BitVec 32 := Scalar.addi c0_i32_485 v1158
  let v1182 : BitVec 32 := v1181
  let v1196 : Index := Scalar.indexCast v1182
  let c0_490 : Index := 0#32
  ![v1196.toNat, 0]
@[reducible] def k0_t3_loop : Scf.Loop 32 :=
  let c0_i32_12 : BitVec 32 := 0#32
  let c4_i32_13 : BitVec 32 := 4#32
  let v72 : BitVec 32 := Scalar.addi c0_i32_12 c4_i32_13
  let c1_i32_14 : BitVec 32 := 1#32
  ⟨c0_i32_12, v72, c1_i32_14⟩
def k0_mult6 (k0_t3 : Fin k0_t3_loop.trips) : BitVec 32 :=
  let c0_i32_475 : BitVec 32 := 0#32
  let c0_i32_12 : BitVec 32 := 0#32
  let c1_i32_14 : BitVec 32 := 1#32
  let arg28 : BitVec 32 := Scf.iv c0_i32_12 c1_i32_14 k0_t3
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  v1157
def k0_mult7 (k0_t3 : Fin k0_t3_loop.trips) : BitVec 32 :=
  let c128_i32 : BitVec 32 := 128#32
  let c0_i32_475 : BitVec 32 := 0#32
  let c0_i32_12 : BitVec 32 := 0#32
  let c1_i32_14 : BitVec 32 := 1#32
  let arg28 : BitVec 32 := Scf.iv c0_i32_12 c1_i32_14 k0_t3
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  let v1158 : BitVec 32 := v1157
  let v1159 : BitVec 32 := Scalar.addi c128_i32 v1158
  v1159
def k0_off6 (k0_t3 : Fin k0_t3_loop.trips) : Fin 2 → Nat :=
  let c128_i32 : BitVec 32 := 128#32
  let c0_i32_475 : BitVec 32 := 0#32
  let c0_i32_12 : BitVec 32 := 0#32
  let c1_i32_14 : BitVec 32 := 1#32
  let arg28 : BitVec 32 := Scf.iv c0_i32_12 c1_i32_14 k0_t3
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  let v1158 : BitVec 32 := v1157
  let v1159 : BitVec 32 := Scalar.addi c128_i32 v1158
  let v1160 : BitVec 32 := v1159
  let v1161 : Index := Scalar.indexCast v1160
  let c0_476 : Index := 0#32
  ![v1161.toNat, 0]
def k0_off7 (k0_t3 : Fin k0_t3_loop.trips) : Fin 2 → Nat :=
  let c0_i32_475 : BitVec 32 := 0#32
  let c0_i32_12 : BitVec 32 := 0#32
  let c1_i32_14 : BitVec 32 := 1#32
  let arg28 : BitVec 32 := Scf.iv c0_i32_12 c1_i32_14 k0_t3
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  let v1158 : BitVec 32 := v1157
  let v1228 : Index := Scalar.indexCast v1158
  let c0_477 : Index := 0#32
  ![v1228.toNat, 0]
@[reducible] def k0_t4_loop : Scf.Loop 32 :=
  let c0_i32_26 : BitVec 32 := 0#32
  let c4_i32_27 : BitVec 32 := 4#32
  let v143 : BitVec 32 := Scalar.addi c0_i32_26 c4_i32_27
  let c1_i32_28 : BitVec 32 := 1#32
  ⟨c0_i32_26, v143, c1_i32_28⟩
def k0_mult8 (k0_t4 : Fin k0_t4_loop.trips) : BitVec 32 :=
  let c0_i32_475 : BitVec 32 := 0#32
  let c0_i32_26 : BitVec 32 := 0#32
  let c1_i32_28 : BitVec 32 := 1#32
  let arg28 : BitVec 32 := Scf.iv c0_i32_26 c1_i32_28 k0_t4
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  v1157
def k0_mult9 (k0_t4 : Fin k0_t4_loop.trips) : BitVec 32 :=
  let c128_i32 : BitVec 32 := 128#32
  let c0_i32_475 : BitVec 32 := 0#32
  let c0_i32_26 : BitVec 32 := 0#32
  let c1_i32_28 : BitVec 32 := 1#32
  let arg28 : BitVec 32 := Scf.iv c0_i32_26 c1_i32_28 k0_t4
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  let v1158 : BitVec 32 := v1157
  let v1159 : BitVec 32 := Scalar.addi c128_i32 v1158
  v1159
def k0_off8 (k0_t4 : Fin k0_t4_loop.trips) : Fin 2 → Nat :=
  let c128_i32 : BitVec 32 := 128#32
  let c0_i32_475 : BitVec 32 := 0#32
  let c0_i32_26 : BitVec 32 := 0#32
  let c1_i32_28 : BitVec 32 := 1#32
  let arg28 : BitVec 32 := Scf.iv c0_i32_26 c1_i32_28 k0_t4
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  let v1158 : BitVec 32 := v1157
  let v1159 : BitVec 32 := Scalar.addi c128_i32 v1158
  let v1160 : BitVec 32 := v1159
  let v1161 : Index := Scalar.indexCast v1160
  let c0_476 : Index := 0#32
  ![v1161.toNat, 0]
def k0_off9 (k0_t4 : Fin k0_t4_loop.trips) : Fin 2 → Nat :=
  let c0_i32_475 : BitVec 32 := 0#32
  let c0_i32_26 : BitVec 32 := 0#32
  let c1_i32_28 : BitVec 32 := 1#32
  let arg28 : BitVec 32 := Scf.iv c0_i32_26 c1_i32_28 k0_t4
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  let v1158 : BitVec 32 := v1157
  let v1164 : Index := Scalar.indexCast v1158
  let c0_477 : Index := 0#32
  ![v1164.toNat, 0]
def k0_mult10 (k0_t4 : Fin k0_t4_loop.trips) : BitVec 32 :=
  let c128_i32_484 : BitVec 32 := 128#32
  let c0_i32_475 : BitVec 32 := 0#32
  let c0_i32_26 : BitVec 32 := 0#32
  let c1_i32_28 : BitVec 32 := 1#32
  let arg28 : BitVec 32 := Scf.iv c0_i32_26 c1_i32_28 k0_t4
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  let v1158 : BitVec 32 := v1157
  let v1181 : BitVec 32 := Scalar.addi c128_i32_484 v1158
  v1181
def k0_off10 (k0_t4 : Fin k0_t4_loop.trips) : Fin 2 → Nat :=
  let c128_i32_484 : BitVec 32 := 128#32
  let c0_i32_475 : BitVec 32 := 0#32
  let c0_i32_26 : BitVec 32 := 0#32
  let c1_i32_28 : BitVec 32 := 1#32
  let arg28 : BitVec 32 := Scf.iv c0_i32_26 c1_i32_28 k0_t4
  let c1_i32_474 : BitVec 32 := 1#32
  let v1155 : BitVec 32 := Scalar.muli arg28 c1_i32_474
  let v1156 : BitVec 32 := Scalar.addi c0_i32_475 v1155
  let c32_i32 : BitVec 32 := 32#32
  let v1157 : BitVec 32 := Scalar.muli v1156 c32_i32
  let v1158 : BitVec 32 := v1157
  let v1181 : BitVec 32 := Scalar.addi c128_i32_484 v1158
  let v1182 : BitVec 32 := v1181
  let v1196 : Index := Scalar.indexCast v1182
  let c0_489 : Index := 0#32
  ![v1196.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2320x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3x256x1280 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S30x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S48x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x4096 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1280 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S10x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x8x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== InProjIdeal.lean ====
variable {F : FTy → Type} [FloatOps F] [Named F]
def κ : String → Option EReal := fun
  | "inv_fp8_max" => some ((1 / 448 : ℝ) : EReal)
  | "inv_int8_max" => some ((1 / 127 : ℝ) : EReal)
  | _ => none
-- ==== InProjReferenceIdeal.lean ====
abbrev S2304x4096 : Shape := ⟨2, ![2304, 4096]⟩
abbrev S4096 : Shape := ⟨1, ![4096]⟩
abbrev S4096x2320 : Shape := ⟨2, ![4096, 2320]⟩
abbrev S2320 : Shape := ⟨1, ![2320]⟩
abbrev S4x1280 : Shape := ⟨2, ![4, 1280]⟩
abbrev S1280 : Shape := ⟨1, ![1280]⟩
abbrev S2304x3x1280 : Shape := ⟨3, ![2304, 3, 1280]⟩
abbrev S2304x3x10 : Shape := ⟨3, ![2304, 3, 10]⟩
abbrev S16 : Shape := ⟨1, ![16]⟩
abbrev S1x2304 : Shape := ⟨2, ![1, 2304]⟩
abbrev S2304x1024 : Shape := ⟨2, ![2304, 1024]⟩
abbrev S2304x1280 : Shape := ⟨2, ![2304, 1280]⟩
abbrev S10x2304 : Shape := ⟨2, ![10, 2304]⟩
abbrev S2304 : Shape := ⟨1, ![2304]⟩
abbrev S2304x1 : Shape := ⟨2, ![2304, 1]⟩
abbrev S1x4096 : Shape := ⟨2, ![1, 4096]⟩
abbrev S2304x2320 : Shape := ⟨2, ![2304, 2320]⟩
abbrev S1x2320 : Shape := ⟨2, ![1, 2320]⟩
abbrev S2304x10x128 : Shape := ⟨3, ![2304, 10, 128]⟩
abbrev S2304x10 : Shape := ⟨2, ![2304, 10]⟩
abbrev S2304x10x1 : Shape := ⟨3, ![2304, 10, 1]⟩

abbrev nBuf : Space → Nat
  | .hbm => 16
  | .vmem => 9
  | .smem => 0
  | _ => 0

abbrev bufTy : (tb : Table) → Fin (tcTables nBuf tb) → BufTy
  | .hbm, ⟨0, _⟩ => ⟨S2304x4096, .bf16⟩
  | .hbm, ⟨1, _⟩ => ⟨S4096, .f32⟩
  | .hbm, ⟨2, _⟩ => ⟨S4096x2320, .fp8e4m3⟩
  | .hbm, ⟨3, _⟩ => ⟨S2320, .f32⟩
  | .hbm, ⟨4, _⟩ => ⟨S4x1280, .f32⟩
  | .hbm, ⟨5, _⟩ => ⟨S1280, .f32⟩
  | .hbm, ⟨6, _⟩ => ⟨S2304x3x1280, .i8⟩
  | .hbm, ⟨7, _⟩ => ⟨S2304x3x10, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S2304x4096, .fp8e4m3⟩
  | .hbm, ⟨12, _⟩ => ⟨S1x2304, .f32⟩
  | .hbm, ⟨13, _⟩ => ⟨S2304x1024, .f32⟩
  | .hbm, ⟨14, _⟩ => ⟨S2304x1280, .i8⟩
  | .hbm, ⟨15, _⟩ => ⟨S10x2304, .f32⟩
  | .local _ .vmem, ⟨0, _⟩ => ⟨S2304x4096, .bf16⟩
  | .local _ .vmem, ⟨1, _⟩ => ⟨S4096, .f32⟩
  | .local _ .vmem, ⟨2, _⟩ => ⟨S4096x2320, .fp8e4m3⟩
  | .local _ .vmem, ⟨3, _⟩ => ⟨S2320, .f32⟩
  | .local _ .vmem, ⟨4, _⟩ => ⟨S2304x4096, .fp8e4m3⟩
  | .local _ .vmem, ⟨5, _⟩ => ⟨S1x2304, .f32⟩
  | .local _ .vmem, ⟨6, _⟩ => ⟨S2304x1024, .f32⟩
  | .local _ .vmem, ⟨7, _⟩ => ⟨S2304x1280, .i8⟩
  | .local _ .vmem, ⟨8, _⟩ => ⟨S10x2304, .f32⟩
  | _, _ => ⟨S2304x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2304x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2320 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2304x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2304x1280 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S10x2304 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Combine.lean ====
abbrev S2304x2 : Shape := ⟨2, ![2304, 2]⟩
abbrev S4608x1024 : Shape := ⟨2, ![4608, 1024]⟩
abbrev S2x2304 : Shape := ⟨2, ![2, 2304]⟩
abbrev S2304x1024 : Shape := ⟨2, ![2304, 1024]⟩
abbrev S1x2304 : Shape := ⟨2, ![1, 2304]⟩
abbrev S128x1024 : Shape := ⟨2, ![128, 1024]⟩
abbrev S1x128 : Shape := ⟨2, ![1, 128]⟩
abbrev S128x128 : Shape := ⟨2, ![128, 128]⟩
abbrev S1x1 : Shape := ⟨2, ![1, 1]⟩
abbrev S1x1024 : Shape := ⟨2, ![1, 1024]⟩
abbrev S32x1024 : Shape := ⟨2, ![32, 1024]⟩
abbrev S32 : Shape := ⟨1, ![32]⟩
abbrev S32x1 : Shape := ⟨2, ![32, 1]⟩
abbrev S32x128 : Shape := ⟨2, ![32, 128]⟩
abbrev S128x1 : Shape := ⟨2, ![128, 1]⟩

abbrev nBuf : Space → Nat
  | .hbm => 7
  | .vmem => 7
  | .smem => 2
  | _ => 0

abbrev bufTy : (tb : Table) → Fin (tcTables nBuf tb) → BufTy
  | .hbm, ⟨0, _⟩ => ⟨S2304x2, .i32⟩
  | .hbm, ⟨1, _⟩ => ⟨S2304x2, .f32⟩
  | .hbm, ⟨2, _⟩ => ⟨S4608x1024, .f32⟩
  | .hbm, ⟨3, _⟩ => ⟨S2x2304, .i32⟩
  | .hbm, ⟨4, _⟩ => ⟨S2x2304, .f32⟩
  | .hbm, ⟨5, _⟩ => ⟨S2304x1024, .fp8e4m3⟩
  | .hbm, ⟨6, _⟩ => ⟨S1x2304, .f32⟩
  | .local _ .vmem, ⟨0, _⟩ => ⟨S4608x1024, .f32⟩
  | .local _ .vmem, ⟨1, _⟩ => ⟨S128x1024, .fp8e4m3⟩
  | .local _ .vmem, ⟨2, _⟩ => ⟨S128x1024, .fp8e4m3⟩
  | .local _ .vmem, ⟨3, _⟩ => ⟨S1x128, .f32⟩
  | .local _ .vmem, ⟨4, _⟩ => ⟨S1x128, .f32⟩
  | .local _ .vmem, ⟨5, _⟩ => ⟨S128x1024, .f32⟩
  | .local _ .vmem, ⟨6, _⟩ => ⟨S128x128, .f32⟩
  | .local _ .smem, ⟨0, _⟩ => ⟨S2x2304, .i32⟩
  | .local _ .smem, ⟨1, _⟩ => ⟨S2x2304, .f32⟩
  | _, _ => ⟨S2304x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc0_scratch1 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![18], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_off1 (i : grid0.Coords) (k0_t1 : Fin k0_t1_loop.trips) : Fin 2 → Nat :=
  let c0_10 : Index := 0#32
  let arg0 : BitVec 32 := BitVec.ofNat 32 (i 0).val
  let c128_i32 : BitVec 32 := 128#32
  let v0 : BitVec 32 := Scalar.muli arg0 c128_i32
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32 : BitVec 32 := 8#32
  let v11 : BitVec 32 := Scalar.muli v10 c8_i32
  let c0_i32_9 : BitVec 32 := 0#32
  let v12 : BitVec 32 := Scalar.addi v11 c0_i32_9
  let v13 : BitVec 32 := Scalar.addi v0 v12
  let v14 : Index := Scalar.indexCast v13
  ![0, v14.toNat]
def k0_off2 (v18 : BitVec 32) : Fin 2 → Nat :=
  let v19 : Index := Scalar.indexCast v18
  let c0_12 : Index := 0#32
  ![v19.toNat, 0]

def k0_chk1 (v18 : BitVec 32) : Prop :=
  (∀ a, (k0_off2 v18) a + S1x1024.size a ≤ S4608x1024.size a)
theorem k0_off2_inb : ∀ (v18 : BitVec 32) (k0_hw1 : k0_chk1 v18), ∀ a, (k0_off2 v18) a + S1x1024.size a ≤ S4608x1024.size a := fun v18 k0_hw1 => k0_hw1

def k0_off3 (i : grid0.Coords) (k0_t1 : Fin k0_t1_loop.trips) : Fin 2 → Nat :=
  let c1 : Index := 1#32
  let arg0 : BitVec 32 := BitVec.ofNat 32 (i 0).val
  let c128_i32 : BitVec 32 := 128#32
  let v0 : BitVec 32 := Scalar.muli arg0 c128_i32
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32 : BitVec 32 := 8#32
  let v11 : BitVec 32 := Scalar.muli v10 c8_i32
  let c0_i32_9 : BitVec 32 := 0#32
  let v12 : BitVec 32 := Scalar.addi v11 c0_i32_9
  let v23 : BitVec 32 := Scalar.addi v0 v12
  let v24 : Index := Scalar.indexCast v23
  ![1, v24.toNat]
def k0_off4 (v28 : BitVec 32) : Fin 2 → Nat :=
  let v29 : Index := Scalar.indexCast v28
  let c0_14 : Index := 0#32
  ![v29.toNat, 0]

def k0_chk2 (v28 : BitVec 32) : Prop :=
  (∀ a, (k0_off4 v28) a + S1x1024.size a ≤ S4608x1024.size a)
theorem k0_off4_inb : ∀ (v28 : BitVec 32) (k0_hw2 : k0_chk2 v28), ∀ a, (k0_off4 v28) a + S1x1024.size a ≤ S4608x1024.size a := fun v28 k0_hw2 => k0_hw2

def k0_off5 (k0_t1 : Fin k0_t1_loop.trips) : Fin 2 → Nat :=
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32 : BitVec 32 := 8#32
  let v11 : BitVec 32 := Scalar.muli v10 c8_i32
  let c0_i32_9 : BitVec 32 := 0#32
  let v12 : BitVec 32 := Scalar.addi v11 c0_i32_9
  let v34 : Index := Scalar.indexCast v12
  let c0_15 : Index := 0#32
  ![v34.toNat, 0]
def k0_off6 (i : grid0.Coords) (k0_t1 : Fin k0_t1_loop.trips) : Fin 2 → Nat :=
  let c0_18 : Index := 0#32
  let arg0 : BitVec 32 := BitVec.ofNat 32 (i 0).val
  let c128_i32 : BitVec 32 := 128#32
  let v0 : BitVec 32 := Scalar.muli arg0 c128_i32
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_16 : BitVec 32 := 8#32
  let v38 : BitVec 32 := Scalar.muli v10 c8_i32_16
  let c1_i32_17 : BitVec 32 := 1#32
  let v39 : BitVec 32 := Scalar.addi v38 c1_i32_17
  let v40 : BitVec 32 := Scalar.addi v0 v39
  let v41 : Index := Scalar.indexCast v40
  ![0, v41.toNat]
def k0_off7 (v45 : BitVec 32) : Fin 2 → Nat :=
  let v46 : Index := Scalar.indexCast v45
  let c0_20 : Index := 0#32
  ![v46.toNat, 0]

def k0_chk3 (v45 : BitVec 32) : Prop :=
  (∀ a, (k0_off7 v45) a + S1x1024.size a ≤ S4608x1024.size a)
theorem k0_off7_inb : ∀ (v45 : BitVec 32) (k0_hw3 : k0_chk3 v45), ∀ a, (k0_off7 v45) a + S1x1024.size a ≤ S4608x1024.size a := fun v45 k0_hw3 => k0_hw3

def k0_off8 (i : grid0.Coords) (k0_t1 : Fin k0_t1_loop.trips) : Fin 2 → Nat :=
  let c1_21 : Index := 1#32
  let arg0 : BitVec 32 := BitVec.ofNat 32 (i 0).val
  let c128_i32 : BitVec 32 := 128#32
  let v0 : BitVec 32 := Scalar.muli arg0 c128_i32
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_16 : BitVec 32 := 8#32
  let v38 : BitVec 32 := Scalar.muli v10 c8_i32_16
  let c1_i32_17 : BitVec 32 := 1#32
  let v39 : BitVec 32 := Scalar.addi v38 c1_i32_17
  let v50 : BitVec 32 := Scalar.addi v0 v39
  let v51 : Index := Scalar.indexCast v50
  ![1, v51.toNat]
def k0_off9 (v55 : BitVec 32) : Fin 2 → Nat :=
  let v56 : Index := Scalar.indexCast v55
  let c0_23 : Index := 0#32
  ![v56.toNat, 0]

def k0_chk4 (v55 : BitVec 32) : Prop :=
  (∀ a, (k0_off9 v55) a + S1x1024.size a ≤ S4608x1024.size a)
theorem k0_off9_inb : ∀ (v55 : BitVec 32) (k0_hw4 : k0_chk4 v55), ∀ a, (k0_off9 v55) a + S1x1024.size a ≤ S4608x1024.size a := fun v55 k0_hw4 => k0_hw4

def k0_off10 (k0_t1 : Fin k0_t1_loop.trips) : Fin 2 → Nat :=
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_16 : BitVec 32 := 8#32
  let v38 : BitVec 32 := Scalar.muli v10 c8_i32_16
  let c1_i32_17 : BitVec 32 := 1#32
  let v39 : BitVec 32 := Scalar.addi v38 c1_i32_17
  let v61 : Index := Scalar.indexCast v39
  let c0_24 : Index := 0#32
  ![v61.toNat, 0]
def k0_off11 (i : grid0.Coords) (k0_t1 : Fin k0_t1_loop.trips) : Fin 2 → Nat :=
  let c0_26 : Index := 0#32
  let arg0 : BitVec 32 := BitVec.ofNat 32 (i 0).val
  let c128_i32 : BitVec 32 := 128#32
  let v0 : BitVec 32 := Scalar.muli arg0 c128_i32
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_25 : BitVec 32 := 8#32
  let v65 : BitVec 32 := Scalar.muli v10 c8_i32_25
  let c2_i32 : BitVec 32 := 2#32
  let v66 : BitVec 32 := Scalar.addi v65 c2_i32
  let v67 : BitVec 32 := Scalar.addi v0 v66
  let v68 : Index := Scalar.indexCast v67
  ![0, v68.toNat]
def k0_off12 (v72 : BitVec 32) : Fin 2 → Nat :=
  let v73 : Index := Scalar.indexCast v72
  let c0_28 : Index := 0#32
  ![v73.toNat, 0]

def k0_chk5 (v72 : BitVec 32) : Prop :=
  (∀ a, (k0_off12 v72) a + S1x1024.size a ≤ S4608x1024.size a)
theorem k0_off12_inb : ∀ (v72 : BitVec 32) (k0_hw5 : k0_chk5 v72), ∀ a, (k0_off12 v72) a + S1x1024.size a ≤ S4608x1024.size a := fun v72 k0_hw5 => k0_hw5

def k0_off13 (i : grid0.Coords) (k0_t1 : Fin k0_t1_loop.trips) : Fin 2 → Nat :=
  let c1_29 : Index := 1#32
  let arg0 : BitVec 32 := BitVec.ofNat 32 (i 0).val
  let c128_i32 : BitVec 32 := 128#32
  let v0 : BitVec 32 := Scalar.muli arg0 c128_i32
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_25 : BitVec 32 := 8#32
  let v65 : BitVec 32 := Scalar.muli v10 c8_i32_25
  let c2_i32 : BitVec 32 := 2#32
  let v66 : BitVec 32 := Scalar.addi v65 c2_i32
  let v77 : BitVec 32 := Scalar.addi v0 v66
  let v78 : Index := Scalar.indexCast v77
  ![1, v78.toNat]
def k0_off14 (v82 : BitVec 32) : Fin 2 → Nat :=
  let v83 : Index := Scalar.indexCast v82
  let c0_31 : Index := 0#32
  ![v83.toNat, 0]

def k0_chk6 (v82 : BitVec 32) : Prop :=
  (∀ a, (k0_off14 v82) a + S1x1024.size a ≤ S4608x1024.size a)
theorem k0_off14_inb : ∀ (v82 : BitVec 32) (k0_hw6 : k0_chk6 v82), ∀ a, (k0_off14 v82) a + S1x1024.size a ≤ S4608x1024.size a := fun v82 k0_hw6 => k0_hw6

def k0_off15 (k0_t1 : Fin k0_t1_loop.trips) : Fin 2 → Nat :=
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_25 : BitVec 32 := 8#32
  let v65 : BitVec 32 := Scalar.muli v10 c8_i32_25
  let c2_i32 : BitVec 32 := 2#32
  let v66 : BitVec 32 := Scalar.addi v65 c2_i32
  let v88 : Index := Scalar.indexCast v66
  let c0_32 : Index := 0#32
  ![v88.toNat, 0]
def k0_off16 (i : grid0.Coords) (k0_t1 : Fin k0_t1_loop.trips) : Fin 2 → Nat :=
  let c0_34 : Index := 0#32
  let arg0 : BitVec 32 := BitVec.ofNat 32 (i 0).val
  let c128_i32 : BitVec 32 := 128#32
  let v0 : BitVec 32 := Scalar.muli arg0 c128_i32
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_33 : BitVec 32 := 8#32
  let v92 : BitVec 32 := Scalar.muli v10 c8_i32_33
  let c3_i32 : BitVec 32 := 3#32
  let v93 : BitVec 32 := Scalar.addi v92 c3_i32
  let v94 : BitVec 32 := Scalar.addi v0 v93
  let v95 : Index := Scalar.indexCast v94
  ![0, v95.toNat]
def k0_off17 (v99 : BitVec 32) : Fin 2 → Nat :=
  let v100 : Index := Scalar.indexCast v99
  let c0_36 : Index := 0#32
  ![v100.toNat, 0]

def k0_chk7 (v99 : BitVec 32) : Prop :=
  (∀ a, (k0_off17 v99) a + S1x1024.size a ≤ S4608x1024.size a)
theorem k0_off17_inb : ∀ (v99 : BitVec 32) (k0_hw7 : k0_chk7 v99), ∀ a, (k0_off17 v99) a + S1x1024.size a ≤ S4608x1024.size a := fun v99 k0_hw7 => k0_hw7

def k0_off18 (i : grid0.Coords) (k0_t1 : Fin k0_t1_loop.trips) : Fin 2 → Nat :=
  let c1_37 : Index := 1#32
  let arg0 : BitVec 32 := BitVec.ofNat 32 (i 0).val
  let c128_i32 : BitVec 32 := 128#32
  let v0 : BitVec 32 := Scalar.muli arg0 c128_i32
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_33 : BitVec 32 := 8#32
  let v92 : BitVec 32 := Scalar.muli v10 c8_i32_33
  let c3_i32 : BitVec 32 := 3#32
  let v93 : BitVec 32 := Scalar.addi v92 c3_i32
  let v104 : BitVec 32 := Scalar.addi v0 v93
  let v105 : Index := Scalar.indexCast v104
  ![1, v105.toNat]
def k0_off19 (v109 : BitVec 32) : Fin 2 → Nat :=
  let v110 : Index := Scalar.indexCast v109
  let c0_39 : Index := 0#32
  ![v110.toNat, 0]

def k0_chk8 (v109 : BitVec 32) : Prop :=
  (∀ a, (k0_off19 v109) a + S1x1024.size a ≤ S4608x1024.size a)
theorem k0_off19_inb : ∀ (v109 : BitVec 32) (k0_hw8 : k0_chk8 v109), ∀ a, (k0_off19 v109) a + S1x1024.size a ≤ S4608x1024.size a := fun v109 k0_hw8 => k0_hw8

def k0_off20 (k0_t1 : Fin k0_t1_loop.trips) : Fin 2 → Nat :=
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_33 : BitVec 32 := 8#32
  let v92 : BitVec 32 := Scalar.muli v10 c8_i32_33
  let c3_i32 : BitVec 32 := 3#32
  let v93 : BitVec 32 := Scalar.addi v92 c3_i32
  let v115 : Index := Scalar.indexCast v93
  let c0_40 : Index := 0#32
  ![v115.toNat, 0]
def k0_off21 (i : grid0.Coords) (k0_t1 : Fin k0_t1_loop.trips) : Fin 2 → Nat :=
  let c0_43 : Index := 0#32
  let arg0 : BitVec 32 := BitVec.ofNat 32 (i 0).val
  let c128_i32 : BitVec 32 := 128#32
  let v0 : BitVec 32 := Scalar.muli arg0 c128_i32
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_41 : BitVec 32 := 8#32
  let v119 : BitVec 32 := Scalar.muli v10 c8_i32_41
  let c4_i32_42 : BitVec 32 := 4#32
  let v120 : BitVec 32 := Scalar.addi v119 c4_i32_42
  let v121 : BitVec 32 := Scalar.addi v0 v120
  let v122 : Index := Scalar.indexCast v121
  ![0, v122.toNat]
def k0_off22 (v126 : BitVec 32) : Fin 2 → Nat :=
  let v127 : Index := Scalar.indexCast v126
  let c0_45 : Index := 0#32
  ![v127.toNat, 0]

def k0_chk9 (v126 : BitVec 32) : Prop :=
  (∀ a, (k0_off22 v126) a + S1x1024.size a ≤ S4608x1024.size a)
theorem k0_off22_inb : ∀ (v126 : BitVec 32) (k0_hw9 : k0_chk9 v126), ∀ a, (k0_off22 v126) a + S1x1024.size a ≤ S4608x1024.size a := fun v126 k0_hw9 => k0_hw9

def k0_off23 (i : grid0.Coords) (k0_t1 : Fin k0_t1_loop.trips) : Fin 2 → Nat :=
  let c1_46 : Index := 1#32
  let arg0 : BitVec 32 := BitVec.ofNat 32 (i 0).val
  let c128_i32 : BitVec 32 := 128#32
  let v0 : BitVec 32 := Scalar.muli arg0 c128_i32
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_41 : BitVec 32 := 8#32
  let v119 : BitVec 32 := Scalar.muli v10 c8_i32_41
  let c4_i32_42 : BitVec 32 := 4#32
  let v120 : BitVec 32 := Scalar.addi v119 c4_i32_42
  let v131 : BitVec 32 := Scalar.addi v0 v120
  let v132 : Index := Scalar.indexCast v131
  ![1, v132.toNat]
def k0_off24 (v136 : BitVec 32) : Fin 2 → Nat :=
  let v137 : Index := Scalar.indexCast v136
  let c0_48 : Index := 0#32
  ![v137.toNat, 0]

def k0_chk10 (v136 : BitVec 32) : Prop :=
  (∀ a, (k0_off24 v136) a + S1x1024.size a ≤ S4608x1024.size a)
theorem k0_off24_inb : ∀ (v136 : BitVec 32) (k0_hw10 : k0_chk10 v136), ∀ a, (k0_off24 v136) a + S1x1024.size a ≤ S4608x1024.size a := fun v136 k0_hw10 => k0_hw10

def k0_off25 (k0_t1 : Fin k0_t1_loop.trips) : Fin 2 → Nat :=
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_41 : BitVec 32 := 8#32
  let v119 : BitVec 32 := Scalar.muli v10 c8_i32_41
  let c4_i32_42 : BitVec 32 := 4#32
  let v120 : BitVec 32 := Scalar.addi v119 c4_i32_42
  let v142 : Index := Scalar.indexCast v120
  let c0_49 : Index := 0#32
  ![v142.toNat, 0]
def k0_off26 (i : grid0.Coords) (k0_t1 : Fin k0_t1_loop.trips) : Fin 2 → Nat :=
  let c0_51 : Index := 0#32
  let arg0 : BitVec 32 := BitVec.ofNat 32 (i 0).val
  let c128_i32 : BitVec 32 := 128#32
  let v0 : BitVec 32 := Scalar.muli arg0 c128_i32
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_50 : BitVec 32 := 8#32
  let v146 : BitVec 32 := Scalar.muli v10 c8_i32_50
  let c5_i32 : BitVec 32 := 5#32
  let v147 : BitVec 32 := Scalar.addi v146 c5_i32
  let v148 : BitVec 32 := Scalar.addi v0 v147
  let v149 : Index := Scalar.indexCast v148
  ![0, v149.toNat]
def k0_off27 (v153 : BitVec 32) : Fin 2 → Nat :=
  let v154 : Index := Scalar.indexCast v153
  let c0_53 : Index := 0#32
  ![v154.toNat, 0]

def k0_chk11 (v153 : BitVec 32) : Prop :=
  (∀ a, (k0_off27 v153) a + S1x1024.size a ≤ S4608x1024.size a)
theorem k0_off27_inb : ∀ (v153 : BitVec 32) (k0_hw11 : k0_chk11 v153), ∀ a, (k0_off27 v153) a + S1x1024.size a ≤ S4608x1024.size a := fun v153 k0_hw11 => k0_hw11

def k0_off28 (i : grid0.Coords) (k0_t1 : Fin k0_t1_loop.trips) : Fin 2 → Nat :=
  let c1_54 : Index := 1#32
  let arg0 : BitVec 32 := BitVec.ofNat 32 (i 0).val
  let c128_i32 : BitVec 32 := 128#32
  let v0 : BitVec 32 := Scalar.muli arg0 c128_i32
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_50 : BitVec 32 := 8#32
  let v146 : BitVec 32 := Scalar.muli v10 c8_i32_50
  let c5_i32 : BitVec 32 := 5#32
  let v147 : BitVec 32 := Scalar.addi v146 c5_i32
  let v158 : BitVec 32 := Scalar.addi v0 v147
  let v159 : Index := Scalar.indexCast v158
  ![1, v159.toNat]
def k0_off29 (v163 : BitVec 32) : Fin 2 → Nat :=
  let v164 : Index := Scalar.indexCast v163
  let c0_56 : Index := 0#32
  ![v164.toNat, 0]

def k0_chk12 (v163 : BitVec 32) : Prop :=
  (∀ a, (k0_off29 v163) a + S1x1024.size a ≤ S4608x1024.size a)
theorem k0_off29_inb : ∀ (v163 : BitVec 32) (k0_hw12 : k0_chk12 v163), ∀ a, (k0_off29 v163) a + S1x1024.size a ≤ S4608x1024.size a := fun v163 k0_hw12 => k0_hw12

def k0_off30 (k0_t1 : Fin k0_t1_loop.trips) : Fin 2 → Nat :=
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_50 : BitVec 32 := 8#32
  let v146 : BitVec 32 := Scalar.muli v10 c8_i32_50
  let c5_i32 : BitVec 32 := 5#32
  let v147 : BitVec 32 := Scalar.addi v146 c5_i32
  let v169 : Index := Scalar.indexCast v147
  let c0_57 : Index := 0#32
  ![v169.toNat, 0]
def k0_off31 (i : grid0.Coords) (k0_t1 : Fin k0_t1_loop.trips) : Fin 2 → Nat :=
  let c0_59 : Index := 0#32
  let arg0 : BitVec 32 := BitVec.ofNat 32 (i 0).val
  let c128_i32 : BitVec 32 := 128#32
  let v0 : BitVec 32 := Scalar.muli arg0 c128_i32
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_58 : BitVec 32 := 8#32
  let v173 : BitVec 32 := Scalar.muli v10 c8_i32_58
  let c6_i32 : BitVec 32 := 6#32
  let v174 : BitVec 32 := Scalar.addi v173 c6_i32
  let v175 : BitVec 32 := Scalar.addi v0 v174
  let v176 : Index := Scalar.indexCast v175
  ![0, v176.toNat]
def k0_off32 (v180 : BitVec 32) : Fin 2 → Nat :=
  let v181 : Index := Scalar.indexCast v180
  let c0_61 : Index := 0#32
  ![v181.toNat, 0]

def k0_chk13 (v180 : BitVec 32) : Prop :=
  (∀ a, (k0_off32 v180) a + S1x1024.size a ≤ S4608x1024.size a)
theorem k0_off32_inb : ∀ (v180 : BitVec 32) (k0_hw13 : k0_chk13 v180), ∀ a, (k0_off32 v180) a + S1x1024.size a ≤ S4608x1024.size a := fun v180 k0_hw13 => k0_hw13

def k0_off33 (i : grid0.Coords) (k0_t1 : Fin k0_t1_loop.trips) : Fin 2 → Nat :=
  let c1_62 : Index := 1#32
  let arg0 : BitVec 32 := BitVec.ofNat 32 (i 0).val
  let c128_i32 : BitVec 32 := 128#32
  let v0 : BitVec 32 := Scalar.muli arg0 c128_i32
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_58 : BitVec 32 := 8#32
  let v173 : BitVec 32 := Scalar.muli v10 c8_i32_58
  let c6_i32 : BitVec 32 := 6#32
  let v174 : BitVec 32 := Scalar.addi v173 c6_i32
  let v185 : BitVec 32 := Scalar.addi v0 v174
  let v186 : Index := Scalar.indexCast v185
  ![1, v186.toNat]
def k0_off34 (v190 : BitVec 32) : Fin 2 → Nat :=
  let v191 : Index := Scalar.indexCast v190
  let c0_64 : Index := 0#32
  ![v191.toNat, 0]

def k0_chk14 (v190 : BitVec 32) : Prop :=
  (∀ a, (k0_off34 v190) a + S1x1024.size a ≤ S4608x1024.size a)
theorem k0_off34_inb : ∀ (v190 : BitVec 32) (k0_hw14 : k0_chk14 v190), ∀ a, (k0_off34 v190) a + S1x1024.size a ≤ S4608x1024.size a := fun v190 k0_hw14 => k0_hw14

def k0_off35 (k0_t1 : Fin k0_t1_loop.trips) : Fin 2 → Nat :=
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_58 : BitVec 32 := 8#32
  let v173 : BitVec 32 := Scalar.muli v10 c8_i32_58
  let c6_i32 : BitVec 32 := 6#32
  let v174 : BitVec 32 := Scalar.addi v173 c6_i32
  let v196 : Index := Scalar.indexCast v174
  let c0_65 : Index := 0#32
  ![v196.toNat, 0]
def k0_off36 (i : grid0.Coords) (k0_t1 : Fin k0_t1_loop.trips) : Fin 2 → Nat :=
  let c0_67 : Index := 0#32
  let arg0 : BitVec 32 := BitVec.ofNat 32 (i 0).val
  let c128_i32 : BitVec 32 := 128#32
  let v0 : BitVec 32 := Scalar.muli arg0 c128_i32
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_66 : BitVec 32 := 8#32
  let v200 : BitVec 32 := Scalar.muli v10 c8_i32_66
  let c7_i32 : BitVec 32 := 7#32
  let v201 : BitVec 32 := Scalar.addi v200 c7_i32
  let v202 : BitVec 32 := Scalar.addi v0 v201
  let v203 : Index := Scalar.indexCast v202
  ![0, v203.toNat]
def k0_off37 (v207 : BitVec 32) : Fin 2 → Nat :=
  let v208 : Index := Scalar.indexCast v207
  let c0_69 : Index := 0#32
  ![v208.toNat, 0]

def k0_chk15 (v207 : BitVec 32) : Prop :=
  (∀ a, (k0_off37 v207) a + S1x1024.size a ≤ S4608x1024.size a)
theorem k0_off37_inb : ∀ (v207 : BitVec 32) (k0_hw15 : k0_chk15 v207), ∀ a, (k0_off37 v207) a + S1x1024.size a ≤ S4608x1024.size a := fun v207 k0_hw15 => k0_hw15

def k0_off38 (i : grid0.Coords) (k0_t1 : Fin k0_t1_loop.trips) : Fin 2 → Nat :=
  let c1_70 : Index := 1#32
  let arg0 : BitVec 32 := BitVec.ofNat 32 (i 0).val
  let c128_i32 : BitVec 32 := 128#32
  let v0 : BitVec 32 := Scalar.muli arg0 c128_i32
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_66 : BitVec 32 := 8#32
  let v200 : BitVec 32 := Scalar.muli v10 c8_i32_66
  let c7_i32 : BitVec 32 := 7#32
  let v201 : BitVec 32 := Scalar.addi v200 c7_i32
  let v212 : BitVec 32 := Scalar.addi v0 v201
  let v213 : Index := Scalar.indexCast v212
  ![1, v213.toNat]
def k0_off39 (v217 : BitVec 32) : Fin 2 → Nat :=
  let v218 : Index := Scalar.indexCast v217
  let c0_72 : Index := 0#32
  ![v218.toNat, 0]

def k0_chk16 (v217 : BitVec 32) : Prop :=
  (∀ a, (k0_off39 v217) a + S1x1024.size a ≤ S4608x1024.size a)
theorem k0_off39_inb : ∀ (v217 : BitVec 32) (k0_hw16 : k0_chk16 v217), ∀ a, (k0_off39 v217) a + S1x1024.size a ≤ S4608x1024.size a := fun v217 k0_hw16 => k0_hw16

def k0_off40 (k0_t1 : Fin k0_t1_loop.trips) : Fin 2 → Nat :=
  let c0_i32_8 : BitVec 32 := 0#32
  let c0_i32 : BitVec 32 := 0#32
  let c1_i32 : BitVec 32 := 1#32
  let arg8 : BitVec 32 := Scf.iv c0_i32 c1_i32 k0_t1
  let c1_i32_7 : BitVec 32 := 1#32
  let v9 : BitVec 32 := Scalar.muli arg8 c1_i32_7
  let v10 : BitVec 32 := Scalar.addi c0_i32_8 v9
  let c8_i32_66 : BitVec 32 := 8#32
  let v200 : BitVec 32 := Scalar.muli v10 c8_i32_66
  let c7_i32 : BitVec 32 := 7#32
  let v201 : BitVec 32 := Scalar.addi v200 c7_i32
  let v223 : Index := Scalar.indexCast v201
  let c0_73 : Index := 0#32
  ![v223.toNat, 0]
@[reducible] def k0_t2_loop : Scf.Loop 32 :=
  let c0_i32_1 : BitVec 32 := 0#32
  let c4_i32 : BitVec 32 := 4#32
  let v2 : BitVec 32 := Scalar.addi c0_i32_1 c4_i32
  let c1_i32_2 : BitVec 32 := 1#32
  ⟨c0_i32_1, v2, c1_i32_2⟩
def k0_mult1 (k0_t2 : Fin k0_t2_loop.trips) : BitVec 32 :=
  let c0_i32_8 : BitVec 32 := 0#32
  let c0_i32_1 : BitVec 32 := 0#32
  let c1_i32_2 : BitVec 32 := 1#32
  let arg8 : BitVec 32 := Scf.iv c0_i32_1 c1_i32_2 k0_t2
  let c1_i32_7 : BitVec 32 := 1#32
  let v9 : BitVec 32 := Scalar.muli arg8 c1_i32_7
  let v10 : BitVec 32 := Scalar.addi c0_i32_8 v9
  let c32_i32 : BitVec 32 := 32#32
  let v11 : BitVec 32 := Scalar.muli v10 c32_i32
  v11
def k0_off41 (k0_t2 : Fin k0_t2_loop.trips) : Fin 2 → Nat :=
  let c0_i32_8 : BitVec 32 := 0#32
  let c0_i32_1 : BitVec 32 := 0#32
  let c1_i32_2 : BitVec 32 := 1#32
  let arg8 : BitVec 32 := Scf.iv c0_i32_1 c1_i32_2 k0_t2
  let c1_i32_7 : BitVec 32 := 1#32
  let v9 : BitVec 32 := Scalar.muli arg8 c1_i32_7
  let v10 : BitVec 32 := Scalar.addi c0_i32_8 v9
  let c32_i32 : BitVec 32 := 32#32
  let v11 : BitVec 32 := Scalar.muli v10 c32_i32
  let v12 : BitVec 32 := v11
  let v13 : Index := Scalar.indexCast v12
  let c0_9 : Index := 0#32
  ![v13.toNat, 0]
def k0_mult2 (k0_t2 : Fin k0_t2_loop.trips) : BitVec 32 :=
  let c0_i32_13 : BitVec 32 := 0#32
  let c0_i32_8 : BitVec 32 := 0#32
  let c0_i32_1 : BitVec 32 := 0#32
  let c1_i32_2 : BitVec 32 := 1#32
  let arg8 : BitVec 32 := Scf.iv c0_i32_1 c1_i32_2 k0_t2
  let c1_i32_7 : BitVec 32 := 1#32
  let v9 : BitVec 32 := Scalar.muli arg8 c1_i32_7
  let v10 : BitVec 32 := Scalar.addi c0_i32_8 v9
  let c32_i32 : BitVec 32 := 32#32
  let v11 : BitVec 32 := Scalar.muli v10 c32_i32
  let v12 : BitVec 32 := v11
  let v24 : BitVec 32 := Scalar.addi c0_i32_13 v12
  v24
def k0_off42 (k0_t2 : Fin k0_t2_loop.trips) : Fin 2 → Nat :=
  let c0_i32_13 : BitVec 32 := 0#32
  let c0_i32_8 : BitVec 32 := 0#32
  let c0_i32_1 : BitVec 32 := 0#32
  let c1_i32_2 : BitVec 32 := 1#32
  let arg8 : BitVec 32 := Scf.iv c0_i32_1 c1_i32_2 k0_t2
  let c1_i32_7 : BitVec 32 := 1#32
  let v9 : BitVec 32 := Scalar.muli arg8 c1_i32_7
  let v10 : BitVec 32 := Scalar.addi c0_i32_8 v9
  let c32_i32 : BitVec 32 := 32#32
  let v11 : BitVec 32 := Scalar.muli v10 c32_i32
  let v12 : BitVec 32 := v11
  let v24 : BitVec 32 := Scalar.addi c0_i32_13 v12
  let v25 : BitVec 32 := v24
  let v35 : Index := Scalar.indexCast v25
  let c0_17 : Index := 0#32
  ![v35.toNat, 0]
def k0_off43 (k0_t2 : Fin k0_t2_loop.trips) : Fin 2 → Nat :=
  let c0_i32_13 : BitVec 32 := 0#32
  let c0_i32_8 : BitVec 32 := 0#32
  let c0_i32_1 : BitVec 32 := 0#32
  let c1_i32_2 : BitVec 32 := 1#32
  let arg8 : BitVec 32 := Scf.iv c0_i32_1 c1_i32_2 k0_t2
  let c1_i32_7 : BitVec 32 := 1#32
  let v9 : BitVec 32 := Scalar.muli arg8 c1_i32_7
  let v10 : BitVec 32 := Scalar.addi c0_i32_8 v9
  let c32_i32 : BitVec 32 := 32#32
  let v11 : BitVec 32 := Scalar.muli v10 c32_i32
  let v12 : BitVec 32 := v11
  let v24 : BitVec 32 := Scalar.addi c0_i32_13 v12
  let v25 : BitVec 32 := v24
  let v39 : Index := Scalar.indexCast v25
  let c0_18 : Index := 0#32
  ![v39.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S2x2304 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4608x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CombineIdeal.lean ====
variable {F : FTy → Type} [FloatOps F] [Named F]
def κ : String → Option EReal := fun
  | "inv_fp8_max" => some ((1 / 448 : ℝ) : EReal)
  | _ => none
-- ==== CombineReferenceIdeal.lean ====
abbrev S2304x2 : Shape := ⟨2, ![2304, 2]⟩
abbrev S4608x1024 : Shape := ⟨2, ![4608, 1024]⟩
abbrev S2304x2x1 : Shape := ⟨3, ![2304, 2, 1]⟩
abbrev S_ : Shape := ⟨0, ![]⟩
abbrev S2304x2x1024 : Shape := ⟨3, ![2304, 2, 1024]⟩
abbrev S2304x1024 : Shape := ⟨2, ![2304, 1024]⟩
abbrev S2304 : Shape := ⟨1, ![2304]⟩
abbrev S2304x1 : Shape := ⟨2, ![2304, 1]⟩
abbrev S1x2304 : Shape := ⟨2, ![1, 2304]⟩

abbrev nBuf : Space → Nat
  | .hbm => 43
  | .vmem => 0
  | .smem => 0
  | _ => 0

abbrev bufTy : (tb : Table) → Fin (tcTables nBuf tb) → BufTy
  | .hbm, ⟨0, _⟩ => ⟨S2304x2, .i32⟩
  | .hbm, ⟨1, _⟩ => ⟨S2304x2, .f32⟩
  | .hbm, ⟨2, _⟩ => ⟨S4608x1024, .f32⟩
  | .hbm, ⟨3, _⟩ => ⟨S2304x2x1, .f32⟩
  | .hbm, ⟨4, _⟩ => ⟨S_, .i32⟩
  | .hbm, ⟨5, _⟩ => ⟨S2304x2, .i32⟩
  | .hbm, ⟨6, _⟩ => ⟨S2304x2, .i1⟩
  | .hbm, ⟨7, _⟩ => ⟨S_, .i32⟩
  | .hbm, ⟨8, _⟩ => ⟨S2304x2, .i32⟩
  | .hbm, ⟨9, _⟩ => ⟨S2304x2, .i32⟩
  | .hbm, ⟨10, _⟩ => ⟨S2304x2, .i32⟩
  | .hbm, ⟨11, _⟩ => ⟨S2304x2x1, .i32⟩
  | .hbm, ⟨12, _⟩ => ⟨S2304x2x1024, .f32⟩
  | .hbm, ⟨13, _⟩ => ⟨S2304x2x1024, .f32⟩
  | .hbm, ⟨14, _⟩ => ⟨S2304x2x1024, .f32⟩
  | .hbm, ⟨15, _⟩ => ⟨S_, .f32⟩
  | .hbm, ⟨16, _⟩ => ⟨S2304x1024, .f32⟩
  | .hbm, ⟨17, _⟩ => ⟨S2304x1024, .f32⟩
  | .hbm, ⟨18, _⟩ => ⟨S_, .f32⟩
  | .hbm, ⟨19, _⟩ => ⟨S2304, .f32⟩
  | .hbm, ⟨20, _⟩ => ⟨S_, .f32⟩
  | .hbm, ⟨21, _⟩ => ⟨S2304, .f32⟩
  | .hbm, ⟨22, _⟩ => ⟨S2304, .i1⟩
  | .hbm, ⟨23, _⟩ => ⟨S_, .f32⟩
  | .hbm, ⟨24, _⟩ => ⟨S2304, .f32⟩
  | .hbm, ⟨25, _⟩ => ⟨S2304, .f32⟩
  | .hbm, ⟨26, _⟩ => ⟨S_, .f32⟩
  | .hbm, ⟨27, _⟩ => ⟨S_, .f32⟩
  | .hbm, ⟨28, _⟩ => ⟨S2304, .f32⟩
  | .hbm, ⟨29, _⟩ => ⟨S2304, .f32⟩
  | .hbm, ⟨30, _⟩ => ⟨S2304x1, .f32⟩
  | .hbm, ⟨31, _⟩ => ⟨S2304x1024, .f32⟩
  | .hbm, ⟨32, _⟩ => ⟨S2304x1024, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2304x1024, .f32⟩
  | .hbm, ⟨37, _⟩ => ⟨S2304x1024, .f32⟩
  | .hbm, ⟨38, _⟩ => ⟨S_, .f32⟩
  | .hbm, ⟨39, _⟩ => ⟨S2304x1024, .f32⟩
  | .hbm, ⟨40, _⟩ => ⟨S2304x1024, .f32⟩
  | .hbm, ⟨41, _⟩ => ⟨S2304x1024, .fp8e4m3⟩
  | .hbm, ⟨42, _⟩ => ⟨S1x2304, .f32⟩
  | _, _ => ⟨S2304x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Proof.KernelBody.lean ====
/-
  Hand-written, untrusted. The body of the fused expert kernel at one point of its grid, in its three cases: the first six steps of a
  token tile (one block of 768 hidden columns computed and kept, the running maxima of the rows updated), the seventh (the
  same, then the rows' scales and the codes of the whole tile, thirty-two rows at a time), and the last four (one block of 1024
  output columns). Each is run once by `sl_exec`, and says what is left in every buffer the case touches.
-/
module

public import proofs.«01_k».proof.Proof.Gen.Kernel.Frame
public import proofs.«01_k».proof.Proof.Gen.Kernel.Skeleton
public import Idealize.ShloMosaic.Lib.Pipeline.Frame
public import Idealize.ShloMosaic.Lib.Tactic
public import Idealize.ShloMosaic.Lib.VecWindow

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The three conditions -/

theorem cond1_iff : ∀ i : grid0.Coords, k0_cond1 i = 1#1 ↔ (i 1).val < 7 := by decide +kernel
theorem cond2_iff : ∀ i : grid0.Coords, k0_cond2 i = 1#1 ↔ (i 1).val = 6 := by decide +kernel
theorem cond3_iff : ∀ i : grid0.Coords, k0_cond3 i = 1#1 ↔ 7 ≤ (i 1).val := by decide +kernel

/-- A step before the seventh: the block's 768 hidden columns are put into the hidden tile, the rows' running maxima taken along. -/
theorem body_up (c : Dev nD) (E : Set ℕ) (i : grid0.Coords) (arg2 : Memref sig .tc .vmem S576x4096 .fp8e4m3) (harg2 : arg2.IsWhole) (arg3 : Memref sig .tc .vmem S576x1 .f32) (harg3 : arg3.IsWhole) (arg4 : Memref sig .tc .vmem S4096x768 .fp8e4m3) (harg4 : arg4.IsWhole) (arg5 : Memref sig .tc .vmem S1x768 .f32) (harg5 : arg5.IsWhole) (arg6 : Memref sig .tc .vmem S5376x1024 .fp8e4m3) (harg6 : arg6.IsWhole) (arg7 : Memref sig .tc .vmem S1x1024 .f32) (harg7 : arg7.IsWhole) (arg8 : Memref sig .tc .vmem S576x1024 .fp8e4m3) (harg8 : arg8.IsWhole) (arg9 : Memref sig .tc .vmem S576x1 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S576x1024 .f32) (harg12 : arg12.IsWhole) (arg13 : Memref sig .tc .vmem S576x1024 .bf16) (harg13 : arg13.IsWhole) (arg14 : Memref sig .tc .vmem S576x5376 .fp8e4m3) (harg14 : arg14.IsWhole) (arg15 : Memref sig .tc .vmem S576x1 .f32) (harg15 : arg15.IsWhole) (arg16 : Memref sig .tc .vmem S576x5376 .f32) (harg16 : arg16.IsWhole) (arg17 : Memref sig .tc .vmem S576x128 .f32) (harg17 : arg17.IsWhole) (arg18 : Memref sig .tc .vmem S576x128 .f32) (harg18 : arg18.IsWhole)
    (h1 : k0_cond1 i = 1#1) (h2 : ¬ k0_cond2 i = 1#1) (h3 : ¬ k0_cond3 i = 1#1) (x2 : Vec F S576x4096 .fp8e4m3) (x3 : Vec F S576x1 .f32) (x4 : Vec F S4096x768 .fp8e4m3) (x5 : Vec F S1x768 .f32) (S : Vec F S576x5376 .f32) (P : Vec F S576x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg16 fullShare S ∗ owns (c : Thread nD τ) arg17 fullShare P
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg16 fullShare (VecWindow.put S ![0, 768 * (i 1).val] ![576, 768] (k0_pay2 x2 x4 x3 x5)) ∗ owns (c : Thread nD τ) arg17 fullShare (k0_pay3 i x2 x4 x3 x5 P)) -∗ K ⟨⟩))
      ⊢ wp frame (wpE (defs₀ (F := F)) Variants.none c none) E (cc0_shared i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_shared_eq_skeleton]; unfold cc0_shared_skel
  unfold owns
  iintro ⟨⟨%farg2, %harg2f, Harg2⟩, ⟨%farg3, %harg3f, Harg3⟩, ⟨%farg4, %harg4f, Harg4⟩, ⟨%farg5, %harg5f, Harg5⟩, ⟨%farg16, %harg16f, Harg16⟩, ⟨%farg17, %harg17f, Harg17⟩, Hk⟩
  subst harg2f harg3f harg4f harg5f harg16f harg17f
  sl_exec
  sl_step
  iapply Hk
  isplitl [Harg2]
  · iexists _; isplitr; swap; · iexact Harg2
    ipureintro; rfl
  isplitl [Harg3]
  · iexists _; isplitr; swap; · iexact Harg3
    ipureintro; rfl
  isplitl [Harg4]
  · iexists _; isplitr; swap; · iexact Harg4
    ipureintro; rfl
  isplitl [Harg5]
  · iexists _; isplitr; swap; · iexact Harg5
    ipureintro; rfl
  isplitl [Harg16]
  · iexists _; isplitr; swap; · iexact Harg16
    ipureintro; refine (View.read_writes_cons_put _ _ _ _ [] (k0_off1_eq i)).trans ?_; congr 1; congr 1 <;> exact View.readAt_full _ _ _
  · iexists _; isplitr; swap; · iexact Harg17
    ipureintro; refine (View.read_writes_full _ _ _ _ []).trans ?_; congr 1 <;> exact View.readAt_full _ _ _

/-- A step after the seventh: one block of 1024 output columns, from the codes and scales of the tile. -/
theorem body_down (c : Dev nD) (E : Set ℕ) (i : grid0.Coords) (arg2 : Memref sig .tc .vmem S576x4096 .fp8e4m3) (harg2 : arg2.IsWhole) (arg3 : Memref sig .tc .vmem S576x1 .f32) (harg3 : arg3.IsWhole) (arg4 : Memref sig .tc .vmem S4096x768 .fp8e4m3) (harg4 : arg4.IsWhole) (arg5 : Memref sig .tc .vmem S1x768 .f32) (harg5 : arg5.IsWhole) (arg6 : Memref sig .tc .vmem S5376x1024 .fp8e4m3) (harg6 : arg6.IsWhole) (arg7 : Memref sig .tc .vmem S1x1024 .f32) (harg7 : arg7.IsWhole) (arg8 : Memref sig .tc .vmem S576x1024 .fp8e4m3) (harg8 : arg8.IsWhole) (arg9 : Memref sig .tc .vmem S576x1 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S576x1024 .f32) (harg12 : arg12.IsWhole) (arg13 : Memref sig .tc .vmem S576x1024 .bf16) (harg13 : arg13.IsWhole) (arg14 : Memref sig .tc .vmem S576x5376 .fp8e4m3) (harg14 : arg14.IsWhole) (arg15 : Memref sig .tc .vmem S576x1 .f32) (harg15 : arg15.IsWhole) (arg16 : Memref sig .tc .vmem S576x5376 .f32) (harg16 : arg16.IsWhole) (arg17 : Memref sig .tc .vmem S576x128 .f32) (harg17 : arg17.IsWhole) (arg18 : Memref sig .tc .vmem S576x128 .f32) (harg18 : arg18.IsWhole)
    (h1 : ¬ k0_cond1 i = 1#1) (h2 : ¬ k0_cond2 i = 1#1) (h3 : k0_cond3 i = 1#1) (x6 : Vec F S5376x1024 .fp8e4m3) (x7 : Vec F S1x1024 .f32) (x8 : Vec F S576x1024 .fp8e4m3) (x9 : Vec F S576x1 .f32) (x10 : Vec F S1024x1024 .fp8e4m3) (x11 : Vec F S1x1024 .f32) (x12 : Vec F S576x1024 .f32) (x14 : Vec F S576x5376 .fp8e4m3) (x18 : Vec F S576x128 .f32) (K : PUnit → sProp 𝕄) :
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg14 fullShare x14 ∗ owns (c : Thread nD τ) arg18 fullShare x18 ∗ (∃ d, owns (c : Thread nD τ) arg13 fullShare d)
        ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg14 fullShare x14 ∗ owns (c : Thread nD τ) arg18 fullShare x18 ∗ owns (c : Thread nD τ) arg13 fullShare (k0_pay7 x14 x6 (VecWindow.window x18 ![0, 0] ![576, 1] inb_S576x128_S576x1_0_0) x7 x8 x10 x9 x11 x12)) -∗ K ⟨⟩))
      ⊢ wp frame (wpE (defs₀ (F := F)) Variants.none c none) E (cc0_shared i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_shared_eq_skeleton]; unfold cc0_shared_skel
  unfold owns
  iintro ⟨⟨%farg6, %harg6f, Harg6⟩, ⟨%farg7, %harg7f, Harg7⟩, ⟨%farg8, %harg8f, Harg8⟩, ⟨%farg9, %harg9f, Harg9⟩, ⟨%farg10, %harg10f, Harg10⟩, ⟨%farg11, %harg11f, Harg11⟩, ⟨%farg12, %harg12f, Harg12⟩, ⟨%farg14, %harg14f, Harg14⟩, ⟨%farg18, %harg18f, Harg18⟩, ⟨%darg13, %farg13, -, Harg13⟩, Hk⟩
  subst harg6f harg7f harg8f harg9f harg10f harg11f harg12f harg14f harg18f
  sl_exec
  sl_step
  iapply Hk
  isplitl [Harg6]
  · iexists _; isplitr; swap; · iexact Harg6
    ipureintro; rfl
  isplitl [Harg7]
  · iexists _; isplitr; swap; · iexact Harg7
    ipureintro; rfl
  isplitl [Harg8]
  · iexists _; isplitr; swap; · iexact Harg8
    ipureintro; rfl
  isplitl [Harg9]
  · iexists _; isplitr; swap; · iexact Harg9
    ipureintro; rfl
  isplitl [Harg10]
  · iexists _; isplitr; swap; · iexact Harg10
    ipureintro; rfl
  isplitl [Harg11]
  · iexists _; isplitr; swap; · iexact Harg11
    ipureintro; rfl
  isplitl [Harg12]
  · iexists _; isplitr; swap; · iexact Harg12
    ipureintro; rfl
  isplitl [Harg14]
  · iexists _; isplitr; swap; · iexact Harg14
    ipureintro; rfl
  isplitl [Harg18]
  · iexists _; isplitr; swap; · iexact Harg18
    ipureintro; rfl
  · iexists _; isplitr; swap; · iexact Harg13
    ipureintro; refine (View.read_writes_full _ _ _ _ []).trans ?_; congr 1 <;> first | exact View.readAt_full _ _ _ | rfl

theorem blk_inb (y : S576x5376.Idx) : ∀ a, (![32 * ((y 0).val / 32), 0] : Fin 2 → ℕ) a + (![32, 5376] : Fin 2 → ℕ) a ≤ S576x5376.size a := by
  intro a
  have h : (y 0).val < 576 := (y 0).isLt
  match a with
  | 0 => show 32 * ((y 0).val / 32) + 32 ≤ 576; omega
  | 1 => show 0 + 5376 ≤ 5376; omega
theorem blk_inb' (y : S576x5376.Idx) : ∀ a, (![32 * ((y 0).val / 32), 0] : Fin 2 → ℕ) a + (![32, 1] : Fin 2 → ℕ) a ≤ S576x128.size a := by
  intro a
  have h : (y 0).val < 576 := (y 0).isLt
  match a with
  | 0 => show 32 * ((y 0).val / 32) + 32 ≤ 576; omega
  | 1 => show 0 + 1 ≤ 128; omega

/-- The codes of a whole tile, row block by row block of thirty-two: entry `y` is the entry of `k0_pay6` at the hidden rows and
    the scales of its own block. -/
def codesOf (S : Vec F S576x5376 .f32) (Q : Vec F S576x128 .f32) : Vec F S576x5376 .fp8e4m3 :=
  fun y => k0_pay6 (VecWindow.window (s := S576x5376) S ![32 * ((y 0).val / 32), 0] ![32, 5376] (blk_inb y))
    (VecWindow.window (s := S576x128) Q ![32 * ((y 0).val / 32), 0] ![32, 1] (blk_inb' y))
    (fun a => match a with | 0 => ⟨(y 0).val % 32, Nat.mod_lt _ (by decide)⟩ | 1 => ⟨(y 1).val, (y 1).isLt⟩)

/-- Before trip `k` of the quantizing loop: the hidden tile and the scales as they are, the codes of the first `32 * k` rows written. -/
def quantInv (c : Dev nD) (arg14 : Memref sig .tc .vmem S576x5376 .fp8e4m3) (arg16 : Memref sig .tc .vmem S576x5376 .f32)
    (arg18 : Memref sig .tc .vmem S576x128 .f32) (S : Vec F S576x5376 .f32) (Q : Vec F S576x128 .f32) (k : ℕ) (_ : Unit) : sProp 𝕄 :=
  iprop(owns (c : Thread nD τ) arg16 fullShare S ∗ owns (c : Thread nD τ) arg18 fullShare Q
    ∗ ∃ X, ⌜∀ y : S576x5376.Idx, (y 0).val < 32 * k → X y = codesOf S Q y⌝ ∗ owns (c : Thread nD τ) arg14 fullShare X)

/-- One trip's store: the thirty-two rows of the block get their codes, the rows above keep theirs. -/
theorem quant_step (S : Vec F S576x5376 .f32) (Q : Vec F S576x128 .f32) (X : Vec F S576x5376 .fp8e4m3) (k : ℕ) (hk : k < 18)
    (hb : ∀ a, (![32 * k, 0] : Fin 2 → ℕ) a + (![32, 5376] : Fin 2 → ℕ) a ≤ S576x5376.size a)
    (hb' : ∀ a, (![32 * k, 0] : Fin 2 → ℕ) a + (![32, 1] : Fin 2 → ℕ) a ≤ S576x128.size a)
    (hX : ∀ y : S576x5376.Idx, (y 0).val < 32 * k → X y = codesOf S Q y) (y : S576x5376.Idx) (hy : (y 0).val < 32 * (k + 1)) :
    VecWindow.put X ![32 * k, 0] ![32, 5376]
      (k0_pay6 (VecWindow.window (s := S576x5376) S ![32 * k, 0] ![32, 5376] hb) (VecWindow.window (s := S576x128) Q ![32 * k, 0] ![32, 1] hb')) y
      = codesOf S Q y := by
  have h1 : (y 1).val < 5376 := (y 1).isLt
  unfold VecWindow.put
  split
  · rename_i h
    have h0 : 32 * k ≤ (y 0).val := (h 0).1
    obtain rfl : k = (y 0).val / 32 := by omega
    unfold codesOf
    congr 1
    funext a
    match a with
    | 0 =>
      apply Fin.ext
      show (y 0).val - 32 * ((y 0).val / 32) = (y 0).val % 32
      omega
    | 1 => apply Fin.ext; show (y 1).val - 0 = (y 1).val; omega
  · rename_i h
    apply hX
    by_contra hc
    apply h
    intro a
    match a with
    | 0 => exact ⟨by show 32 * k ≤ (y 0).val; omega, by show (y 0).val < 32 * k + 32; omega⟩
    | 1 => exact ⟨Nat.zero_le _, by show (y 1).val < 0 + 5376; omega⟩

/-- The seventh step: the last block of hidden columns, then the rows' scales and the codes of the tile. -/
theorem body_quant (c : Dev nD) (E : Set ℕ) (i : grid0.Coords) (arg2 : Memref sig .tc .vmem S576x4096 .fp8e4m3) (harg2 : arg2.IsWhole) (arg3 : Memref sig .tc .vmem S576x1 .f32) (harg3 : arg3.IsWhole) (arg4 : Memref sig .tc .vmem S4096x768 .fp8e4m3) (harg4 : arg4.IsWhole) (arg5 : Memref sig .tc .vmem S1x768 .f32) (harg5 : arg5.IsWhole) (arg6 : Memref sig .tc .vmem S5376x1024 .fp8e4m3) (harg6 : arg6.IsWhole) (arg7 : Memref sig .tc .vmem S1x1024 .f32) (harg7 : arg7.IsWhole) (arg8 : Memref sig .tc .vmem S576x1024 .fp8e4m3) (harg8 : arg8.IsWhole) (arg9 : Memref sig .tc .vmem S576x1 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S576x1024 .f32) (harg12 : arg12.IsWhole) (arg13 : Memref sig .tc .vmem S576x1024 .bf16) (harg13 : arg13.IsWhole) (arg14 : Memref sig .tc .vmem S576x5376 .fp8e4m3) (harg14 : arg14.IsWhole) (arg15 : Memref sig .tc .vmem S576x1 .f32) (harg15 : arg15.IsWhole) (arg16 : Memref sig .tc .vmem S576x5376 .f32) (harg16 : arg16.IsWhole) (arg17 : Memref sig .tc .vmem S576x128 .f32) (harg17 : arg17.IsWhole) (arg18 : Memref sig .tc .vmem S576x128 .f32) (harg18 : arg18.IsWhole)
    (h1 : k0_cond1 i = 1#1) (h2 : k0_cond2 i = 1#1) (h3 : ¬ k0_cond3 i = 1#1) (x2 : Vec F S576x4096 .fp8e4m3) (x3 : Vec F S576x1 .f32) (x4 : Vec F S4096x768 .fp8e4m3) (x5 : Vec F S1x768 .f32) (S : Vec F S576x5376 .f32) (P : Vec F S576x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg16 fullShare S ∗ owns (c : Thread nD τ) arg17 fullShare P ∗ (∃ d, owns (c : Thread nD τ) arg18 fullShare d) ∗ (∃ d, owns (c : Thread nD τ) arg15 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg16 fullShare (VecWindow.put S ![0, 768 * (i 1).val] ![576, 768] (k0_pay2 x2 x4 x3 x5)) ∗ owns (c : Thread nD τ) arg17 fullShare (k0_pay3 i x2 x4 x3 x5 P) ∗ owns (c : Thread nD τ) arg18 fullShare (k0_pay5 (k0_pay3 i x2 x4 x3 x5 P)) ∗ owns (c : Thread nD τ) arg15 fullShare (k0_pay4 (k0_pay3 i x2 x4 x3 x5 P)) ∗ owns (c : Thread nD τ) arg14 fullShare (codesOf (VecWindow.put S ![0, 768 * (i 1).val] ![576, 768] (k0_pay2 x2 x4 x3 x5)) (k0_pay5 (k0_pay3 i x2 x4 x3 x5 P)))) -∗ K ⟨⟩))
      ⊢ wp frame (wpE (defs₀ (F := F)) Variants.none c none) E (cc0_shared i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_shared_eq_skeleton]; unfold cc0_shared_skel
  unfold owns
  iintro ⟨⟨%farg2, %harg2f, Harg2⟩, ⟨%farg3, %harg3f, Harg3⟩, ⟨%farg4, %harg4f, Harg4⟩, ⟨%farg5, %harg5f, Harg5⟩, ⟨%farg16, %harg16f, Harg16⟩, ⟨%farg17, %harg17f, Harg17⟩, ⟨%darg18, %farg18, -, Harg18⟩, ⟨%darg15, %farg15, -, Harg15⟩, ⟨%darg14, %farg14, -, Harg14⟩, Hk⟩
  subst harg2f harg3f harg4f harg5f harg16f harg17f
  sl_exec
  sl_for (quantInv c arg14 arg16 arg18 (VecWindow.put (arg16.view.read (Elt F) farg16) ![0, 768 * (i 1).val] ![576, 768] (k0_pay2 (arg2.view.read (Elt F) farg2) (arg4.view.read (Elt F) farg4) (arg3.view.read (Elt F) farg3) (arg5.view.read (Elt F) farg5))) (k0_pay5 (k0_pay3 i (arg2.view.read (Elt F) farg2) (arg4.view.read (Elt F) farg4) (arg3.view.read (Elt F) farg3) (arg5.view.read (Elt F) farg5) (arg17.view.read (Elt F) farg17)))) $$ [Harg16 Harg18 Harg14]
  case region =>
    intro k _
    have hk : k.val < 18 := k.isLt
    have hb : ∀ a, (![32 * k.val, 0] : Fin 2 → ℕ) a + (![32, 5376] : Fin 2 → ℕ) a ≤ S576x5376.size a := fun a => match a with
      | 0 => by show 32 * k.val + 32 ≤ 576; omega
      | 1 => by show 0 + 5376 ≤ 5376; omega
    have hb' : ∀ a, (![32 * k.val, 0] : Fin 2 → ℕ) a + (![32, 1] : Fin 2 → ℕ) a ≤ S576x128.size a := fun a => match a with
      | 0 => by show 32 * k.val + 32 ≤ 576; omega
      | 1 => by show 0 + 1 ≤ 128; omega
    unfold quantInv
    unfold owns
    generalize (VecWindow.put (arg16.view.read (Elt F) farg16) ![0, 768 * (i 1).val] ![576, 768] (k0_pay2 (arg2.view.read (Elt F) farg2) (arg4.view.read (Elt F) farg4) (arg3.view.read (Elt F) farg3) (arg5.view.read (Elt F) farg5))) = S'
    generalize (k0_pay5 (k0_pay3 i (arg2.view.read (Elt F) farg2) (arg4.view.read (Elt F) farg4) (arg3.view.read (Elt F) farg3) (arg5.view.read (Elt F) farg5) (arg17.view.read (Elt F) farg17))) = Q'
    iintro ⟨⟨%g16, %e16, H16⟩, ⟨%g18, %e18, H18⟩, %X, %hX, %g14, %e14, H14⟩
    subst e16 e18 e14
    sl_exec
    sl_step
    isplitl [H16]
    · iexists _; isplitr; swap; · iexact H16
      ipureintro; rfl
    isplitl [H18]
    · iexists _; isplitr; swap; · iexact H18
      ipureintro; rfl
    iexists _; isplitr; swap
    · iexists _; isplitr; swap; · iexact H14
      ipureintro; rfl
    ipureintro
    intro y hy
    refine (congrFun (View.read_writes_cons_put _ _ _ _ [] (k0_off2_eq k)) y).trans ?_
    rw [View.readAt_unit _ _ _ (k0_off2_eq k) hb, View.readAt_unit _ _ _ (k0_off3_eq k) hb']
    exact quant_step _ _ _ k.val hk hb hb' hX y hy
  · unfold quantInv
    unfold owns
    isplitl [Harg16]
    · iexists _; isplitr; swap; · iexact Harg16
      ipureintro
      refine (View.read_writes_cons_put _ _ _ _ [] (k0_off1_eq i)).trans ?_
      congr 1; congr 1 <;> exact View.readAt_full _ _ _
    isplitl [Harg18]
    · iexists _; isplitr; swap; · iexact Harg18
      ipureintro
      refine (View.read_writes_full _ _ _ _ []).trans ?_
      congr 1
      unfold body_quant.sl.v9 body_quant.sl.Harg17_1
      refine (View.readCov_full _ _ _ _ []).trans ?_
      congr 1 <;> exact View.readAt_full _ _ _
    iexists _; isplitr; swap
    · iexists _; isplitr; swap; · iexact Harg14
      ipureintro; rfl
    ipureintro
    intro y hy
    exact absurd hy (by omega)
  iintro %_ H
  unfold quantInv
  icases H with ⟨Harg16, Harg18, %X, %hX, Harg14⟩
  sl_exec
  sl_step
  iapply Hk
  unfold owns
  icases Harg16 with ⟨%g16, %e16, Harg16⟩
  icases Harg18 with ⟨%g18, %e18, Harg18⟩
  icases Harg14 with ⟨%g14, %e14, Harg14⟩
  isplitl [Harg2]
  · iexists _; isplitr; swap; · iexact Harg2
    ipureintro; rfl
  isplitl [Harg3]
  · iexists _; isplitr; swap; · iexact Harg3
    ipureintro; rfl
  isplitl [Harg4]
  · iexists _; isplitr; swap; · iexact Harg4
    ipureintro; rfl
  isplitl [Harg5]
  · iexists _; isplitr; swap; · iexact Harg5
    ipureintro; rfl
  isplitl [Harg16]
  · iexists g16; isplitr; · ipureintro; exact e16
    iexact Harg16
  isplitl [Harg17]
  · iexists _; isplitr; swap; · iexact Harg17
    ipureintro; unfold body_quant.sl.Harg17_1; refine (View.read_writes_full _ _ _ _ []).trans ?_; congr 1 <;> exact View.readAt_full _ _ _
  isplitl [Harg18]
  · iexists g18; isplitr; · ipureintro; exact e18
    iexact Harg18
  isplitl [Harg15]
  · iexists _; isplitr; swap; · iexact Harg15
    ipureintro; unfold body_quant.sl.Harg15_1; refine (View.read_writes_full _ _ _ _ []).trans ?_; congr 1; unfold body_quant.sl.v9 body_quant.sl.Harg17_1; refine (View.readCov_full _ _ _ _ []).trans ?_; congr 1 <;> exact View.readAt_full _ _ _
  have eX : X = _ := funext fun y => hX y (y 0).isLt
  iexists g14; isplitr; · ipureintro; exact e14.trans eX
  iexact Harg14

end Cert.Kernel.Hand

end

end
-- ==== Proof.KernelRun.lean ====
/-
  Hand-written, untrusted. The fused expert kernel over its whole grid, four token tiles of eleven steps. What the steps carry from
  one to the next is said in the pipeline's invariant: before step `s` of a tile the hidden tile holds its first `s` blocks of
  columns and the running maxima are those of these blocks, and from the eighth step on the scales are the tile's. An output
  window is held to a predicate, for a step that does not write it leaves there whatever it found: the codes and the scale column
  from the seventh step of a tile on, the output block from the eighth on. From these, the run of the whole program, and what
  its three output arrays hold at the end, in terms of the windows' blocks.
-/
module

public import proofs.«01_k».proof.Proof.KernelBody
public import Idealize.ShloMosaic.Lib.Pipeline.DatRel
public import Idealize.ShloMosaic.Lib.Pipeline.ArrRel
public import Idealize.ShloMosaic.Lib.Pipeline.ValueKit

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of the grid -/

theorem coord0 : ∀ t : Fin cfg0.N, (grid0.coords t 0).val = t.val / 11 := by decide +kernel
theorem coord1 : ∀ t : Fin cfg0.N, (grid0.coords t 1).val = t.val % 11 := by decide +kernel

/-- Step `s` of tile `T`, as a point of the grid. -/
def pt (T s : ℕ) : Fin cfg0.N := ⟨(11 * T + s) % 44, Nat.lt_of_lt_of_eq (Nat.mod_lt _ (by decide)) N_0.symm⟩

theorem N_44 : cfg0.N = 44 := N_0

theorem pt_self (t : Fin cfg0.N) : pt (t.val / 11) (t.val % 11) = t := by
  apply Fin.ext
  have h : t.val < 44 := Nat.lt_of_lt_of_eq t.isLt N_44
  show (11 * (t.val / 11) + t.val % 11) % 44 = t.val
  omega

/-! ## What the kernel keeps of a tile -/

/-- A step's block of hidden columns. -/
def up (c : Dev nD) (t : Fin cfg0.N) : Vec F S576x768 .f32 :=
  k0_pay2 (iblk m c 0 t) (iblk m c 2 t) (iblk m c 1 t) (iblk m c 3 t)

/-- The hidden tile: column `j` is of step `j / 768`'s block. -/
def hid (c : Dev nD) (T : ℕ) : Vec F S576x5376 .f32 := fun y =>
  up m c (pt T ((y 1).val / 768)) (fun a => match a with | 0 => ⟨(y 0).val, (y 0).isLt⟩ | 1 => ⟨(y 1).val % 768, Nat.mod_lt _ (by decide)⟩)

/-- The running maxima after a step, from those before it. -/
def peakStep (c : Dev nD) (t : Fin cfg0.N) (P : Vec F S576x128 .f32) : Vec F S576x128 .f32 :=
  k0_pay3 (grid0.coords t) (iblk m c 0 t) (iblk m c 2 t) (iblk m c 1 t) (iblk m c 3 t) P

/-- The running maxima after step `s` of tile `T`; the first step does not look at what it finds. -/
def pk (c : Dev nD) (T : ℕ) : ℕ → Vec F S576x128 .f32
  | 0 => peakStep m c (pt T 0) (constant S576x128 .f32 0x00000000#32)
  | s + 1 => peakStep m c (pt T (s + 1)) (pk c T s)

/-- The scales of a tile, one per row, on all 128 lanes. -/
def scl (c : Dev nD) (T : ℕ) : Vec F S576x128 .f32 := k0_pay5 (pk m c T 6)
/-- The scale column of a tile. -/
def sclCol (c : Dev nD) (T : ℕ) : Vec F S576x1 .f32 := k0_pay4 (pk m c T 6)
/-- The codes of a tile. -/
def cod (c : Dev nD) (T : ℕ) : Vec F S576x5376 .fp8e4m3 := codesOf (hid m c T) (scl m c T)
/-- A step's block of output columns. -/
def outB (c : Dev nD) (t : Fin cfg0.N) : Vec F S576x1024 .bf16 :=
  k0_pay7 (cod m c (t.val / 11)) (iblk m c 4 t) (VecWindow.window (scl m c (t.val / 11)) ![0, 0] ![576, 1] inb_S576x128_S576x1_0_0)
    (iblk m c 5 t) (iblk m c 6 t) (iblk m c 8 t) (iblk m c 7 t) (iblk m c 9 t) (iblk m c 10 t)

/-- What is known of the three scratch buffers before point `n`. -/
def inv (c : Dev nD) (n : ℕ) (S : Vec F S576x5376 .f32) (P Q : Vec F S576x128 .f32) : Prop :=
  (0 < n % 11 → n % 11 ≤ 6 → (∀ y : S576x5376.Idx, (y 1).val < 768 * (n % 11) → S y = hid m c (n / 11) y) ∧ P = pk m c (n / 11) (n % 11 - 1))
  ∧ (7 ≤ n % 11 → Q = scl m c (n / 11))

/-- A step's block put into the hidden tile: the columns up to its end are the tile's. -/
theorem hid_step (c : Dev nD) (t : Fin cfg0.N) (hs : t.val % 11 ≤ 6) (S : Vec F S576x5376 .f32)
    (hS : ∀ y : S576x5376.Idx, (y 1).val < 768 * (t.val % 11) → S y = hid m c (t.val / 11) y)
    (y : S576x5376.Idx) (hy : (y 1).val < 768 * (t.val % 11 + 1)) :
    VecWindow.put S ![0, 768 * (grid0.coords t 1).val] ![576, 768] (up m c t) y = hid m c (t.val / 11) y := by
  rw [coord1]
  have h0 : (y 0).val < 576 := (y 0).isLt
  unfold VecWindow.put
  split
  · rename_i h
    have h1 : 768 * (t.val % 11) ≤ (y 1).val := (h 1).1
    have e : (y 1).val / 768 = t.val % 11 := by omega
    unfold hid
    rw [e, pt_self]
    congr 1
    funext a
    match a with
    | 0 => apply Fin.ext; show (y 0).val - 0 = (y 0).val; omega
    | 1 => apply Fin.ext; show (y 1).val - 768 * (t.val % 11) = (y 1).val % 768; omega
  · rename_i h
    apply hS
    by_contra hc
    apply h
    intro a
    match a with
    | 0 => exact ⟨Nat.zero_le _, by show (y 0).val < 0 + 576; omega⟩
    | 1 => exact ⟨by show 768 * (t.val % 11) ≤ (y 1).val; omega, by show (y 1).val < 768 * (t.val % 11) + 768; omega⟩

/-- The first step of a tile does not look at the maxima it finds. -/
theorem pay3_first (i : grid0.Coords) (hi : (i 1).val = 0) (x2 : Vec F S576x4096 .fp8e4m3) (x4 : Vec F S4096x768 .fp8e4m3) (x3 : Vec F S576x1 .f32)
    (x5 : Vec F S1x768 .f32) (P P' : Vec F S576x128 .f32) : k0_pay3 i x2 x4 x3 x5 P = k0_pay3 i x2 x4 x3 x5 P' := by
  have e : Scalar.cmpi .eq (BitVec.ofNat 32 (i 1).val) 0#32 = 1#1 := by rw [hi]; rfl
  unfold k0_pay3
  simp only [e]
  rfl

/-- The maxima taken along. -/
theorem pk_step (c : Dev nD) (t : Fin cfg0.N) (P : Vec F S576x128 .f32) (hP : 0 < t.val % 11 → P = pk m c (t.val / 11) (t.val % 11 - 1)) :
    peakStep m c t P = pk m c (t.val / 11) (t.val % 11) := by
  rcases Nat.eq_zero_or_pos (t.val % 11) with h | h
  · have e : pt (t.val / 11) 0 = t := by rw [← h]; exact pt_self t
    rw [h]
    unfold pk
    rw [e]
    unfold peakStep
    exact pay3_first _ (by rw [coord1]; exact h) _ _ _ _ _ _
  · obtain ⟨s, hs⟩ : ∃ s, t.val % 11 = s + 1 := ⟨t.val % 11 - 1, by omega⟩
    have e : pt (t.val / 11) (s + 1) = t := by rw [← hs]; exact pt_self t
    rw [hP h, hs]
    conv_rhs => unfold pk
    rw [e]
    rfl

/-! ## The proof data -/

/-- The output windows are held to a predicate, the input windows named exactly. -/
def fgt : Fin cfg0.W → Bool := fun w => decide (11 ≤ w.val)

/-- What a step leaves in an output window. -/
def Rl (c : Dev nD) : (w : Fin cfg0.W) → Fin cfg0.N → ((cfg0.win w).block.Idx → Elt F (cfg0.win w).elt) → Prop
  | ⟨11, _⟩ => fun t X => 7 ≤ t.val % 11 → X = outB m c t
  | ⟨12, _⟩ => fun t X => 6 ≤ t.val % 11 → X = cod m c (t.val / 11)
  | ⟨13, _⟩ => fun t X => 6 ≤ t.val % 11 → X = sclCol m c (t.val / 11)
  | _ => fun _ _ => True

/-- The invariant before point `n`: the scratch buffers at contents of which `inv` holds, the generator register at some state. -/
def Phi (c : Dev nD) (n : ℕ) : sProp 𝕄 :=
  iprop((∃ S P Q, ⌜inv m c n S P Q⌝ ∗ owns (c : Thread nD τ) (Memref.whole cc0_scratch0) fullShare S
      ∗ owns (c : Thread nD τ) (Memref.whole cc0_scratch1) fullShare P ∗ owns (c : Thread nD τ) (Memref.whole cc0_scratch2) fullShare Q)
    ∗ ∃ r, prngReg c r)

/-- The proof data: the arrays as the region finds them, the input windows at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | w => Pipeline.Dat.unnamed (cfg := cfg0) w t
  Φ t := Phi m c t.val
  q _ := fullShare
  owed _ := 0

/-- The same, the output windows held to `Rl`. -/
abbrev rdat (c : Dev nD) : RDat τ (Elt F) Unit ℕ (UR sig nD τ) ℕ cfg0 c := (dats m 0 c).toRRel fgt (Rl m c)

theorem A_eq (c : Dev nD) (w : Fin cfg0.W) : (dats m 0 c).A w = V m c (Pipeline.arrRef spec0 w) := by dsimp only [dats]
theorem bef0 (c : Dev nD) (t : Fin cfg0.N) (d) : (dats m 0 c).before 0 t d = iblk m c 0 t := before0_0_of m (dats m 0 c) rfl (fun _ => rfl) t d
theorem bef1 (c : Dev nD) (t : Fin cfg0.N) (d) : (dats m 0 c).before 1 t d = iblk m c 1 t := before0_1_of m (dats m 0 c) rfl (fun _ => rfl) t d
theorem bef2 (c : Dev nD) (t : Fin cfg0.N) (d) : (dats m 0 c).before 2 t d = iblk m c 2 t := before0_2_of m (dats m 0 c) rfl (fun _ => rfl) t d
theorem bef3 (c : Dev nD) (t : Fin cfg0.N) (d) : (dats m 0 c).before 3 t d = iblk m c 3 t := before0_3_of m (dats m 0 c) rfl (fun _ => rfl) t d
theorem bef4 (c : Dev nD) (t : Fin cfg0.N) (d) : (dats m 0 c).before 4 t d = iblk m c 4 t := before0_4_of m (dats m 0 c) rfl (fun _ => rfl) t d
theorem bef5 (c : Dev nD) (t : Fin cfg0.N) (d) : (dats m 0 c).before 5 t d = iblk m c 5 t := before0_5_of m (dats m 0 c) rfl (fun _ => rfl) t d
theorem bef6 (c : Dev nD) (t : Fin cfg0.N) (d) : (dats m 0 c).before 6 t d = iblk m c 6 t := before0_6_of m (dats m 0 c) rfl (fun _ => rfl) t d
theorem bef7 (c : Dev nD) (t : Fin cfg0.N) (d) : (dats m 0 c).before 7 t d = iblk m c 7 t := before0_7_of m (dats m 0 c) rfl (fun _ => rfl) t d
theorem bef8 (c : Dev nD) (t : Fin cfg0.N) (d) : (dats m 0 c).before 8 t d = iblk m c 8 t := before0_8_of m (dats m 0 c) rfl (fun _ => rfl) t d
theorem bef9 (c : Dev nD) (t : Fin cfg0.N) (d) : (dats m 0 c).before 9 t d = iblk m c 9 t := before0_9_of m (dats m 0 c) rfl (fun _ => rfl) t d
theorem bef10 (c : Dev nD) (t : Fin cfg0.N) (d) : (dats m 0 c).before 10 t d = iblk m c 10 t := before0_10_of m (dats m 0 c) rfl (fun _ => rfl) t d

theorem notFirst (t : Fin cfg0.N) (h : 7 ≤ t.val % 11) : t.val ≠ 0 := by intro e; rw [e] at h; exact absurd h (by decide)

/-- From the eighth step on the codes and the scale column are found as the step before left them. -/
theorem finds12 (c : Dev nD) (t : Fin cfg0.N) (h : 7 ≤ t.val % 11) (Y) (hY : (rdat m c).Finds 12 t Y) : Y = cod m c (t.val / 11) := by
  have h1 := ((rdat m c).finds_of_pos (w := 12) rfl (notFirst t h) Y).mp hY
  have h2 := h1.resolve_left (by rw [flush0_12]; show ¬ (t.val - 1) % 11 = 10; omega)
  have h3 := (dats m 0 c).toRRel_leaves (fgt := fgt) (Rl := Rl m c) (w := 12) rfl h2
  have h4 : Y = cod m c ((t.val - 1) / 11) := h3 (show 6 ≤ (t.val - 1) % 11 by omega)
  rw [h4]; congr 1; omega
theorem finds13 (c : Dev nD) (t : Fin cfg0.N) (h : 7 ≤ t.val % 11) (Y) (hY : (rdat m c).Finds 13 t Y) : Y = sclCol m c (t.val / 11) := by
  have h1 := ((rdat m c).finds_of_pos (w := 13) rfl (notFirst t h) Y).mp hY
  have h2 := h1.resolve_left (by rw [flush0_13]; show ¬ (t.val - 1) % 11 = 10; omega)
  have h3 := (dats m 0 c).toRRel_leaves (fgt := fgt) (Rl := Rl m c) (w := 13) rfl h2
  have h4 : Y = sclCol m c ((t.val - 1) / 11) := h3 (show 6 ≤ (t.val - 1) % 11 by omega)
  rw [h4]; congr 1; omega

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d))
    ∗ (∃ Y, ⌜(rdat m c).Finds 11 t Y⌝ ∗ owns (c : Thread nD τ) (st0_11 t) fullShare Y) ∗ (∃ Y, ⌜(rdat m c).Finds 12 t Y⌝ ∗ owns (c : Thread nD τ) (st0_12 t) fullShare Y) ∗ (∃ Y, ⌜(rdat m c).Finds 13 t Y⌝ ∗ owns (c : Thread nD τ) (st0_13 t) fullShare Y))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t)
    ∗ (∃ X, ⌜Rl m c 11 t X⌝ ∗ owns (c : Thread nD τ) (st0_11 t) fullShare X) ∗ (∃ X, ⌜Rl m c 12 t X⌝ ∗ owns (c : Thread nD τ) (st0_12 t) fullShare X) ∗ (∃ X, ⌜Rl m c 13 t X⌝ ∗ owns (c : Thread nD τ) (st0_13 t) fullShare X))

theorem hidP (c : Dev nD) (t : Fin cfg0.N) (h : t.val % 11 ≤ 6) {S : Vec F S576x5376 .f32} {P Q : Vec F S576x128 .f32} (hinv : inv m c t.val S P Q) :
    (∀ y : S576x5376.Idx, (y 1).val < 768 * (t.val % 11) → S y = hid m c (t.val / 11) y)
    ∧ (0 < t.val % 11 → P = pk m c (t.val / 11) (t.val % 11 - 1)) := by
  rcases Nat.eq_zero_or_pos (t.val % 11) with h0 | h0
  · exact ⟨fun y hy => absurd hy (by omega), fun h1 => absurd h1 (by omega)⟩
  · exact ⟨(hinv.1 h0 h).1, fun _ => (hinv.1 h0 h).2⟩

theorem inv_up (c : Dev nD) (t : Fin cfg0.N) (h : t.val % 11 ≤ 6) {S : Vec F S576x5376 .f32} {P Q : Vec F S576x128 .f32} (hinv : inv m c t.val S P Q)
    (h6 : t.val % 11 < 6) : inv m c (t.val + 1) (VecWindow.put S ![0, 768 * (grid0.coords t 1).val] ![576, 768] (up m c t)) (peakStep m c t P) Q := by
  obtain ⟨hS, hP⟩ := hidP m c t h hinv
  have e1 : (t.val + 1) % 11 = t.val % 11 + 1 := by omega
  have e2 : (t.val + 1) / 11 = t.val / 11 := by omega
  unfold inv
  rw [e1, e2]
  exact ⟨fun _ _ => ⟨fun y hy => hid_step m c t h S hS y hy, pk_step m c t P hP⟩, fun h' => absurd h' (by omega)⟩

theorem hid_full (c : Dev nD) (t : Fin cfg0.N) (h : t.val % 11 = 6) {S : Vec F S576x5376 .f32} {P Q : Vec F S576x128 .f32} (hinv : inv m c t.val S P Q) :
    (VecWindow.put S ![0, 768 * (grid0.coords t 1).val] ![576, 768] (up m c t)) = hid m c (t.val / 11) := by
  obtain ⟨hS, hP⟩ := hidP m c t (Nat.le_of_eq h) hinv
  funext y
  have h1 : (y 1).val < 5376 := (y 1).isLt
  exact hid_step m c t (Nat.le_of_eq h) S hS y (by rw [h]; omega)
theorem pk_full (c : Dev nD) (t : Fin cfg0.N) (h : t.val % 11 = 6) {S : Vec F S576x5376 .f32} {P Q : Vec F S576x128 .f32} (hinv : inv m c t.val S P Q) :
    (peakStep m c t P) = pk m c (t.val / 11) 6 := by
  obtain ⟨hS, hP⟩ := hidP m c t (Nat.le_of_eq h) hinv
  rw [pk_step m c t P hP, h]
theorem inv_quant (c : Dev nD) (t : Fin cfg0.N) (h : t.val % 11 = 6) {S : Vec F S576x5376 .f32} {P : Vec F S576x128 .f32}
    (e2 : (peakStep m c t P) = pk m c (t.val / 11) 6) : inv m c (t.val + 1) (VecWindow.put S ![0, 768 * (grid0.coords t 1).val] ![576, 768] (up m c t)) (peakStep m c t P) (k0_pay5 (peakStep m c t P)) := by
  have e4 : (t.val + 1) / 11 = t.val / 11 := by omega
  refine ⟨fun _ h' => absurd h' (by omega), fun _ => ?_⟩
  rw [e2, e4]; rfl
theorem inv_down (c : Dev nD) (t : Fin cfg0.N) (h : 7 ≤ t.val % 11) {S : Vec F S576x5376 .f32} {P : Vec F S576x128 .f32} :
    inv m c (t.val + 1) S P (scl m c (t.val / 11)) := by
  refine ⟨fun h0 h' => absurd h' (by omega), fun h7 => ?_⟩
  rw [show (t.val + 1) / 11 = t.val / 11 by omega]

theorem sound_up (c : Dev nD) (t : Fin cfg0.N) (h : t.val % 11 < 6) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Phi m c t.val from rfl, show (dats m 0 c).Φ t.succ = Phi m c (t.val + 1) from rfl]
  unfold Phi
  simp only [bef0, bef1, bef2, bef3, bef4, bef5, bef6, bef7, bef8, bef9, bef10]
  simp only [show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl, show (dats m 0 c).after 5 t = iblk m c 5 t from rfl, show (dats m 0 c).after 6 t = iblk m c 6 t from rfl, show (dats m 0 c).after 7 t = iblk m c 7 t from rfl, show (dats m 0 c).after 8 t = iblk m c 8 t from rfl, show (dats m 0 c).after 9 t = iblk m c 9 t from rfl, show (dats m 0 c).after 10 t = iblk m c 10 t from rfl]
  iintro ⟨⟨⟨%S, %P, %Q, %hinv, HS, HP, HQ⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %hY11, H11⟩, ⟨%Y12, %hY12, H12⟩, ⟨%Y13, %hY13, H13⟩⟩
  iapply (body_up c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (Memref.whole cc0_scratch2) (Memref.isWhole_whole _)
    ((cond1_iff _).mpr (by rw [coord1]; omega)) (fun e => absurd ((cond2_iff _).mp e) (by rw [coord1]; omega)) (fun e => absurd ((cond3_iff _).mp e) (by rw [coord1]; omega))
    (iblk m c 0 t) (iblk m c 1 t) (iblk m c 2 t) (iblk m c 3 t) S P _)
  isplitl [H0]; · iexact H0
  isplitl [H1]; · iexact H1
  isplitl [H2]; · iexact H2
  isplitl [H3]; · iexact H3
  isplitl [HS]; · iexact HS
  isplitl [HP]; · iexact HP
  iintro ⟨H0, H1, H2, H3, HS, HP⟩
  isplitl [HS HP HQ Hg]
  · isplitl [HS HP HQ]
    · iexists (VecWindow.put S ![0, 768 * (grid0.coords t 1).val] ![576, 768] (up m c t)), (peakStep m c t P), Q
      isplitr; · ipureintro; exact inv_up m c t (Nat.le_of_lt h) hinv h
      isplitl [HS]; · iexact HS
      isplitl [HP]; · iexact HP
      iexact HQ
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists Y11; isplitr; · ipureintro; exact fun h' => absurd h' (by omega)
    iexact H11
  isplitl [H12]
  · iexists Y12; isplitr; · ipureintro; exact fun h' => absurd h' (by omega)
    iexact H12
  · iexists Y13; isplitr; · ipureintro; exact fun h' => absurd h' (by omega)
    iexact H13

theorem sound_quant (c : Dev nD) (t : Fin cfg0.N) (h : t.val % 11 = 6) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Phi m c t.val from rfl, show (dats m 0 c).Φ t.succ = Phi m c (t.val + 1) from rfl]
  unfold Phi
  simp only [bef0, bef1, bef2, bef3, bef4, bef5, bef6, bef7, bef8, bef9, bef10]
  simp only [show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl, show (dats m 0 c).after 5 t = iblk m c 5 t from rfl, show (dats m 0 c).after 6 t = iblk m c 6 t from rfl, show (dats m 0 c).after 7 t = iblk m c 7 t from rfl, show (dats m 0 c).after 8 t = iblk m c 8 t from rfl, show (dats m 0 c).after 9 t = iblk m c 9 t from rfl, show (dats m 0 c).after 10 t = iblk m c 10 t from rfl]
  iintro ⟨⟨⟨%S, %P, %Q, %hinv, HS, HP, HQ⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %hY11, H11⟩, ⟨%Y12, %hY12, H12⟩, ⟨%Y13, %hY13, H13⟩⟩
  have e1 := hid_full m c t h hinv
  have e2 := pk_full m c t h hinv
  iapply (body_quant c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (Memref.whole cc0_scratch2) (Memref.isWhole_whole _)
    ((cond1_iff _).mpr (by rw [coord1]; omega)) ((cond2_iff _).mpr (by rw [coord1]; omega)) (fun e => absurd ((cond3_iff _).mp e) (by rw [coord1]; omega))
    (iblk m c 0 t) (iblk m c 1 t) (iblk m c 2 t) (iblk m c 3 t) S P _)
  isplitl [H0]; · iexact H0
  isplitl [H1]; · iexact H1
  isplitl [H2]; · iexact H2
  isplitl [H3]; · iexact H3
  isplitl [HS]; · iexact HS
  isplitl [HP]; · iexact HP
  isplitl [HQ]; · iexists _; iexact HQ
  isplitl [H13]; · iexists _; iexact H13
  isplitl [H12]; · iexists _; iexact H12
  iintro ⟨H0, H1, H2, H3, HS, HP, HQ, H13, H12⟩
  isplitl [HS HP HQ Hg]
  · isplitl [HS HP HQ]
    · iexists (VecWindow.put S ![0, 768 * (grid0.coords t 1).val] ![576, 768] (up m c t)), (peakStep m c t P), (k0_pay5 (peakStep m c t P))
      isplitr; · ipureintro; exact inv_quant m c t h e2
      isplitl [HS]; · iexact HS
      isplitl [HP]; · iexact HP
      iexact HQ
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists Y11; isplitr; · ipureintro; exact fun h' => absurd h' (by omega)
    iexact H11
  isplitl [H12]
  · iexists (codesOf (VecWindow.put S ![0, 768 * (grid0.coords t 1).val] ![576, 768] (up m c t)) (k0_pay5 (peakStep m c t P))); isplitr; · ipureintro; exact fun _ => by rw [e1, e2]; rfl
    iexact H12
  · iexists (k0_pay4 (peakStep m c t P)); isplitr; · ipureintro; exact fun _ => by rw [e2]; rfl
    iexact H13

theorem sound_down (c : Dev nD) (t : Fin cfg0.N) (h : 7 ≤ t.val % 11) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Phi m c t.val from rfl, show (dats m 0 c).Φ t.succ = Phi m c (t.val + 1) from rfl]
  unfold Phi
  simp only [bef0, bef1, bef2, bef3, bef4, bef5, bef6, bef7, bef8, bef9, bef10]
  simp only [show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl, show (dats m 0 c).after 5 t = iblk m c 5 t from rfl, show (dats m 0 c).after 6 t = iblk m c 6 t from rfl, show (dats m 0 c).after 7 t = iblk m c 7 t from rfl, show (dats m 0 c).after 8 t = iblk m c 8 t from rfl, show (dats m 0 c).after 9 t = iblk m c 9 t from rfl, show (dats m 0 c).after 10 t = iblk m c 10 t from rfl]
  iintro ⟨⟨⟨%S, %P, %Q, %hinv, HS, HP, HQ⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %hY11, H11⟩, ⟨%Y12, %hY12, H12⟩, ⟨%Y13, %hY13, H13⟩⟩
  have eQ : Q = scl m c (t.val / 11) := hinv.2 h
  have e12 := finds12 m c t h Y12 hY12
  have e13 := finds13 m c t h Y13 hY13
  subst eQ e12 e13
  iapply (body_down c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (Memref.whole cc0_scratch2) (Memref.isWhole_whole _)
    (fun e => absurd ((cond1_iff _).mp e) (by rw [coord1]; omega)) (fun e => absurd ((cond2_iff _).mp e) (by rw [coord1]; omega)) ((cond3_iff _).mpr (by rw [coord1]; omega))
    (iblk m c 4 t) (iblk m c 5 t) (iblk m c 6 t) (iblk m c 7 t) (iblk m c 8 t) (iblk m c 9 t) (iblk m c 10 t) (cod m c (t.val / 11)) (scl m c (t.val / 11)) _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [HQ]; · iexact HQ
  isplitl [H11]; · iexists _; iexact H11
  iintro ⟨H4, H5, H6, H7, H8, H9, H10, H12, HQ, H11⟩
  isplitl [HS HP HQ Hg]
  · isplitl [HS HP HQ]
    · iexists S, P, (scl m c (t.val / 11))
      isplitr; · ipureintro; exact inv_down m c t h
      isplitl [HS]; · iexact HS
      isplitl [HP]; · iexact HP
      iexact HQ
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists (outB m c t); isplitr; · ipureintro; exact fun _ => rfl
    iexact H11
  isplitl [H12]
  · iexists (cod m c (t.val / 11)); isplitr; · ipureintro; exact fun _ => rfl
    iexact H12
  · iexists (sclCol m c (t.val / 11)); isplitr; · ipureintro; exact fun _ => rfl
    iexact H13

theorem sound_body (c : Dev nD) (t : Fin cfg0.N) :
    bodyPre m c t ⊢ wp frame (wpE (defs₀ (F := F)) Variants.none c none) Set.univ (bodyAt0 t) (fun _ => bodyPost m c t) := by
  rcases Nat.lt_trichotomy (t.val % 11) 6 with h | h | h
  · exact sound_up m c t h
  · exact sound_quant m c t h
  · exact sound_down m c t h

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The launch -/

theorem Phi_in (c : Dev nD) : Pipeline.ΦA spec0 c ⊢ (dats (F := F) m 0 c).Φ 0 := by
  show _ ⊢ Phi m c 0
  unfold Pipeline.ΦA Phi
  rw [scopedRest0_eq]
  simp only [owns_whole]
  iintro ⟨⟨⟨%f, H0⟩, ⟨%g, H1⟩, ⟨%h, H2⟩⟩, Hg⟩
  isplitr [Hg]
  · iexists f, g, h
    isplitr
    · ipureintro; exact ⟨fun h0 => absurd h0 (by decide), fun h7 => absurd h7 (by decide)⟩
    isplitl [H0]; · iexact H0
    isplitl [H1]; · iexact H1
    iexact H2
  iexact Hg

theorem Phi_out (c : Dev nD) : (dats (F := F) m 0 c).Φ (Fin.last cfg0.N) ⊢ Pipeline.ΦA spec0 c := by
  show Phi m c cfg0.N ⊢ _
  unfold Pipeline.ΦA Phi
  rw [scopedRest0_eq]
  simp only [owns_whole]
  iintro ⟨⟨%f, %g, %h, -, H0, H1, H2⟩, Hg⟩
  isplitr [Hg]
  · isplitl [H0]; · iexists f; iexact H0
    isplitl [H1]; · iexists g; iexact H1
    iexists h; iexact H2
  iexact Hg

-- the launch theorem's implicit arguments are found by unifying its conclusion with this statement, which unifies only when
-- unification may unfold plain definitions in a metavariable's type
set_option backward.isDefEq.respectTransparency.types false in
set_option maxHeartbeats 800000 in
/-- The launch at any proof data: stated apart, so that the invariant of the data at hand is not unfolded. -/
theorem run_of (dat : (c : Dev nD) → Dat τ (Elt F) Unit ℕ (UR sig nD τ) ℕ cfg0 c) (fg : Fin cfg0.W → Bool)
    (R : (c : Dev nD) → (w : Fin cfg0.W) → Fin cfg0.N → ((cfg0.win w).block.Idx → Elt F (cfg0.win w).elt) → Prop)
    (hbody : ∀ c, BodyObligationRel (dat c) (defs₀ (F := F)) Variants.none () Set.univ fg (R c))
    (hshare : ∀ c w, (dat c).share w = fullShare) (howed : ∀ c t, (dat c).owed t = 0)
    (hA : ∀ c w, (dat c).A w = V m c (Pipeline.arrRef spec0 w))
    (hin : ∀ c, Pipeline.ΦA spec0 c ⊢ (dat c).Φ 0) (hout : ∀ c, (dat c).Φ (Fin.last cfg0.N) ⊢ Pipeline.ΦA spec0 c) :
    θ_run defs (onTc (τ := τ) (main (F := F))) (s₀ m ρ)
      (fun r => RDat.FramePost (cfgs 0) (fun c => (dat c).toRRel fg (R c)) (V m) r ∧ r.2.sem = fun _ => 0) :=
  RDat.θ_run_frame_track (Q' := _) cfgs (0 : Fin 1) launch0 defs₀ Variants.none (fun c => (dat c).toRRel fg (R c)) m ρ main
    (fun c => (hbody c).toRRel) hshare howed (V := V m) (hmain := hmain m Variants.none) hA hin hout

theorem run_main :
    θ_run defs (onTc (τ := τ) (main (F := F))) (s₀ m ρ)
      (fun r => RDat.FramePost (cfgs 0) (fun c => rdat m c) (V m) r ∧ r.2.sem = fun _ => 0) :=
  run_of m ρ (fun c => dats m 0 c) fgt (Rl m) (body_obligation m) (fun c => (dats m 0 c).share_full fun _ => rfl) (fun _ _ => rfl) (A_eq m)
    (Phi_in m) (Phi_out m)

variable {m ρ}

/-- The arguments are as launched. -/
def ArgsKept (m : (ℓ : Loc nD τ sig) → Buf (Elt F) ℓ) (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)

theorem args_kept {r : PUnit × MemSt nD τ sig (Elt F)} (h : RDat.FramePost (cfgs 0) (fun c => rdat m c) (V m) r) (c : Dev nD) : ArgsKept m r c :=
  ⟨(RDat.FramePost.arr_in h c 0 rfl).trans (V_main_arg0 m c),
    (RDat.FramePost.arr_in h c 1 rfl).trans (V_main_arg1 m c),
    (RDat.FramePost.arr_in h c 2 rfl).trans (V_main_arg2 m c),
    (h c).2 main_arg3 (Pipeline.mem_restRefs_of main_arg3 (by decide) (by decide)) |>.trans (V_main_arg3 m c),
    (RDat.FramePost.arr_in h c 4 rfl).trans (V_main_arg4 m c),
    (h c).2 main_arg5 (Pipeline.mem_restRefs_of main_arg5 (by decide) (by decide)) |>.trans (V_main_arg5 m c),
    (RDat.FramePost.arr_in h c 6 rfl).trans (V_main_arg6 m c),
    (RDat.FramePost.arr_in h c 7 rfl).trans (V_main_arg7 m c),
    (RDat.FramePost.arr_in h c 8 rfl).trans (V_main_arg8 m c),
    (h c).2 main_arg9 (Pipeline.mem_restRefs_of main_arg9 (by decide) (by decide)) |>.trans (V_main_arg9 m c),
    (RDat.FramePost.arr_in h c 10 rfl).trans (V_main_arg10 m c)⟩

end Cert.Kernel.Hand

end

end
-- ==== Proof.IdealBody.lean ====
/-
  Hand-written, untrusted. The body of the fused expert kernel at one point of its grid, in its three cases: the first six steps of a
  token tile (one block of 768 hidden columns computed and kept, the running maxima of the rows updated), the seventh (the
  same, then the rows' scales and the codes of the whole tile, thirty-two rows at a time), and the last four (one block of 1024
  output columns). Each is run once by `sl_exec`, and says what is left in every buffer the case touches.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The three conditions -/

theorem cond1_iff : ∀ i : grid0.Coords, k0_cond1 i = 1#1 ↔ (i 1).val < 7 := by decide +kernel
theorem cond2_iff : ∀ i : grid0.Coords, k0_cond2 i = 1#1 ↔ (i 1).val = 6 := by decide +kernel
theorem cond3_iff : ∀ i : grid0.Coords, k0_cond3 i = 1#1 ↔ 7 ≤ (i 1).val := by decide +kernel

/-- A step before the seventh: the block's 768 hidden columns are put into the hidden tile, the rows' running maxima taken along. -/
theorem body_up (c : Dev nD) (E : Set ℕ) (i : grid0.Coords) (arg2 : Memref sig .tc .vmem S576x4096 .fp8e4m3) (harg2 : arg2.IsWhole) (arg3 : Memref sig .tc .vmem S576x1 .f32) (harg3 : arg3.IsWhole) (arg4 : Memref sig .tc .vmem S4096x768 .fp8e4m3) (harg4 : arg4.IsWhole) (arg5 : Memref sig .tc .vmem S1x768 .f32) (harg5 : arg5.IsWhole) (arg6 : Memref sig .tc .vmem S5376x1024 .fp8e4m3) (harg6 : arg6.IsWhole) (arg7 : Memref sig .tc .vmem S1x1024 .f32) (harg7 : arg7.IsWhole) (arg8 : Memref sig .tc .vmem S576x1024 .fp8e4m3) (harg8 : arg8.IsWhole) (arg9 : Memref sig .tc .vmem S576x1 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S576x1024 .f32) (harg12 : arg12.IsWhole) (arg13 : Memref sig .tc .vmem S576x1024 .bf16) (harg13 : arg13.IsWhole) (arg14 : Memref sig .tc .vmem S576x5376 .fp8e4m3) (harg14 : arg14.IsWhole) (arg15 : Memref sig .tc .vmem S576x1 .f32) (harg15 : arg15.IsWhole) (arg16 : Memref sig .tc .vmem S576x5376 .f32) (harg16 : arg16.IsWhole) (arg17 : Memref sig .tc .vmem S576x128 .f32) (harg17 : arg17.IsWhole) (arg18 : Memref sig .tc .vmem S576x128 .f32) (harg18 : arg18.IsWhole)
    (h1 : k0_cond1 i = 1#1) (h2 : ¬ k0_cond2 i = 1#1) (h3 : ¬ k0_cond3 i = 1#1) (x2 : Vec F S576x4096 .fp8e4m3) (x3 : Vec F S576x1 .f32) (x4 : Vec F S4096x768 .fp8e4m3) (x5 : Vec F S1x768 .f32) (S : Vec F S576x5376 .f32) (P : Vec F S576x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg16 fullShare S ∗ owns (c : Thread nD τ) arg17 fullShare P
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg16 fullShare (VecWindow.put S ![0, 768 * (i 1).val] ![576, 768] (k0_pay2 x2 x4 x3 x5)) ∗ owns (c : Thread nD τ) arg17 fullShare (k0_pay3 i x2 x4 x3 x5 P)) -∗ K ⟨⟩))
      ⊢ wp frame (wpE (defs₀ (F := F)) Variants.none c none) E (cc0_shared i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_shared_eq_skeleton]; unfold cc0_shared_skel
  unfold owns
  iintro ⟨⟨%farg2, %harg2f, Harg2⟩, ⟨%farg3, %harg3f, Harg3⟩, ⟨%farg4, %harg4f, Harg4⟩, ⟨%farg5, %harg5f, Harg5⟩, ⟨%farg16, %harg16f, Harg16⟩, ⟨%farg17, %harg17f, Harg17⟩, Hk⟩
  subst harg2f harg3f harg4f harg5f harg16f harg17f
  sl_exec
  sl_step
  iapply Hk
  isplitl [Harg2]
  · iexists _; isplitr; swap; · iexact Harg2
    ipureintro; rfl
  isplitl [Harg3]
  · iexists _; isplitr; swap; · iexact Harg3
    ipureintro; rfl
  isplitl [Harg4]
  · iexists _; isplitr; swap; · iexact Harg4
    ipureintro; rfl
  isplitl [Harg5]
  · iexists _; isplitr; swap; · iexact Harg5
    ipureintro; rfl
  isplitl [Harg16]
  · iexists _; isplitr; swap; · iexact Harg16
    ipureintro; refine (View.read_writes_cons_put _ _ _ _ [] (k0_off1_eq i)).trans ?_; congr 1; congr 1 <;> exact View.readAt_full _ _ _
  · iexists _; isplitr; swap; · iexact Harg17
    ipureintro; refine (View.read_writes_full _ _ _ _ []).trans ?_; congr 1 <;> exact View.readAt_full _ _ _

/-- A step after the seventh: one block of 1024 output columns, from the codes and scales of the tile. -/
theorem body_down (c : Dev nD) (E : Set ℕ) (i : grid0.Coords) (arg2 : Memref sig .tc .vmem S576x4096 .fp8e4m3) (harg2 : arg2.IsWhole) (arg3 : Memref sig .tc .vmem S576x1 .f32) (harg3 : arg3.IsWhole) (arg4 : Memref sig .tc .vmem S4096x768 .fp8e4m3) (harg4 : arg4.IsWhole) (arg5 : Memref sig .tc .vmem S1x768 .f32) (harg5 : arg5.IsWhole) (arg6 : Memref sig .tc .vmem S5376x1024 .fp8e4m3) (harg6 : arg6.IsWhole) (arg7 : Memref sig .tc .vmem S1x1024 .f32) (harg7 : arg7.IsWhole) (arg8 : Memref sig .tc .vmem S576x1024 .fp8e4m3) (harg8 : arg8.IsWhole) (arg9 : Memref sig .tc .vmem S576x1 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S576x1024 .f32) (harg12 : arg12.IsWhole) (arg13 : Memref sig .tc .vmem S576x1024 .bf16) (harg13 : arg13.IsWhole) (arg14 : Memref sig .tc .vmem S576x5376 .fp8e4m3) (harg14 : arg14.IsWhole) (arg15 : Memref sig .tc .vmem S576x1 .f32) (harg15 : arg15.IsWhole) (arg16 : Memref sig .tc .vmem S576x5376 .f32) (harg16 : arg16.IsWhole) (arg17 : Memref sig .tc .vmem S576x128 .f32) (harg17 : arg17.IsWhole) (arg18 : Memref sig .tc .vmem S576x128 .f32) (harg18 : arg18.IsWhole)
    (h1 : ¬ k0_cond1 i = 1#1) (h2 : ¬ k0_cond2 i = 1#1) (h3 : k0_cond3 i = 1#1) (x6 : Vec F S5376x1024 .fp8e4m3) (x7 : Vec F S1x1024 .f32) (x8 : Vec F S576x1024 .fp8e4m3) (x9 : Vec F S576x1 .f32) (x10 : Vec F S1024x1024 .fp8e4m3) (x11 : Vec F S1x1024 .f32) (x12 : Vec F S576x1024 .f32) (x14 : Vec F S576x5376 .fp8e4m3) (x18 : Vec F S576x128 .f32) (K : PUnit → sProp 𝕄) :
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg14 fullShare x14 ∗ owns (c : Thread nD τ) arg18 fullShare x18 ∗ (∃ d, owns (c : Thread nD τ) arg13 fullShare d)
        ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg14 fullShare x14 ∗ owns (c : Thread nD τ) arg18 fullShare x18 ∗ owns (c : Thread nD τ) arg13 fullShare (k0_pay7 x14 x6 (VecWindow.window x18 ![0, 0] ![576, 1] inb_S576x128_S576x1_0_0) x7 x8 x10 x9 x11 x12)) -∗ K ⟨⟩))
      ⊢ wp frame (wpE (defs₀ (F := F)) Variants.none c none) E (cc0_shared i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_shared_eq_skeleton]; unfold cc0_shared_skel
  unfold owns
  iintro ⟨⟨%farg6, %harg6f, Harg6⟩, ⟨%farg7, %harg7f, Harg7⟩, ⟨%farg8, %harg8f, Harg8⟩, ⟨%farg9, %harg9f, Harg9⟩, ⟨%farg10, %harg10f, Harg10⟩, ⟨%farg11, %harg11f, Harg11⟩, ⟨%farg12, %harg12f, Harg12⟩, ⟨%farg14, %harg14f, Harg14⟩, ⟨%farg18, %harg18f, Harg18⟩, ⟨%darg13, %farg13, -, Harg13⟩, Hk⟩
  subst harg6f harg7f harg8f harg9f harg10f harg11f harg12f harg14f harg18f
  sl_exec
  sl_step
  iapply Hk
  isplitl [Harg6]
  · iexists _; isplitr; swap; · iexact Harg6
    ipureintro; rfl
  isplitl [Harg7]
  · iexists _; isplitr; swap; · iexact Harg7
    ipureintro; rfl
  isplitl [Harg8]
  · iexists _; isplitr; swap; · iexact Harg8
    ipureintro; rfl
  isplitl [Harg9]
  · iexists _; isplitr; swap; · iexact Harg9
    ipureintro; rfl
  isplitl [Harg10]
  · iexists _; isplitr; swap; · iexact Harg10
    ipureintro; rfl
  isplitl [Harg11]
  · iexists _; isplitr; swap; · iexact Harg11
    ipureintro; rfl
  isplitl [Harg12]
  · iexists _; isplitr; swap; · iexact Harg12
    ipureintro; rfl
  isplitl [Harg14]
  · iexists _; isplitr; swap; · iexact Harg14
    ipureintro; rfl
  isplitl [Harg18]
  · iexists _; isplitr; swap; · iexact Harg18
    ipureintro; rfl
  · iexists _; isplitr; swap; · iexact Harg13
    ipureintro; refine (View.read_writes_full _ _ _ _ []).trans ?_; congr 1 <;> first | exact View.readAt_full _ _ _ | rfl

theorem blk_inb (y : S576x5376.Idx) : ∀ a, (![32 * ((y 0).val / 32), 0] : Fin 2 → ℕ) a + (![32, 5376] : Fin 2 → ℕ) a ≤ S576x5376.size a := by
  intro a
  have h : (y 0).val < 576 := (y 0).isLt
  match a with
  | 0 => show 32 * ((y 0).val / 32) + 32 ≤ 576; omega
  | 1 => show 0 + 5376 ≤ 5376; omega
theorem blk_inb' (y : S576x5376.Idx) : ∀ a, (![32 * ((y 0).val / 32), 0] : Fin 2 → ℕ) a + (![32, 1] : Fin 2 → ℕ) a ≤ S576x128.size a := by
  intro a
  have h : (y 0).val < 576 := (y 0).isLt
  match a with
  | 0 => show 32 * ((y 0).val / 32) + 32 ≤ 576; omega
  | 1 => show 0 + 1 ≤ 128; omega

/-- The codes of a whole tile, row block by row block of thirty-two: entry `y` is the entry of `k0_pay6` at the hidden rows and
    the scales of its own block. -/
def codesOf (S : Vec F S576x5376 .f32) (Q : Vec F S576x128 .f32) : Vec F S576x5376 .fp8e4m3 :=
  fun y => k0_pay6 (VecWindow.window (s := S576x5376) S ![32 * ((y 0).val / 32), 0] ![32, 5376] (blk_inb y))
    (VecWindow.window (s := S576x128) Q ![32 * ((y 0).val / 32), 0] ![32, 1] (blk_inb' y))
    (fun a => match a with | 0 => ⟨(y 0).val % 32, Nat.mod_lt _ (by decide)⟩ | 1 => ⟨(y 1).val, (y 1).isLt⟩)

/-- Before trip `k` of the quantizing loop: the hidden tile and the scales as they are, the codes of the first `32 * k` rows written. -/
def quantInv (c : Dev nD) (arg14 : Memref sig .tc .vmem S576x5376 .fp8e4m3) (arg16 : Memref sig .tc .vmem S576x5376 .f32)
    (arg18 : Memref sig .tc .vmem S576x128 .f32) (S : Vec F S576x5376 .f32) (Q : Vec F S576x128 .f32) (k : ℕ) (_ : Unit) : sProp 𝕄 :=
  iprop(owns (c : Thread nD τ) arg16 fullShare S ∗ owns (c : Thread nD τ) arg18 fullShare Q
    ∗ ∃ X, ⌜∀ y : S576x5376.Idx, (y 0).val < 32 * k → X y = codesOf S Q y⌝ ∗ owns (c : Thread nD τ) arg14 fullShare X)

/-- One trip's store: the thirty-two rows of the block get their codes, the rows above keep theirs. -/
theorem quant_step (S : Vec F S576x5376 .f32) (Q : Vec F S576x128 .f32) (X : Vec F S576x5376 .fp8e4m3) (k : ℕ) (hk : k < 18)
    (hb : ∀ a, (![32 * k, 0] : Fin 2 → ℕ) a + (![32, 5376] : Fin 2 → ℕ) a ≤ S576x5376.size a)
    (hb' : ∀ a, (![32 * k, 0] : Fin 2 → ℕ) a + (![32, 1] : Fin 2 → ℕ) a ≤ S576x128.size a)
    (hX : ∀ y : S576x5376.Idx, (y 0).val < 32 * k → X y = codesOf S Q y) (y : S576x5376.Idx) (hy : (y 0).val < 32 * (k + 1)) :
    VecWindow.put X ![32 * k, 0] ![32, 5376]
      (k0_pay6 (VecWindow.window (s := S576x5376) S ![32 * k, 0] ![32, 5376] hb) (VecWindow.window (s := S576x128) Q ![32 * k, 0] ![32, 1] hb')) y
      = codesOf S Q y := by
  have h1 : (y 1).val < 5376 := (y 1).isLt
  unfold VecWindow.put
  split
  · rename_i h
    have h0 : 32 * k ≤ (y 0).val := (h 0).1
    obtain rfl : k = (y 0).val / 32 := by omega
    unfold codesOf
    congr 1
    funext a
    match a with
    | 0 =>
      apply Fin.ext
      show (y 0).val - 32 * ((y 0).val / 32) = (y 0).val % 32
      omega
    | 1 => apply Fin.ext; show (y 1).val - 0 = (y 1).val; omega
  · rename_i h
    apply hX
    by_contra hc
    apply h
    intro a
    match a with
    | 0 => exact ⟨by show 32 * k ≤ (y 0).val; omega, by show (y 0).val < 32 * k + 32; omega⟩
    | 1 => exact ⟨Nat.zero_le _, by show (y 1).val < 0 + 5376; omega⟩

/-- The seventh step: the last block of hidden columns, then the rows' scales and the codes of the tile. -/
theorem body_quant (c : Dev nD) (E : Set ℕ) (i : grid0.Coords) (arg2 : Memref sig .tc .vmem S576x4096 .fp8e4m3) (harg2 : arg2.IsWhole) (arg3 : Memref sig .tc .vmem S576x1 .f32) (harg3 : arg3.IsWhole) (arg4 : Memref sig .tc .vmem S4096x768 .fp8e4m3) (harg4 : arg4.IsWhole) (arg5 : Memref sig .tc .vmem S1x768 .f32) (harg5 : arg5.IsWhole) (arg6 : Memref sig .tc .vmem S5376x1024 .fp8e4m3) (harg6 : arg6.IsWhole) (arg7 : Memref sig .tc .vmem S1x1024 .f32) (harg7 : arg7.IsWhole) (arg8 : Memref sig .tc .vmem S576x1024 .fp8e4m3) (harg8 : arg8.IsWhole) (arg9 : Memref sig .tc .vmem S576x1 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S576x1024 .f32) (harg12 : arg12.IsWhole) (arg13 : Memref sig .tc .vmem S576x1024 .bf16) (harg13 : arg13.IsWhole) (arg14 : Memref sig .tc .vmem S576x5376 .fp8e4m3) (harg14 : arg14.IsWhole) (arg15 : Memref sig .tc .vmem S576x1 .f32) (harg15 : arg15.IsWhole) (arg16 : Memref sig .tc .vmem S576x5376 .f32) (harg16 : arg16.IsWhole) (arg17 : Memref sig .tc .vmem S576x128 .f32) (harg17 : arg17.IsWhole) (arg18 : Memref sig .tc .vmem S576x128 .f32) (harg18 : arg18.IsWhole)
    (h1 : k0_cond1 i = 1#1) (h2 : k0_cond2 i = 1#1) (h3 : ¬ k0_cond3 i = 1#1) (x2 : Vec F S576x4096 .fp8e4m3) (x3 : Vec F S576x1 .f32) (x4 : Vec F S4096x768 .fp8e4m3) (x5 : Vec F S1x768 .f32) (S : Vec F S576x5376 .f32) (P : Vec F S576x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg16 fullShare S ∗ owns (c : Thread nD τ) arg17 fullShare P ∗ (∃ d, owns (c : Thread nD τ) arg18 fullShare d) ∗ (∃ d, owns (c : Thread nD τ) arg15 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg16 fullShare (VecWindow.put S ![0, 768 * (i 1).val] ![576, 768] (k0_pay2 x2 x4 x3 x5)) ∗ owns (c : Thread nD τ) arg17 fullShare (k0_pay3 i x2 x4 x3 x5 P) ∗ owns (c : Thread nD τ) arg18 fullShare (k0_pay5 (k0_pay3 i x2 x4 x3 x5 P)) ∗ owns (c : Thread nD τ) arg15 fullShare (k0_pay4 (k0_pay3 i x2 x4 x3 x5 P)) ∗ owns (c : Thread nD τ) arg14 fullShare (codesOf (VecWindow.put S ![0, 768 * (i 1).val] ![576, 768] (k0_pay2 x2 x4 x3 x5)) (k0_pay5 (k0_pay3 i x2 x4 x3 x5 P)))) -∗ K ⟨⟩))
      ⊢ wp frame (wpE (defs₀ (F := F)) Variants.none c none) E (cc0_shared i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_shared_eq_skeleton]; unfold cc0_shared_skel
  unfold owns
  iintro ⟨⟨%farg2, %harg2f, Harg2⟩, ⟨%farg3, %harg3f, Harg3⟩, ⟨%farg4, %harg4f, Harg4⟩, ⟨%farg5, %harg5f, Harg5⟩, ⟨%farg16, %harg16f, Harg16⟩, ⟨%farg17, %harg17f, Harg17⟩, ⟨%darg18, %farg18, -, Harg18⟩, ⟨%darg15, %farg15, -, Harg15⟩, ⟨%darg14, %farg14, -, Harg14⟩, Hk⟩
  subst harg2f harg3f harg4f harg5f harg16f harg17f
  sl_exec
  sl_for (quantInv c arg14 arg16 arg18 (VecWindow.put (arg16.view.read (Elt F) farg16) ![0, 768 * (i 1).val] ![576, 768] (k0_pay2 (arg2.view.read (Elt F) farg2) (arg4.view.read (Elt F) farg4) (arg3.view.read (Elt F) farg3) (arg5.view.read (Elt F) farg5))) (k0_pay5 (k0_pay3 i (arg2.view.read (Elt F) farg2) (arg4.view.read (Elt F) farg4) (arg3.view.read (Elt F) farg3) (arg5.view.read (Elt F) farg5) (arg17.view.read (Elt F) farg17)))) $$ [Harg16 Harg18 Harg14]
  case region =>
    intro k _
    have hk : k.val < 18 := k.isLt
    have hb : ∀ a, (![32 * k.val, 0] : Fin 2 → ℕ) a + (![32, 5376] : Fin 2 → ℕ) a ≤ S576x5376.size a := fun a => match a with
      | 0 => by show 32 * k.val + 32 ≤ 576; omega
      | 1 => by show 0 + 5376 ≤ 5376; omega
    have hb' : ∀ a, (![32 * k.val, 0] : Fin 2 → ℕ) a + (![32, 1] : Fin 2 → ℕ) a ≤ S576x128.size a := fun a => match a with
      | 0 => by show 32 * k.val + 32 ≤ 576; omega
      | 1 => by show 0 + 1 ≤ 128; omega
    unfold quantInv
    unfold owns
    generalize (VecWindow.put (arg16.view.read (Elt F) farg16) ![0, 768 * (i 1).val] ![576, 768] (k0_pay2 (arg2.view.read (Elt F) farg2) (arg4.view.read (Elt F) farg4) (arg3.view.read (Elt F) farg3) (arg5.view.read (Elt F) farg5))) = S'
    generalize (k0_pay5 (k0_pay3 i (arg2.view.read (Elt F) farg2) (arg4.view.read (Elt F) farg4) (arg3.view.read (Elt F) farg3) (arg5.view.read (Elt F) farg5) (arg17.view.read (Elt F) farg17))) = Q'
    iintro ⟨⟨%g16, %e16, H16⟩, ⟨%g18, %e18, H18⟩, %X, %hX, %g14, %e14, H14⟩
    subst e16 e18 e14
    sl_exec
    sl_step
    isplitl [H16]
    · iexists _; isplitr; swap; · iexact H16
      ipureintro; rfl
    isplitl [H18]
    · iexists _; isplitr; swap; · iexact H18
      ipureintro; rfl
    iexists _; isplitr; swap
    · iexists _; isplitr; swap; · iexact H14
      ipureintro; rfl
    ipureintro
    intro y hy
    refine (congrFun (View.read_writes_cons_put _ _ _ _ [] (k0_off2_eq k)) y).trans ?_
    rw [View.readAt_unit _ _ _ (k0_off2_eq k) hb, View.readAt_unit _ _ _ (k0_off3_eq k) hb']
    exact quant_step _ _ _ k.val hk hb hb' hX y hy
  · unfold quantInv
    unfold owns
    isplitl [Harg16]
    · iexists _; isplitr; swap; · iexact Harg16
      ipureintro
      refine (View.read_writes_cons_put _ _ _ _ [] (k0_off1_eq i)).trans ?_
      congr 1; congr 1 <;> exact View.readAt_full _ _ _
    isplitl [Harg18]
    · iexists _; isplitr; swap; · iexact Harg18
      ipureintro
      refine (View.read_writes_full _ _ _ _ []).trans ?_
      congr 1
      unfold body_quant.sl.v9 body_quant.sl.Harg17_1
      refine (View.readCov_full _ _ _ _ []).trans ?_
      congr 1 <;> exact View.readAt_full _ _ _
    iexists _; isplitr; swap
    · iexists _; isplitr; swap; · iexact Harg14
      ipureintro; rfl
    ipureintro
    intro y hy
    exact absurd hy (by omega)
  iintro %_ H
  unfold quantInv
  icases H with ⟨Harg16, Harg18, %X, %hX, Harg14⟩
  sl_exec
  sl_step
  iapply Hk
  unfold owns
  icases Harg16 with ⟨%g16, %e16, Harg16⟩
  icases Harg18 with ⟨%g18, %e18, Harg18⟩
  icases Harg14 with ⟨%g14, %e14, Harg14⟩
  isplitl [Harg2]
  · iexists _; isplitr; swap; · iexact Harg2
    ipureintro; rfl
  isplitl [Harg3]
  · iexists _; isplitr; swap; · iexact Harg3
    ipureintro; rfl
  isplitl [Harg4]
  · iexists _; isplitr; swap; · iexact Harg4
    ipureintro; rfl
  isplitl [Harg5]
  · iexists _; isplitr; swap; · iexact Harg5
    ipureintro; rfl
  isplitl [Harg16]
  · iexists g16; isplitr; · ipureintro; exact e16
    iexact Harg16
  isplitl [Harg17]
  · iexists _; isplitr; swap; · iexact Harg17
    ipureintro; unfold body_quant.sl.Harg17_1; refine (View.read_writes_full _ _ _ _ []).trans ?_; congr 1 <;> exact View.readAt_full _ _ _
  isplitl [Harg18]
  · iexists g18; isplitr; · ipureintro; exact e18
    iexact Harg18
  isplitl [Harg15]
  · iexists _; isplitr; swap; · iexact Harg15
    ipureintro; unfold body_quant.sl.Harg15_1; refine (View.read_writes_full _ _ _ _ []).trans ?_; congr 1; unfold body_quant.sl.v9 body_quant.sl.Harg17_1; refine (View.readCov_full _ _ _ _ []).trans ?_; congr 1 <;> exact View.readAt_full _ _ _
  have eX : X = _ := funext fun y => hX y (y 0).isLt
  iexists g14; isplitr; · ipureintro; exact e14.trans eX
  iexact Harg14

end Cert.KernelIdeal.Hand

end

end
-- ==== Proof.IdealRun.lean ====
/-
  Hand-written, untrusted. The fused expert kernel over its whole grid, four token tiles of eleven steps. What the steps carry from
  one to the next is said in the pipeline's invariant: before step `s` of a tile the hidden tile holds its first `s` blocks of
  columns and the running maxima are those of these blocks, and from the eighth step on the scales are the tile's. An output
  window is held to a predicate, for a step that does not write it leaves there whatever it found: the codes and the scale column
  from the seventh step of a tile on, the output block from the eighth on. From these, the run of the whole program, and what
  its three output arrays hold at the end, in terms of the windows' blocks.
-/
module

public import proofs.«01_k».proof.Proof.IdealBody
public import Idealize.ShloMosaic.Lib.Pipeline.DatRel
public import Idealize.ShloMosaic.Lib.Pipeline.ArrRel
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points of the grid -/

theorem coord0 : ∀ t : Fin cfg0.N, (grid0.coords t 0).val = t.val / 11 := by decide +kernel
theorem coord1 : ∀ t : Fin cfg0.N, (grid0.coords t 1).val = t.val % 11 := by decide +kernel

/-- Step `s` of tile `T`, as a point of the grid. -/
def pt (T s : ℕ) : Fin cfg0.N := ⟨(11 * T + s) % 44, Nat.lt_of_lt_of_eq (Nat.mod_lt _ (by decide)) N_0.symm⟩

theorem N_44 : cfg0.N = 44 := N_0

theorem pt_self (t : Fin cfg0.N) : pt (t.val / 11) (t.val % 11) = t := by
  apply Fin.ext
  have h : t.val < 44 := Nat.lt_of_lt_of_eq t.isLt N_44
  show (11 * (t.val / 11) + t.val % 11) % 44 = t.val
  omega

/-! ## What the kernel keeps of a tile -/

/-- A step's block of hidden columns. -/
def up (c : Dev nD) (t : Fin cfg0.N) : Vec F S576x768 .f32 :=
  k0_pay2 (iblk m c 0 t) (iblk m c 2 t) (iblk m c 1 t) (iblk m c 3 t)

/-- The hidden tile: column `j` is of step `j / 768`'s block. -/
def hid (c : Dev nD) (T : ℕ) : Vec F S576x5376 .f32 := fun y =>
  up m c (pt T ((y 1).val / 768)) (fun a => match a with | 0 => ⟨(y 0).val, (y 0).isLt⟩ | 1 => ⟨(y 1).val % 768, Nat.mod_lt _ (by decide)⟩)

/-- The running maxima after a step, from those before it. -/
def peakStep (c : Dev nD) (t : Fin cfg0.N) (P : Vec F S576x128 .f32) : Vec F S576x128 .f32 :=
  k0_pay3 (grid0.coords t) (iblk m c 0 t) (iblk m c 2 t) (iblk m c 1 t) (iblk m c 3 t) P

/-- The running maxima after step `s` of tile `T`; the first step does not look at what it finds. -/
def pk (c : Dev nD) (T : ℕ) : ℕ → Vec F S576x128 .f32
  | 0 => peakStep m c (pt T 0) (constant S576x128 .f32 0x00000000#32)
  | s + 1 => peakStep m c (pt T (s + 1)) (pk c T s)

/-- The scales of a tile, one per row, on all 128 lanes. -/
def scl (c : Dev nD) (T : ℕ) : Vec F S576x128 .f32 := k0_pay5 (pk m c T 6)
/-- The scale column of a tile. -/
def sclCol (c : Dev nD) (T : ℕ) : Vec F S576x1 .f32 := k0_pay4 (pk m c T 6)
/-- The codes of a tile. -/
def cod (c : Dev nD) (T : ℕ) : Vec F S576x5376 .fp8e4m3 := codesOf (hid m c T) (scl m c T)
/-- A step's block of output columns. -/
def outB (c : Dev nD) (t : Fin cfg0.N) : Vec F S576x1024 .bf16 :=
  k0_pay7 (cod m c (t.val / 11)) (iblk m c 4 t) (VecWindow.window (scl m c (t.val / 11)) ![0, 0] ![576, 1] inb_S576x128_S576x1_0_0)
    (iblk m c 5 t) (iblk m c 6 t) (iblk m c 8 t) (iblk m c 7 t) (iblk m c 9 t) (iblk m c 10 t)

/-- What is known of the three scratch buffers before point `n`. -/
def inv (c : Dev nD) (n : ℕ) (S : Vec F S576x5376 .f32) (P Q : Vec F S576x128 .f32) : Prop :=
  (0 < n % 11 → n % 11 ≤ 6 → (∀ y : S576x5376.Idx, (y 1).val < 768 * (n % 11) → S y = hid m c (n / 11) y) ∧ P = pk m c (n / 11) (n % 11 - 1))
  ∧ (7 ≤ n % 11 → Q = scl m c (n / 11))

/-- A step's block put into the hidden tile: the columns up to its end are the tile's. -/
theorem hid_step (c : Dev nD) (t : Fin cfg0.N) (hs : t.val % 11 ≤ 6) (S : Vec F S576x5376 .f32)
    (hS : ∀ y : S576x5376.Idx, (y 1).val < 768 * (t.val % 11) → S y = hid m c (t.val / 11) y)
    (y : S576x5376.Idx) (hy : (y 1).val < 768 * (t.val % 11 + 1)) :
    VecWindow.put S ![0, 768 * (grid0.coords t 1).val] ![576, 768] (up m c t) y = hid m c (t.val / 11) y := by
  rw [coord1]
  have h0 : (y 0).val < 576 := (y 0).isLt
  unfold VecWindow.put
  split
  · rename_i h
    have h1 : 768 * (t.val % 11) ≤ (y 1).val := (h 1).1
    have e : (y 1).val / 768 = t.val % 11 := by omega
    unfold hid
    rw [e, pt_self]
    congr 1
    funext a
    match a with
    | 0 => apply Fin.ext; show (y 0).val - 0 = (y 0).val; omega
    | 1 => apply Fin.ext; show (y 1).val - 768 * (t.val % 11) = (y 1).val % 768; omega
  · rename_i h
    apply hS
    by_contra hc
    apply h
    intro a
    match a with
    | 0 => exact ⟨Nat.zero_le _, by show (y 0).val < 0 + 576; omega⟩
    | 1 => exact ⟨by show 768 * (t.val % 11) ≤ (y 1).val; omega, by show (y 1).val < 768 * (t.val % 11) + 768; omega⟩

/-- The first step of a tile does not look at the maxima it finds. -/
theorem pay3_first (i : grid0.Coords) (hi : (i 1).val = 0) (x2 : Vec F S576x4096 .fp8e4m3) (x4 : Vec F S4096x768 .fp8e4m3) (x3 : Vec F S576x1 .f32)
    (x5 : Vec F S1x768 .f32) (P P' : Vec F S576x128 .f32) : k0_pay3 i x2 x4 x3 x5 P = k0_pay3 i x2 x4 x3 x5 P' := by
  have e : Scalar.cmpi .eq (BitVec.ofNat 32 (i 1).val) 0#32 = 1#1 := by rw [hi]; rfl
  unfold k0_pay3
  simp only [e]
  rfl

/-- The maxima taken along. -/
theorem pk_step (c : Dev nD) (t : Fin cfg0.N) (P : Vec F S576x128 .f32) (hP : 0 < t.val % 11 → P = pk m c (t.val / 11) (t.val % 11 - 1)) :
    peakStep m c t P = pk m c (t.val / 11) (t.val % 11) := by
  rcases Nat.eq_zero_or_pos (t.val % 11) with h | h
  · have e : pt (t.val / 11) 0 = t := by rw [← h]; exact pt_self t
    rw [h]
    unfold pk
    rw [e]
    unfold peakStep
    exact pay3_first _ (by rw [coord1]; exact h) _ _ _ _ _ _
  · obtain ⟨s, hs⟩ : ∃ s, t.val % 11 = s + 1 := ⟨t.val % 11 - 1, by omega⟩
    have e : pt (t.val / 11) (s + 1) = t := by rw [← hs]; exact pt_self t
    rw [hP h, hs]
    conv_rhs => unfold pk
    rw [e]
    rfl

/-! ## The proof data -/

/-- The output windows are held to a predicate, the input windows named exactly. -/
def fgt : Fin cfg0.W → Bool := fun w => decide (11 ≤ w.val)

/-- What a step leaves in an output window. -/
def Rl (c : Dev nD) : (w : Fin cfg0.W) → Fin cfg0.N → ((cfg0.win w).block.Idx → Elt F (cfg0.win w).elt) → Prop
  | ⟨11, _⟩ => fun t X => 7 ≤ t.val % 11 → X = outB m c t
  | ⟨12, _⟩ => fun t X => 6 ≤ t.val % 11 → X = cod m c (t.val / 11)
  | ⟨13, _⟩ => fun t X => 6 ≤ t.val % 11 → X = sclCol m c (t.val / 11)
  | _ => fun _ _ => True

/-- The invariant before point `n`: the scratch buffers at contents of which `inv` holds, the generator register at some state. -/
def Phi (c : Dev nD) (n : ℕ) : sProp 𝕄 :=
  iprop((∃ S P Q, ⌜inv m c n S P Q⌝ ∗ owns (c : Thread nD τ) (Memref.whole cc0_scratch0) fullShare S
      ∗ owns (c : Thread nD τ) (Memref.whole cc0_scratch1) fullShare P ∗ owns (c : Thread nD τ) (Memref.whole cc0_scratch2) fullShare Q)
    ∗ ∃ r, prngReg c r)

/-- The proof data: the arrays as the region finds them, the input windows at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | w => Pipeline.Dat.unnamed (cfg := cfg0) w t
  Φ t := Phi m c t.val
  q _ := fullShare
  owed _ := 0

/-- The same, the output windows held to `Rl`. -/
abbrev rdat (c : Dev nD) : RDat τ (Elt F) Unit ℕ (UR sig nD τ) ℕ cfg0 c := (dats m 0 c).toRRel fgt (Rl m c)

theorem A_eq (c : Dev nD) (w : Fin cfg0.W) : (dats m 0 c).A w = V m c (Pipeline.arrRef spec0 w) := by dsimp only [dats]
theorem bef0 (c : Dev nD) (t : Fin cfg0.N) (d) : (dats m 0 c).before 0 t d = iblk m c 0 t := before0_0_of m (dats m 0 c) rfl (fun _ => rfl) t d
theorem bef1 (c : Dev nD) (t : Fin cfg0.N) (d) : (dats m 0 c).before 1 t d = iblk m c 1 t := before0_1_of m (dats m 0 c) rfl (fun _ => rfl) t d
theorem bef2 (c : Dev nD) (t : Fin cfg0.N) (d) : (dats m 0 c).before 2 t d = iblk m c 2 t := before0_2_of m (dats m 0 c) rfl (fun _ => rfl) t d
theorem bef3 (c : Dev nD) (t : Fin cfg0.N) (d) : (dats m 0 c).before 3 t d = iblk m c 3 t := before0_3_of m (dats m 0 c) rfl (fun _ => rfl) t d
theorem bef4 (c : Dev nD) (t : Fin cfg0.N) (d) : (dats m 0 c).before 4 t d = iblk m c 4 t := before0_4_of m (dats m 0 c) rfl (fun _ => rfl) t d
theorem bef5 (c : Dev nD) (t : Fin cfg0.N) (d) : (dats m 0 c).before 5 t d = iblk m c 5 t := before0_5_of m (dats m 0 c) rfl (fun _ => rfl) t d
theorem bef6 (c : Dev nD) (t : Fin cfg0.N) (d) : (dats m 0 c).before 6 t d = iblk m c 6 t := before0_6_of m (dats m 0 c) rfl (fun _ => rfl) t d
theorem bef7 (c : Dev nD) (t : Fin cfg0.N) (d) : (dats m 0 c).before 7 t d = iblk m c 7 t := before0_7_of m (dats m 0 c) rfl (fun _ => rfl) t d
theorem bef8 (c : Dev nD) (t : Fin cfg0.N) (d) : (dats m 0 c).before 8 t d = iblk m c 8 t := before0_8_of m (dats m 0 c) rfl (fun _ => rfl) t d
theorem bef9 (c : Dev nD) (t : Fin cfg0.N) (d) : (dats m 0 c).before 9 t d = iblk m c 9 t := before0_9_of m (dats m 0 c) rfl (fun _ => rfl) t d
theorem bef10 (c : Dev nD) (t : Fin cfg0.N) (d) : (dats m 0 c).before 10 t d = iblk m c 10 t := before0_10_of m (dats m 0 c) rfl (fun _ => rfl) t d

theorem notFirst (t : Fin cfg0.N) (h : 7 ≤ t.val % 11) : t.val ≠ 0 := by intro e; rw [e] at h; exact absurd h (by decide)

/-- From the eighth step on the codes and the scale column are found as the step before left them. -/
theorem finds12 (c : Dev nD) (t : Fin cfg0.N) (h : 7 ≤ t.val % 11) (Y) (hY : (rdat m c).Finds 12 t Y) : Y = cod m c (t.val / 11) := by
  have h1 := ((rdat m c).finds_of_pos (w := 12) rfl (notFirst t h) Y).mp hY
  have h2 := h1.resolve_left (by rw [flush0_12]; show ¬ (t.val - 1) % 11 = 10; omega)
  have h3 := (dats m 0 c).toRRel_leaves (fgt := fgt) (Rl := Rl m c) (w := 12) rfl h2
  have h4 : Y = cod m c ((t.val - 1) / 11) := h3 (show 6 ≤ (t.val - 1) % 11 by omega)
  rw [h4]; congr 1; omega
theorem finds13 (c : Dev nD) (t : Fin cfg0.N) (h : 7 ≤ t.val % 11) (Y) (hY : (rdat m c).Finds 13 t Y) : Y = sclCol m c (t.val / 11) := by
  have h1 := ((rdat m c).finds_of_pos (w := 13) rfl (notFirst t h) Y).mp hY
  have h2 := h1.resolve_left (by rw [flush0_13]; show ¬ (t.val - 1) % 11 = 10; omega)
  have h3 := (dats m 0 c).toRRel_leaves (fgt := fgt) (Rl := Rl m c) (w := 13) rfl h2
  have h4 : Y = sclCol m c ((t.val - 1) / 11) := h3 (show 6 ≤ (t.val - 1) % 11 by omega)
  rw [h4]; congr 1; omega

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d))
    ∗ (∃ Y, ⌜(rdat m c).Finds 11 t Y⌝ ∗ owns (c : Thread nD τ) (st0_11 t) fullShare Y) ∗ (∃ Y, ⌜(rdat m c).Finds 12 t Y⌝ ∗ owns (c : Thread nD τ) (st0_12 t) fullShare Y) ∗ (∃ Y, ⌜(rdat m c).Finds 13 t Y⌝ ∗ owns (c : Thread nD τ) (st0_13 t) fullShare Y))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t)
    ∗ (∃ X, ⌜Rl m c 11 t X⌝ ∗ owns (c : Thread nD τ) (st0_11 t) fullShare X) ∗ (∃ X, ⌜Rl m c 12 t X⌝ ∗ owns (c : Thread nD τ) (st0_12 t) fullShare X) ∗ (∃ X, ⌜Rl m c 13 t X⌝ ∗ owns (c : Thread nD τ) (st0_13 t) fullShare X))

theorem hidP (c : Dev nD) (t : Fin cfg0.N) (h : t.val % 11 ≤ 6) {S : Vec F S576x5376 .f32} {P Q : Vec F S576x128 .f32} (hinv : inv m c t.val S P Q) :
    (∀ y : S576x5376.Idx, (y 1).val < 768 * (t.val % 11) → S y = hid m c (t.val / 11) y)
    ∧ (0 < t.val % 11 → P = pk m c (t.val / 11) (t.val % 11 - 1)) := by
  rcases Nat.eq_zero_or_pos (t.val % 11) with h0 | h0
  · exact ⟨fun y hy => absurd hy (by omega), fun h1 => absurd h1 (by omega)⟩
  · exact ⟨(hinv.1 h0 h).1, fun _ => (hinv.1 h0 h).2⟩

theorem inv_up (c : Dev nD) (t : Fin cfg0.N) (h : t.val % 11 ≤ 6) {S : Vec F S576x5376 .f32} {P Q : Vec F S576x128 .f32} (hinv : inv m c t.val S P Q)
    (h6 : t.val % 11 < 6) : inv m c (t.val + 1) (VecWindow.put S ![0, 768 * (grid0.coords t 1).val] ![576, 768] (up m c t)) (peakStep m c t P) Q := by
  obtain ⟨hS, hP⟩ := hidP m c t h hinv
  have e1 : (t.val + 1) % 11 = t.val % 11 + 1 := by omega
  have e2 : (t.val + 1) / 11 = t.val / 11 := by omega
  unfold inv
  rw [e1, e2]
  exact ⟨fun _ _ => ⟨fun y hy => hid_step m c t h S hS y hy, pk_step m c t P hP⟩, fun h' => absurd h' (by omega)⟩

theorem hid_full (c : Dev nD) (t : Fin cfg0.N) (h : t.val % 11 = 6) {S : Vec F S576x5376 .f32} {P Q : Vec F S576x128 .f32} (hinv : inv m c t.val S P Q) :
    (VecWindow.put S ![0, 768 * (grid0.coords t 1).val] ![576, 768] (up m c t)) = hid m c (t.val / 11) := by
  obtain ⟨hS, hP⟩ := hidP m c t (Nat.le_of_eq h) hinv
  funext y
  have h1 : (y 1).val < 5376 := (y 1).isLt
  exact hid_step m c t (Nat.le_of_eq h) S hS y (by rw [h]; omega)
theorem pk_full (c : Dev nD) (t : Fin cfg0.N) (h : t.val % 11 = 6) {S : Vec F S576x5376 .f32} {P Q : Vec F S576x128 .f32} (hinv : inv m c t.val S P Q) :
    (peakStep m c t P) = pk m c (t.val / 11) 6 := by
  obtain ⟨hS, hP⟩ := hidP m c t (Nat.le_of_eq h) hinv
  rw [pk_step m c t P hP, h]
theorem inv_quant (c : Dev nD) (t : Fin cfg0.N) (h : t.val % 11 = 6) {S : Vec F S576x5376 .f32} {P : Vec F S576x128 .f32}
    (e2 : (peakStep m c t P) = pk m c (t.val / 11) 6) : inv m c (t.val + 1) (VecWindow.put S ![0, 768 * (grid0.coords t 1).val] ![576, 768] (up m c t)) (peakStep m c t P) (k0_pay5 (peakStep m c t P)) := by
  have e4 : (t.val + 1) / 11 = t.val / 11 := by omega
  refine ⟨fun _ h' => absurd h' (by omega), fun _ => ?_⟩
  rw [e2, e4]; rfl
theorem inv_down (c : Dev nD) (t : Fin cfg0.N) (h : 7 ≤ t.val % 11) {S : Vec F S576x5376 .f32} {P : Vec F S576x128 .f32} :
    inv m c (t.val + 1) S P (scl m c (t.val / 11)) := by
  refine ⟨fun h0 h' => absurd h' (by omega), fun h7 => ?_⟩
  rw [show (t.val + 1) / 11 = t.val / 11 by omega]

theorem sound_up (c : Dev nD) (t : Fin cfg0.N) (h : t.val % 11 < 6) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Phi m c t.val from rfl, show (dats m 0 c).Φ t.succ = Phi m c (t.val + 1) from rfl]
  unfold Phi
  simp only [bef0, bef1, bef2, bef3, bef4, bef5, bef6, bef7, bef8, bef9, bef10]
  simp only [show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl, show (dats m 0 c).after 5 t = iblk m c 5 t from rfl, show (dats m 0 c).after 6 t = iblk m c 6 t from rfl, show (dats m 0 c).after 7 t = iblk m c 7 t from rfl, show (dats m 0 c).after 8 t = iblk m c 8 t from rfl, show (dats m 0 c).after 9 t = iblk m c 9 t from rfl, show (dats m 0 c).after 10 t = iblk m c 10 t from rfl]
  iintro ⟨⟨⟨%S, %P, %Q, %hinv, HS, HP, HQ⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %hY11, H11⟩, ⟨%Y12, %hY12, H12⟩, ⟨%Y13, %hY13, H13⟩⟩
  iapply (body_up c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (Memref.whole cc0_scratch2) (Memref.isWhole_whole _)
    ((cond1_iff _).mpr (by rw [coord1]; omega)) (fun e => absurd ((cond2_iff _).mp e) (by rw [coord1]; omega)) (fun e => absurd ((cond3_iff _).mp e) (by rw [coord1]; omega))
    (iblk m c 0 t) (iblk m c 1 t) (iblk m c 2 t) (iblk m c 3 t) S P _)
  isplitl [H0]; · iexact H0
  isplitl [H1]; · iexact H1
  isplitl [H2]; · iexact H2
  isplitl [H3]; · iexact H3
  isplitl [HS]; · iexact HS
  isplitl [HP]; · iexact HP
  iintro ⟨H0, H1, H2, H3, HS, HP⟩
  isplitl [HS HP HQ Hg]
  · isplitl [HS HP HQ]
    · iexists (VecWindow.put S ![0, 768 * (grid0.coords t 1).val] ![576, 768] (up m c t)), (peakStep m c t P), Q
      isplitr; · ipureintro; exact inv_up m c t (Nat.le_of_lt h) hinv h
      isplitl [HS]; · iexact HS
      isplitl [HP]; · iexact HP
      iexact HQ
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists Y11; isplitr; · ipureintro; exact fun h' => absurd h' (by omega)
    iexact H11
  isplitl [H12]
  · iexists Y12; isplitr; · ipureintro; exact fun h' => absurd h' (by omega)
    iexact H12
  · iexists Y13; isplitr; · ipureintro; exact fun h' => absurd h' (by omega)
    iexact H13

theorem sound_quant (c : Dev nD) (t : Fin cfg0.N) (h : t.val % 11 = 6) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Phi m c t.val from rfl, show (dats m 0 c).Φ t.succ = Phi m c (t.val + 1) from rfl]
  unfold Phi
  simp only [bef0, bef1, bef2, bef3, bef4, bef5, bef6, bef7, bef8, bef9, bef10]
  simp only [show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl, show (dats m 0 c).after 5 t = iblk m c 5 t from rfl, show (dats m 0 c).after 6 t = iblk m c 6 t from rfl, show (dats m 0 c).after 7 t = iblk m c 7 t from rfl, show (dats m 0 c).after 8 t = iblk m c 8 t from rfl, show (dats m 0 c).after 9 t = iblk m c 9 t from rfl, show (dats m 0 c).after 10 t = iblk m c 10 t from rfl]
  iintro ⟨⟨⟨%S, %P, %Q, %hinv, HS, HP, HQ⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %hY11, H11⟩, ⟨%Y12, %hY12, H12⟩, ⟨%Y13, %hY13, H13⟩⟩
  have e1 := hid_full m c t h hinv
  have e2 := pk_full m c t h hinv
  iapply (body_quant c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (Memref.whole cc0_scratch2) (Memref.isWhole_whole _)
    ((cond1_iff _).mpr (by rw [coord1]; omega)) ((cond2_iff _).mpr (by rw [coord1]; omega)) (fun e => absurd ((cond3_iff _).mp e) (by rw [coord1]; omega))
    (iblk m c 0 t) (iblk m c 1 t) (iblk m c 2 t) (iblk m c 3 t) S P _)
  isplitl [H0]; · iexact H0
  isplitl [H1]; · iexact H1
  isplitl [H2]; · iexact H2
  isplitl [H3]; · iexact H3
  isplitl [HS]; · iexact HS
  isplitl [HP]; · iexact HP
  isplitl [HQ]; · iexists _; iexact HQ
  isplitl [H13]; · iexists _; iexact H13
  isplitl [H12]; · iexists _; iexact H12
  iintro ⟨H0, H1, H2, H3, HS, HP, HQ, H13, H12⟩
  isplitl [HS HP HQ Hg]
  · isplitl [HS HP HQ]
    · iexists (VecWindow.put S ![0, 768 * (grid0.coords t 1).val] ![576, 768] (up m c t)), (peakStep m c t P), (k0_pay5 (peakStep m c t P))
      isplitr; · ipureintro; exact inv_quant m c t h e2
      isplitl [HS]; · iexact HS
      isplitl [HP]; · iexact HP
      iexact HQ
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists Y11; isplitr; · ipureintro; exact fun h' => absurd h' (by omega)
    iexact H11
  isplitl [H12]
  · iexists (codesOf (VecWindow.put S ![0, 768 * (grid0.coords t 1).val] ![576, 768] (up m c t)) (k0_pay5 (peakStep m c t P))); isplitr; · ipureintro; exact fun _ => by rw [e1, e2]; rfl
    iexact H12
  · iexists (k0_pay4 (peakStep m c t P)); isplitr; · ipureintro; exact fun _ => by rw [e2]; rfl
    iexact H13

theorem sound_down (c : Dev nD) (t : Fin cfg0.N) (h : 7 ≤ t.val % 11) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Phi m c t.val from rfl, show (dats m 0 c).Φ t.succ = Phi m c (t.val + 1) from rfl]
  unfold Phi
  simp only [bef0, bef1, bef2, bef3, bef4, bef5, bef6, bef7, bef8, bef9, bef10]
  simp only [show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl, show (dats m 0 c).after 5 t = iblk m c 5 t from rfl, show (dats m 0 c).after 6 t = iblk m c 6 t from rfl, show (dats m 0 c).after 7 t = iblk m c 7 t from rfl, show (dats m 0 c).after 8 t = iblk m c 8 t from rfl, show (dats m 0 c).after 9 t = iblk m c 9 t from rfl, show (dats m 0 c).after 10 t = iblk m c 10 t from rfl]
  iintro ⟨⟨⟨%S, %P, %Q, %hinv, HS, HP, HQ⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %hY11, H11⟩, ⟨%Y12, %hY12, H12⟩, ⟨%Y13, %hY13, H13⟩⟩
  have eQ : Q = scl m c (t.val / 11) := hinv.2 h
  have e12 := finds12 m c t h Y12 hY12
  have e13 := finds13 m c t h Y13 hY13
  subst eQ e12 e13
  iapply (body_down c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (Memref.whole cc0_scratch2) (Memref.isWhole_whole _)
    (fun e => absurd ((cond1_iff _).mp e) (by rw [coord1]; omega)) (fun e => absurd ((cond2_iff _).mp e) (by rw [coord1]; omega)) ((cond3_iff _).mpr (by rw [coord1]; omega))
    (iblk m c 4 t) (iblk m c 5 t) (iblk m c 6 t) (iblk m c 7 t) (iblk m c 8 t) (iblk m c 9 t) (iblk m c 10 t) (cod m c (t.val / 11)) (scl m c (t.val / 11)) _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [HQ]; · iexact HQ
  isplitl [H11]; · iexists _; iexact H11
  iintro ⟨H4, H5, H6, H7, H8, H9, H10, H12, HQ, H11⟩
  isplitl [HS HP HQ Hg]
  · isplitl [HS HP HQ]
    · iexists S, P, (scl m c (t.val / 11))
      isplitr; · ipureintro; exact inv_down m c t h
      isplitl [HS]; · iexact HS
      isplitl [HP]; · iexact HP
      iexact HQ
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists (outB m c t); isplitr; · ipureintro; exact fun _ => rfl
    iexact H11
  isplitl [H12]
  · iexists (cod m c (t.val / 11)); isplitr; · ipureintro; exact fun _ => rfl
    iexact H12
  · iexists (sclCol m c (t.val / 11)); isplitr; · ipureintro; exact fun _ => rfl
    iexact H13

theorem sound_body (c : Dev nD) (t : Fin cfg0.N) :
    bodyPre m c t ⊢ wp frame (wpE (defs₀ (F := F)) Variants.none c none) Set.univ (bodyAt0 t) (fun _ => bodyPost m c t) := by
  rcases Nat.lt_trichotomy (t.val % 11) 6 with h | h | h
  · exact sound_up m c t h
  · exact sound_quant m c t h
  · exact sound_down m c t h

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The launch -/

theorem Phi_in (c : Dev nD) : Pipeline.ΦA spec0 c ⊢ (dats (F := F) m 0 c).Φ 0 := by
  show _ ⊢ Phi m c 0
  unfold Pipeline.ΦA Phi
  rw [scopedRest0_eq]
  simp only [owns_whole]
  iintro ⟨⟨⟨%f, H0⟩, ⟨%g, H1⟩, ⟨%h, H2⟩⟩, Hg⟩
  isplitr [Hg]
  · iexists f, g, h
    isplitr
    · ipureintro; exact ⟨fun h0 => absurd h0 (by decide), fun h7 => absurd h7 (by decide)⟩
    isplitl [H0]; · iexact H0
    isplitl [H1]; · iexact H1
    iexact H2
  iexact Hg

theorem Phi_out (c : Dev nD) : (dats (F := F) m 0 c).Φ (Fin.last cfg0.N) ⊢ Pipeline.ΦA spec0 c := by
  show Phi m c cfg0.N ⊢ _
  unfold Pipeline.ΦA Phi
  rw [scopedRest0_eq]
  simp only [owns_whole]
  iintro ⟨⟨%f, %g, %h, -, H0, H1, H2⟩, Hg⟩
  isplitr [Hg]
  · isplitl [H0]; · iexists f; iexact H0
    isplitl [H1]; · iexists g; iexact H1
    iexists h; iexact H2
  iexact Hg

-- the launch theorem's implicit arguments are found by unifying its conclusion with this statement, which unifies only when
-- unification may unfold plain definitions in a metavariable's type
set_option backward.isDefEq.respectTransparency.types false in
set_option maxHeartbeats 800000 in
/-- The launch at any proof data: stated apart, so that the invariant of the data at hand is not unfolded. -/
theorem run_of (dat : (c : Dev nD) → Dat τ (Elt F) Unit ℕ (UR sig nD τ) ℕ cfg0 c) (fg : Fin cfg0.W → Bool)
    (R : (c : Dev nD) → (w : Fin cfg0.W) → Fin cfg0.N → ((cfg0.win w).block.Idx → Elt F (cfg0.win w).elt) → Prop)
    (hbody : ∀ c, BodyObligationRel (dat c) (defs₀ (F := F)) Variants.none () Set.univ fg (R c))
    (hshare : ∀ c w, (dat c).share w = fullShare) (howed : ∀ c t, (dat c).owed t = 0)
    (hA : ∀ c w, (dat c).A w = V m c (Pipeline.arrRef spec0 w))
    (hin : ∀ c, Pipeline.ΦA spec0 c ⊢ (dat c).Φ 0) (hout : ∀ c, (dat c).Φ (Fin.last cfg0.N) ⊢ Pipeline.ΦA spec0 c) :
    θ_run defs (onTc (τ := τ) (main (F := F))) (s₀ m ρ)
      (fun r => RDat.FramePost (cfgs 0) (fun c => (dat c).toRRel fg (R c)) (V m) r ∧ r.2.sem = fun _ => 0) :=
  RDat.θ_run_frame_track (Q' := _) cfgs (0 : Fin 1) launch0 defs₀ Variants.none (fun c => (dat c).toRRel fg (R c)) m ρ main
    (fun c => (hbody c).toRRel) hshare howed (V := V m) (hmain := hmain m Variants.none) hA hin hout

theorem run_main :
    θ_run defs (onTc (τ := τ) (main (F := F))) (s₀ m ρ)
      (fun r => RDat.FramePost (cfgs 0) (fun c => rdat m c) (V m) r ∧ r.2.sem = fun _ => 0) :=
  run_of m ρ (fun c => dats m 0 c) fgt (Rl m) (body_obligation m) (fun c => (dats m 0 c).share_full fun _ => rfl) (fun _ _ => rfl) (A_eq m)
    (Phi_in m) (Phi_out m)

variable {m ρ}

/-- The arguments are as launched. -/
def ArgsKept (m : (ℓ : Loc nD τ sig) → Buf (Elt F) ℓ) (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)

theorem args_kept {r : PUnit × MemSt nD τ sig (Elt F)} (h : RDat.FramePost (cfgs 0) (fun c => rdat m c) (V m) r) (c : Dev nD) : ArgsKept m r c :=
  ⟨(RDat.FramePost.arr_in h c 0 rfl).trans (V_main_arg0 m c),
    (RDat.FramePost.arr_in h c 1 rfl).trans (V_main_arg1 m c),
    (RDat.FramePost.arr_in h c 2 rfl).trans (V_main_arg2 m c),
    (h c).2 main_arg3 (Pipeline.mem_restRefs_of main_arg3 (by decide) (by decide)) |>.trans (V_main_arg3 m c),
    (RDat.FramePost.arr_in h c 4 rfl).trans (V_main_arg4 m c),
    (h c).2 main_arg5 (Pipeline.mem_restRefs_of main_arg5 (by decide) (by decide)) |>.trans (V_main_arg5 m c),
    (RDat.FramePost.arr_in h c 6 rfl).trans (V_main_arg6 m c),
    (RDat.FramePost.arr_in h c 7 rfl).trans (V_main_arg7 m c),
    (RDat.FramePost.arr_in h c 8 rfl).trans (V_main_arg8 m c),
    (h c).2 main_arg9 (Pipeline.mem_restRefs_of main_arg9 (by decide) (by decide)) |>.trans (V_main_arg9 m c),
    (RDat.FramePost.arr_in h c 10 rfl).trans (V_main_arg10 m c)⟩

end Cert.KernelIdeal.Hand

end

end
-- ==== Proof.IdealFinal.lean ====
/-
  Hand-written, untrusted. What the three output arrays of the fused expert kernel hold after the run, element by element, in terms of what
  each step computes from its blocks: row `i` belongs to token tile `i / 576`, and output column `j` to the `j / 1024`-th of the tile's
  last four steps.
-/
module

public import proofs.«01_k».proof.Proof.IdealRun
public import Idealize.ShloMosaic.Lib.Pointwise
public import Idealize.ShloMosaic.Lib.Claim

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat RDat)

variable {F : FTy → Type} [FloatOps F] [Named F]

variable (m : (ℓ : Loc nD τ sig) → Buf (Elt F) ℓ)

/-! ## The blocks' places -/

theorem ix0_0 : ∀ t : Fin cfg0.N, win0_0.index t = ![t.val / 11, 0] := by decide +kernel
theorem ix0_1 : ∀ t : Fin cfg0.N, win0_1.index t = ![t.val / 11, 0] := by decide +kernel
theorem ix0_2 : ∀ t : Fin cfg0.N, win0_2.index t = ![0, min (t.val % 11) 6] := by decide +kernel
theorem ix0_3 : ∀ t : Fin cfg0.N, win0_3.index t = ![0, min (t.val % 11) 6] := by decide +kernel
theorem ix0_4 : ∀ t : Fin cfg0.N, win0_4.index t = ![0, t.val % 11 - 7] := by decide +kernel
theorem ix0_5 : ∀ t : Fin cfg0.N, win0_5.index t = ![0, t.val % 11 - 7] := by decide +kernel
theorem ix0_6 : ∀ t : Fin cfg0.N, win0_6.index t = ![t.val / 11, 0] := by decide +kernel
theorem ix0_7 : ∀ t : Fin cfg0.N, win0_7.index t = ![t.val / 11, 0] := by decide +kernel
theorem ix0_8 : ∀ t : Fin cfg0.N, win0_8.index t = ![0, t.val % 11 - 7] := by decide +kernel
theorem ix0_9 : ∀ t : Fin cfg0.N, win0_9.index t = ![0, t.val % 11 - 7] := by decide +kernel
theorem ix0_10 : ∀ t : Fin cfg0.N, win0_10.index t = ![t.val / 11, t.val % 11 - 7] := by decide +kernel
theorem ix0_11 : ∀ t : Fin cfg0.N, win0_11.index t = ![t.val / 11, t.val % 11 - 7] := by decide +kernel
theorem ix0_12 : ∀ t : Fin cfg0.N, win0_12.index t = ![t.val / 11, 0] := by decide +kernel
theorem ix0_13 : ∀ t : Fin cfg0.N, win0_13.index t = ![t.val / 11, 0] := by decide +kernel

theorem fl11 : ∀ t : Fin cfg0.N, (cfg0.win 11).flush t = true → 7 ≤ t.val % 11 := by decide +kernel
theorem fl12 : ∀ t : Fin cfg0.N, (cfg0.win 12).flush t = true → 6 ≤ t.val % 11 := by decide +kernel
theorem fl13 : ∀ t : Fin cfg0.N, (cfg0.win 13).flush t = true → 6 ≤ t.val % 11 := by decide +kernel

/-! ## The arrays -/

/-- The output. -/
def outA (c : Dev nD) : Vec F S2304x4096 .bf16 := fun y =>
  outB m c (pt ((y 0).val / 576) (7 + (y 1).val / 1024))
    (ix2 (n0 := 576) (n1 := 1024) ⟨(y 0).val % 576, Nat.mod_lt _ (by decide)⟩ ⟨(y 1).val % 1024, Nat.mod_lt _ (by decide)⟩)
/-- The codes. -/
def codA (c : Dev nD) : Vec F S2304x5376 .fp8e4m3 := fun y =>
  cod m c ((y 0).val / 576) (ix2 (n0 := 576) (n1 := 5376) ⟨(y 0).val % 576, Nat.mod_lt _ (by decide)⟩ (y 1))
/-- The scales. -/
def sclA (c : Dev nD) : Vec F S2304x1 .f32 := fun y =>
  sclCol m c ((y 0).val / 576) (ix2 (n0 := 576) (n1 := 1) ⟨(y 0).val % 576, Nat.mod_lt _ (by decide)⟩ (y 1))

/-- The output read where a point's block puts an index. -/
theorem outA_at (c : Dev nD) (z : S2304x4096.Idx) (t : Fin cfg0.N) (y : S576x1024.Idx) (e0 : (z 0).val = t.val / 11 * 576 + (y 0).val)
    (e1 : (z 1).val = (t.val % 11 - 7) * 1024 + (y 1).val) (h7 : 7 ≤ t.val % 11) (h44 : t.val < 44) : outA m c z = outB m c t y := by
  have y0 : (y 0).val < 576 := (y 0).isLt
  have y1 : (y 1).val < 1024 := (y 1).isLt
  unfold outA
  congr 1
  · congr 1
    apply Fin.ext
    show (11 * ((z 0).val / 576) + (7 + (z 1).val / 1024)) % 44 = t.val
    omega
  · funext a
    match a with
    | ⟨0, _⟩ => apply Fin.ext; show (z 0).val % 576 = (y 0).val; omega
    | ⟨1, _⟩ => apply Fin.ext; show (z 1).val % 1024 = (y 1).val; omega

theorem codA_at (c : Dev nD) (z : S2304x5376.Idx) (t : Fin cfg0.N) (y : S576x5376.Idx) (e0 : (z 0).val = t.val / 11 * 576 + (y 0).val)
    (e1 : (z 1).val = (y 1).val) : codA m c z = cod m c (t.val / 11) y := by
  have y0 : (y 0).val < 576 := (y 0).isLt
  unfold codA
  congr 1
  · omega
  · funext a
    match a with
    | ⟨0, _⟩ => apply Fin.ext; show (z 0).val % 576 = (y 0).val; omega
    | ⟨1, _⟩ => apply Fin.ext; exact e1

theorem sclA_at (c : Dev nD) (z : S2304x1.Idx) (t : Fin cfg0.N) (y : S576x1.Idx) (e0 : (z 0).val = t.val / 11 * 576 + (y 0).val)
    (e1 : (z 1).val = (y 1).val) : sclA m c z = sclCol m c (t.val / 11) y := by
  have y0 : (y 0).val < 576 := (y 0).isLt
  unfold sclA
  congr 1
  · omega
  · funext a
    match a with
    | ⟨0, _⟩ => apply Fin.ext; show (z 0).val % 576 = (y 0).val; omega
    | ⟨1, _⟩ => apply Fin.ext; exact e1

variable {m}

theorem final11 {r : PUnit × MemSt nD τ sig (Elt F)} (h : RDat.FramePost (cfgs 0) (fun c => rdat m c) (V m) r) (c : Dev nD) :
    r.2.mem ((c.tc : Thread nD τ).loc main_v3_0) = outA m c := by
  obtain ⟨after, hL, hA⟩ := RDat.FramePost.exists_exact h c
  refine (hA 11).trans ?_
  refine Dat.arrAt_eq_of_covers (cfg := cfg0) (c := c) ((rdat m c).withAfter after) 11 (outA m c) (by decide +kernel) (fun t hf y => ?_) (Memref.isWhole_whole _)
  have e : after 11 t = outB m c t := (dats m 0 c).toRRel_leaves (fgt := fgt) (Rl := Rl m c) (w := 11) rfl (hL 11 t hf) (fl11 t hf)
  have h44 : t.val < 44 := Nat.lt_of_lt_of_eq t.isLt N_44
  have hf7 := fl11 t hf
  have y0 : (y 0).val < 576 := (y 0).isLt
  have y1 : (y 1).val < 1024 := (y 1).isLt
  have e0 : (((cfg0.win 11).blk t).view.emb y 0).val = t.val / 11 * 576 + (y 0).val := by blk_simp [ix0_11]
  have e1 : (((cfg0.win 11).blk t).view.emb y 1).val = (t.val % 11 - 7) * 1024 + (y 1).val := by blk_simp [ix0_11]
  refine (show _ = after 11 t y from rfl).trans ?_
  rw [e]
  exact (outA_at m c _ t y e0 e1 hf7 h44).symm

theorem final12 {r : PUnit × MemSt nD τ sig (Elt F)} (h : RDat.FramePost (cfgs 0) (fun c => rdat m c) (V m) r) (c : Dev nD) :
    r.2.mem ((c.tc : Thread nD τ).loc main_v3_1) = codA m c := by
  obtain ⟨after, hL, hA⟩ := RDat.FramePost.exists_exact h c
  refine (hA 12).trans ?_
  refine Dat.arrAt_eq_of_covers (cfg := cfg0) (c := c) ((rdat m c).withAfter after) 12 (codA m c) (by decide +kernel) (fun t hf y => ?_) (Memref.isWhole_whole _)
  have e : after 12 t = cod m c (t.val / 11) := (dats m 0 c).toRRel_leaves (fgt := fgt) (Rl := Rl m c) (w := 12) rfl (hL 12 t hf) (fl12 t hf)
  have h44 : t.val < 44 := Nat.lt_of_lt_of_eq t.isLt N_44
  have hf7 := fl12 t hf
  have y0 : (y 0).val < 576 := (y 0).isLt
  have e0 : (((cfg0.win 12).blk t).view.emb y 0).val = t.val / 11 * 576 + (y 0).val := by blk_simp [ix0_12]
  have e1 : (((cfg0.win 12).blk t).view.emb y 1).val = (y 1).val := by blk_simp [ix0_12]
  refine (show _ = after 12 t y from rfl).trans ?_
  rw [e]
  exact (codA_at m c _ t y e0 e1).symm

theorem final13 {r : PUnit × MemSt nD τ sig (Elt F)} (h : RDat.FramePost (cfgs 0) (fun c => rdat m c) (V m) r) (c : Dev nD) :
    r.2.mem ((c.tc : Thread nD τ).loc main_v3_2) = sclA m c := by
  obtain ⟨after, hL, hA⟩ := RDat.FramePost.exists_exact h c
  refine (hA 13).trans ?_
  refine Dat.arrAt_eq_of_covers (cfg := cfg0) (c := c) ((rdat m c).withAfter after) 13 (sclA m c) (by decide +kernel) (fun t hf y => ?_) (Memref.isWhole_whole _)
  have e : after 13 t = sclCol m c (t.val / 11) := (dats m 0 c).toRRel_leaves (fgt := fgt) (Rl := Rl m c) (w := 13) rfl (hL 13 t hf) (fl13 t hf)
  have h44 : t.val < 44 := Nat.lt_of_lt_of_eq t.isLt N_44
  have hf7 := fl13 t hf
  have y0 : (y 0).val < 576 := (y 0).isLt
  have e0 : (((cfg0.win 13).blk t).view.emb y 0).val = t.val / 11 * 576 + (y 0).val := by blk_simp [ix0_13]
  have e1 : (((cfg0.win 13).blk t).view.emb y 1).val = (y 1).val := by blk_simp [ix0_13]
  refine (show _ = after 13 t y from rfl).trans ?_
  rw [e]
  exact (sclA_at m c _ t y e0 e1).symm

/-! ## The input blocks -/

variable (m)

theorem blk0 (c : Dev nD) (t : Fin cfg0.N) (r : Fin 576) (k : Fin 4096) (z : S2304x4096.Idx) (e0 : (z 0).val = t.val / 11 * 576 + r.val) (e1 : (z 1).val = k.val) :
    iblk m c 0 t (ix2 r k) = V m c main_arg0 z := by
  unfold iblk
  show V m c main_arg0 (((cfg0.win 0).blk t).view.emb (ix2 r k)) = _
  congr 1
  funext a
  apply Fin.ext
  match a with
  | ⟨0, _⟩ => rw [show (⟨0, _⟩ : Fin 2) = 0 from rfl, e0]; blk_simp [ix0_0]
  | ⟨1, _⟩ => rw [show (⟨1, _⟩ : Fin 2) = 1 from rfl, e1]; blk_simp [ix0_0]

theorem blk1 (c : Dev nD) (t : Fin cfg0.N) (r : Fin 576) (k : Fin 1) (z : S2304x1.Idx) (e0 : (z 0).val = t.val / 11 * 576 + r.val) (e1 : (z 1).val = k.val) :
    iblk m c 1 t (ix2 r k) = V m c main_arg1 z := by
  unfold iblk
  show V m c main_arg1 (((cfg0.win 1).blk t).view.emb (ix2 r k)) = _
  congr 1
  funext a
  apply Fin.ext
  match a with
  | ⟨0, _⟩ => rw [show (⟨0, _⟩ : Fin 2) = 0 from rfl, e0]; blk_simp [ix0_1]
  | ⟨1, _⟩ => rw [show (⟨1, _⟩ : Fin 2) = 1 from rfl, e1]; blk_simp [ix0_1]

theorem blk2 (c : Dev nD) (t : Fin cfg0.N) (r : Fin 4096) (k : Fin 768) (z : S4096x5376.Idx) (e0 : (z 0).val = r.val) (e1 : (z 1).val = min (t.val % 11) 6 * 768 + k.val) :
    iblk m c 2 t (ix2 r k) = V m c main_arg2 z := by
  unfold iblk
  show V m c main_arg2 (((cfg0.win 2).blk t).view.emb (ix2 r k)) = _
  congr 1
  funext a
  apply Fin.ext
  match a with
  | ⟨0, _⟩ => rw [show (⟨0, _⟩ : Fin 2) = 0 from rfl, e0]; blk_simp [ix0_2]
  | ⟨1, _⟩ => rw [show (⟨1, _⟩ : Fin 2) = 1 from rfl, e1]; blk_simp [ix0_2]

theorem blk3 (c : Dev nD) (t : Fin cfg0.N) (r : Fin 1) (k : Fin 768) (z : S1x5376.Idx) (e0 : (z 0).val = r.val) (e1 : (z 1).val = min (t.val % 11) 6 * 768 + k.val) :
    iblk m c 3 t (ix2 r k) = V m c main_v0 z := by
  unfold iblk
  show V m c main_v0 (((cfg0.win 3).blk t).view.emb (ix2 r k)) = _
  congr 1
  funext a
  apply Fin.ext
  match a with
  | ⟨0, _⟩ => rw [show (⟨0, _⟩ : Fin 2) = 0 from rfl, e0]; blk_simp [ix0_3]
  | ⟨1, _⟩ => rw [show (⟨1, _⟩ : Fin 2) = 1 from rfl, e1]; blk_simp [ix0_3]

theorem blk4 (c : Dev nD) (t : Fin cfg0.N) (r : Fin 5376) (k : Fin 1024) (z : S5376x4096.Idx) (e0 : (z 0).val = r.val) (e1 : (z 1).val = (t.val % 11 - 7) * 1024 + k.val) :
    iblk m c 4 t (ix2 r k) = V m c main_arg4 z := by
  unfold iblk
  show V m c main_arg4 (((cfg0.win 4).blk t).view.emb (ix2 r k)) = _
  congr 1
  funext a
  apply Fin.ext
  match a with
  | ⟨0, _⟩ => rw [show (⟨0, _⟩ : Fin 2) = 0 from rfl, e0]; blk_simp [ix0_4]
  | ⟨1, _⟩ => rw [show (⟨1, _⟩ : Fin 2) = 1 from rfl, e1]; blk_simp [ix0_4]

theorem blk5 (c : Dev nD) (t : Fin cfg0.N) (r : Fin 1) (k : Fin 1024) (z : S1x4096.Idx) (e0 : (z 0).val = r.val) (e1 : (z 1).val = (t.val % 11 - 7) * 1024 + k.val) :
    iblk m c 5 t (ix2 r k) = V m c main_v1 z := by
  unfold iblk
  show V m c main_v1 (((cfg0.win 5).blk t).view.emb (ix2 r k)) = _
  congr 1
  funext a
  apply Fin.ext
  match a with
  | ⟨0, _⟩ => rw [show (⟨0, _⟩ : Fin 2) = 0 from rfl, e0]; blk_simp [ix0_5]
  | ⟨1, _⟩ => rw [show (⟨1, _⟩ : Fin 2) = 1 from rfl, e1]; blk_simp [ix0_5]

theorem blk6 (c : Dev nD) (t : Fin cfg0.N) (r : Fin 576) (k : Fin 1024) (z : S2304x1024.Idx) (e0 : (z 0).val = t.val / 11 * 576 + r.val) (e1 : (z 1).val = k.val) :
    iblk m c 6 t (ix2 r k) = V m c main_arg6 z := by
  unfold iblk
  show V m c main_arg6 (((cfg0.win 6).blk t).view.emb (ix2 r k)) = _
  congr 1
  funext a
  apply Fin.ext
  match a with
  | ⟨0, _⟩ => rw [show (⟨0, _⟩ : Fin 2) = 0 from rfl, e0]; blk_simp [ix0_6]
  | ⟨1, _⟩ => rw [show (⟨1, _⟩ : Fin 2) = 1 from rfl, e1]; blk_simp [ix0_6]

theorem blk7 (c : Dev nD) (t : Fin cfg0.N) (r : Fin 576) (k : Fin 1) (z : S2304x1.Idx) (e0 : (z 0).val = t.val / 11 * 576 + r.val) (e1 : (z 1).val = k.val) :
    iblk m c 7 t (ix2 r k) = V m c main_arg7 z := by
  unfold iblk
  show V m c main_arg7 (((cfg0.win 7).blk t).view.emb (ix2 r k)) = _
  congr 1
  funext a
  apply Fin.ext
  match a with
  | ⟨0, _⟩ => rw [show (⟨0, _⟩ : Fin 2) = 0 from rfl, e0]; blk_simp [ix0_7]
  | ⟨1, _⟩ => rw [show (⟨1, _⟩ : Fin 2) = 1 from rfl, e1]; blk_simp [ix0_7]

theorem blk8 (c : Dev nD) (t : Fin cfg0.N) (r : Fin 1024) (k : Fin 1024) (z : S1024x4096.Idx) (e0 : (z 0).val = r.val) (e1 : (z 1).val = (t.val % 11 - 7) * 1024 + k.val) :
    iblk m c 8 t (ix2 r k) = V m c main_arg8 z := by
  unfold iblk
  show V m c main_arg8 (((cfg0.win 8).blk t).view.emb (ix2 r k)) = _
  congr 1
  funext a
  apply Fin.ext
  match a with
  | ⟨0, _⟩ => rw [show (⟨0, _⟩ : Fin 2) = 0 from rfl, e0]; blk_simp [ix0_8]
  | ⟨1, _⟩ => rw [show (⟨1, _⟩ : Fin 2) = 1 from rfl, e1]; blk_simp [ix0_8]

theorem blk9 (c : Dev nD) (t : Fin cfg0.N) (r : Fin 1) (k : Fin 1024) (z : S1x4096.Idx) (e0 : (z 0).val = r.val) (e1 : (z 1).val = (t.val % 11 - 7) * 1024 + k.val) :
    iblk m c 9 t (ix2 r k) = V m c main_v2 z := by
  unfold iblk
  show V m c main_v2 (((cfg0.win 9).blk t).view.emb (ix2 r k)) = _
  congr 1
  funext a
  apply Fin.ext
  match a with
  | ⟨0, _⟩ => rw [show (⟨0, _⟩ : Fin 2) = 0 from rfl, e0]; blk_simp [ix0_9]
  | ⟨1, _⟩ => rw [show (⟨1, _⟩ : Fin 2) = 1 from rfl, e1]; blk_simp [ix0_9]

theorem blk10 (c : Dev nD) (t : Fin cfg0.N) (r : Fin 576) (k : Fin 1024) (z : S2304x4096.Idx) (e0 : (z 0).val = t.val / 11 * 576 + r.val) (e1 : (z 1).val = (t.val % 11 - 7) * 1024 + k.val) :
    iblk m c 10 t (ix2 r k) = V m c main_arg10 z := by
  unfold iblk
  show V m c main_arg10 (((cfg0.win 10).blk t).view.emb (ix2 r k)) = _
  congr 1
  funext a
  apply Fin.ext
  match a with
  | ⟨0, _⟩ => rw [show (⟨0, _⟩ : Fin 2) = 0 from rfl, e0]; blk_simp [ix0_10]
  | ⟨1, _⟩ => rw [show (⟨1, _⟩ : Fin 2) = 1 from rfl, e1]; blk_simp [ix0_10]

theorem V_main_v0 (c : Dev nD) (u : Fin 1) (j : Fin 5376) : V m c main_v0 (ix2 u j) = m ((c : Thread nD τ).loc main_arg3) (ix1 j) := by
  entry_read
  pointwise

theorem V_main_v1 (c : Dev nD) (u : Fin 1) (j : Fin 4096) : V m c main_v1 (ix2 u j) = m ((c : Thread nD τ).loc main_arg5) (ix1 j) := by
  entry_read
  pointwise

theorem V_main_v2 (c : Dev nD) (u : Fin 1) (j : Fin 4096) : V m c main_v2 (ix2 u j) = m ((c : Thread nD τ).loc main_arg9) (ix1 j) := by
  entry_read
  pointwise

end Cert.KernelIdeal.Hand

end

end
-- ==== Proof.Spec.lean ====
/-
  Hand-written, untrusted. The mathematics of the fused expert layer over the extended reals, free of either program: the
  squared-ReLU hidden layer, a row's scale (its greatest entry over 448, or 1 for a row of zeros), and an entry's code (the
  entry over its row's scale, clipped to ±448). With it the few laws by which a kernel that multiplies by a reciprocal, and takes its
  maxima lane by lane starting from zero, computes the same.
-/
module

public import Idealize.ShloMosaic.PureOps.Ideal.Laws
public import Idealize.ShloMosaic.Lib.Pointwise

@[expose] public section

noncomputable section

namespace Cert.Spec

open Idealize.ShloMosaic

/-- The hidden value of one row and column: `relu(a·w · row scale · column scale)` squared. -/
def hidden {K : ℕ} (a w : Fin K → EReal) (s t : EReal) : EReal :=
  max ((∑ k, a k * w k) * s * t) 0 * max ((∑ k, a k * w k) * s * t) 0

/-- A row's scale, from its greatest entry. -/
def scale (a : EReal) : EReal := if a = 0 then 1 else Ideal.div a ((448 : ℝ) : EReal)

/-- An entry's code, from the entry and its row's scale. -/
def code (h s : EReal) : EReal := min ((448 : ℝ) : EReal) (max ((-448 : ℝ) : EReal) (Ideal.div h s))

/-- One entry of the output: the residual, the down projection of the codes, the latent up projection. -/
def out {K L : ℕ} (x : EReal) (q d : Fin K → EReal) (s t : EReal) (e u : Fin L → EReal) (s' t' : EReal) : EReal :=
  x + (∑ k, q k * d k) * s * t + (∑ k, e k * u k) * s' * t'

theorem hidden_nonneg {K : ℕ} (a w : Fin K → EReal) (s t : EReal) : 0 ≤ hidden a w s t :=
  EReal.mul_nonneg (le_max_right _ _) (le_max_right _ _)

/-- The magnitude of a nonnegative value is the value. -/
theorem abs_of_nonneg {h : EReal} (hh : 0 ≤ h) : max h (-h) = h :=
  max_eq_left ((EReal.neg_le.mp (by rw [neg_zero]; exact hh)).trans hh)

/-- A scale is never zero. -/
theorem scale_ne_zero (a : EReal) : scale a ≠ 0 := by
  unfold scale
  split
  · exact one_ne_zero
  · rename_i h
    rw [Ideal.div_coe (by norm_num : (448 : ℝ) ≠ 0)]
    intro e
    rcases mul_eq_zero.mp e with e | e
    · exact h e
    · norm_num at e

/-- The scale as the kernel takes it, by a multiplication. -/
theorem scale_mul (a : EReal) : (if a = 0 then 1 else a * ((1 / 448 : ℝ) : EReal)) = scale a := by
  unfold scale
  rw [Ideal.div_coe (by norm_num : (448 : ℝ) ≠ 0)]

/-- A quotient as the kernel takes it, by the reciprocal. -/
theorem mul_recip (h : EReal) {s : EReal} (hs : s ≠ 0) : h * Ideal.div 1 s = Ideal.div h s := by
  unfold Ideal.div
  rw [if_neg hs, if_neg hs, one_mul]

theorem code_recip (h a : EReal) :
    min ((448 : ℝ) : EReal) (max ((-448 : ℝ) : EReal) (h * Ideal.div 1 (scale a))) = code h (scale a) := by
  rw [mul_recip _ (scale_ne_zero a)]; rfl

/-! ## The literals -/

theorem lit_448 : Ideal.ofBits .f32 0x43E00000#32 = ((448 : ℝ) : EReal) := by
  simp [Ideal.ofBits, Ideal.ieee, -EReal.coe_mul]; norm_num
theorem lit_neg448 : Ideal.ofBits .f32 0xC3E00000#32 = ((-448 : ℝ) : EReal) := by
  simp [Ideal.ofBits, Ideal.ieee, -EReal.coe_mul]; norm_num
theorem lit_bot : Ideal.ofBits .f32 0xFF800000#32 = ⊥ := by
  simp [Ideal.ofBits, Ideal.ieee]

/-! ## A row's maximum -/

/-- A row maximum from −∞ is the least upper bound of the row. -/
theorem rowMax_apply {n0 n1 : ℕ} (h : (⟨2, ![n0, n1]⟩ : Shape).Reduces [1] ⟨1, ![n0]⟩) (hφ : FKind.Formats .f32)
    (hacc : 0xFF800000#32 = FKind.maximumf.neutral .f32 hφ) (X : FVec Ideal ⟨2, ![n0, n1]⟩ .f32) (i : Fin n0) :
    multiReduction .maximumf [1] ⟨1, ![n0]⟩ X 0xFF800000#32 h hφ hacc (ix1 i)
      = Finset.univ.sup (fun j : Fin n1 => (X (ix2 i j) : EReal)) := by
  rw [Ideal.multiReduction_maximumf_single]
  have e : (FloatOps.ofBits (F := Ideal) .f32 0xFF800000#32 : EReal) = ⊥ := lit_bot
  have e2 : (X ∘ h.lift (ix1 i)) = fun j : Fin n1 => X (ix2 i j) := by
    funext j
    show X (h.lift (ix1 i) j) = X (ix2 i j)
    congr 1
    funext a
    apply Fin.ext
    rw [h.lift_val]
    match a with
    | ⟨0, _⟩ => simp [Shape.Reduces.liftVal]
    | ⟨1, _⟩ => simp [Shape.Reduces.liftVal]
  rw [e2, e]
  rfl

/-- The same of magnitudes, where every entry is nonnegative. -/
theorem rowAbsMax_apply {n0 n1 : ℕ} (h : (⟨2, ![n0, n1]⟩ : Shape).Reduces [1] ⟨1, ![n0]⟩) (hφ : FKind.Formats .f32)
    (hacc : 0xFF800000#32 = FKind.maximumf.neutral .f32 hφ) (X : FVec Ideal ⟨2, ![n0, n1]⟩ .f32) (hX : ∀ i j, (0 : EReal) ≤ X (ix2 i j)) (i : Fin n0) :
    multiReduction .maximumf [1] ⟨1, ![n0]⟩ (absf X) 0xFF800000#32 h hφ hacc (ix1 i)
      = Finset.univ.sup (fun j : Fin n1 => (X (ix2 i j) : EReal)) := by
  rw [rowMax_apply]
  congr 1
  funext j
  exact abs_of_nonneg (hX i j)

end Cert.Spec

end

end
-- ==== Proof.KerPay.lean ====
/-
  Hand-written, untrusted. What the fused expert kernel computes at each step from its blocks, element by element, over the extended
  reals.
-/
module

public import proofs.«01_k».proof.Proof.IdealBody
public import proofs.«01_k».proof.Proof.Spec
public import Idealize.ShloMosaic.Lib.Pointwise

@[expose] public section

set_option maxRecDepth 16384

noncomputable section

namespace Cert.KernelIdeal.Hand

open Cert.KernelIdeal Cert.KernelIdeal.Gen Cert.Spec
open Idealize.ShloMosaic

theorem pay1_apply (v9 : Vec Ideal S576x4096 .fp8e4m3) (v10 : Vec Ideal S4096x768 .fp8e4m3) (v12 : Vec Ideal S576x1 .f32) (v15 : Vec Ideal S1x768 .f32)
    (r : Fin 576) (q : Fin 768) :
    k0_pay1 (F := Ideal) v9 v10 v12 v15 (ix2 r q)
      = Cert.Spec.hidden (fun k => v9 (ix2 r k)) (fun k => v10 (ix2 k q)) (v12 (ix2 r 0)) (v15 (ix2 0 q)) := by
  unfold Cert.Spec.hidden
  pointwise [k0_pay1]

theorem pay2_apply (v9 : Vec Ideal S576x4096 .fp8e4m3) (v10 : Vec Ideal S4096x768 .fp8e4m3) (v12 : Vec Ideal S576x1 .f32) (v15 : Vec Ideal S1x768 .f32)
    (r : Fin 576) (q : Fin 768) :
    k0_pay2 (F := Ideal) v9 v10 v12 v15 (ix2 r q)
      = Cert.Spec.hidden (fun k => v9 (ix2 r k)) (fun k => v10 (ix2 k q)) (v12 (ix2 r 0)) (v15 (ix2 0 q)) := by
  rw [← pay1_apply]
  have gen : ∀ X : FVec Ideal S576x768 .f32, shapeCast S576x768 X shapeCasts_S576x768_S576x768 (ix2 r q) = X (ix2 r q) := by
    intro X; pointwise
  unfold k0_pay2
  exact gen _

/-- The lanes' maxima of a step: the six lane tiles of the step's block, and the maximum found (zero at the first step). -/
theorem pay3_apply (i : grid0.Coords) (v9 : Vec Ideal S576x4096 .fp8e4m3) (v10 : Vec Ideal S4096x768 .fp8e4m3) (v12 : Vec Ideal S576x1 .f32) (v15 : Vec Ideal S1x768 .f32)
    (P : Vec Ideal S576x128 .f32) (r : Fin 576) (l : Fin 128) (X : FVec Ideal S576x768 .f32) (hX : k0_pay1 (F := Ideal) v9 v10 v12 v15 = X) :
    k0_pay3 (F := Ideal) i v9 v10 v12 v15 P (ix2 r l)
      = max (max (max (max (max (max (X (ix2 r ⟨l.val, by omega⟩)) (X (ix2 r ⟨128 + l.val, by omega⟩))) (X (ix2 r ⟨256 + l.val, by omega⟩)))
          (X (ix2 r ⟨384 + l.val, by omega⟩))) (X (ix2 r ⟨512 + l.val, by omega⟩))) (X (ix2 r ⟨640 + l.val, by omega⟩)))
          (Scalar.select (Scalar.cmpi .eq (BitVec.ofNat 32 (i 1).val) 0#32) 0 (P (ix2 r l))) := by
  unfold k0_pay3
  rw [hX]
  generalize (Scalar.cmpi .eq (BitVec.ofNat 32 (i 1).val) 0#32) = b
  pointwise

theorem pay4_apply (P : Vec Ideal S576x128 .f32) (r : Fin 576) (u : Fin 1) :
    k0_pay4 (F := Ideal) P (ix2 r u) = scale (Finset.univ.sup fun l : Fin 128 => (P (ix2 r l) : EReal)) := by
  have e := rowMax_apply reduces_S576x128_S576 (.inl rfl) rfl P r
  rw [← scale_mul, ← e]
  have hk : (Named.named (F := Ideal) κ "inv_fp8_max" 0x3B124925#32 : Ideal .f32) = ((1 / 448 : ℝ) : EReal) :=
    IdealRules.named_const.ideal_named_scalar _ _ _ _ rfl
  unfold k0_pay4
  rw [hk]
  generalize (multiReduction .maximumf [1] S576 P 0xFF800000#32 reduces_S576x128_S576 (.inl rfl) rfl : FVec Ideal S576 .f32) = M
  generalize ((1 / 448 : ℝ) : EReal) = k
  pointwise

theorem pay5_apply (P : Vec Ideal S576x128 .f32) (r : Fin 576) (l : Fin 128) :
    k0_pay5 (F := Ideal) P (ix2 r l) = k0_pay4 (F := Ideal) P (ix2 r 0) := by
  have gen : ∀ X : FVec Ideal S576x1 .f32,
      shapeCast S576x128 (broadcastTo S576x128 (shapeCast S576x1 X shapeCasts_S576x1_S576x1) broadcasts_S576x1_S576x128) shapeCasts_S576x128_S576x128 (ix2 r l)
        = X (ix2 r 0) := by
    intro X; pointwise
  exact gen _

theorem pay6_apply (S : Vec Ideal S32x5376 .f32) (Q : Vec Ideal S32x1 .f32) (r : Fin 32) (j : Fin 5376) :
    k0_pay6 (F := Ideal) S Q (ix2 r j)
      = min ((448 : ℝ) : EReal) (max ((-448 : ℝ) : EReal) (S (ix2 r j) * Ideal.div 1 (Q (ix2 r 0)))) := by
  rw [← lit_448, ← lit_neg448]
  pointwise [k0_pay6]

theorem pay7_apply (v9 : Vec Ideal S576x5376 .fp8e4m3) (v11 : Vec Ideal S5376x1024 .fp8e4m3) (v13 : Vec Ideal S576x1 .f32) (v16 : Vec Ideal S1x1024 .f32)
    (v20 : Vec Ideal S576x1024 .fp8e4m3) (v21 : Vec Ideal S1024x1024 .fp8e4m3) (v23 : Vec Ideal S576x1 .f32) (v26 : Vec Ideal S1x1024 .f32)
    (v30 : Vec Ideal S576x1024 .f32) (r : Fin 576) (j : Fin 1024) :
    k0_pay7 (F := Ideal) v9 v11 v13 v16 v20 v21 v23 v26 v30 (ix2 r j)
      = out (v30 (ix2 r j)) (fun k => v9 (ix2 r k)) (fun k => v11 (ix2 k j)) (v13 (ix2 r 0)) (v16 (ix2 0 j))
          (fun k => v20 (ix2 r k)) (fun k => v21 (ix2 k j)) (v23 (ix2 r 0)) (v26 (ix2 0 j)) := by
  unfold out
  pointwise [k0_pay7]

end Cert.KernelIdeal.Hand

end

end
-- ==== Proof.IdealValue.lean ====
/-
  Hand-written, untrusted. The three output arrays of the fused expert kernel, element by element, over the extended reals: the hidden
  value of a row and column, the row's scale, its codes, and the output, all of the argument arrays. The kernel keeps a row's maximum as
  128 running lane maxima over seven steps; here they are put together to the maximum over the row's 5376 columns.
-/
module

public import proofs.«01_k».proof.Proof.IdealFinal
public import proofs.«01_k».proof.Proof.KerPay

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-- The hidden value of row `i` and column `j`. -/
def H (i : Fin 2304) (j : Fin 5376) : EReal :=
  Cert.Spec.hidden (fun k : Fin 4096 => (m ((c : Thread nD τ).loc main_arg0) (ix2 i k) : EReal))
    (fun k : Fin 4096 => (m ((c : Thread nD τ).loc main_arg2) (ix2 k j) : EReal))
    (m ((c : Thread nD τ).loc main_arg1) (ix2 i 0)) (m ((c : Thread nD τ).loc main_arg3) (ix1 j))

theorem H_nonneg (i : Fin 2304) (j : Fin 5376) : 0 ≤ H m c i j := Cert.Spec.hidden_nonneg _ _ _ _

/-- The scale of row `i`. -/
def Sc (i : Fin 2304) : EReal := Cert.Spec.scale (Finset.univ.sup fun j => H m c i j)

theorem pt_div {T s : ℕ} (hT : T < 4) (hs : s < 11) : (pt T s).val / 11 = T := by
  show (11 * T + s) % 44 / 11 = T
  omega
theorem pt_mod {T s : ℕ} (hT : T < 4) (hs : s < 11) : (pt T s).val % 11 = s := by
  show (11 * T + s) % 44 % 11 = s
  omega

/-! ## The hidden tile -/

theorem pay1_blk (t : Fin cfg0.N) (ht : t.val % 11 ≤ 6) (r : Fin 576) (q : Fin 768) (i : Fin 2304) (j : Fin 5376)
    (hi : i.val = t.val / 11 * 576 + r.val) (hj : j.val = t.val % 11 * 768 + q.val) :
    k0_pay1 (F := Ideal) (iblk m c 0 t) (iblk m c 2 t) (iblk m c 1 t) (iblk m c 3 t) (ix2 r q) = H m c i j := by
  have hm : min (t.val % 11) 6 = t.val % 11 := Nat.min_eq_left ht
  rw [pay1_apply]
  unfold H
  have e0 : ∀ k : Fin 4096, iblk m c 0 t (ix2 r k) = m ((c : Thread nD τ).loc main_arg0) (ix2 i k) := fun k => by
    rw [blk0 m c t r k (ix2 i k) hi rfl, V_main_arg0]
  have e2 : ∀ k : Fin 4096, iblk m c 2 t (ix2 k q) = m ((c : Thread nD τ).loc main_arg2) (ix2 k j) := fun k => by
    rw [blk2 m c t k q (ix2 k j) rfl (by rw [hm]; exact hj), V_main_arg2]
  have e1 : iblk m c 1 t (ix2 r 0) = m ((c : Thread nD τ).loc main_arg1) (ix2 i 0) := by
    rw [blk1 m c t r 0 (ix2 i 0) hi rfl, V_main_arg1]
  have e3 : iblk m c 3 t (ix2 0 q) = m ((c : Thread nD τ).loc main_arg3) (ix1 j) := by
    rw [blk3 m c t 0 q (ix2 0 j) rfl (by rw [hm]; exact hj), V_main_v0]
  congr 1
  · funext k; exact e0 k
  · funext k; exact e2 k

theorem hid_apply {T : ℕ} (hT : T < 4) (r : Fin 576) (j : Fin 5376) (i : Fin 2304) (hi : i.val = T * 576 + r.val) :
    hid m c T (ix2 r j) = H m c i j := by
  have hj := j.isLt
  have hs : j.val / 768 < 11 := by omega
  rw [← pay1_blk m c (pt T (j.val / 768)) (by rw [pt_mod hT hs]; omega) r ⟨j.val % 768, Nat.mod_lt _ (by decide)⟩ i j
    (by rw [pt_div hT hs]; exact hi) (by rw [pt_mod hT hs]; show j.val = j.val / 768 * 768 + j.val % 768; omega)]
  rw [pay1_apply, ← pay2_apply]
  unfold hid up
  congr 1
  funext a
  match a with
  | ⟨0, _⟩ => rfl
  | ⟨1, _⟩ => rfl

/-! ## The running maxima -/

/-- Six lane tiles bounded are the block's columns of the lane bounded. -/
theorem lanes_le {i : Fin 2304} {s : ℕ} (hs : s ≤ 6) (l : Fin 128) (X : Fin 768 → EReal)
    (hX : ∀ (q : Fin 768) (j : Fin 5376), j.val = s * 768 + q.val → X q = H m c i j) (b : EReal) :
    max (max (max (max (max (X ⟨l.val, by omega⟩) (X ⟨128 + l.val, by omega⟩)) (X ⟨256 + l.val, by omega⟩))
          (X ⟨384 + l.val, by omega⟩)) (X ⟨512 + l.val, by omega⟩)) (X ⟨640 + l.val, by omega⟩) ≤ b
      ↔ ∀ j : Fin 5376, s * 768 ≤ j.val → j.val < (s + 1) * 768 → j.val % 128 = l.val → H m c i j ≤ b := by
  have hl := l.isLt
  simp only [max_le_iff]
  constructor
  · rintro ⟨⟨⟨⟨⟨h0, h1⟩, h2⟩, h3⟩, h4⟩, h5⟩ j ha hb hc
    have hj := j.isLt
    have hq : (j.val - s * 768) < 768 := by omega
    rw [← hX ⟨j.val - s * 768, hq⟩ j (by show j.val = s * 768 + (j.val - s * 768); omega)]
    have hd : (j.val - s * 768) / 128 < 6 := by omega
    have hm : (j.val - s * 768) % 128 = l.val := by omega
    obtain e | e | e | e | e | e : j.val - s * 768 = l.val ∨ j.val - s * 768 = 128 + l.val ∨ j.val - s * 768 = 256 + l.val
        ∨ j.val - s * 768 = 384 + l.val ∨ j.val - s * 768 = 512 + l.val ∨ j.val - s * 768 = 640 + l.val := by omega
    · rw [show (⟨j.val - s * 768, hq⟩ : Fin 768) = ⟨l.val, by omega⟩ from Fin.ext e]; exact h0
    · rw [show (⟨j.val - s * 768, hq⟩ : Fin 768) = ⟨128 + l.val, by omega⟩ from Fin.ext e]; exact h1
    · rw [show (⟨j.val - s * 768, hq⟩ : Fin 768) = ⟨256 + l.val, by omega⟩ from Fin.ext e]; exact h2
    · rw [show (⟨j.val - s * 768, hq⟩ : Fin 768) = ⟨384 + l.val, by omega⟩ from Fin.ext e]; exact h3
    · rw [show (⟨j.val - s * 768, hq⟩ : Fin 768) = ⟨512 + l.val, by omega⟩ from Fin.ext e]; exact h4
    · rw [show (⟨j.val - s * 768, hq⟩ : Fin 768) = ⟨640 + l.val, by omega⟩ from Fin.ext e]; exact h5
  · intro h
    have g : ∀ (d : ℕ) (hd : d < 6), X ⟨128 * d + l.val, by omega⟩ ≤ b := fun d hd => by
      rw [hX ⟨128 * d + l.val, by omega⟩ ⟨s * 768 + (128 * d + l.val), by omega⟩ rfl]
      refine h _ ?_ ?_ ?_
      · show s * 768 ≤ s * 768 + (128 * d + l.val); omega
      · show s * 768 + (128 * d + l.val) < (s + 1) * 768; omega
      · show (s * 768 + (128 * d + l.val)) % 128 = l.val; omega
    have g0 := g 0 (by omega)
    simp only [Nat.mul_zero, Nat.zero_add] at g0
    exact ⟨⟨⟨⟨⟨g0, g 1 (by omega)⟩, g 2 (by omega)⟩, g 3 (by omega)⟩, g 4 (by omega)⟩, g 5 (by omega)⟩

theorem peakStep_le {T s : ℕ} (hT : T < 4) (hs : s ≤ 6) (P : Vec Ideal S576x128 .f32) (r : Fin 576) (l : Fin 128) (i : Fin 2304)
    (hi : i.val = T * 576 + r.val) (b : EReal) :
    (peakStep m c (pt T s) P (ix2 r l) : EReal) ≤ b
      ↔ (∀ j : Fin 5376, s * 768 ≤ j.val → j.val < (s + 1) * 768 → j.val % 128 = l.val → H m c i j ≤ b)
        ∧ (if s = 0 then 0 else (P (ix2 r l) : EReal)) ≤ b := by
  have hs' : s < 11 := by omega
  unfold peakStep
  rw [pay3_apply (grid0.coords (pt T s)) _ _ _ _ P r l _ rfl]
  have hsel : (Scalar.select (Scalar.cmpi .eq (BitVec.ofNat 32 (grid0.coords (pt T s) 1).val) 0#32) (0 : EReal) (P (ix2 r l)) : EReal)
      = if s = 0 then 0 else (P (ix2 r l) : EReal) := by
    rw [coord1, pt_mod hT hs']
    interval_cases s <;> rfl
  rw [hsel, max_le_iff]
  refine and_congr_left fun _ => ?_
  exact lanes_le m c hs l (fun q => k0_pay1 (F := Ideal) (iblk m c 0 (pt T s)) (iblk m c 2 (pt T s)) (iblk m c 1 (pt T s)) (iblk m c 3 (pt T s)) (ix2 r q))
    (fun q j hj => pay1_blk m c (pt T s) (by rw [pt_mod hT hs']; exact hs) r q i j (by rw [pt_div hT hs']; exact hi)
      (by rw [pt_mod hT hs']; exact hj)) b

theorem step_lt {s j : ℕ} (h : j < (s + 1) * 768) : j < (s + 1 + 1) * 768 :=
  Nat.lt_of_lt_of_le h (Nat.mul_le_mul_right _ (Nat.le_succ _))

/-- A bound of a lane after step `s` is a nonnegative bound of the lane's columns up to the step's. -/
theorem pk_le {T : ℕ} (hT : T < 4) (r : Fin 576) (l : Fin 128) (i : Fin 2304) (hi : i.val = T * 576 + r.val) (s : ℕ) (hs : s ≤ 6) (b : EReal) :
    (pk m c T s (ix2 r l) : EReal) ≤ b ↔ (∀ j : Fin 5376, j.val < (s + 1) * 768 → j.val % 128 = l.val → H m c i j ≤ b) ∧ 0 ≤ b := by
  induction s with
  | zero =>
    unfold pk
    rw [peakStep_le m c hT (by omega) _ r l i hi b, if_pos rfl]
    refine and_congr_left fun _ => ⟨fun h j hb hc => h j (by omega) hb hc, fun h j _ hb hc => h j hb hc⟩
  | succ s ih =>
    unfold pk
    rw [peakStep_le m c hT hs _ r l i hi b, if_neg (by omega), ih (by omega)]
    constructor
    · rintro ⟨h1, h2, h3⟩
      refine ⟨fun j hb hc => ?_, h3⟩
      by_cases h : j.val < (s + 1) * 768
      · exact h2 j h hc
      · exact h1 j (by omega) hb hc
    · rintro ⟨h1, h3⟩
      refine ⟨?_, ?_, h3⟩
      · intro j ha hb hc
        exact h1 j hb hc
      · intro j hb hc
        exact h1 j (step_lt hb) hc

/-- The greatest lane after the last step is the row's greatest hidden value. -/
theorem pk_sup {T : ℕ} (hT : T < 4) (r : Fin 576) (i : Fin 2304) (hi : i.val = T * 576 + r.val) :
    (Finset.univ.sup fun l : Fin 128 => (pk m c T 6 (ix2 r l) : EReal)) = Finset.univ.sup fun j => H m c i j := by
  refine eq_of_forall_ge_iff fun b => ?_
  rw [Finset.sup_le_iff, Finset.sup_le_iff]
  constructor
  · intro h j _
    have hj := j.isLt
    exact ((pk_le m c hT r ⟨j.val % 128, Nat.mod_lt _ (by decide)⟩ i hi 6 (by omega) b).mp (h _ (Finset.mem_univ _))).1 j (by omega) rfl
  · intro h l _
    exact (pk_le m c hT r l i hi 6 (by omega) b).mpr
      ⟨fun j _ _ => h j (Finset.mem_univ _), (H_nonneg m c i 0).trans (h 0 (Finset.mem_univ _))⟩

/-! ## The scales, the codes and the output of a tile -/

theorem sclCol_apply {T : ℕ} (hT : T < 4) (r : Fin 576) (u : Fin 1) (i : Fin 2304) (hi : i.val = T * 576 + r.val) :
    sclCol m c T (ix2 r u) = Sc m c i := by
  unfold sclCol Sc
  rw [pay4_apply, pk_sup m c hT r i hi]

theorem scl_apply {T : ℕ} (hT : T < 4) (r : Fin 576) (l : Fin 128) (i : Fin 2304) (hi : i.val = T * 576 + r.val) :
    scl m c T (ix2 r l) = Sc m c i := by
  unfold scl
  rw [pay5_apply, ← sclCol_apply m c hT r 0 i hi]
  rfl

theorem codesOf_apply (S : Vec Ideal S576x5376 .f32) (Q : Vec Ideal S576x128 .f32) (r : Fin 576) (j : Fin 5376) :
    codesOf S Q (ix2 r j) = min ((448 : ℝ) : EReal) (max ((-448 : ℝ) : EReal) (S (ix2 r j) * Ideal.div 1 (Q (ix2 r 0)))) := by
  have hr := r.isLt
  refine Eq.trans ?_ ((pay6_apply (VecWindow.window S ![32 * (r.val / 32), 0] ![32, 5376] (blk_inb (ix2 r j)))
    (VecWindow.window Q ![32 * (r.val / 32), 0] ![32, 1] (blk_inb' (ix2 r j))) ⟨r.val % 32, Nat.mod_lt _ (by decide)⟩ j).trans ?_)
  · unfold codesOf
    congr 1
    funext a
    match a with
    | ⟨0, _⟩ => rfl
    | ⟨1, _⟩ => rfl
  · have a1 : VecWindow.window S ![32 * (r.val / 32), 0] ![32, 5376] (blk_inb (ix2 r j)) (ix2 ⟨r.val % 32, Nat.mod_lt _ (by decide)⟩ j) = S (ix2 r j) := by
      show S _ = S _
      congr 1
      funext a
      apply Fin.ext
      match a with
      | ⟨0, _⟩ => exact (ValueKit.rect_emb_unit_val _ _ _ _ _).trans (by show 32 * (r.val / 32) + r.val % 32 = r.val; omega)
      | ⟨1, _⟩ => exact (ValueKit.rect_emb_unit_val _ _ _ _ _).trans (Nat.zero_add _)
    have a2 : VecWindow.window Q ![32 * (r.val / 32), 0] ![32, 1] (blk_inb' (ix2 r j)) (ix2 ⟨r.val % 32, Nat.mod_lt _ (by decide)⟩ 0) = Q (ix2 r 0) := by
      show Q _ = Q _
      congr 1
      funext a
      apply Fin.ext
      match a with
      | ⟨0, _⟩ => exact (ValueKit.rect_emb_unit_val _ _ _ _ _).trans (by show 32 * (r.val / 32) + r.val % 32 = r.val; omega)
      | ⟨1, _⟩ => exact (ValueKit.rect_emb_unit_val _ _ _ _ _).trans (Nat.zero_add _)
    rw [a1, a2]

theorem cod_apply {T : ℕ} (hT : T < 4) (r : Fin 576) (j : Fin 5376) (i : Fin 2304) (hi : i.val = T * 576 + r.val) :
    cod m c T (ix2 r j) = Cert.Spec.code (H m c i j) (Sc m c i) := by
  unfold cod
  rw [codesOf_apply, hid_apply m c hT r j i hi, scl_apply m c hT r 0 i hi]
  exact Cert.Spec.code_recip _ _

/-! ## The arrays -/

theorem sclA_apply (i : Fin 2304) (u : Fin 1) : sclA m c (ix2 i u) = Sc m c i := by
  have h := i.isLt
  unfold sclA
  exact sclCol_apply m c (T := i.val / 576) (by omega) ⟨i.val % 576, Nat.mod_lt _ (by decide)⟩ u i (by show i.val = i.val / 576 * 576 + i.val % 576; omega)

theorem codA_apply (i : Fin 2304) (j : Fin 5376) : codA m c (ix2 i j) = Cert.Spec.code (H m c i j) (Sc m c i) := by
  have h := i.isLt
  unfold codA
  exact cod_apply m c (T := i.val / 576) (by omega) ⟨i.val % 576, Nat.mod_lt _ (by decide)⟩ j i (by show i.val = i.val / 576 * 576 + i.val % 576; omega)

theorem outA_apply (i : Fin 2304) (j : Fin 4096) :
    outA m c (ix2 i j)
      = Cert.Spec.out (m ((c : Thread nD τ).loc main_arg10) (ix2 i j)) (fun k : Fin 5376 => Cert.Spec.code (H m c i k) (Sc m c i))
          (fun k : Fin 5376 => (m ((c : Thread nD τ).loc main_arg4) (ix2 k j) : EReal)) (Sc m c i) (m ((c : Thread nD τ).loc main_arg5) (ix1 j))
          (fun k : Fin 1024 => (m ((c : Thread nD τ).loc main_arg6) (ix2 i k) : EReal))
          (fun k : Fin 1024 => (m ((c : Thread nD τ).loc main_arg8) (ix2 k j) : EReal)) (m ((c : Thread nD τ).loc main_arg7) (ix2 i 0))
          (m ((c : Thread nD τ).loc main_arg9) (ix1 j)) := by
  have hi := i.isLt
  have hj := j.isLt
  have hT : i.val / 576 < 4 := by omega
  have hs : 7 + j.val / 1024 < 11 := by omega
  have hr : i.val = i.val / 576 * 576 + i.val % 576 := by omega
  obtain ⟨t, ht⟩ : ∃ t, t = pt (i.val / 576) (7 + j.val / 1024) := ⟨_, rfl⟩
  obtain ⟨r, er⟩ : ∃ r : Fin 576, r = ⟨i.val % 576, Nat.mod_lt _ (by decide)⟩ := ⟨_, rfl⟩
  obtain ⟨q, eq⟩ : ∃ q : Fin 1024, q = ⟨j.val % 1024, Nat.mod_lt _ (by decide)⟩ := ⟨_, rfl⟩
  have td : t.val / 11 = i.val / 576 := by rw [ht]; exact pt_div hT hs
  have tm : t.val % 11 - 7 = j.val / 1024 := by rw [ht, pt_mod hT hs]; omega
  have zr : i.val = t.val / 11 * 576 + r.val := by rw [td, er]; exact hr
  have zq : j.val = (t.val % 11 - 7) * 1024 + q.val := by rw [tm, eq]; show j.val = j.val / 1024 * 1024 + j.val % 1024; omega
  have e0 : outA m c (ix2 i j) = outB m c t (ix2 r q) := by rw [ht, er, eq]; rfl
  rw [e0]
  unfold outB
  rw [pay7_apply]
  have d10 : iblk m c 10 t (ix2 r q) = m ((c : Thread nD τ).loc main_arg10) (ix2 i j) := by
    rw [blk10 m c t r q (ix2 i j) zr zq, V_main_arg10]
  have dcod : ∀ k : Fin 5376, cod m c (t.val / 11) (ix2 r k) = Cert.Spec.code (H m c i k) (Sc m c i) := fun k =>
    cod_apply m c (by omega) r k i zr
  have d4 : ∀ k : Fin 5376, iblk m c 4 t (ix2 k q) = m ((c : Thread nD τ).loc main_arg4) (ix2 k j) := fun k => by
    rw [blk4 m c t k q (ix2 k j) rfl zq, V_main_arg4]
  have dscl : VecWindow.window (scl m c (t.val / 11)) ![0, 0] ![576, 1] inb_S576x128_S576x1_0_0 (ix2 r 0) = Sc m c i := by
    rw [← scl_apply m c (T := t.val / 11) (by omega) r 0 i zr]
    show scl m c (t.val / 11) _ = scl m c (t.val / 11) _
    congr 1
    funext a
    apply Fin.ext
    match a with
    | ⟨0, _⟩ => exact (ValueKit.rect_emb_unit_val _ _ _ _ _).trans (Nat.zero_add _)
    | ⟨1, _⟩ => exact (ValueKit.rect_emb_unit_val _ _ _ _ _).trans (Nat.zero_add _)
  have d5 : iblk m c 5 t (ix2 0 q) = m ((c : Thread nD τ).loc main_arg5) (ix1 j) := by
    rw [blk5 m c t 0 q (ix2 0 j) rfl zq, V_main_v1]
  have d6 : ∀ k : Fin 1024, iblk m c 6 t (ix2 r k) = m ((c : Thread nD τ).loc main_arg6) (ix2 i k) := fun k => by
    rw [blk6 m c t r k (ix2 i k) zr rfl, V_main_arg6]
  have d7 : iblk m c 7 t (ix2 r 0) = m ((c : Thread nD τ).loc main_arg7) (ix2 i 0) := by
    rw [blk7 m c t r 0 (ix2 i 0) zr rfl, V_main_arg7]
  have d8 : ∀ k : Fin 1024, iblk m c 8 t (ix2 k q) = m ((c : Thread nD τ).loc main_arg8) (ix2 k j) := fun k => by
    rw [blk8 m c t k q (ix2 k j) rfl zq, V_main_arg8]
  have d9 : iblk m c 9 t (ix2 0 q) = m ((c : Thread nD τ).loc main_arg9) (ix1 j) := by
    rw [blk9 m c t 0 q (ix2 0 j) rfl zq, V_main_v2]
  rw [d10, dscl, d5, d7, d9, funext dcod, funext d4, funext d6, funext d8]

end Cert.KernelIdeal.Hand

end

end
-- ==== Proof.RefValue.lean ====
/-
  Hand-written, untrusted. The reference's three results at an index, over the extended reals.
-/
module

public import proofs.«01_k».proof.Proof.Gen.ReferenceIdeal.Value
public import proofs.«01_k».proof.Proof.Spec
public import Idealize.ShloMosaic.Lib.Pointwise

@[expose] public section

set_option maxRecDepth 16384

noncomputable section

namespace Cert.ReferenceIdeal.Hand

open Cert.ReferenceIdeal Cert.ReferenceIdeal.Gen Cert.Spec
open Idealize.ShloMosaic Idealize.SL.Sem

/-- The rows' greatest magnitudes. -/
def absMax (X : FVec Ideal S2304x5376 .f32) : FVec Ideal S2304 .f32 :=
  multiReduction .maximumf [1] S2304 (absf X) 0xFF800000#32 reduces_S2304x5376_S2304 (.inl rfl) rfl

/-- The rows' scales, from these. -/
def sclOf (M : FVec Ideal S2304 .f32) : FVec Ideal S2304 .f32 :=
  select (cmpf .oeq M (broadcast S2304 (Scalar.ofBits .f32 0x00000000#32))) (broadcast S2304 (Scalar.ofBits .f32 0x3F800000#32))
    (divf M (broadcast S2304 (Scalar.ofBits .f32 0x43E00000#32)))

/-- The codes, from the values and their rows' scales. -/
def codOf (X : FVec Ideal S2304x5376 .f32) (s : FVec Ideal S2304 .f32) : FVec Ideal S2304x5376 .fp8e4m3 :=
  truncf .fp8e4m3 (minimumf (broadcast S2304x5376 (Scalar.ofBits .f32 0x43E00000#32)) (maximumf (broadcast S2304x5376 (Scalar.ofBits .f32 0xC3E00000#32))
    (divf X (broadcastTo S2304x5376 (shapeCast S2304x1 s shapeCasts_S2304_S2304x1) broadcasts_S2304x1_S2304x5376)))) bitsLt_fp8e4m3_f32

theorem pay3_eq (a0 : Vec Ideal S2304x4096 .fp8e4m3) (a1 : Vec Ideal S2304x1 .f32) (a2 : Vec Ideal S4096x5376 .fp8e4m3) (a3 : Vec Ideal S5376 .f32) :
    k0_pay3 (F := Ideal) a0 a1 a2 a3 = sclOf (absMax (k0_pay2 (F := Ideal) a0 a1 a2 a3)) := by
  unfold k0_pay3 sclOf absMax; rfl
theorem pay4_eq (a0 : Vec Ideal S2304x4096 .fp8e4m3) (a1 : Vec Ideal S2304x1 .f32) (a2 : Vec Ideal S4096x5376 .fp8e4m3) (a3 : Vec Ideal S5376 .f32) :
    k0_pay4 (F := Ideal) a0 a1 a2 a3 = codOf (k0_pay2 (F := Ideal) a0 a1 a2 a3) (k0_pay3 (F := Ideal) a0 a1 a2 a3) := by
  unfold k0_pay4 codOf; rfl

theorem codOf_apply (X : FVec Ideal S2304x5376 .f32) (s : FVec Ideal S2304 .f32) (i : Fin 2304) (j : Fin 5376) :
    codOf X s (ix2 i j) = code (X (ix2 i j)) (s (ix1 i)) := by
  unfold code
  rw [← lit_448, ← lit_neg448]
  pointwise [codOf]

theorem absMax_apply (X : FVec Ideal S2304x5376 .f32) (hX : ∀ i j, (0 : EReal) ≤ X (ix2 i j)) (i : Fin 2304) :
    absMax X (ix1 i) = Finset.univ.sup (fun j : Fin 5376 => (X (ix2 i j) : EReal)) := by
  unfold absMax
  exact rowAbsMax_apply reduces_S2304x5376_S2304 (.inl rfl) rfl X hX i

theorem sclOf_apply (M : FVec Ideal S2304 .f32) (i : Fin 2304) : sclOf M (ix1 i) = scale (M (ix1 i)) := by
  unfold sclOf scale
  rw [← lit_448]
  pointwise

variable (a0 : Vec Ideal S2304x4096 .fp8e4m3) (a1 : Vec Ideal S2304x1 .f32) (a2 : Vec Ideal S4096x5376 .fp8e4m3) (a3 : Vec Ideal S5376 .f32)

theorem pay2_apply (i : Fin 2304) (j : Fin 5376) :
    k0_pay2 (F := Ideal) a0 a1 a2 a3 (ix2 i j)
      = Cert.Spec.hidden (fun k => a0 (ix2 i k)) (fun k => a2 (ix2 k j)) (a1 (ix2 i 0)) (a3 (ix1 j)) := by
  unfold Cert.Spec.hidden
  pointwise [k0_pay2]

theorem pay3_apply (i : Fin 2304) :
    k0_pay3 (F := Ideal) a0 a1 a2 a3 (ix1 i)
      = scale (Finset.univ.sup fun j : Fin 5376 => Cert.Spec.hidden (fun k => a0 (ix2 i k)) (fun k => a2 (ix2 k j)) (a1 (ix2 i 0)) (a3 (ix1 j))) := by
  rw [pay3_eq, sclOf_apply, absMax_apply _ (fun i j => by rw [pay2_apply]; exact Cert.Spec.hidden_nonneg _ _ _ _)]
  simp only [pay2_apply]

theorem pay4_apply (i : Fin 2304) (j : Fin 5376) :
    k0_pay4 (F := Ideal) a0 a1 a2 a3 (ix2 i j)
      = code (Cert.Spec.hidden (fun k => a0 (ix2 i k)) (fun k => a2 (ix2 k j)) (a1 (ix2 i 0)) (a3 (ix1 j)))
          (scale (Finset.univ.sup fun j : Fin 5376 => Cert.Spec.hidden (fun k => a0 (ix2 i k)) (fun k => a2 (ix2 k j)) (a1 (ix2 i 0)) (a3 (ix1 j)))) := by
  rw [pay4_eq, codOf_apply, pay2_apply, pay3_apply]

theorem pay5_apply (i : Fin 2304) (u : Fin 1) :
    k0_pay5 (F := Ideal) a0 a1 a2 a3 (ix2 i u) = k0_pay3 (F := Ideal) a0 a1 a2 a3 (ix1 i) := by
  have gen : ∀ X : FVec Ideal S2304 .f32, shapeCast S2304x1 X shapeCasts_S2304_S2304x1 (ix2 i u) = X (ix1 i) := by
    intro X; pointwise
  unfold k0_pay5
  exact gen _

theorem pay1_apply (v22 : FVec Ideal S2304 .f32) (v30 : FVec Ideal S2304x5376 .fp8e4m3) (v34 : Vec Ideal S5376x4096 .fp8e4m3) (v35 : Vec Ideal S4096 .f32)
    (v43 : Vec Ideal S2304x1024 .fp8e4m3) (v44 : Vec Ideal S2304x1 .f32) (v46 : Vec Ideal S1024x4096 .fp8e4m3) (v47 : Vec Ideal S4096 .f32)
    (v55 : Vec Ideal S2304x4096 .f32) (i : Fin 2304) (j : Fin 4096) :
    k0_pay1 (F := Ideal) v22 v30 v34 v35 v43 v44 v46 v47 v55 (ix2 i j)
      = out (v55 (ix2 i j)) (fun k => v30 (ix2 i k)) (fun k => v34 (ix2 k j)) (v22 (ix1 i)) (v35 (ix1 j))
          (fun k => v43 (ix2 i k)) (fun k => v46 (ix2 k j)) (v44 (ix2 i 0)) (v47 (ix1 j)) := by
  unfold out
  pointwise [k0_pay1]

end Cert.ReferenceIdeal.Hand

end

end
-- ==== Proof.InKernelBody.lean ====
/-
  Hand-written, untrusted. The same as `InIdealBody.lean`, for the program with its own constants. The body of the input-projection kernel at one point of its grid, run once by `sl_exec` and its four
  counted loops by hand: the sums of squares of the first 128 rows' lanes, the first 128 rows' scales and codes, and the same two
  for the other 128 rows. The result says what is left in the windows of the codes, the scales, `z`, the convolution's codes and its scales;
  of the other output windows and of the scratch buffers it says nothing.
-/
module

public import proofs.«01_k».proof.Proof.Gen.InProj.Frame
public import proofs.«01_k».proof.Proof.Gen.InProj.Skeleton
public import Idealize.ShloMosaic.Lib.Pipeline.Frame
public import Idealize.ShloMosaic.Lib.Tactic
public import Idealize.ShloMosaic.Lib.VecWindow

@[expose] public section

set_option maxRecDepth 8192

noncomputable section

namespace Cert.InProj.Hand

open Cert.InProj Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the body computes -/

/-- Rows `o` to `o + 31` of the tile of tokens. -/
def rowsX (X : Vec F S256x4096 .bf16) (o : ℕ) (h : o + 32 ≤ 256) : Vec F S32x4096 .bf16 :=
  VecWindow.window (s := S256x4096) X ![o, 0] ![32, 4096] (fun a => match a with | 0 => h | 1 => Nat.le_refl 4096)
/-- Rows `o` to `o + 31` of the first column of a column buffer. -/
def rowsC (Q : Vec F S128x128 .f32) (o : ℕ) (h : o + 32 ≤ 128) : Vec F S32x1 .f32 :=
  VecWindow.window (s := S128x128) Q ![o, 0] ![32, 1] (fun a => match a with | 0 => h | 1 => by show 0 + 1 ≤ 128; omega)

/-- The sums of squares of rows 0 to 127, lane by lane. -/
def partA (X : Vec F S256x4096 .bf16) : Vec F S128x128 .f32 := fun y =>
  have h : (y 0).val < 128 := (y 0).isLt
  have w := rowsX X (32 * ((y 0).val / 32)) (by omega)
  k0_pay15 (k0_pay1 w) (k0_pay2 w) (k0_pay3 w)
    (fun a => match a with | 0 => ⟨(y 0).val % 32, Nat.mod_lt _ (by decide)⟩ | 1 => ⟨(y 1).val, (y 1).isLt⟩)
/-- The sums of squares of rows 128 to 255, lane by lane. -/
def partB (X : Vec F S256x4096 .bf16) : Vec F S128x128 .f32 := fun y =>
  have h : (y 0).val < 128 := (y 0).isLt
  have w := rowsX X (32 * ((y 0).val / 32) + 128) (by omega)
  k0_pay19 (k0_pay8 w) (k0_pay9 w) (k0_pay10 w)
    (fun a => match a with | 0 => ⟨(y 0).val % 32, Nat.mod_lt _ (by decide)⟩ | 1 => ⟨(y 1).val, (y 1).isLt⟩)
/-- The columns of the rows' reciprocal root mean squares. -/
def colA (X : Vec F S256x4096 .bf16) : Vec F S128x128 .f32 := k0_pay17 (k0_pay16 (partA X)) 4#32
def colB (X : Vec F S256x4096 .bf16) : Vec F S128x128 .f32 := k0_pay23 (k0_pay20 (partB X)) (k0_pay21 (partB X)) (k0_pay22 (partB X))

/-- The codes of the tile, thirty-two rows at a time. -/
def codes (X : Vec F S256x4096 .bf16) (N : Vec F S1x4096 .f32) : Vec F S256x4096 .fp8e4m3 := fun y =>
  have h : (y 0).val < 256 := (y 0).isLt
  if h1 : (y 0).val < 128 then
    k0_pay6 (rowsX X (32 * ((y 0).val / 32)) (by omega)) (rowsC (colA X) (32 * ((y 0).val / 32)) (by omega)) N
      (fun a => match a with | 0 => ⟨(y 0).val % 32, Nat.mod_lt _ (by decide)⟩ | 1 => ⟨(y 1).val, (y 1).isLt⟩)
  else
    k0_pay13 (rowsX X (32 * (((y 0).val - 128) / 32) + 128) (by omega)) (rowsC (colB X) (32 * (((y 0).val - 128) / 32)) (by omega)) N
      (fun a => match a with | 0 => ⟨(y 0).val % 32, Nat.mod_lt _ (by decide)⟩ | 1 => ⟨(y 1).val, (y 1).isLt⟩)
/-- The scales of the tile's rows, over the lanes. -/
def scales (X : Vec F S256x4096 .bf16) (N : Vec F S1x4096 .f32) : Vec F S256x128 .f32 := fun y =>
  have h : (y 0).val < 256 := (y 0).isLt
  if h1 : (y 0).val < 128 then
    k0_pay18 (k0_pay7 (rowsX X (32 * ((y 0).val / 32)) (by omega)) (rowsC (colA X) (32 * ((y 0).val / 32)) (by omega)) N)
      (fun a => match a with | 0 => ⟨(y 0).val % 32, Nat.mod_lt _ (by decide)⟩ | 1 => ⟨(y 1).val, (y 1).isLt⟩)
  else
    k0_pay24 (k0_pay14 (rowsX X (32 * (((y 0).val - 128) / 32) + 128) (by omega)) (rowsC (colB X) (32 * (((y 0).val - 128) / 32)) (by omega)) N)
      (fun a => match a with | 0 => ⟨(y 0).val % 32, Nat.mod_lt _ (by decide)⟩ | 1 => ⟨(y 1).val, (y 1).isLt⟩)

/-- The scales' first column. -/
def sclCol (X : Vec F S256x4096 .bf16) (N : Vec F S1x4096 .f32) : Vec F S256x1 .f32 :=
  VecWindow.window (s := S256x128) (scales X N) ![0, 0] ![256, 1] inb_S256x128_S256x1_0_0
/-- `z`: the projection's first 1024 columns, from the codes, their scales, the weights and the weights' scales. -/
def zOf (C : Vec F S256x4096 .fp8e4m3) (Q : Vec F S256x1 .f32) (W : Vec F S2320x4096 .fp8e4m3) (Ws : Vec F S1x2320 .f32) : Vec F S256x1024 .f32 :=
  k0_pay30 (k0_pay28 Q C (VecWindow.window (s := S2320x4096) W ![0, 2048] ![1024, 2048] inb_S2320x4096_S1024x2048_0_2048)
      (k0_pay27 C (VecWindow.window (s := S2320x4096) W ![0, 0] ![1024, 2048] inb_S2320x4096_S1024x2048_0_0)))
    (k0_pay29 (VecWindow.window (s := S1x2320) Ws ![0, 0] ![1, 1024] inb_S1x2320_S1x1024_0_0))
/-- The projection's next 1280 columns. -/
def xbcOf (C : Vec F S256x4096 .fp8e4m3) (Q : Vec F S256x1 .f32) (W : Vec F S2320x4096 .fp8e4m3) (Ws : Vec F S1x2320 .f32) : Vec F S256x1280 .f32 :=
  k0_pay32 Q (k0_pay26 C) (VecWindow.window (s := S2320x4096) W ![1024, 2048] ![1280, 2048] inb_S2320x4096_S1280x2048_1024_2048)
    (k0_pay31 (k0_pay26 C) (VecWindow.window (s := S2320x4096) W ![1024, 0] ![1280, 2048] inb_S2320x4096_S1280x2048_1024_0))
    (VecWindow.window (s := S1x2320) Ws ![0, 1024] ![1, 1280] inb_S1x2320_S1x1280_0_1024)

/-- The int8 codes of group `g` of 128 columns. -/
def ccG (x : FVec F S256x1280 .f32) : ℕ → Vec F S256x128 .i8
  | 0 => k0_pay44 (k0_pay42 x) k0_pay43
  | 1 => k0_pay50 x
  | 2 => k0_pay57 x
  | 3 => k0_pay65 (k0_pay61 x) (k0_pay62 x) (k0_pay63 x)
  | 4 => k0_pay72 (k0_pay71 x) 4294967169#32 127#32
  | 5 => k0_pay79 x
  | 6 => k0_pay86 x
  | 7 => k0_pay93 (k0_pay90 x) (k0_pay91 x)
  | 8 => k0_pay101 (k0_pay98 x) (k0_pay100 x)
  | _ => k0_pay108 x
/-- The int8 codes. -/
def ccOf (x : FVec F S256x1280 .f32) : Vec F S256x1280 .i8 := fun y =>
  ccG x ((y 1).val / 128) (fun a => match a with | 0 => ⟨(y 0).val, (y 0).isLt⟩ | 1 => ⟨(y 1).val % 128, Nat.mod_lt _ (by decide)⟩)
/-- The groups' scales, group `g` in lane `g`. -/
def cscAcc (x : FVec F S256x1280 .f32) : FVec F S256x128 .f32 :=
  have v228 : IVec S256x128 32 := iota .tc S256x128 32 [1] iota_S256x128_d1_w32
  have s0 := k0_pay45 v228 k0_pay39 (k0_pay41 x)
  have s1 := k0_pay51 x v228 s0
  have s2 := k0_pay58 x v228 s1
  have s3 := k0_pay66 v228 s2 (k0_pay62 x) (k0_pay63 x)
  have s4 := k0_pay73 v228 s3 (k0_pay70 x)
  have s5 := k0_pay81 s4 (k0_pay78 x) (k0_pay80 v228)
  have s6 := k0_pay87 x v228 s5
  have s7 := k0_pay94 v228 s6 (k0_pay91 x)
  have s8 := k0_pay102 v228 s7 (k0_pay99 x)
  k0_pay109 v228 s8 (k0_pay107 x)
def cscOf (x : FVec F S256x1280 .f32) : Vec F S10x256 .f32 := k0_pay112 (cscAcc x)

/-! ## The loops' invariants -/

/-- A store of a block of a buffer: if the block is `G`'s and the buffer was `G` where `p` says so, then it is `G` wherever `p'`
    does, so long as what `p'` adds lies in the block. -/
theorem put_step {α : Type} {s : Shape} (X G : s.Idx → α) (off size : Fin s.rank → ℕ) (w : ((a : Fin s.rank) → Fin (size a)) → α)
    (p p' : s.Idx → Prop)
    (hw : ∀ (y : s.Idx) (h : ∀ a, off a ≤ (y a).val ∧ (y a).val < off a + size a), w (Rect.unitLocal (s := s) (off := off) (size := size) y h) = G y)
    (hX : ∀ y, p y → X y = G y) (hp : ∀ y, p' y → (¬ ∀ a, off a ≤ (y a).val ∧ (y a).val < off a + size a) → p y)
    (y : s.Idx) (hy : p' y) : VecWindow.put X off size w y = G y := by
  unfold VecWindow.put
  split
  · exact hw y _
  · exact hX y (hp y hy ‹_›)

def inv1 (c : Dev nD) (arg1 : Memref sig .tc .vmem S256x4096 .bf16) (arg25 : Memref sig .tc .vmem S128x128 .f32) (G : Vec F S128x128 .f32)
    (X : Vec F S256x4096 .bf16) (k : ℕ) (_ : Unit) : sProp 𝕄 :=
  iprop(owns (c : Thread nD τ) arg1 fullShare X ∗ ∃ P, ⌜∀ y : S128x128.Idx, (y 0).val < 32 * k → P y = G y⌝ ∗ owns (c : Thread nD τ) arg25 fullShare P)

def inv2 (c : Dev nD) (arg1 : Memref sig .tc .vmem S256x4096 .bf16) (arg2 : Memref sig .tc .vmem S1x4096 .f32) (arg26 : Memref sig .tc .vmem S128x128 .f32)
    (arg13 : Memref sig .tc .vmem S256x4096 .fp8e4m3) (arg23 : Memref sig .tc .vmem S256x128 .f32) (o : ℕ)
    (X : Vec F S256x4096 .bf16) (N : Vec F S1x4096 .f32) (Q : Vec F S128x128 .f32) (k : ℕ) (_ : Unit) : sProp 𝕄 :=
  iprop(owns (c : Thread nD τ) arg1 fullShare X ∗ owns (c : Thread nD τ) arg2 fullShare N ∗ owns (c : Thread nD τ) arg26 fullShare Q
    ∗ (∃ C, ⌜∀ y : S256x4096.Idx, (y 0).val < 32 * k + o → C y = codes X N y⌝ ∗ owns (c : Thread nD τ) arg13 fullShare C)
    ∗ ∃ S, ⌜∀ y : S256x128.Idx, (y 0).val < 32 * k + o → S y = scales X N y⌝ ∗ owns (c : Thread nD τ) arg23 fullShare S)

/-- Loop 1: one trip. -/
theorem trip1 (c : Dev nD) (E : Set ℕ) (i : grid0.Coords) (arg1 : Memref sig .tc .vmem S256x4096 .bf16) (harg1 : arg1.IsWhole) (arg2 : Memref sig .tc .vmem S1x4096 .f32) (harg2 : arg2.IsWhole) (arg3 : Memref sig .tc .vmem S2320x4096 .fp8e4m3) (harg3 : arg3.IsWhole) (arg4 : Memref sig .tc .vmem S1x2320 .f32) (harg4 : arg4.IsWhole) (arg5 : Memref sig .tc .vmem S4x1280 .f32) (harg5 : arg5.IsWhole) (arg6 : Memref sig .tc .vmem S1x1280 .f32) (harg6 : arg6.IsWhole) (arg7 : Memref sig .tc .vmem S3x256x1280 .i8) (harg7 : arg7.IsWhole) (arg8 : Memref sig .tc .vmem S30x256 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x16 .f32) (harg11 : arg11.IsWhole) (arg12 : Memref sig .tc .vmem S48x1024 .bf16) (harg12 : arg12.IsWhole) (arg13 : Memref sig .tc .vmem S256x4096 .fp8e4m3) (harg13 : arg13.IsWhole) (arg14 : Memref sig .tc .vmem S1x256 .f32) (harg14 : arg14.IsWhole) (arg15 : Memref sig .tc .vmem S256x1024 .f32) (harg15 : arg15.IsWhole) (arg16 : Memref sig .tc .vmem S256x1280 .i8) (harg16 : arg16.IsWhole) (arg17 : Memref sig .tc .vmem S10x256 .f32) (harg17 : arg17.IsWhole) (arg18 : Memref sig .tc .vmem S256x8x128 .f32) (harg18 : arg18.IsWhole) (arg19 : Memref sig .tc .vmem S256x8x128 .f32) (harg19 : arg19.IsWhole) (arg20 : Memref sig .tc .vmem S256x8x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S128x256 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S256x1280 .f32) (harg27 : arg27.IsWhole)
    (X : Vec F S256x4096 .bf16) (k : Fin k0_t1_loop.trips) :
    inv1 (F := F) c arg1 arg25 (partA X) X k.val () ⊢ wp frame (wpE (defs₀ (F := F)) Variants.none c none) E
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27  k ()) (fun a => inv1 (F := F) c arg1 arg25 (partA X) X (k.val + 1) a) := by
  have hk : k.val < 4 := k.isLt
  unfold inv1 owns k0_t1_body
  simp only [k0_part1_eq_skeleton]
  unfold k0_part1_skel
  iintro ⟨⟨%f1, %e1, H1⟩, %P, %hP, %f25, %e25, H25⟩
  subst e1 e25
  sl_exec
  sl_step
  isplitl [H1]
  · iexists _; isplitr; swap; · iexact H1
    ipureintro; rfl
  iexists _; isplitr; swap
  · iexists _; isplitr; swap; · iexact H25
    ipureintro; rfl
  ipureintro
  have hb : ∀ a, (![32 * k.val, 0] : Fin 2 → ℕ) a + (![32, 4096] : Fin 2 → ℕ) a ≤ S256x4096.size a := fun a => match a with
      | 0 => by show 32 * k.val + 32 ≤ 256; omega
      | 1 => by show 0 + 4096 ≤ 4096; omega
  intro y hy
  refine (congrFun (View.read_writes_cons_put _ _ _ _ [] (k0_off2_eq k)) y).trans ?_
  rw [View.readAt_unit _ _ _ (k0_off1_eq k) hb]
  refine put_step _ _ _ _ _ (fun y => (y 0).val < 32 * k.val) (fun y => (y 0).val < 32 * (k.val + 1)) ?_ hP ?_ y hy
  · intro y h
    have h0 : 32 * k.val ≤ (y 0).val ∧ (y 0).val < 32 * k.val + 32 := h 0
    obtain ⟨kv, hkv⟩ := k
    obtain rfl : kv = (y 0).val / 32 := by show kv = _; dsimp only at h0; omega
    unfold partA rowsX
    congr 1
    funext a
    match a with
    | 0 => apply Fin.ext; show (y 0).val - 32 * ((y 0).val / 32) = (y 0).val % 32; omega
    | 1 => apply Fin.ext; show (y 1).val - 0 = (y 1).val; omega
  · intro y hy hn
    by_contra hc
    apply hn
    have h1 : (y 1).val < 128 := (y 1).isLt
    intro a
    match a with
    | 0 => exact ⟨by show 32 * k.val ≤ (y 0).val; omega, by show (y 0).val < 32 * k.val + 32; omega⟩
    | 1 => exact ⟨Nat.zero_le _, by show (y 1).val < 0 + 128; omega⟩

/-- Loop 2: one trip. -/
theorem trip2 (c : Dev nD) (E : Set ℕ) (i : grid0.Coords) (arg1 : Memref sig .tc .vmem S256x4096 .bf16) (harg1 : arg1.IsWhole) (arg2 : Memref sig .tc .vmem S1x4096 .f32) (harg2 : arg2.IsWhole) (arg3 : Memref sig .tc .vmem S2320x4096 .fp8e4m3) (harg3 : arg3.IsWhole) (arg4 : Memref sig .tc .vmem S1x2320 .f32) (harg4 : arg4.IsWhole) (arg5 : Memref sig .tc .vmem S4x1280 .f32) (harg5 : arg5.IsWhole) (arg6 : Memref sig .tc .vmem S1x1280 .f32) (harg6 : arg6.IsWhole) (arg7 : Memref sig .tc .vmem S3x256x1280 .i8) (harg7 : arg7.IsWhole) (arg8 : Memref sig .tc .vmem S30x256 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x16 .f32) (harg11 : arg11.IsWhole) (arg12 : Memref sig .tc .vmem S48x1024 .bf16) (harg12 : arg12.IsWhole) (arg13 : Memref sig .tc .vmem S256x4096 .fp8e4m3) (harg13 : arg13.IsWhole) (arg14 : Memref sig .tc .vmem S1x256 .f32) (harg14 : arg14.IsWhole) (arg15 : Memref sig .tc .vmem S256x1024 .f32) (harg15 : arg15.IsWhole) (arg16 : Memref sig .tc .vmem S256x1280 .i8) (harg16 : arg16.IsWhole) (arg17 : Memref sig .tc .vmem S10x256 .f32) (harg17 : arg17.IsWhole) (arg18 : Memref sig .tc .vmem S256x8x128 .f32) (harg18 : arg18.IsWhole) (arg19 : Memref sig .tc .vmem S256x8x128 .f32) (harg19 : arg19.IsWhole) (arg20 : Memref sig .tc .vmem S256x8x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S128x256 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S256x1280 .f32) (harg27 : arg27.IsWhole)
    (v50 : FVec F S8x128 .f32) (w50 : BitVec 32) (X : Vec F S256x4096 .bf16) (N : Vec F S1x4096 .f32) (k : Fin k0_t2_loop.trips) :
    inv2 (F := F) c arg1 arg2 arg26 arg13 arg23 0 X N (colA X) k.val () ⊢ wp frame (wpE (defs₀ (F := F)) Variants.none c none) E
      (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v50 w50 k ()) (fun a => inv2 (F := F) c arg1 arg2 arg26 arg13 arg23 0 X N (colA X) (k.val + 1) a) := by
  have hk : k.val < 4 := k.isLt
  have hq : colA X = colA X := rfl
  revert hq
  generalize hQ : colA X = Q
  intro hq
  unfold inv2 owns k0_t2_body
  simp only [k0_part2_eq_skeleton]
  unfold k0_part2_skel
  iintro ⟨⟨%f1, %e1, H1⟩, ⟨%f2, %e2, H2⟩, ⟨%f26, %e26, H26⟩, ⟨%C, %hC, %f13, %e13, H13⟩, %S, %hS, %f23, %e23, H23⟩
  subst e1 e2 e13 e23
  sl_exec
  sl_step
  have hb : ∀ a, (![32 * k.val, 0] : Fin 2 → ℕ) a + (![32, 4096] : Fin 2 → ℕ) a ≤ S256x4096.size a := fun a => match a with
      | 0 => by show 32 * k.val + 32 ≤ 256; omega
      | 1 => by show 0 + 4096 ≤ 4096; omega
  have hb' : ∀ a, (![32 * k.val, 0] : Fin 2 → ℕ) a + (![32, 1] : Fin 2 → ℕ) a ≤ S128x128.size a := fun a => match a with
      | 0 => by show 32 * k.val + 32 ≤ 128; omega
      | 1 => by show 0 + 1 ≤ 128; omega
  isplitl [H1]
  · iexists _; isplitr; swap; · iexact H1
    ipureintro; rfl
  isplitl [H2]
  · iexists _; isplitr; swap; · iexact H2
    ipureintro; rfl
  isplitl [H26]
  · iexists _; isplitr; swap; · iexact H26
    ipureintro; exact e26
  isplitl [H13]
  · iexists _; isplitr; swap
    · iexists _; isplitr; swap; · iexact H13
      ipureintro; rfl
    ipureintro
    intro y hy
    refine (congrFun (View.read_writes_cons_put _ _ _ _ [] (k0_off3_eq k)) y).trans ?_
    rw [View.readAt_unit _ _ _ (k0_off3_eq k) hb, View.readAt_unit _ _ _ (k0_off4_eq k) hb', View.readAt_full, e26]
    refine put_step _ _ _ _ _ (fun y => (y 0).val < 32 * k.val + 0) (fun y => (y 0).val < 32 * (k.val + 1) + 0) ?_ hC ?_ y hy
    · intro y h
      have h0 : 32 * k.val ≤ (y 0).val ∧ (y 0).val < 32 * k.val + 32 := h 0
      obtain ⟨kv, hkv⟩ := k
      dsimp only at h0 hk
      obtain rfl : kv = ((y 0).val - 0) / 32 := by omega
      unfold codes
      rw [dif_pos (show  (y 0).val < 128 by omega), hQ]
      unfold rowsX rowsC
      congr 1
      funext a
      match a with
      | 0 => apply Fin.ext; show (y 0).val - (32 * ((y 0).val / 32)) = (y 0).val % 32; omega
      | 1 => apply Fin.ext; show (y 1).val - 0 = (y 1).val; omega
    · intro y hy hn
      by_contra hc
      apply hn
      have h1 : (y 1).val < 4096 := (y 1).isLt
      intro a
      match a with
      | 0 => exact ⟨by show 32 * k.val ≤ (y 0).val; omega, by show (y 0).val < 32 * k.val + 32; omega⟩
      | 1 => exact ⟨Nat.zero_le _, by show (y 1).val < 0 + 4096; omega⟩
  · iexists _; isplitr; swap
    · iexists _; isplitr; swap; · iexact H23
      ipureintro; rfl
    ipureintro
    intro y hy
    refine (congrFun (View.read_writes_cons_put _ _ _ _ [] (k0_off5_eq k)) y).trans ?_
    rw [View.readAt_unit _ _ _ (k0_off3_eq k) hb, View.readAt_unit _ _ _ (k0_off4_eq k) hb', View.readAt_full, e26]
    refine put_step _ _ _ _ _ (fun y => (y 0).val < 32 * k.val + 0) (fun y => (y 0).val < 32 * (k.val + 1) + 0) ?_ hS ?_ y hy
    · intro y h
      have h0 : 32 * k.val ≤ (y 0).val ∧ (y 0).val < 32 * k.val + 32 := h 0
      obtain ⟨kv, hkv⟩ := k
      dsimp only at h0 hk
      obtain rfl : kv = ((y 0).val - 0) / 32 := by omega
      unfold scales
      rw [dif_pos (show  (y 0).val < 128 by omega), hQ]
      unfold rowsX rowsC
      congr 1
      funext a
      match a with
      | 0 => apply Fin.ext; show (y 0).val - (32 * ((y 0).val / 32)) = (y 0).val % 32; omega
      | 1 => apply Fin.ext; show (y 1).val - 0 = (y 1).val; omega
    · intro y hy hn
      by_contra hc
      apply hn
      have h1 : (y 1).val < 128 := (y 1).isLt
      intro a
      match a with
      | 0 => exact ⟨by show 32 * k.val ≤ (y 0).val; omega, by show (y 0).val < 32 * k.val + 32; omega⟩
      | 1 => exact ⟨Nat.zero_le _, by show (y 1).val < 0 + 128; omega⟩

/-- Loop 3: one trip. -/
theorem trip3 (c : Dev nD) (E : Set ℕ) (i : grid0.Coords) (arg1 : Memref sig .tc .vmem S256x4096 .bf16) (harg1 : arg1.IsWhole) (arg2 : Memref sig .tc .vmem S1x4096 .f32) (harg2 : arg2.IsWhole) (arg3 : Memref sig .tc .vmem S2320x4096 .fp8e4m3) (harg3 : arg3.IsWhole) (arg4 : Memref sig .tc .vmem S1x2320 .f32) (harg4 : arg4.IsWhole) (arg5 : Memref sig .tc .vmem S4x1280 .f32) (harg5 : arg5.IsWhole) (arg6 : Memref sig .tc .vmem S1x1280 .f32) (harg6 : arg6.IsWhole) (arg7 : Memref sig .tc .vmem S3x256x1280 .i8) (harg7 : arg7.IsWhole) (arg8 : Memref sig .tc .vmem S30x256 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x16 .f32) (harg11 : arg11.IsWhole) (arg12 : Memref sig .tc .vmem S48x1024 .bf16) (harg12 : arg12.IsWhole) (arg13 : Memref sig .tc .vmem S256x4096 .fp8e4m3) (harg13 : arg13.IsWhole) (arg14 : Memref sig .tc .vmem S1x256 .f32) (harg14 : arg14.IsWhole) (arg15 : Memref sig .tc .vmem S256x1024 .f32) (harg15 : arg15.IsWhole) (arg16 : Memref sig .tc .vmem S256x1280 .i8) (harg16 : arg16.IsWhole) (arg17 : Memref sig .tc .vmem S10x256 .f32) (harg17 : arg17.IsWhole) (arg18 : Memref sig .tc .vmem S256x8x128 .f32) (harg18 : arg18.IsWhole) (arg19 : Memref sig .tc .vmem S256x8x128 .f32) (harg19 : arg19.IsWhole) (arg20 : Memref sig .tc .vmem S256x8x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S128x256 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S256x1280 .f32) (harg27 : arg27.IsWhole)
    (v50 : FVec F S8x128 .f32) (w50 : BitVec 32) (X : Vec F S256x4096 .bf16) (k : Fin k0_t3_loop.trips) :
    inv1 (F := F) c arg1 arg25 (partB X) X k.val () ⊢ wp frame (wpE (defs₀ (F := F)) Variants.none c none) E
      (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v50 w50 k ()) (fun a => inv1 (F := F) c arg1 arg25 (partB X) X (k.val + 1) a) := by
  have hk : k.val < 4 := k.isLt
  unfold inv1 owns k0_t3_body
  simp only [k0_part3_eq_skeleton]
  unfold k0_part3_skel
  iintro ⟨⟨%f1, %e1, H1⟩, %P, %hP, %f25, %e25, H25⟩
  subst e1 e25
  sl_exec
  sl_step
  isplitl [H1]
  · iexists _; isplitr; swap; · iexact H1
    ipureintro; rfl
  iexists _; isplitr; swap
  · iexists _; isplitr; swap; · iexact H25
    ipureintro; rfl
  ipureintro
  have hb : ∀ a, (![32 * k.val + 128, 0] : Fin 2 → ℕ) a + (![32, 4096] : Fin 2 → ℕ) a ≤ S256x4096.size a := fun a => match a with
      | 0 => by show 32 * k.val + 128 + 32 ≤ 256; omega
      | 1 => by show 0 + 4096 ≤ 4096; omega
  intro y hy
  refine (congrFun (View.read_writes_cons_put _ _ _ _ [] (k0_off7_eq k)) y).trans ?_
  rw [View.readAt_unit _ _ _ (k0_off6_eq k) hb]
  refine put_step _ _ _ _ _ (fun y => (y 0).val < 32 * k.val) (fun y => (y 0).val < 32 * (k.val + 1)) ?_ hP ?_ y hy
  · intro y h
    have h0 : 32 * k.val ≤ (y 0).val ∧ (y 0).val < 32 * k.val + 32 := h 0
    obtain ⟨kv, hkv⟩ := k
    obtain rfl : kv = (y 0).val / 32 := by show kv = _; dsimp only at h0; omega
    unfold partB rowsX
    congr 1
    funext a
    match a with
    | 0 => apply Fin.ext; show (y 0).val - 32 * ((y 0).val / 32) = (y 0).val % 32; omega
    | 1 => apply Fin.ext; show (y 1).val - 0 = (y 1).val; omega
  · intro y hy hn
    by_contra hc
    apply hn
    have h1 : (y 1).val < 128 := (y 1).isLt
    intro a
    match a with
    | 0 => exact ⟨by show 32 * k.val ≤ (y 0).val; omega, by show (y 0).val < 32 * k.val + 32; omega⟩
    | 1 => exact ⟨Nat.zero_le _, by show (y 1).val < 0 + 128; omega⟩

/-- Loop 4: one trip. -/
theorem trip4 (c : Dev nD) (E : Set ℕ) (i : grid0.Coords) (arg1 : Memref sig .tc .vmem S256x4096 .bf16) (harg1 : arg1.IsWhole) (arg2 : Memref sig .tc .vmem S1x4096 .f32) (harg2 : arg2.IsWhole) (arg3 : Memref sig .tc .vmem S2320x4096 .fp8e4m3) (harg3 : arg3.IsWhole) (arg4 : Memref sig .tc .vmem S1x2320 .f32) (harg4 : arg4.IsWhole) (arg5 : Memref sig .tc .vmem S4x1280 .f32) (harg5 : arg5.IsWhole) (arg6 : Memref sig .tc .vmem S1x1280 .f32) (harg6 : arg6.IsWhole) (arg7 : Memref sig .tc .vmem S3x256x1280 .i8) (harg7 : arg7.IsWhole) (arg8 : Memref sig .tc .vmem S30x256 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x16 .f32) (harg11 : arg11.IsWhole) (arg12 : Memref sig .tc .vmem S48x1024 .bf16) (harg12 : arg12.IsWhole) (arg13 : Memref sig .tc .vmem S256x4096 .fp8e4m3) (harg13 : arg13.IsWhole) (arg14 : Memref sig .tc .vmem S1x256 .f32) (harg14 : arg14.IsWhole) (arg15 : Memref sig .tc .vmem S256x1024 .f32) (harg15 : arg15.IsWhole) (arg16 : Memref sig .tc .vmem S256x1280 .i8) (harg16 : arg16.IsWhole) (arg17 : Memref sig .tc .vmem S10x256 .f32) (harg17 : arg17.IsWhole) (arg18 : Memref sig .tc .vmem S256x8x128 .f32) (harg18 : arg18.IsWhole) (arg19 : Memref sig .tc .vmem S256x8x128 .f32) (harg19 : arg19.IsWhole) (arg20 : Memref sig .tc .vmem S256x8x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S128x256 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S256x1280 .f32) (harg27 : arg27.IsWhole)
    (v142 : FVec F S128x128 .f32) (X : Vec F S256x4096 .bf16) (N : Vec F S1x4096 .f32) (k : Fin k0_t4_loop.trips) :
    inv2 (F := F) c arg1 arg2 arg26 arg13 arg23 128 X N (colB X) k.val () ⊢ wp frame (wpE (defs₀ (F := F)) Variants.none c none) E
      (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v142 k ()) (fun a => inv2 (F := F) c arg1 arg2 arg26 arg13 arg23 128 X N (colB X) (k.val + 1) a) := by
  have hk : k.val < 4 := k.isLt
  have hq : colB X = colB X := rfl
  revert hq
  generalize hQ : colB X = Q
  intro hq
  unfold inv2 owns k0_t4_body
  simp only [k0_part4_eq_skeleton]
  unfold k0_part4_skel
  iintro ⟨⟨%f1, %e1, H1⟩, ⟨%f2, %e2, H2⟩, ⟨%f26, %e26, H26⟩, ⟨%C, %hC, %f13, %e13, H13⟩, %S, %hS, %f23, %e23, H23⟩
  subst e1 e2 e13 e23
  sl_exec
  sl_step
  have hb : ∀ a, (![32 * k.val + 128, 0] : Fin 2 → ℕ) a + (![32, 4096] : Fin 2 → ℕ) a ≤ S256x4096.size a := fun a => match a with
      | 0 => by show 32 * k.val + 128 + 32 ≤ 256; omega
      | 1 => by show 0 + 4096 ≤ 4096; omega
  have hb' : ∀ a, (![32 * k.val, 0] : Fin 2 → ℕ) a + (![32, 1] : Fin 2 → ℕ) a ≤ S128x128.size a := fun a => match a with
      | 0 => by show 32 * k.val + 32 ≤ 128; omega
      | 1 => by show 0 + 1 ≤ 128; omega
  isplitl [H1]
  · iexists _; isplitr; swap; · iexact H1
    ipureintro; rfl
  isplitl [H2]
  · iexists _; isplitr; swap; · iexact H2
    ipureintro; rfl
  isplitl [H26]
  · iexists _; isplitr; swap; · iexact H26
    ipureintro; exact e26
  isplitl [H13]
  · iexists _; isplitr; swap
    · iexists _; isplitr; swap; · iexact H13
      ipureintro; rfl
    ipureintro
    intro y hy
    refine (congrFun (View.read_writes_cons_put _ _ _ _ [] (k0_off8_eq k)) y).trans ?_
    rw [View.readAt_unit _ _ _ (k0_off8_eq k) hb, View.readAt_unit _ _ _ (k0_off9_eq k) hb', View.readAt_full, e26]
    refine put_step _ _ _ _ _ (fun y => (y 0).val < 32 * k.val + 128) (fun y => (y 0).val < 32 * (k.val + 1) + 128) ?_ hC ?_ y hy
    · intro y h
      have h0 : 32 * k.val + 128 ≤ (y 0).val ∧ (y 0).val < 32 * k.val + 128 + 32 := h 0
      obtain ⟨kv, hkv⟩ := k
      dsimp only at h0 hk
      obtain rfl : kv = ((y 0).val - 128) / 32 := by omega
      unfold codes
      rw [dif_neg (show ¬ (y 0).val < 128 by omega), hQ]
      unfold rowsX rowsC
      congr 1
      funext a
      match a with
      | 0 => apply Fin.ext; show (y 0).val - (32 * (((y 0).val - 128) / 32) + 128) = (y 0).val % 32; omega
      | 1 => apply Fin.ext; show (y 1).val - 0 = (y 1).val; omega
    · intro y hy hn
      by_contra hc
      apply hn
      have h1 : (y 1).val < 4096 := (y 1).isLt
      intro a
      match a with
      | 0 => exact ⟨by show 32 * k.val + 128 ≤ (y 0).val; omega, by show (y 0).val < 32 * k.val + 128 + 32; omega⟩
      | 1 => exact ⟨Nat.zero_le _, by show (y 1).val < 0 + 4096; omega⟩
  · iexists _; isplitr; swap
    · iexists _; isplitr; swap; · iexact H23
      ipureintro; rfl
    ipureintro
    intro y hy
    refine (congrFun (View.read_writes_cons_put _ _ _ _ [] (k0_off10_eq k)) y).trans ?_
    rw [View.readAt_unit _ _ _ (k0_off8_eq k) hb, View.readAt_unit _ _ _ (k0_off9_eq k) hb', View.readAt_full, e26]
    refine put_step _ _ _ _ _ (fun y => (y 0).val < 32 * k.val + 128) (fun y => (y 0).val < 32 * (k.val + 1) + 128) ?_ hS ?_ y hy
    · intro y h
      have h0 : 32 * k.val + 128 ≤ (y 0).val ∧ (y 0).val < 32 * k.val + 128 + 32 := h 0
      obtain ⟨kv, hkv⟩ := k
      dsimp only at h0 hk
      obtain rfl : kv = ((y 0).val - 128) / 32 := by omega
      unfold scales
      rw [dif_neg (show ¬ (y 0).val < 128 by omega), hQ]
      unfold rowsX rowsC
      congr 1
      funext a
      match a with
      | 0 => apply Fin.ext; show (y 0).val - (32 * (((y 0).val - 128) / 32) + 128) = (y 0).val % 32; omega
      | 1 => apply Fin.ext; show (y 1).val - 0 = (y 1).val; omega
    · intro y hy hn
      by_contra hc
      apply hn
      have h1 : (y 1).val < 128 := (y 1).isLt
      intro a
      match a with
      | 0 => exact ⟨by show 32 * k.val + 128 ≤ (y 0).val; omega, by show (y 0).val < 32 * k.val + 128 + 32; omega⟩
      | 1 => exact ⟨Nat.zero_le _, by show (y 1).val < 0 + 128; omega⟩

/-- A block read right after it was stored is what was stored. -/
theorem readCov_same {κ : Kind} {sp : Space} {s : Shape} {e : EltTy} (v : View sig κ sp s e) {off size : Fin s.rank → ℕ}
    (inb : ∀ a, off a + size a ≤ s.size a) (w : (Rect.unit off size inb).shape.Idx → Elt F e) (L : List (View.Piece (Elt F) s e)) :
    v.readCov (⟨Rect.unit off size inb, w⟩ :: L) (Rect.unit off size inb).toLoadRect = w :=
  (View.readAt_unit v (v.writes (Elt F) v.junk (⟨Rect.unit off size inb, w⟩ :: L)) inb rfl inb).trans
    ((congrArg (fun X => VecWindow.window X off size inb) (View.read_writes_cons_put v v.junk inb w L rfl)).trans
      (VecWindow.window_put_same _ _ _ _ _))

/-- The codes' group `g` stored behind the groups before it. -/
theorem cc_step (x : FVec F S256x1280 .f32) (g : ℕ) (hg : g < 10) (X : Vec F S256x1280 .i8) (w : Vec F S256x128 .i8) (hw : w = ccG x g)
    (hX : ∀ y : S256x1280.Idx, (y 1).val < 128 * g → X y = ccOf x y) (y : S256x1280.Idx) (hy : (y 1).val < 128 * (g + 1)) :
    VecWindow.put X ![0, 128 * g] ![256, 128] w y = ccOf x y := by
  subst hw
  refine put_step _ _ _ _ _ (fun y => (y 1).val < 128 * g) (fun y => (y 1).val < 128 * (g + 1)) ?_ hX ?_ y hy
  · intro y h
    have h1 : 128 * g ≤ (y 1).val ∧ (y 1).val < 128 * g + 128 := h 1
    obtain rfl : g = (y 1).val / 128 := by omega
    unfold ccOf
    congr 1
    funext a
    match a with
    | 0 => apply Fin.ext; show (y 0).val - 0 = (y 0).val; omega
    | 1 => apply Fin.ext; show (y 1).val - 128 * ((y 1).val / 128) = (y 1).val % 128; omega
  · intro y hy hn
    by_contra hc
    apply hn
    have h0 : (y 0).val < 256 := (y 0).isLt
    intro a
    match a with
    | 0 => exact ⟨Nat.zero_le _, by show (y 0).val < 0 + 256; omega⟩
    | 1 => exact ⟨by show 128 * g ≤ (y 1).val; omega, by show (y 1).val < 128 * g + 128; omega⟩
/-- A program in two pieces, run one after the other. -/
theorem seg (c : Dev nD) (E : Set ℕ) {α β : Type} {P : sProp 𝕄} (p : Prog (TpuEff nD τ sig (Elt F) Λ₀ .tc) β)
    (k : β → Prog (TpuEff nD τ sig (Elt F) Λ₀ .tc) α) (Q : α → sProp 𝕄)
    (h : P ⊢ wp frame (wpE (defs₀ (F := F)) Variants.none (c : Thread nD τ) none) E p (fun b => wp frame (wpE (defs₀ (F := F)) Variants.none (c : Thread nD τ) none) E (k b) Q)) :
    P ⊢ wp frame (wpE (defs₀ (F := F)) Variants.none (c : Thread nD τ) none) E (p >>= k) Q := by
  rw [wp_bind]; exact h
theorem seg' (c : Dev nD) (E : Set ℕ) {α β : Type} (p : Prog (TpuEff nD τ sig (Elt F) Λ₀ .tc) β)
    (k : β → Prog (TpuEff nD τ sig (Elt F) Λ₀ .tc) α) (Q : α → sProp 𝕄) :
    wp frame (wpE (defs₀ (F := F)) Variants.none (c : Thread nD τ) none) E p (fun b => wp frame (wpE (defs₀ (F := F)) Variants.none (c : Thread nD τ) none) E (k b) Q)
      ⊢ wp frame (wpE (defs₀ (F := F)) Variants.none (c : Thread nD τ) none) E (p >>= k) Q :=
  seg c E p k Q .rfl
set_option maxHeartbeats 0 in
/-- The body at a point of the grid. -/
theorem body_point (c : Dev nD) (E : Set ℕ) (i : grid0.Coords) (arg1 : Memref sig .tc .vmem S256x4096 .bf16) (harg1 : arg1.IsWhole) (arg2 : Memref sig .tc .vmem S1x4096 .f32) (harg2 : arg2.IsWhole) (arg3 : Memref sig .tc .vmem S2320x4096 .fp8e4m3) (harg3 : arg3.IsWhole) (arg4 : Memref sig .tc .vmem S1x2320 .f32) (harg4 : arg4.IsWhole) (arg5 : Memref sig .tc .vmem S4x1280 .f32) (harg5 : arg5.IsWhole) (arg6 : Memref sig .tc .vmem S1x1280 .f32) (harg6 : arg6.IsWhole) (arg7 : Memref sig .tc .vmem S3x256x1280 .i8) (harg7 : arg7.IsWhole) (arg8 : Memref sig .tc .vmem S30x256 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x16 .f32) (harg11 : arg11.IsWhole) (arg12 : Memref sig .tc .vmem S48x1024 .bf16) (harg12 : arg12.IsWhole) (arg13 : Memref sig .tc .vmem S256x4096 .fp8e4m3) (harg13 : arg13.IsWhole) (arg14 : Memref sig .tc .vmem S1x256 .f32) (harg14 : arg14.IsWhole) (arg15 : Memref sig .tc .vmem S256x1024 .f32) (harg15 : arg15.IsWhole) (arg16 : Memref sig .tc .vmem S256x1280 .i8) (harg16 : arg16.IsWhole) (arg17 : Memref sig .tc .vmem S10x256 .f32) (harg17 : arg17.IsWhole) (arg18 : Memref sig .tc .vmem S256x8x128 .f32) (harg18 : arg18.IsWhole) (arg19 : Memref sig .tc .vmem S256x8x128 .f32) (harg19 : arg19.IsWhole) (arg20 : Memref sig .tc .vmem S256x8x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S128x256 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S256x1280 .f32) (harg27 : arg27.IsWhole)
    (x1 : Vec F S256x4096 .bf16) (x2 : Vec F S1x4096 .f32) (x3 : Vec F S2320x4096 .fp8e4m3) (x4 : Vec F S1x2320 .f32) (x5 : Vec F S4x1280 .f32) (x6 : Vec F S1x1280 .f32) (x7 : Vec F S3x256x1280 .i8) (x8 : Vec F S30x256 .f32) (x9 : Vec F S1x16 .f32) (x10 : Vec F S1x16 .f32) (x11 : Vec F S1x16 .f32) (x12 : Vec F S48x1024 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (codes x1 x2) ∗ owns (c : Thread nD τ) arg14 fullShare (k0_pay25 (sclCol x1 x2)) ∗ owns (c : Thread nD τ) arg15 fullShare (zOf (codes x1 x2) (sclCol x1 x2) x3 x4) ∗ owns (c : Thread nD τ) arg16 fullShare (ccOf (xbcOf (codes x1 x2) (sclCol x1 x2) x3 x4)) ∗ owns (c : Thread nD τ) arg17 fullShare (cscOf (xbcOf (codes x1 x2) (sclCol x1 x2) x3 x4)) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  rw [show cc0_in_proj (F := F) = cc0_in_proj_skel from cc0_in_proj_eq_skeleton]
  unfold cc0_in_proj_skel
  refine seg c E _ _ _ ?_
  rw [k0_part33_eq_skeleton]
  unfold k0_part33_skel
  refine seg c E _ _ _ ?_
  rw [k0_part5_eq_skeleton]
  unfold k0_part5_skel
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold owns
  iintro ⟨⟨%farg1, %earg1, Harg1⟩, ⟨%farg2, %earg2, Harg2⟩, ⟨%farg3, %earg3, Harg3⟩, ⟨%farg4, %earg4, Harg4⟩, ⟨%farg5, %earg5, Harg5⟩, ⟨%farg6, %earg6, Harg6⟩, ⟨%farg7, %earg7, Harg7⟩, ⟨%farg8, %earg8, Harg8⟩, ⟨%farg9, %earg9, Harg9⟩, ⟨%farg10, %earg10, Harg10⟩, ⟨%farg11, %earg11, Harg11⟩, ⟨%farg12, %earg12, Harg12⟩, ⟨%darg13, %farg13, -, Harg13⟩, ⟨%darg14, %farg14, -, Harg14⟩, ⟨%darg15, %farg15, -, Harg15⟩, ⟨%darg16, %farg16, -, Harg16⟩, ⟨%darg17, %farg17, -, Harg17⟩, ⟨%darg18, %farg18, -, Harg18⟩, ⟨%darg19, %farg19, -, Harg19⟩, ⟨%darg20, %farg20, -, Harg20⟩, ⟨%darg21, %farg21, -, Harg21⟩, ⟨%darg22, %farg22, -, Harg22⟩, ⟨%darg23, %farg23, -, Harg23⟩, ⟨%darg24, %farg24, -, Harg24⟩, ⟨%darg25, %farg25, -, Harg25⟩, ⟨%darg26, %farg26, -, Harg26⟩, ⟨%darg27, %farg27, -, Harg27⟩, Hk⟩
  subst earg1 earg2 earg3 earg4 earg5 earg6 earg7 earg8 earg9 earg10 earg11 earg12
  sl_for (inv1 c arg1 arg25 (partA (arg1.view.read (Elt F) farg1)) (arg1.view.read (Elt F) farg1)) $$ [Harg1 Harg25]
  case region => intro k _; dsimp only; exact trip1 c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (arg1.view.read (Elt F) farg1) k
  · unfold inv1 owns
    isplitl [Harg1]
    · iexists _; isplitr; swap; · iexact Harg1
      ipureintro; rfl
    iexists _; isplitr; swap
    · iexists _; isplitr; swap; · iexact Harg25
      ipureintro; rfl
    ipureintro
    intro y hy
    exact absurd hy (by omega)
  iintro %_ H
  unfold inv1
  icases H with ⟨Harg1, %P, %hP, Harg25⟩
  have eP : P = partA (arg1.view.read (Elt F) farg1) := funext fun y => hP y (y 0).isLt
  subst eP
  unfold owns
  icases Harg1 with ⟨%g1, %e1, Harg1⟩
  icases Harg25 with ⟨%g25, %e25, Harg25⟩
  sl_exec
  sl_for (inv2 c arg1 arg2 arg26 arg13 arg23 0 (arg1.view.read (Elt F) farg1) (arg2.view.read (Elt F) farg2) (colA (arg1.view.read (Elt F) farg1))) $$ [Harg1 Harg2 Harg26 Harg13 Harg23]
  case region => intro k _; dsimp only; exact trip2 c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 _ _ (arg1.view.read (Elt F) farg1) (arg2.view.read (Elt F) farg2) k
  · unfold inv2 owns
    isplitl [Harg1]
    · iexists _; isplitr; swap; · iexact Harg1
      ipureintro; exact e1
    isplitl [Harg2]
    · iexists _; isplitr; swap; · iexact Harg2
      ipureintro; rfl
    isplitl [Harg26]
    · iexists _; isplitr; swap; · iexact Harg26
      ipureintro
      unfold body_point.sl.Harg26_1; refine (View.read_writes_full _ _ _ _ []).trans ?_; unfold body_point.sl.r; rw [View.readAt_full, e25]; rfl
    isplitl [Harg13]
    · iexists _; isplitr; swap
      · iexists _; isplitr; swap; · iexact Harg13
        ipureintro; rfl
      ipureintro; intro y hy; exact absurd hy (by omega)
    · iexists _; isplitr; swap
      · iexists _; isplitr; swap; · iexact Harg23
        ipureintro; rfl
      ipureintro; intro y hy; exact absurd hy (by omega)
  iintro %_ H
  unfold inv2
  icases H with ⟨Harg1, Harg2, Harg26, ⟨%C, %hC, Harg13⟩, %S, %hS, Harg23⟩
  unfold owns
  icases Harg1 with ⟨%g1', %e1', Harg1⟩
  icases Harg2 with ⟨%g2, %e2, Harg2⟩
  icases Harg26 with ⟨%g26, %e26, Harg26⟩
  icases Harg13 with ⟨%g13, %e13, Harg13⟩
  icases Harg23 with ⟨%g23, %e23, Harg23⟩
  sl_for (inv1 c arg1 arg25 (partB (arg1.view.read (Elt F) farg1)) (arg1.view.read (Elt F) farg1)) $$ [Harg1 Harg25]
  case region => intro k _; dsimp only; exact trip3 c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 _ _ (arg1.view.read (Elt F) farg1) k
  · unfold inv1 owns
    isplitl [Harg1]
    · iexists _; isplitr; swap; · iexact Harg1
      ipureintro; exact e1'
    iexists _; isplitr; swap
    · iexists _; isplitr; swap; · iexact Harg25
      ipureintro; rfl
    ipureintro
    intro y hy
    exact absurd hy (by omega)
  iintro %_ H
  unfold inv1
  icases H with ⟨Harg1, %P', %hP', Harg25⟩
  have eP' : P' = partB (arg1.view.read (Elt F) farg1) := funext fun y => hP' y (y 0).isLt
  subst eP'
  unfold owns
  icases Harg1 with ⟨%g1b, %e1b, Harg1⟩
  icases Harg25 with ⟨%g25b, %e25b, Harg25⟩
  sl_exec
  sl_for (inv2 c arg1 arg2 arg26 arg13 arg23 128 (arg1.view.read (Elt F) farg1) (arg2.view.read (Elt F) farg2) (colB (arg1.view.read (Elt F) farg1))) $$ [Harg1 Harg2 Harg26 Harg13 Harg23]
  case region => intro k _; dsimp only; exact trip4 c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 _ (arg1.view.read (Elt F) farg1) (arg2.view.read (Elt F) farg2) k
  · unfold inv2 owns
    isplitl [Harg1]
    · iexists _; isplitr; swap; · iexact Harg1
      ipureintro; exact e1b
    isplitl [Harg2]
    · iexists _; isplitr; swap; · iexact Harg2
      ipureintro; exact e2
    isplitl [Harg26]
    · iexists _; isplitr; swap; · iexact Harg26
      ipureintro
      unfold body_point.sl.Harg26_1_1; refine (View.read_writes_full _ _ _ _ _).trans ?_
      unfold body_point.sl.r_4 body_point.sl.r_1 body_point.sl.r_2 body_point.sl.r_3; rw [View.readAt_full, e25b]; rfl
    isplitl [Harg13]
    · iexists _; isplitr; swap
      · iexists _; isplitr; swap; · iexact Harg13
        ipureintro; rfl
      ipureintro; intro y hy; exact (congrFun e13 y).trans (hC y (Nat.lt_of_lt_of_eq hy (by rfl)))
    · iexists _; isplitr; swap
      · iexists _; isplitr; swap; · iexact Harg23
        ipureintro; rfl
      ipureintro; intro y hy; exact (congrFun e23 y).trans (hS y (Nat.lt_of_lt_of_eq hy (by rfl)))
  iintro %_ H
  unfold inv2
  icases H with ⟨Harg1, Harg2, Harg26, ⟨%C', %hC', Harg13⟩, %S', %hS', Harg23⟩
  have eC' : C' = codes (arg1.view.read (Elt F) farg1) (arg2.view.read (Elt F) farg2) := funext fun y => hC' y (y 0).isLt
  have eS' : S' = scales (arg1.view.read (Elt F) farg1) (arg2.view.read (Elt F) farg2) := funext fun y => hS' y (y 0).isLt
  subst eC' eS'
  unfold owns
  icases Harg1 with ⟨%g1c, %e1c, Harg1⟩
  icases Harg2 with ⟨%g2c, %e2c, Harg2⟩
  icases Harg26 with ⟨%g26c, %e26c, Harg26⟩
  icases Harg13 with ⟨%g13c, %e13c, Harg13⟩
  icases Harg23 with ⟨%g23c, %e23c, Harg23⟩
  sl_exec
  sl_step
  iapply Hk
  have hq : View.readAt (Elt F) arg23.view (Rect.unit (s := S256x128) ![0, 0] S256x1.size inb_S256x128_S256x1_0_0).toLoadRect g23c = sclCol (arg1.view.read (Elt F) farg1) (arg2.view.read (Elt F) farg2) := by
    rw [View.readAt_unit _ _ _ rfl inb_S256x128_S256x1_0_0, e23c]; rfl
  have hc : View.readAt (Elt F) arg13.view (Rect.unit (s := S256x4096) ![0, 0] S256x4096.size inb_S256x4096_S256x4096_0_0).toLoadRect g13c = codes (arg1.view.read (Elt F) farg1) (arg2.view.read (Elt F) farg2) := by
    rw [View.readAt_full, e13c]
  have hz : View.read (Elt F) arg15.view (arg15.view.writes (Elt F) farg15 [⟨Rect.unit ![0, 0] S256x1024.size inb_S256x1024_S256x1024_0_0, k0_pay30 (body_point.sl.r_7 c arg3 arg13 arg23 arg27 farg3 g13c g23c) (body_point.sl.r_8 c arg4 farg4)⟩])
      = zOf (codes (arg1.view.read (Elt F) farg1) (arg2.view.read (Elt F) farg2)) (sclCol (arg1.view.read (Elt F) farg1) (arg2.view.read (Elt F) farg2)) (arg3.view.read (Elt F) farg3) (arg4.view.read (Elt F) farg4) := by
    refine (View.read_writes_full _ _ _ _ []).trans ?_
    unfold body_point.sl.r_7 body_point.sl.r_8 body_point.sl.v170 body_point.sl.Harg27_1
    rw [hq, hc, readCov_same]
    rfl
  have hxbc : body_point.sl.r_9 c arg3 arg4 arg13 arg23 arg27 farg3 farg4 g13c g23c
      = xbcOf (codes (arg1.view.read (Elt F) farg1) (arg2.view.read (Elt F) farg2)) (sclCol (arg1.view.read (Elt F) farg1) (arg2.view.read (Elt F) farg2)) (arg3.view.read (Elt F) farg3) (arg4.view.read (Elt F) farg4) := by
    unfold body_point.sl.r_9 body_point.sl.r_5 body_point.sl.r_6 body_point.sl.v190 body_point.sl.Harg27_2
    rw [hq, hc, readCov_same]
    unfold body_point.sl.r_6
    rw [hc]
    rfl
  isplitl [Harg1]
  · iexists _; isplitr; swap; · iexact Harg1
    ipureintro; exact e1c
  isplitl [Harg2]
  · iexists _; isplitr; swap; · iexact Harg2
    ipureintro; exact e2c
  isplitl [Harg3]
  · iexists _; isplitr; swap; · iexact Harg3
    ipureintro; rfl
  isplitl [Harg4]
  · iexists _; isplitr; swap; · iexact Harg4
    ipureintro; rfl
  isplitl [Harg5]
  · iexists _; isplitr; swap; · iexact Harg5
    ipureintro; rfl
  isplitl [Harg6]
  · iexists _; isplitr; swap; · iexact Harg6
    ipureintro; rfl
  isplitl [Harg7]
  · iexists _; isplitr; swap; · iexact Harg7
    ipureintro; rfl
  isplitl [Harg8]
  · iexists _; isplitr; swap; · iexact Harg8
    ipureintro; rfl
  isplitl [Harg9]
  · iexists _; isplitr; swap; · iexact Harg9
    ipureintro; rfl
  isplitl [Harg10]
  · iexists _; isplitr; swap; · iexact Harg10
    ipureintro; rfl
  isplitl [Harg11]
  · iexists _; isplitr; swap; · iexact Harg11
    ipureintro; rfl
  isplitl [Harg12]
  · iexists _; isplitr; swap; · iexact Harg12
    ipureintro; rfl
  isplitl [Harg13]
  · iexists _; isplitr; swap; · iexact Harg13
    ipureintro; exact e13c
  isplitl [Harg14]
  · iexists _; isplitr; swap; · iexact Harg14
    ipureintro; exact (View.read_writes_full _ _ _ _ []).trans (congrArg k0_pay25 hq)
  isplitl [Harg15]
  · iexists _; isplitr; swap; · iexact Harg15
    ipureintro; exact hz
  isplitl [Harg16]
  · iexists _; isplitr; swap; · iexact Harg16
    ipureintro; rw [← hxbc]; refine funext fun y => ?_; exact (fun y hy => (congrFun (View.read_writes_cons_put _ _ _ _ _ rfl) y).trans (cc_step _ 9 (by decide) _ _ rfl (fun y hy => (congrFun (View.read_writes_cons_put _ _ _ _ _ rfl) y).trans (cc_step _ 8 (by decide) _ _ rfl (fun y hy => (congrFun (View.read_writes_cons_put _ _ _ _ _ rfl) y).trans (cc_step _ 7 (by decide) _ _ rfl (fun y hy => (congrFun (View.read_writes_cons_put _ _ _ _ _ rfl) y).trans (cc_step _ 6 (by decide) _ _ rfl (fun y hy => (congrFun (View.read_writes_cons_put _ _ _ _ _ rfl) y).trans (cc_step _ 5 (by decide) _ _ rfl (fun y hy => (congrFun (View.read_writes_cons_put _ _ _ _ _ rfl) y).trans (cc_step _ 4 (by decide) _ _ rfl (fun y hy => (congrFun (View.read_writes_cons_put _ _ _ _ _ rfl) y).trans (cc_step _ 3 (by decide) _ _ rfl (fun y hy => (congrFun (View.read_writes_cons_put _ _ _ _ _ rfl) y).trans (cc_step _ 2 (by decide) _ _ rfl (fun y hy => (congrFun (View.read_writes_cons_put _ _ _ _ _ rfl) y).trans (cc_step _ 1 (by decide) _ _ rfl (fun y hy => (congrFun (View.read_writes_cons_put _ _ _ _ _ rfl) y).trans (cc_step _ 0 (by decide) _ _ rfl (fun y hy => absurd hy (Nat.not_lt_zero _)) y hy)) y hy)) y hy)) y hy)) y hy)) y hy)) y hy)) y hy)) y hy)) y hy)) y (y 1).isLt
  isplitl [Harg17]
  · iexists _; isplitr; swap; · iexact Harg17
    ipureintro; rw [← hxbc]; exact (View.read_writes_full _ _ _ _ []).trans rfl
  isplitl [Harg18]
  · iexists _; iexists _; isplitr; swap; · iexact Harg18
    ipureintro; rfl
  isplitl [Harg19]
  · iexists _; iexists _; isplitr; swap; · iexact Harg19
    ipureintro; rfl
  isplitl [Harg20]
  · iexists _; iexists _; isplitr; swap; · iexact Harg20
    ipureintro; rfl
  isplitl [Harg21]
  · iexists _; iexists _; isplitr; swap; · iexact Harg21
    ipureintro; rfl
  isplitl [Harg22]
  · iexists _; iexists _; isplitr; swap; · iexact Harg22
    ipureintro; rfl
  isplitl [Harg23]
  · iexists _; iexists _; isplitr; swap; · iexact Harg23
    ipureintro; rfl
  isplitl [Harg24]
  · iexists _; iexists _; isplitr; swap; · iexact Harg24
    ipureintro; rfl
  isplitl [Harg25]
  · iexists _; iexists _; isplitr; swap; · iexact Harg25
    ipureintro; rfl
  isplitl [Harg26]
  · iexists _; iexists _; isplitr; swap; · iexact Harg26
    ipureintro; rfl
  · iexists _; iexists _; isplitr; swap; · iexact Harg27
    ipureintro; rfl

end Cert.InProj.Hand

end

end
-- ==== Proof.InKernelRun.lean ====
/-
  Hand-written, untrusted. The input-projection kernel over its whole grid, nine tiles of 256 tokens. No point reads what
  another left: the invariant of the pipeline owns the scratch buffers at any contents. An output window is held to a predicate: the
  codes, the scales, `z`, the convolution's codes and its scales to what the body computes of the input blocks, the others to nothing.
-/
module

public import proofs.«01_k».proof.Proof.InKernelBody
public import Idealize.ShloMosaic.Lib.Pipeline.DatRel
public import Idealize.ShloMosaic.Lib.Pipeline.ArrRel
public import Idealize.ShloMosaic.Lib.Pipeline.ValueKit

@[expose] public section

noncomputable section

namespace Cert.InProj.Hand

open Cert.InProj Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The output windows are held to a predicate, the input windows named exactly. -/
def fgt : Fin cfg0.W → Bool := fun w => decide (12 ≤ w.val)

/-- What a point leaves in an output window. -/
def Rl (c : Dev nD) : (w : Fin cfg0.W) → Fin cfg0.N → ((cfg0.win w).block.Idx → Elt F (cfg0.win w).elt) → Prop
  | ⟨12, _⟩ => fun t X => X = codes (iblk m c 0 t) (iblk m c 1 t)
  | ⟨13, _⟩ => fun t X => X = k0_pay25 (sclCol (iblk m c 0 t) (iblk m c 1 t))
  | ⟨14, _⟩ => fun t X => X = zOf (codes (iblk m c 0 t) (iblk m c 1 t)) (sclCol (iblk m c 0 t) (iblk m c 1 t)) (iblk m c 2 t) (iblk m c 3 t)
  | ⟨15, _⟩ => fun t X => X = ccOf (xbcOf (codes (iblk m c 0 t) (iblk m c 1 t)) (sclCol (iblk m c 0 t) (iblk m c 1 t)) (iblk m c 2 t) (iblk m c 3 t))
  | ⟨16, _⟩ => fun t X => X = cscOf (xbcOf (codes (iblk m c 0 t) (iblk m c 1 t)) (sclCol (iblk m c 0 t) (iblk m c 1 t)) (iblk m c 2 t) (iblk m c 3 t))
  | _ => fun _ _ => True

/-- The invariant before any point: the scratch buffers at some contents, the generator register at some state. -/
def Phi (c : Dev nD) : sProp 𝕄 :=
  iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d))
    ∗ ∃ r, prngReg c r)

/-- The proof data: the arrays as the region finds them, the input windows at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | w => Pipeline.Dat.unnamed (cfg := cfg0) w t
  Φ t := Phi c
  q _ := fullShare
  owed _ := 0

/-- The same, the output windows held to `Rl`. -/
abbrev rdat (c : Dev nD) : RDat τ (Elt F) Unit ℕ (UR sig nD τ) ℕ cfg0 c := (dats m 0 c).toRRel fgt (Rl m c)

theorem A_eq (c : Dev nD) (w : Fin cfg0.W) : (dats m 0 c).A w = V m c (Pipeline.arrRef spec0 w) := by dsimp only [dats]
theorem bef0 (c : Dev nD) (t : Fin cfg0.N) (d) : (dats m 0 c).before 0 t d = iblk m c 0 t := before0_0_of m (dats m 0 c) rfl (fun _ => rfl) t d
theorem bef1 (c : Dev nD) (t : Fin cfg0.N) (d) : (dats m 0 c).before 1 t d = iblk m c 1 t := before0_1_of m (dats m 0 c) rfl (fun _ => rfl) t d
theorem bef2 (c : Dev nD) (t : Fin cfg0.N) (d) : (dats m 0 c).before 2 t d = iblk m c 2 t := before0_2_of m (dats m 0 c) rfl (fun _ => rfl) t d
theorem bef3 (c : Dev nD) (t : Fin cfg0.N) (d) : (dats m 0 c).before 3 t d = iblk m c 3 t := before0_3_of m (dats m 0 c) rfl (fun _ => rfl) t d
theorem bef4 (c : Dev nD) (t : Fin cfg0.N) (d) : (dats m 0 c).before 4 t d = iblk m c 4 t := before0_4_of m (dats m 0 c) rfl (fun _ => rfl) t d
theorem bef5 (c : Dev nD) (t : Fin cfg0.N) (d) : (dats m 0 c).before 5 t d = iblk m c 5 t := before0_5_of m (dats m 0 c) rfl (fun _ => rfl) t d
theorem bef6 (c : Dev nD) (t : Fin cfg0.N) (d) : (dats m 0 c).before 6 t d = iblk m c 6 t := before0_6_of m (dats m 0 c) rfl (fun _ => rfl) t d
theorem bef7 (c : Dev nD) (t : Fin cfg0.N) (d) : (dats m 0 c).before 7 t d = iblk m c 7 t := before0_7_of m (dats m 0 c) rfl (fun _ => rfl) t d
theorem bef8 (c : Dev nD) (t : Fin cfg0.N) (d) : (dats m 0 c).before 8 t d = iblk m c 8 t := before0_8_of m (dats m 0 c) rfl (fun _ => rfl) t d
theorem bef9 (c : Dev nD) (t : Fin cfg0.N) (d) : (dats m 0 c).before 9 t d = iblk m c 9 t := before0_9_of m (dats m 0 c) rfl (fun _ => rfl) t d
theorem bef10 (c : Dev nD) (t : Fin cfg0.N) (d) : (dats m 0 c).before 10 t d = iblk m c 10 t := before0_10_of m (dats m 0 c) rfl (fun _ => rfl) t d
theorem bef11 (c : Dev nD) (t : Fin cfg0.N) (d) : (dats m 0 c).before 11 t d = iblk m c 11 t := before0_11_of m (dats m 0 c) rfl (fun _ => rfl) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d))
    ∗ (∃ Y, ⌜(rdat m c).Finds 12 t Y⌝ ∗ owns (c : Thread nD τ) (st0_12 t) fullShare Y) ∗ (∃ Y, ⌜(rdat m c).Finds 13 t Y⌝ ∗ owns (c : Thread nD τ) (st0_13 t) fullShare Y) ∗ (∃ Y, ⌜(rdat m c).Finds 14 t Y⌝ ∗ owns (c : Thread nD τ) (st0_14 t) fullShare Y) ∗ (∃ Y, ⌜(rdat m c).Finds 15 t Y⌝ ∗ owns (c : Thread nD τ) (st0_15 t) fullShare Y) ∗ (∃ Y, ⌜(rdat m c).Finds 16 t Y⌝ ∗ owns (c : Thread nD τ) (st0_16 t) fullShare Y) ∗ (∃ Y, ⌜(rdat m c).Finds 17 t Y⌝ ∗ owns (c : Thread nD τ) (st0_17 t) fullShare Y) ∗ (∃ Y, ⌜(rdat m c).Finds 18 t Y⌝ ∗ owns (c : Thread nD τ) (st0_18 t) fullShare Y) ∗ (∃ Y, ⌜(rdat m c).Finds 19 t Y⌝ ∗ owns (c : Thread nD τ) (st0_19 t) fullShare Y) ∗ (∃ Y, ⌜(rdat m c).Finds 20 t Y⌝ ∗ owns (c : Thread nD τ) (st0_20 t) fullShare Y) ∗ (∃ Y, ⌜(rdat m c).Finds 21 t Y⌝ ∗ owns (c : Thread nD τ) (st0_21 t) fullShare Y))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t)
    ∗ (∃ X, ⌜Rl m c 12 t X⌝ ∗ owns (c : Thread nD τ) (st0_12 t) fullShare X) ∗ (∃ X, ⌜Rl m c 13 t X⌝ ∗ owns (c : Thread nD τ) (st0_13 t) fullShare X) ∗ (∃ X, ⌜Rl m c 14 t X⌝ ∗ owns (c : Thread nD τ) (st0_14 t) fullShare X) ∗ (∃ X, ⌜Rl m c 15 t X⌝ ∗ owns (c : Thread nD τ) (st0_15 t) fullShare X) ∗ (∃ X, ⌜Rl m c 16 t X⌝ ∗ owns (c : Thread nD τ) (st0_16 t) fullShare X) ∗ (∃ X, ⌜Rl m c 17 t X⌝ ∗ owns (c : Thread nD τ) (st0_17 t) fullShare X) ∗ (∃ X, ⌜Rl m c 18 t X⌝ ∗ owns (c : Thread nD τ) (st0_18 t) fullShare X) ∗ (∃ X, ⌜Rl m c 19 t X⌝ ∗ owns (c : Thread nD τ) (st0_19 t) fullShare X) ∗ (∃ X, ⌜Rl m c 20 t X⌝ ∗ owns (c : Thread nD τ) (st0_20 t) fullShare X) ∗ (∃ X, ⌜Rl m c 21 t X⌝ ∗ owns (c : Thread nD τ) (st0_21 t) fullShare X))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Phi c from rfl, show (dats m 0 c).Φ t.succ = Phi c from rfl]
  unfold Phi
  simp only [bef0, bef1, bef2, bef3, bef4, bef5, bef6, bef7, bef8, bef9, bef10, bef11]
  simp only [show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl, show (dats m 0 c).after 5 t = iblk m c 5 t from rfl, show (dats m 0 c).after 6 t = iblk m c 6 t from rfl, show (dats m 0 c).after 7 t = iblk m c 7 t from rfl, show (dats m 0 c).after 8 t = iblk m c 8 t from rfl, show (dats m 0 c).after 9 t = iblk m c 9 t from rfl, show (dats m 0 c).after 10 t = iblk m c 10 t from rfl, show (dats m 0 c).after 11 t = iblk m c 11 t from rfl]
  iintro ⟨⟨⟨HS0, HS1, HS2, HS3, HS4⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y12, -, H12⟩, ⟨%Y13, -, H13⟩, ⟨%Y14, -, H14⟩, ⟨%Y15, -, H15⟩, ⟨%Y16, -, H16⟩, ⟨%Y17, -, H17⟩, ⟨%Y18, -, H18⟩, ⟨%Y19, -, H19⟩, ⟨%Y20, -, H20⟩, ⟨%Y21, -, H21⟩⟩
  iapply (body_point c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (st0_21 t) (hstage0_21 ((cfg0.slots t 21).cast nbuf0_21)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, ⟨%d17, H17⟩, ⟨%d18, H18⟩, ⟨%d19, H19⟩, ⟨%d20, H20⟩, ⟨%d21, H21⟩, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists (codes (iblk m c 0 t) (iblk m c 1 t)); isplitr; · ipureintro; exact rfl
    iexact H12
  isplitl [H13]
  · iexists (k0_pay25 (sclCol (iblk m c 0 t) (iblk m c 1 t))); isplitr; · ipureintro; exact rfl
    iexact H13
  isplitl [H14]
  · iexists (zOf (codes (iblk m c 0 t) (iblk m c 1 t)) (sclCol (iblk m c 0 t) (iblk m c 1 t)) (iblk m c 2 t) (iblk m c 3 t)); isplitr; · ipureintro; exact rfl
    iexact H14
  isplitl [H15]
  · iexists (ccOf (xbcOf (codes (iblk m c 0 t) (iblk m c 1 t)) (sclCol (iblk m c 0 t) (iblk m c 1 t)) (iblk m c 2 t) (iblk m c 3 t))); isplitr; · ipureintro; exact rfl
    iexact H15
  isplitl [H16]
  · iexists (cscOf (xbcOf (codes (iblk m c 0 t) (iblk m c 1 t)) (sclCol (iblk m c 0 t) (iblk m c 1 t)) (iblk m c 2 t) (iblk m c 3 t))); isplitr; · ipureintro; exact rfl
    iexact H16
  isplitl [H17]
  · iexists d17; isplitr; · ipureintro; exact trivial
    iexact H17
  isplitl [H18]
  · iexists d18; isplitr; · ipureintro; exact trivial
    iexact H18
  isplitl [H19]
  · iexists d19; isplitr; · ipureintro; exact trivial
    iexact H19
  isplitl [H20]
  · iexists d20; isplitr; · ipureintro; exact trivial
    iexact H20
  · iexists d21; isplitr; · ipureintro; exact trivial
    iexact H21

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The launch -/

theorem Phi_in (c : Dev nD) : Pipeline.ΦA spec0 c ⊢ (dats (F := F) m 0 c).Φ 0 := by
  show _ ⊢ Phi c
  unfold Pipeline.ΦA Phi
  rw [scopedRest0_eq]
  simp only [owns_whole]
  exact .rfl

theorem Phi_out (c : Dev nD) : (dats (F := F) m 0 c).Φ (Fin.last cfg0.N) ⊢ Pipeline.ΦA spec0 c := by
  show Phi c ⊢ _
  unfold Pipeline.ΦA Phi
  rw [scopedRest0_eq]
  simp only [owns_whole]
  exact .rfl

-- the launch theorem's implicit arguments are found by unifying its conclusion with this statement, which unifies only when
-- unification may unfold plain definitions in a metavariable's type
set_option backward.isDefEq.respectTransparency.types false in
set_option maxHeartbeats 800000 in
/-- The launch at any proof data: stated apart, so that the invariant of the data at hand is not unfolded. -/
theorem run_of (dat : (c : Dev nD) → Dat τ (Elt F) Unit ℕ (UR sig nD τ) ℕ cfg0 c) (fg : Fin cfg0.W → Bool)
    (R : (c : Dev nD) → (w : Fin cfg0.W) → Fin cfg0.N → ((cfg0.win w).block.Idx → Elt F (cfg0.win w).elt) → Prop)
    (hbody : ∀ c, BodyObligationRel (dat c) (defs₀ (F := F)) Variants.none () Set.univ fg (R c))
    (hshare : ∀ c w, (dat c).share w = fullShare) (howed : ∀ c t, (dat c).owed t = 0)
    (hA : ∀ c w, (dat c).A w = V m c (Pipeline.arrRef spec0 w))
    (hin : ∀ c, Pipeline.ΦA spec0 c ⊢ (dat c).Φ 0) (hout : ∀ c, (dat c).Φ (Fin.last cfg0.N) ⊢ Pipeline.ΦA spec0 c) :
    θ_run defs (onTc (τ := τ) (main (F := F))) (s₀ m ρ)
      (fun r => RDat.FramePost (cfgs 0) (fun c => (dat c).toRRel fg (R c)) (V m) r ∧ r.2.sem = fun _ => 0) :=
  RDat.θ_run_frame_track (Q' := _) cfgs (0 : Fin 1) launch0 defs₀ Variants.none (fun c => (dat c).toRRel fg (R c)) m ρ main
    (fun c => (hbody c).toRRel) hshare howed (V := V m) (hmain := hmain m Variants.none) hA hin hout

theorem run_main :
    θ_run defs (onTc (τ := τ) (main (F := F))) (s₀ m ρ)
      (fun r => RDat.FramePost (cfgs 0) (fun c => rdat m c) (V m) r ∧ r.2.sem = fun _ => 0) :=
  run_of m ρ (fun c => dats m 0 c) fgt (Rl m) (body_obligation m) (fun c => (dats m 0 c).share_full fun _ => rfl) (fun _ _ => rfl) (A_eq m)
    (Phi_in m) (Phi_out m)

variable {m ρ}

/-- The arguments are as launched. -/
def ArgsKept (m : (ℓ : Loc nD τ sig) → Buf (Elt F) ℓ) (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)

theorem args_kept {r : PUnit × MemSt nD τ sig (Elt F)} (h : RDat.FramePost (cfgs 0) (fun c => rdat m c) (V m) r) (c : Dev nD) : ArgsKept m r c :=
  ⟨(RDat.FramePost.arr_in h c 0 rfl).trans (V_main_arg0 m c),
    (h c).2 main_arg1 (Pipeline.mem_restRefs_of main_arg1 (by decide) (by decide)) |>.trans (V_main_arg1 m c),
    (h c).2 main_arg2 (Pipeline.mem_restRefs_of main_arg2 (by decide) (by decide)) |>.trans (V_main_arg2 m c),
    (h c).2 main_arg3 (Pipeline.mem_restRefs_of main_arg3 (by decide) (by decide)) |>.trans (V_main_arg3 m c),
    (RDat.FramePost.arr_in h c 4 rfl).trans (V_main_arg4 m c),
    (h c).2 main_arg5 (Pipeline.mem_restRefs_of main_arg5 (by decide) (by decide)) |>.trans (V_main_arg5 m c),
    (h c).2 main_arg6 (Pipeline.mem_restRefs_of main_arg6 (by decide) (by decide)) |>.trans (V_main_arg6 m c),
    (h c).2 main_arg7 (Pipeline.mem_restRefs_of main_arg7 (by decide) (by decide)) |>.trans (V_main_arg7 m c),
    (h c).2 main_arg8 (Pipeline.mem_restRefs_of main_arg8 (by decide) (by decide)) |>.trans (V_main_arg8 m c),
    (h c).2 main_arg9 (Pipeline.mem_restRefs_of main_arg9 (by decide) (by decide)) |>.trans (V_main_arg9 m c),
    (h c).2 main_arg10 (Pipeline.mem_restRefs_of main_arg10 (by decide) (by decide)) |>.trans (V_main_arg10 m c)⟩

end Cert.InProj.Hand

end

end
-- ==== Proof.InIdealBody.lean ====
/-
  Hand-written, untrusted. The body of the input-projection kernel at one point of its grid, run once by `sl_exec` and its four
  counted loops by hand: the sums of squares of the first 128 rows' lanes, the first 128 rows' scales and codes, and the same two
  for the other 128 rows. The result says what is left in the windows of the codes, the scales, `z`, the convolution's codes and its scales;
  of the other output windows and of the scratch buffers it says nothing.
-/
module

public import proofs.«01_k».proof.Proof.Gen.InProjIdeal.Frame
public import proofs.«01_k».proof.Proof.Gen.InProjIdeal.Skeleton
public import Idealize.ShloMosaic.Lib.Pipeline.Frame
public import Idealize.ShloMosaic.Lib.Tactic
public import Idealize.ShloMosaic.Lib.VecWindow

@[expose] public section

set_option maxRecDepth 8192

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## What the body computes -/

/-- Rows `o` to `o + 31` of the tile of tokens. -/
def rowsX (X : Vec F S256x4096 .bf16) (o : ℕ) (h : o + 32 ≤ 256) : Vec F S32x4096 .bf16 :=
  VecWindow.window (s := S256x4096) X ![o, 0] ![32, 4096] (fun a => match a with | 0 => h | 1 => Nat.le_refl 4096)
/-- Rows `o` to `o + 31` of the first column of a column buffer. -/
def rowsC (Q : Vec F S128x128 .f32) (o : ℕ) (h : o + 32 ≤ 128) : Vec F S32x1 .f32 :=
  VecWindow.window (s := S128x128) Q ![o, 0] ![32, 1] (fun a => match a with | 0 => h | 1 => by show 0 + 1 ≤ 128; omega)

/-- The sums of squares of rows 0 to 127, lane by lane. -/
def partA (X : Vec F S256x4096 .bf16) : Vec F S128x128 .f32 := fun y =>
  have h : (y 0).val < 128 := (y 0).isLt
  have w := rowsX X (32 * ((y 0).val / 32)) (by omega)
  k0_pay15 (k0_pay1 w) (k0_pay2 w) (k0_pay3 w)
    (fun a => match a with | 0 => ⟨(y 0).val % 32, Nat.mod_lt _ (by decide)⟩ | 1 => ⟨(y 1).val, (y 1).isLt⟩)
/-- The sums of squares of rows 128 to 255, lane by lane. -/
def partB (X : Vec F S256x4096 .bf16) : Vec F S128x128 .f32 := fun y =>
  have h : (y 0).val < 128 := (y 0).isLt
  have w := rowsX X (32 * ((y 0).val / 32) + 128) (by omega)
  k0_pay19 (k0_pay8 w) (k0_pay9 w) (k0_pay10 w)
    (fun a => match a with | 0 => ⟨(y 0).val % 32, Nat.mod_lt _ (by decide)⟩ | 1 => ⟨(y 1).val, (y 1).isLt⟩)
/-- The columns of the rows' reciprocal root mean squares. -/
def colA (X : Vec F S256x4096 .bf16) : Vec F S128x128 .f32 := k0_pay17 (k0_pay16 (partA X)) 4#32
def colB (X : Vec F S256x4096 .bf16) : Vec F S128x128 .f32 := k0_pay23 (k0_pay20 (partB X)) (k0_pay21 (partB X)) (k0_pay22 (partB X))

/-- The codes of the tile, thirty-two rows at a time. -/
def codes (X : Vec F S256x4096 .bf16) (N : Vec F S1x4096 .f32) : Vec F S256x4096 .fp8e4m3 := fun y =>
  have h : (y 0).val < 256 := (y 0).isLt
  if h1 : (y 0).val < 128 then
    k0_pay6 (rowsX X (32 * ((y 0).val / 32)) (by omega)) (rowsC (colA X) (32 * ((y 0).val / 32)) (by omega)) N
      (fun a => match a with | 0 => ⟨(y 0).val % 32, Nat.mod_lt _ (by decide)⟩ | 1 => ⟨(y 1).val, (y 1).isLt⟩)
  else
    k0_pay13 (rowsX X (32 * (((y 0).val - 128) / 32) + 128) (by omega)) (rowsC (colB X) (32 * (((y 0).val - 128) / 32)) (by omega)) N
      (fun a => match a with | 0 => ⟨(y 0).val % 32, Nat.mod_lt _ (by decide)⟩ | 1 => ⟨(y 1).val, (y 1).isLt⟩)
/-- The scales of the tile's rows, over the lanes. -/
def scales (X : Vec F S256x4096 .bf16) (N : Vec F S1x4096 .f32) : Vec F S256x128 .f32 := fun y =>
  have h : (y 0).val < 256 := (y 0).isLt
  if h1 : (y 0).val < 128 then
    k0_pay18 (k0_pay7 (rowsX X (32 * ((y 0).val / 32)) (by omega)) (rowsC (colA X) (32 * ((y 0).val / 32)) (by omega)) N)
      (fun a => match a with | 0 => ⟨(y 0).val % 32, Nat.mod_lt _ (by decide)⟩ | 1 => ⟨(y 1).val, (y 1).isLt⟩)
  else
    k0_pay24 (k0_pay14 (rowsX X (32 * (((y 0).val - 128) / 32) + 128) (by omega)) (rowsC (colB X) (32 * (((y 0).val - 128) / 32)) (by omega)) N)
      (fun a => match a with | 0 => ⟨(y 0).val % 32, Nat.mod_lt _ (by decide)⟩ | 1 => ⟨(y 1).val, (y 1).isLt⟩)

/-- The scales' first column. -/
def sclCol (X : Vec F S256x4096 .bf16) (N : Vec F S1x4096 .f32) : Vec F S256x1 .f32 :=
  VecWindow.window (s := S256x128) (scales X N) ![0, 0] ![256, 1] inb_S256x128_S256x1_0_0
/-- `z`: the projection's first 1024 columns, from the codes, their scales, the weights and the weights' scales. -/
def zOf (C : Vec F S256x4096 .fp8e4m3) (Q : Vec F S256x1 .f32) (W : Vec F S2320x4096 .fp8e4m3) (Ws : Vec F S1x2320 .f32) : Vec F S256x1024 .f32 :=
  k0_pay30 (k0_pay28 Q C (VecWindow.window (s := S2320x4096) W ![0, 2048] ![1024, 2048] inb_S2320x4096_S1024x2048_0_2048)
      (k0_pay27 C (VecWindow.window (s := S2320x4096) W ![0, 0] ![1024, 2048] inb_S2320x4096_S1024x2048_0_0)))
    (k0_pay29 (VecWindow.window (s := S1x2320) Ws ![0, 0] ![1, 1024] inb_S1x2320_S1x1024_0_0))
/-- The projection's next 1280 columns. -/
def xbcOf (C : Vec F S256x4096 .fp8e4m3) (Q : Vec F S256x1 .f32) (W : Vec F S2320x4096 .fp8e4m3) (Ws : Vec F S1x2320 .f32) : Vec F S256x1280 .f32 :=
  k0_pay32 Q (k0_pay26 C) (VecWindow.window (s := S2320x4096) W ![1024, 2048] ![1280, 2048] inb_S2320x4096_S1280x2048_1024_2048)
    (k0_pay31 (k0_pay26 C) (VecWindow.window (s := S2320x4096) W ![1024, 0] ![1280, 2048] inb_S2320x4096_S1280x2048_1024_0))
    (VecWindow.window (s := S1x2320) Ws ![0, 1024] ![1, 1280] inb_S1x2320_S1x1280_0_1024)

/-- The int8 codes of group `g` of 128 columns. -/
def ccG (x : FVec F S256x1280 .f32) : ℕ → Vec F S256x128 .i8
  | 0 => k0_pay44 (k0_pay42 x) k0_pay43
  | 1 => k0_pay50 x
  | 2 => k0_pay57 x
  | 3 => k0_pay65 (k0_pay61 x) (k0_pay62 x) (k0_pay63 x)
  | 4 => k0_pay72 (k0_pay71 x) 4294967169#32 127#32
  | 5 => k0_pay79 x
  | 6 => k0_pay86 x
  | 7 => k0_pay93 (k0_pay90 x) (k0_pay91 x)
  | 8 => k0_pay101 (k0_pay98 x) (k0_pay100 x)
  | _ => k0_pay108 x
/-- The int8 codes. -/
def ccOf (x : FVec F S256x1280 .f32) : Vec F S256x1280 .i8 := fun y =>
  ccG x ((y 1).val / 128) (fun a => match a with | 0 => ⟨(y 0).val, (y 0).isLt⟩ | 1 => ⟨(y 1).val % 128, Nat.mod_lt _ (by decide)⟩)
/-- The groups' scales, group `g` in lane `g`. -/
def cscAcc (x : FVec F S256x1280 .f32) : FVec F S256x128 .f32 :=
  have v228 : IVec S256x128 32 := iota .tc S256x128 32 [1] iota_S256x128_d1_w32
  have s0 := k0_pay45 v228 k0_pay39 (k0_pay41 x)
  have s1 := k0_pay51 x v228 s0
  have s2 := k0_pay58 x v228 s1
  have s3 := k0_pay66 v228 s2 (k0_pay62 x) (k0_pay63 x)
  have s4 := k0_pay73 v228 s3 (k0_pay70 x)
  have s5 := k0_pay81 s4 (k0_pay78 x) (k0_pay80 v228)
  have s6 := k0_pay87 x v228 s5
  have s7 := k0_pay94 v228 s6 (k0_pay91 x)
  have s8 := k0_pay102 v228 s7 (k0_pay99 x)
  k0_pay109 v228 s8 (k0_pay107 x)
def cscOf (x : FVec F S256x1280 .f32) : Vec F S10x256 .f32 := k0_pay112 (cscAcc x)

/-! ## The loops' invariants -/

/-- A store of a block of a buffer: if the block is `G`'s and the buffer was `G` where `p` says so, then it is `G` wherever `p'`
    does, so long as what `p'` adds lies in the block. -/
theorem put_step {α : Type} {s : Shape} (X G : s.Idx → α) (off size : Fin s.rank → ℕ) (w : ((a : Fin s.rank) → Fin (size a)) → α)
    (p p' : s.Idx → Prop)
    (hw : ∀ (y : s.Idx) (h : ∀ a, off a ≤ (y a).val ∧ (y a).val < off a + size a), w (Rect.unitLocal (s := s) (off := off) (size := size) y h) = G y)
    (hX : ∀ y, p y → X y = G y) (hp : ∀ y, p' y → (¬ ∀ a, off a ≤ (y a).val ∧ (y a).val < off a + size a) → p y)
    (y : s.Idx) (hy : p' y) : VecWindow.put X off size w y = G y := by
  unfold VecWindow.put
  split
  · exact hw y _
  · exact hX y (hp y hy ‹_›)

def inv1 (c : Dev nD) (arg1 : Memref sig .tc .vmem S256x4096 .bf16) (arg25 : Memref sig .tc .vmem S128x128 .f32) (G : Vec F S128x128 .f32)
    (X : Vec F S256x4096 .bf16) (k : ℕ) (_ : Unit) : sProp 𝕄 :=
  iprop(owns (c : Thread nD τ) arg1 fullShare X ∗ ∃ P, ⌜∀ y : S128x128.Idx, (y 0).val < 32 * k → P y = G y⌝ ∗ owns (c : Thread nD τ) arg25 fullShare P)

def inv2 (c : Dev nD) (arg1 : Memref sig .tc .vmem S256x4096 .bf16) (arg2 : Memref sig .tc .vmem S1x4096 .f32) (arg26 : Memref sig .tc .vmem S128x128 .f32)
    (arg13 : Memref sig .tc .vmem S256x4096 .fp8e4m3) (arg23 : Memref sig .tc .vmem S256x128 .f32) (o : ℕ)
    (X : Vec F S256x4096 .bf16) (N : Vec F S1x4096 .f32) (Q : Vec F S128x128 .f32) (k : ℕ) (_ : Unit) : sProp 𝕄 :=
  iprop(owns (c : Thread nD τ) arg1 fullShare X ∗ owns (c : Thread nD τ) arg2 fullShare N ∗ owns (c : Thread nD τ) arg26 fullShare Q
    ∗ (∃ C, ⌜∀ y : S256x4096.Idx, (y 0).val < 32 * k + o → C y = codes X N y⌝ ∗ owns (c : Thread nD τ) arg13 fullShare C)
    ∗ ∃ S, ⌜∀ y : S256x128.Idx, (y 0).val < 32 * k + o → S y = scales X N y⌝ ∗ owns (c : Thread nD τ) arg23 fullShare S)

/-- Loop 1: one trip. -/
theorem trip1 (c : Dev nD) (E : Set ℕ) (i : grid0.Coords) (arg1 : Memref sig .tc .vmem S256x4096 .bf16) (harg1 : arg1.IsWhole) (arg2 : Memref sig .tc .vmem S1x4096 .f32) (harg2 : arg2.IsWhole) (arg3 : Memref sig .tc .vmem S2320x4096 .fp8e4m3) (harg3 : arg3.IsWhole) (arg4 : Memref sig .tc .vmem S1x2320 .f32) (harg4 : arg4.IsWhole) (arg5 : Memref sig .tc .vmem S4x1280 .f32) (harg5 : arg5.IsWhole) (arg6 : Memref sig .tc .vmem S1x1280 .f32) (harg6 : arg6.IsWhole) (arg7 : Memref sig .tc .vmem S3x256x1280 .i8) (harg7 : arg7.IsWhole) (arg8 : Memref sig .tc .vmem S30x256 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x16 .f32) (harg11 : arg11.IsWhole) (arg12 : Memref sig .tc .vmem S48x1024 .bf16) (harg12 : arg12.IsWhole) (arg13 : Memref sig .tc .vmem S256x4096 .fp8e4m3) (harg13 : arg13.IsWhole) (arg14 : Memref sig .tc .vmem S1x256 .f32) (harg14 : arg14.IsWhole) (arg15 : Memref sig .tc .vmem S256x1024 .f32) (harg15 : arg15.IsWhole) (arg16 : Memref sig .tc .vmem S256x1280 .i8) (harg16 : arg16.IsWhole) (arg17 : Memref sig .tc .vmem S10x256 .f32) (harg17 : arg17.IsWhole) (arg18 : Memref sig .tc .vmem S256x8x128 .f32) (harg18 : arg18.IsWhole) (arg19 : Memref sig .tc .vmem S256x8x128 .f32) (harg19 : arg19.IsWhole) (arg20 : Memref sig .tc .vmem S256x8x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S128x256 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S256x1280 .f32) (harg27 : arg27.IsWhole)
    (X : Vec F S256x4096 .bf16) (k : Fin k0_t1_loop.trips) :
    inv1 (F := F) c arg1 arg25 (partA X) X k.val () ⊢ wp frame (wpE (defs₀ (F := F)) Variants.none c none) E
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27  k ()) (fun a => inv1 (F := F) c arg1 arg25 (partA X) X (k.val + 1) a) := by
  have hk : k.val < 4 := k.isLt
  unfold inv1 owns k0_t1_body
  simp only [k0_part1_eq_skeleton]
  unfold k0_part1_skel
  iintro ⟨⟨%f1, %e1, H1⟩, %P, %hP, %f25, %e25, H25⟩
  subst e1 e25
  sl_exec
  sl_step
  isplitl [H1]
  · iexists _; isplitr; swap; · iexact H1
    ipureintro; rfl
  iexists _; isplitr; swap
  · iexists _; isplitr; swap; · iexact H25
    ipureintro; rfl
  ipureintro
  have hb : ∀ a, (![32 * k.val, 0] : Fin 2 → ℕ) a + (![32, 4096] : Fin 2 → ℕ) a ≤ S256x4096.size a := fun a => match a with
      | 0 => by show 32 * k.val + 32 ≤ 256; omega
      | 1 => by show 0 + 4096 ≤ 4096; omega
  intro y hy
  refine (congrFun (View.read_writes_cons_put _ _ _ _ [] (k0_off2_eq k)) y).trans ?_
  rw [View.readAt_unit _ _ _ (k0_off1_eq k) hb]
  refine put_step _ _ _ _ _ (fun y => (y 0).val < 32 * k.val) (fun y => (y 0).val < 32 * (k.val + 1)) ?_ hP ?_ y hy
  · intro y h
    have h0 : 32 * k.val ≤ (y 0).val ∧ (y 0).val < 32 * k.val + 32 := h 0
    obtain ⟨kv, hkv⟩ := k
    obtain rfl : kv = (y 0).val / 32 := by show kv = _; dsimp only at h0; omega
    unfold partA rowsX
    congr 1
    funext a
    match a with
    | 0 => apply Fin.ext; show (y 0).val - 32 * ((y 0).val / 32) = (y 0).val % 32; omega
    | 1 => apply Fin.ext; show (y 1).val - 0 = (y 1).val; omega
  · intro y hy hn
    by_contra hc
    apply hn
    have h1 : (y 1).val < 128 := (y 1).isLt
    intro a
    match a with
    | 0 => exact ⟨by show 32 * k.val ≤ (y 0).val; omega, by show (y 0).val < 32 * k.val + 32; omega⟩
    | 1 => exact ⟨Nat.zero_le _, by show (y 1).val < 0 + 128; omega⟩

/-- Loop 2: one trip. -/
theorem trip2 (c : Dev nD) (E : Set ℕ) (i : grid0.Coords) (arg1 : Memref sig .tc .vmem S256x4096 .bf16) (harg1 : arg1.IsWhole) (arg2 : Memref sig .tc .vmem S1x4096 .f32) (harg2 : arg2.IsWhole) (arg3 : Memref sig .tc .vmem S2320x4096 .fp8e4m3) (harg3 : arg3.IsWhole) (arg4 : Memref sig .tc .vmem S1x2320 .f32) (harg4 : arg4.IsWhole) (arg5 : Memref sig .tc .vmem S4x1280 .f32) (harg5 : arg5.IsWhole) (arg6 : Memref sig .tc .vmem S1x1280 .f32) (harg6 : arg6.IsWhole) (arg7 : Memref sig .tc .vmem S3x256x1280 .i8) (harg7 : arg7.IsWhole) (arg8 : Memref sig .tc .vmem S30x256 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x16 .f32) (harg11 : arg11.IsWhole) (arg12 : Memref sig .tc .vmem S48x1024 .bf16) (harg12 : arg12.IsWhole) (arg13 : Memref sig .tc .vmem S256x4096 .fp8e4m3) (harg13 : arg13.IsWhole) (arg14 : Memref sig .tc .vmem S1x256 .f32) (harg14 : arg14.IsWhole) (arg15 : Memref sig .tc .vmem S256x1024 .f32) (harg15 : arg15.IsWhole) (arg16 : Memref sig .tc .vmem S256x1280 .i8) (harg16 : arg16.IsWhole) (arg17 : Memref sig .tc .vmem S10x256 .f32) (harg17 : arg17.IsWhole) (arg18 : Memref sig .tc .vmem S256x8x128 .f32) (harg18 : arg18.IsWhole) (arg19 : Memref sig .tc .vmem S256x8x128 .f32) (harg19 : arg19.IsWhole) (arg20 : Memref sig .tc .vmem S256x8x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S128x256 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S256x1280 .f32) (harg27 : arg27.IsWhole)
    (v50 : FVec F S8x128 .f32) (w50 : BitVec 32) (X : Vec F S256x4096 .bf16) (N : Vec F S1x4096 .f32) (k : Fin k0_t2_loop.trips) :
    inv2 (F := F) c arg1 arg2 arg26 arg13 arg23 0 X N (colA X) k.val () ⊢ wp frame (wpE (defs₀ (F := F)) Variants.none c none) E
      (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v50 w50 k ()) (fun a => inv2 (F := F) c arg1 arg2 arg26 arg13 arg23 0 X N (colA X) (k.val + 1) a) := by
  have hk : k.val < 4 := k.isLt
  have hq : colA X = colA X := rfl
  revert hq
  generalize hQ : colA X = Q
  intro hq
  unfold inv2 owns k0_t2_body
  simp only [k0_part2_eq_skeleton]
  unfold k0_part2_skel
  iintro ⟨⟨%f1, %e1, H1⟩, ⟨%f2, %e2, H2⟩, ⟨%f26, %e26, H26⟩, ⟨%C, %hC, %f13, %e13, H13⟩, %S, %hS, %f23, %e23, H23⟩
  subst e1 e2 e13 e23
  sl_exec
  sl_step
  have hb : ∀ a, (![32 * k.val, 0] : Fin 2 → ℕ) a + (![32, 4096] : Fin 2 → ℕ) a ≤ S256x4096.size a := fun a => match a with
      | 0 => by show 32 * k.val + 32 ≤ 256; omega
      | 1 => by show 0 + 4096 ≤ 4096; omega
  have hb' : ∀ a, (![32 * k.val, 0] : Fin 2 → ℕ) a + (![32, 1] : Fin 2 → ℕ) a ≤ S128x128.size a := fun a => match a with
      | 0 => by show 32 * k.val + 32 ≤ 128; omega
      | 1 => by show 0 + 1 ≤ 128; omega
  isplitl [H1]
  · iexists _; isplitr; swap; · iexact H1
    ipureintro; rfl
  isplitl [H2]
  · iexists _; isplitr; swap; · iexact H2
    ipureintro; rfl
  isplitl [H26]
  · iexists _; isplitr; swap; · iexact H26
    ipureintro; exact e26
  isplitl [H13]
  · iexists _; isplitr; swap
    · iexists _; isplitr; swap; · iexact H13
      ipureintro; rfl
    ipureintro
    intro y hy
    refine (congrFun (View.read_writes_cons_put _ _ _ _ [] (k0_off3_eq k)) y).trans ?_
    rw [View.readAt_unit _ _ _ (k0_off3_eq k) hb, View.readAt_unit _ _ _ (k0_off4_eq k) hb', View.readAt_full, e26]
    refine put_step _ _ _ _ _ (fun y => (y 0).val < 32 * k.val + 0) (fun y => (y 0).val < 32 * (k.val + 1) + 0) ?_ hC ?_ y hy
    · intro y h
      have h0 : 32 * k.val ≤ (y 0).val ∧ (y 0).val < 32 * k.val + 32 := h 0
      obtain ⟨kv, hkv⟩ := k
      dsimp only at h0 hk
      obtain rfl : kv = ((y 0).val - 0) / 32 := by omega
      unfold codes
      rw [dif_pos (show  (y 0).val < 128 by omega), hQ]
      unfold rowsX rowsC
      congr 1
      funext a
      match a with
      | 0 => apply Fin.ext; show (y 0).val - (32 * ((y 0).val / 32)) = (y 0).val % 32; omega
      | 1 => apply Fin.ext; show (y 1).val - 0 = (y 1).val; omega
    · intro y hy hn
      by_contra hc
      apply hn
      have h1 : (y 1).val < 4096 := (y 1).isLt
      intro a
      match a with
      | 0 => exact ⟨by show 32 * k.val ≤ (y 0).val; omega, by show (y 0).val < 32 * k.val + 32; omega⟩
      | 1 => exact ⟨Nat.zero_le _, by show (y 1).val < 0 + 4096; omega⟩
  · iexists _; isplitr; swap
    · iexists _; isplitr; swap; · iexact H23
      ipureintro; rfl
    ipureintro
    intro y hy
    refine (congrFun (View.read_writes_cons_put _ _ _ _ [] (k0_off5_eq k)) y).trans ?_
    rw [View.readAt_unit _ _ _ (k0_off3_eq k) hb, View.readAt_unit _ _ _ (k0_off4_eq k) hb', View.readAt_full, e26]
    refine put_step _ _ _ _ _ (fun y => (y 0).val < 32 * k.val + 0) (fun y => (y 0).val < 32 * (k.val + 1) + 0) ?_ hS ?_ y hy
    · intro y h
      have h0 : 32 * k.val ≤ (y 0).val ∧ (y 0).val < 32 * k.val + 32 := h 0
      obtain ⟨kv, hkv⟩ := k
      dsimp only at h0 hk
      obtain rfl : kv = ((y 0).val - 0) / 32 := by omega
      unfold scales
      rw [dif_pos (show  (y 0).val < 128 by omega), hQ]
      unfold rowsX rowsC
      congr 1
      funext a
      match a with
      | 0 => apply Fin.ext; show (y 0).val - (32 * ((y 0).val / 32)) = (y 0).val % 32; omega
      | 1 => apply Fin.ext; show (y 1).val - 0 = (y 1).val; omega
    · intro y hy hn
      by_contra hc
      apply hn
      have h1 : (y 1).val < 128 := (y 1).isLt
      intro a
      match a with
      | 0 => exact ⟨by show 32 * k.val ≤ (y 0).val; omega, by show (y 0).val < 32 * k.val + 32; omega⟩
      | 1 => exact ⟨Nat.zero_le _, by show (y 1).val < 0 + 128; omega⟩

/-- Loop 3: one trip. -/
theorem trip3 (c : Dev nD) (E : Set ℕ) (i : grid0.Coords) (arg1 : Memref sig .tc .vmem S256x4096 .bf16) (harg1 : arg1.IsWhole) (arg2 : Memref sig .tc .vmem S1x4096 .f32) (harg2 : arg2.IsWhole) (arg3 : Memref sig .tc .vmem S2320x4096 .fp8e4m3) (harg3 : arg3.IsWhole) (arg4 : Memref sig .tc .vmem S1x2320 .f32) (harg4 : arg4.IsWhole) (arg5 : Memref sig .tc .vmem S4x1280 .f32) (harg5 : arg5.IsWhole) (arg6 : Memref sig .tc .vmem S1x1280 .f32) (harg6 : arg6.IsWhole) (arg7 : Memref sig .tc .vmem S3x256x1280 .i8) (harg7 : arg7.IsWhole) (arg8 : Memref sig .tc .vmem S30x256 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x16 .f32) (harg11 : arg11.IsWhole) (arg12 : Memref sig .tc .vmem S48x1024 .bf16) (harg12 : arg12.IsWhole) (arg13 : Memref sig .tc .vmem S256x4096 .fp8e4m3) (harg13 : arg13.IsWhole) (arg14 : Memref sig .tc .vmem S1x256 .f32) (harg14 : arg14.IsWhole) (arg15 : Memref sig .tc .vmem S256x1024 .f32) (harg15 : arg15.IsWhole) (arg16 : Memref sig .tc .vmem S256x1280 .i8) (harg16 : arg16.IsWhole) (arg17 : Memref sig .tc .vmem S10x256 .f32) (harg17 : arg17.IsWhole) (arg18 : Memref sig .tc .vmem S256x8x128 .f32) (harg18 : arg18.IsWhole) (arg19 : Memref sig .tc .vmem S256x8x128 .f32) (harg19 : arg19.IsWhole) (arg20 : Memref sig .tc .vmem S256x8x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S128x256 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S256x1280 .f32) (harg27 : arg27.IsWhole)
    (v50 : FVec F S8x128 .f32) (w50 : BitVec 32) (X : Vec F S256x4096 .bf16) (k : Fin k0_t3_loop.trips) :
    inv1 (F := F) c arg1 arg25 (partB X) X k.val () ⊢ wp frame (wpE (defs₀ (F := F)) Variants.none c none) E
      (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v50 w50 k ()) (fun a => inv1 (F := F) c arg1 arg25 (partB X) X (k.val + 1) a) := by
  have hk : k.val < 4 := k.isLt
  unfold inv1 owns k0_t3_body
  simp only [k0_part3_eq_skeleton]
  unfold k0_part3_skel
  iintro ⟨⟨%f1, %e1, H1⟩, %P, %hP, %f25, %e25, H25⟩
  subst e1 e25
  sl_exec
  sl_step
  isplitl [H1]
  · iexists _; isplitr; swap; · iexact H1
    ipureintro; rfl
  iexists _; isplitr; swap
  · iexists _; isplitr; swap; · iexact H25
    ipureintro; rfl
  ipureintro
  have hb : ∀ a, (![32 * k.val + 128, 0] : Fin 2 → ℕ) a + (![32, 4096] : Fin 2 → ℕ) a ≤ S256x4096.size a := fun a => match a with
      | 0 => by show 32 * k.val + 128 + 32 ≤ 256; omega
      | 1 => by show 0 + 4096 ≤ 4096; omega
  intro y hy
  refine (congrFun (View.read_writes_cons_put _ _ _ _ [] (k0_off7_eq k)) y).trans ?_
  rw [View.readAt_unit _ _ _ (k0_off6_eq k) hb]
  refine put_step _ _ _ _ _ (fun y => (y 0).val < 32 * k.val) (fun y => (y 0).val < 32 * (k.val + 1)) ?_ hP ?_ y hy
  · intro y h
    have h0 : 32 * k.val ≤ (y 0).val ∧ (y 0).val < 32 * k.val + 32 := h 0
    obtain ⟨kv, hkv⟩ := k
    obtain rfl : kv = (y 0).val / 32 := by show kv = _; dsimp only at h0; omega
    unfold partB rowsX
    congr 1
    funext a
    match a with
    | 0 => apply Fin.ext; show (y 0).val - 32 * ((y 0).val / 32) = (y 0).val % 32; omega
    | 1 => apply Fin.ext; show (y 1).val - 0 = (y 1).val; omega
  · intro y hy hn
    by_contra hc
    apply hn
    have h1 : (y 1).val < 128 := (y 1).isLt
    intro a
    match a with
    | 0 => exact ⟨by show 32 * k.val ≤ (y 0).val; omega, by show (y 0).val < 32 * k.val + 32; omega⟩
    | 1 => exact ⟨Nat.zero_le _, by show (y 1).val < 0 + 128; omega⟩

/-- Loop 4: one trip. -/
theorem trip4 (c : Dev nD) (E : Set ℕ) (i : grid0.Coords) (arg1 : Memref sig .tc .vmem S256x4096 .bf16) (harg1 : arg1.IsWhole) (arg2 : Memref sig .tc .vmem S1x4096 .f32) (harg2 : arg2.IsWhole) (arg3 : Memref sig .tc .vmem S2320x4096 .fp8e4m3) (harg3 : arg3.IsWhole) (arg4 : Memref sig .tc .vmem S1x2320 .f32) (harg4 : arg4.IsWhole) (arg5 : Memref sig .tc .vmem S4x1280 .f32) (harg5 : arg5.IsWhole) (arg6 : Memref sig .tc .vmem S1x1280 .f32) (harg6 : arg6.IsWhole) (arg7 : Memref sig .tc .vmem S3x256x1280 .i8) (harg7 : arg7.IsWhole) (arg8 : Memref sig .tc .vmem S30x256 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x16 .f32) (harg11 : arg11.IsWhole) (arg12 : Memref sig .tc .vmem S48x1024 .bf16) (harg12 : arg12.IsWhole) (arg13 : Memref sig .tc .vmem S256x4096 .fp8e4m3) (harg13 : arg13.IsWhole) (arg14 : Memref sig .tc .vmem S1x256 .f32) (harg14 : arg14.IsWhole) (arg15 : Memref sig .tc .vmem S256x1024 .f32) (harg15 : arg15.IsWhole) (arg16 : Memref sig .tc .vmem S256x1280 .i8) (harg16 : arg16.IsWhole) (arg17 : Memref sig .tc .vmem S10x256 .f32) (harg17 : arg17.IsWhole) (arg18 : Memref sig .tc .vmem S256x8x128 .f32) (harg18 : arg18.IsWhole) (arg19 : Memref sig .tc .vmem S256x8x128 .f32) (harg19 : arg19.IsWhole) (arg20 : Memref sig .tc .vmem S256x8x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S128x256 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S256x1280 .f32) (harg27 : arg27.IsWhole)
    (v142 : FVec F S128x128 .f32) (X : Vec F S256x4096 .bf16) (N : Vec F S1x4096 .f32) (k : Fin k0_t4_loop.trips) :
    inv2 (F := F) c arg1 arg2 arg26 arg13 arg23 128 X N (colB X) k.val () ⊢ wp frame (wpE (defs₀ (F := F)) Variants.none c none) E
      (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v142 k ()) (fun a => inv2 (F := F) c arg1 arg2 arg26 arg13 arg23 128 X N (colB X) (k.val + 1) a) := by
  have hk : k.val < 4 := k.isLt
  have hq : colB X = colB X := rfl
  revert hq
  generalize hQ : colB X = Q
  intro hq
  unfold inv2 owns k0_t4_body
  simp only [k0_part4_eq_skeleton]
  unfold k0_part4_skel
  iintro ⟨⟨%f1, %e1, H1⟩, ⟨%f2, %e2, H2⟩, ⟨%f26, %e26, H26⟩, ⟨%C, %hC, %f13, %e13, H13⟩, %S, %hS, %f23, %e23, H23⟩
  subst e1 e2 e13 e23
  sl_exec
  sl_step
  have hb : ∀ a, (![32 * k.val + 128, 0] : Fin 2 → ℕ) a + (![32, 4096] : Fin 2 → ℕ) a ≤ S256x4096.size a := fun a => match a with
      | 0 => by show 32 * k.val + 128 + 32 ≤ 256; omega
      | 1 => by show 0 + 4096 ≤ 4096; omega
  have hb' : ∀ a, (![32 * k.val, 0] : Fin 2 → ℕ) a + (![32, 1] : Fin 2 → ℕ) a ≤ S128x128.size a := fun a => match a with
      | 0 => by show 32 * k.val + 32 ≤ 128; omega
      | 1 => by show 0 + 1 ≤ 128; omega
  isplitl [H1]
  · iexists _; isplitr; swap; · iexact H1
    ipureintro; rfl
  isplitl [H2]
  · iexists _; isplitr; swap; · iexact H2
    ipureintro; rfl
  isplitl [H26]
  · iexists _; isplitr; swap; · iexact H26
    ipureintro; exact e26
  isplitl [H13]
  · iexists _; isplitr; swap
    · iexists _; isplitr; swap; · iexact H13
      ipureintro; rfl
    ipureintro
    intro y hy
    refine (congrFun (View.read_writes_cons_put _ _ _ _ [] (k0_off8_eq k)) y).trans ?_
    rw [View.readAt_unit _ _ _ (k0_off8_eq k) hb, View.readAt_unit _ _ _ (k0_off9_eq k) hb', View.readAt_full, e26]
    refine put_step _ _ _ _ _ (fun y => (y 0).val < 32 * k.val + 128) (fun y => (y 0).val < 32 * (k.val + 1) + 128) ?_ hC ?_ y hy
    · intro y h
      have h0 : 32 * k.val + 128 ≤ (y 0).val ∧ (y 0).val < 32 * k.val + 128 + 32 := h 0
      obtain ⟨kv, hkv⟩ := k
      dsimp only at h0 hk
      obtain rfl : kv = ((y 0).val - 128) / 32 := by omega
      unfold codes
      rw [dif_neg (show ¬ (y 0).val < 128 by omega), hQ]
      unfold rowsX rowsC
      congr 1
      funext a
      match a with
      | 0 => apply Fin.ext; show (y 0).val - (32 * (((y 0).val - 128) / 32) + 128) = (y 0).val % 32; omega
      | 1 => apply Fin.ext; show (y 1).val - 0 = (y 1).val; omega
    · intro y hy hn
      by_contra hc
      apply hn
      have h1 : (y 1).val < 4096 := (y 1).isLt
      intro a
      match a with
      | 0 => exact ⟨by show 32 * k.val + 128 ≤ (y 0).val; omega, by show (y 0).val < 32 * k.val + 128 + 32; omega⟩
      | 1 => exact ⟨Nat.zero_le _, by show (y 1).val < 0 + 4096; omega⟩
  · iexists _; isplitr; swap
    · iexists _; isplitr; swap; · iexact H23
      ipureintro; rfl
    ipureintro
    intro y hy
    refine (congrFun (View.read_writes_cons_put _ _ _ _ [] (k0_off10_eq k)) y).trans ?_
    rw [View.readAt_unit _ _ _ (k0_off8_eq k) hb, View.readAt_unit _ _ _ (k0_off9_eq k) hb', View.readAt_full, e26]
    refine put_step _ _ _ _ _ (fun y => (y 0).val < 32 * k.val + 128) (fun y => (y 0).val < 32 * (k.val + 1) + 128) ?_ hS ?_ y hy
    · intro y h
      have h0 : 32 * k.val + 128 ≤ (y 0).val ∧ (y 0).val < 32 * k.val + 128 + 32 := h 0
      obtain ⟨kv, hkv⟩ := k
      dsimp only at h0 hk
      obtain rfl : kv = ((y 0).val - 128) / 32 := by omega
      unfold scales
      rw [dif_neg (show ¬ (y 0).val < 128 by omega), hQ]
      unfold rowsX rowsC
      congr 1
      funext a
      match a with
      | 0 => apply Fin.ext; show (y 0).val - (32 * (((y 0).val - 128) / 32) + 128) = (y 0).val % 32; omega
      | 1 => apply Fin.ext; show (y 1).val - 0 = (y 1).val; omega
    · intro y hy hn
      by_contra hc
      apply hn
      have h1 : (y 1).val < 128 := (y 1).isLt
      intro a
      match a with
      | 0 => exact ⟨by show 32 * k.val + 128 ≤ (y 0).val; omega, by show (y 0).val < 32 * k.val + 128 + 32; omega⟩
      | 1 => exact ⟨Nat.zero_le _, by show (y 1).val < 0 + 128; omega⟩

/-- A block read right after it was stored is what was stored. -/
theorem readCov_same {κ : Kind} {sp : Space} {s : Shape} {e : EltTy} (v : View sig κ sp s e) {off size : Fin s.rank → ℕ}
    (inb : ∀ a, off a + size a ≤ s.size a) (w : (Rect.unit off size inb).shape.Idx → Elt F e) (L : List (View.Piece (Elt F) s e)) :
    v.readCov (⟨Rect.unit off size inb, w⟩ :: L) (Rect.unit off size inb).toLoadRect = w :=
  (View.readAt_unit v (v.writes (Elt F) v.junk (⟨Rect.unit off size inb, w⟩ :: L)) inb rfl inb).trans
    ((congrArg (fun X => VecWindow.window X off size inb) (View.read_writes_cons_put v v.junk inb w L rfl)).trans
      (VecWindow.window_put_same _ _ _ _ _))

/-- The codes' group `g` stored behind the groups before it. -/
theorem cc_step (x : FVec F S256x1280 .f32) (g : ℕ) (hg : g < 10) (X : Vec F S256x1280 .i8) (w : Vec F S256x128 .i8) (hw : w = ccG x g)
    (hX : ∀ y : S256x1280.Idx, (y 1).val < 128 * g → X y = ccOf x y) (y : S256x1280.Idx) (hy : (y 1).val < 128 * (g + 1)) :
    VecWindow.put X ![0, 128 * g] ![256, 128] w y = ccOf x y := by
  subst hw
  refine put_step _ _ _ _ _ (fun y => (y 1).val < 128 * g) (fun y => (y 1).val < 128 * (g + 1)) ?_ hX ?_ y hy
  · intro y h
    have h1 : 128 * g ≤ (y 1).val ∧ (y 1).val < 128 * g + 128 := h 1
    obtain rfl : g = (y 1).val / 128 := by omega
    unfold ccOf
    congr 1
    funext a
    match a with
    | 0 => apply Fin.ext; show (y 0).val - 0 = (y 0).val; omega
    | 1 => apply Fin.ext; show (y 1).val - 128 * ((y 1).val / 128) = (y 1).val % 128; omega
  · intro y hy hn
    by_contra hc
    apply hn
    have h0 : (y 0).val < 256 := (y 0).isLt
    intro a
    match a with
    | 0 => exact ⟨Nat.zero_le _, by show (y 0).val < 0 + 256; omega⟩
    | 1 => exact ⟨by show 128 * g ≤ (y 1).val; omega, by show (y 1).val < 128 * g + 128; omega⟩
/-- A program in two pieces, run one after the other. -/
theorem seg (c : Dev nD) (E : Set ℕ) {α β : Type} {P : sProp 𝕄} (p : Prog (TpuEff nD τ sig (Elt F) Λ₀ .tc) β)
    (k : β → Prog (TpuEff nD τ sig (Elt F) Λ₀ .tc) α) (Q : α → sProp 𝕄)
    (h : P ⊢ wp frame (wpE (defs₀ (F := F)) Variants.none (c : Thread nD τ) none) E p (fun b => wp frame (wpE (defs₀ (F := F)) Variants.none (c : Thread nD τ) none) E (k b) Q)) :
    P ⊢ wp frame (wpE (defs₀ (F := F)) Variants.none (c : Thread nD τ) none) E (p >>= k) Q := by
  rw [wp_bind]; exact h
theorem seg' (c : Dev nD) (E : Set ℕ) {α β : Type} (p : Prog (TpuEff nD τ sig (Elt F) Λ₀ .tc) β)
    (k : β → Prog (TpuEff nD τ sig (Elt F) Λ₀ .tc) α) (Q : α → sProp 𝕄) :
    wp frame (wpE (defs₀ (F := F)) Variants.none (c : Thread nD τ) none) E p (fun b => wp frame (wpE (defs₀ (F := F)) Variants.none (c : Thread nD τ) none) E (k b) Q)
      ⊢ wp frame (wpE (defs₀ (F := F)) Variants.none (c : Thread nD τ) none) E (p >>= k) Q :=
  seg c E p k Q .rfl
set_option maxHeartbeats 0 in
/-- The body at a point of the grid. -/
theorem body_point (c : Dev nD) (E : Set ℕ) (i : grid0.Coords) (arg1 : Memref sig .tc .vmem S256x4096 .bf16) (harg1 : arg1.IsWhole) (arg2 : Memref sig .tc .vmem S1x4096 .f32) (harg2 : arg2.IsWhole) (arg3 : Memref sig .tc .vmem S2320x4096 .fp8e4m3) (harg3 : arg3.IsWhole) (arg4 : Memref sig .tc .vmem S1x2320 .f32) (harg4 : arg4.IsWhole) (arg5 : Memref sig .tc .vmem S4x1280 .f32) (harg5 : arg5.IsWhole) (arg6 : Memref sig .tc .vmem S1x1280 .f32) (harg6 : arg6.IsWhole) (arg7 : Memref sig .tc .vmem S3x256x1280 .i8) (harg7 : arg7.IsWhole) (arg8 : Memref sig .tc .vmem S30x256 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x16 .f32) (harg11 : arg11.IsWhole) (arg12 : Memref sig .tc .vmem S48x1024 .bf16) (harg12 : arg12.IsWhole) (arg13 : Memref sig .tc .vmem S256x4096 .fp8e4m3) (harg13 : arg13.IsWhole) (arg14 : Memref sig .tc .vmem S1x256 .f32) (harg14 : arg14.IsWhole) (arg15 : Memref sig .tc .vmem S256x1024 .f32) (harg15 : arg15.IsWhole) (arg16 : Memref sig .tc .vmem S256x1280 .i8) (harg16 : arg16.IsWhole) (arg17 : Memref sig .tc .vmem S10x256 .f32) (harg17 : arg17.IsWhole) (arg18 : Memref sig .tc .vmem S256x8x128 .f32) (harg18 : arg18.IsWhole) (arg19 : Memref sig .tc .vmem S256x8x128 .f32) (harg19 : arg19.IsWhole) (arg20 : Memref sig .tc .vmem S256x8x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S128x256 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S256x1280 .f32) (harg27 : arg27.IsWhole)
    (x1 : Vec F S256x4096 .bf16) (x2 : Vec F S1x4096 .f32) (x3 : Vec F S2320x4096 .fp8e4m3) (x4 : Vec F S1x2320 .f32) (x5 : Vec F S4x1280 .f32) (x6 : Vec F S1x1280 .f32) (x7 : Vec F S3x256x1280 .i8) (x8 : Vec F S30x256 .f32) (x9 : Vec F S1x16 .f32) (x10 : Vec F S1x16 .f32) (x11 : Vec F S1x16 .f32) (x12 : Vec F S48x1024 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (codes x1 x2) ∗ owns (c : Thread nD τ) arg14 fullShare (k0_pay25 (sclCol x1 x2)) ∗ owns (c : Thread nD τ) arg15 fullShare (zOf (codes x1 x2) (sclCol x1 x2) x3 x4) ∗ owns (c : Thread nD τ) arg16 fullShare (ccOf (xbcOf (codes x1 x2) (sclCol x1 x2) x3 x4)) ∗ owns (c : Thread nD τ) arg17 fullShare (cscOf (xbcOf (codes x1 x2) (sclCol x1 x2) x3 x4)) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  rw [show cc0_in_proj (F := F) = cc0_in_proj_skel from cc0_in_proj_eq_skeleton]
  unfold cc0_in_proj_skel
  refine seg c E _ _ _ ?_
  rw [k0_part33_eq_skeleton]
  unfold k0_part33_skel
  refine seg c E _ _ _ ?_
  rw [k0_part5_eq_skeleton]
  unfold k0_part5_skel
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold owns
  iintro ⟨⟨%farg1, %earg1, Harg1⟩, ⟨%farg2, %earg2, Harg2⟩, ⟨%farg3, %earg3, Harg3⟩, ⟨%farg4, %earg4, Harg4⟩, ⟨%farg5, %earg5, Harg5⟩, ⟨%farg6, %earg6, Harg6⟩, ⟨%farg7, %earg7, Harg7⟩, ⟨%farg8, %earg8, Harg8⟩, ⟨%farg9, %earg9, Harg9⟩, ⟨%farg10, %earg10, Harg10⟩, ⟨%farg11, %earg11, Harg11⟩, ⟨%farg12, %earg12, Harg12⟩, ⟨%darg13, %farg13, -, Harg13⟩, ⟨%darg14, %farg14, -, Harg14⟩, ⟨%darg15, %farg15, -, Harg15⟩, ⟨%darg16, %farg16, -, Harg16⟩, ⟨%darg17, %farg17, -, Harg17⟩, ⟨%darg18, %farg18, -, Harg18⟩, ⟨%darg19, %farg19, -, Harg19⟩, ⟨%darg20, %farg20, -, Harg20⟩, ⟨%darg21, %farg21, -, Harg21⟩, ⟨%darg22, %farg22, -, Harg22⟩, ⟨%darg23, %farg23, -, Harg23⟩, ⟨%darg24, %farg24, -, Harg24⟩, ⟨%darg25, %farg25, -, Harg25⟩, ⟨%darg26, %farg26, -, Harg26⟩, ⟨%darg27, %farg27, -, Harg27⟩, Hk⟩
  subst earg1 earg2 earg3 earg4 earg5 earg6 earg7 earg8 earg9 earg10 earg11 earg12
  sl_for (inv1 c arg1 arg25 (partA (arg1.view.read (Elt F) farg1)) (arg1.view.read (Elt F) farg1)) $$ [Harg1 Harg25]
  case region => intro k _; dsimp only; exact trip1 c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (arg1.view.read (Elt F) farg1) k
  · unfold inv1 owns
    isplitl [Harg1]
    · iexists _; isplitr; swap; · iexact Harg1
      ipureintro; rfl
    iexists _; isplitr; swap
    · iexists _; isplitr; swap; · iexact Harg25
      ipureintro; rfl
    ipureintro
    intro y hy
    exact absurd hy (by omega)
  iintro %_ H
  unfold inv1
  icases H with ⟨Harg1, %P, %hP, Harg25⟩
  have eP : P = partA (arg1.view.read (Elt F) farg1) := funext fun y => hP y (y 0).isLt
  subst eP
  unfold owns
  icases Harg1 with ⟨%g1, %e1, Harg1⟩
  icases Harg25 with ⟨%g25, %e25, Harg25⟩
  sl_exec
  sl_for (inv2 c arg1 arg2 arg26 arg13 arg23 0 (arg1.view.read (Elt F) farg1) (arg2.view.read (Elt F) farg2) (colA (arg1.view.read (Elt F) farg1))) $$ [Harg1 Harg2 Harg26 Harg13 Harg23]
  case region => intro k _; dsimp only; exact trip2 c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 _ _ (arg1.view.read (Elt F) farg1) (arg2.view.read (Elt F) farg2) k
  · unfold inv2 owns
    isplitl [Harg1]
    · iexists _; isplitr; swap; · iexact Harg1
      ipureintro; exact e1
    isplitl [Harg2]
    · iexists _; isplitr; swap; · iexact Harg2
      ipureintro; rfl
    isplitl [Harg26]
    · iexists _; isplitr; swap; · iexact Harg26
      ipureintro
      unfold body_point.sl.Harg26_1; refine (View.read_writes_full _ _ _ _ []).trans ?_; unfold body_point.sl.r; rw [View.readAt_full, e25]; rfl
    isplitl [Harg13]
    · iexists _; isplitr; swap
      · iexists _; isplitr; swap; · iexact Harg13
        ipureintro; rfl
      ipureintro; intro y hy; exact absurd hy (by omega)
    · iexists _; isplitr; swap
      · iexists _; isplitr; swap; · iexact Harg23
        ipureintro; rfl
      ipureintro; intro y hy; exact absurd hy (by omega)
  iintro %_ H
  unfold inv2
  icases H with ⟨Harg1, Harg2, Harg26, ⟨%C, %hC, Harg13⟩, %S, %hS, Harg23⟩
  unfold owns
  icases Harg1 with ⟨%g1', %e1', Harg1⟩
  icases Harg2 with ⟨%g2, %e2, Harg2⟩
  icases Harg26 with ⟨%g26, %e26, Harg26⟩
  icases Harg13 with ⟨%g13, %e13, Harg13⟩
  icases Harg23 with ⟨%g23, %e23, Harg23⟩
  sl_for (inv1 c arg1 arg25 (partB (arg1.view.read (Elt F) farg1)) (arg1.view.read (Elt F) farg1)) $$ [Harg1 Harg25]
  case region => intro k _; dsimp only; exact trip3 c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 _ _ (arg1.view.read (Elt F) farg1) k
  · unfold inv1 owns
    isplitl [Harg1]
    · iexists _; isplitr; swap; · iexact Harg1
      ipureintro; exact e1'
    iexists _; isplitr; swap
    · iexists _; isplitr; swap; · iexact Harg25
      ipureintro; rfl
    ipureintro
    intro y hy
    exact absurd hy (by omega)
  iintro %_ H
  unfold inv1
  icases H with ⟨Harg1, %P', %hP', Harg25⟩
  have eP' : P' = partB (arg1.view.read (Elt F) farg1) := funext fun y => hP' y (y 0).isLt
  subst eP'
  unfold owns
  icases Harg1 with ⟨%g1b, %e1b, Harg1⟩
  icases Harg25 with ⟨%g25b, %e25b, Harg25⟩
  sl_exec
  sl_for (inv2 c arg1 arg2 arg26 arg13 arg23 128 (arg1.view.read (Elt F) farg1) (arg2.view.read (Elt F) farg2) (colB (arg1.view.read (Elt F) farg1))) $$ [Harg1 Harg2 Harg26 Harg13 Harg23]
  case region => intro k _; dsimp only; exact trip4 c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 _ (arg1.view.read (Elt F) farg1) (arg2.view.read (Elt F) farg2) k
  · unfold inv2 owns
    isplitl [Harg1]
    · iexists _; isplitr; swap; · iexact Harg1
      ipureintro; exact e1b
    isplitl [Harg2]
    · iexists _; isplitr; swap; · iexact Harg2
      ipureintro; exact e2
    isplitl [Harg26]
    · iexists _; isplitr; swap; · iexact Harg26
      ipureintro
      unfold body_point.sl.Harg26_1_1; refine (View.read_writes_full _ _ _ _ _).trans ?_
      unfold body_point.sl.r_4 body_point.sl.r_1 body_point.sl.r_2 body_point.sl.r_3; rw [View.readAt_full, e25b]; rfl
    isplitl [Harg13]
    · iexists _; isplitr; swap
      · iexists _; isplitr; swap; · iexact Harg13
        ipureintro; rfl
      ipureintro; intro y hy; exact (congrFun e13 y).trans (hC y (Nat.lt_of_lt_of_eq hy (by rfl)))
    · iexists _; isplitr; swap
      · iexists _; isplitr; swap; · iexact Harg23
        ipureintro; rfl
      ipureintro; intro y hy; exact (congrFun e23 y).trans (hS y (Nat.lt_of_lt_of_eq hy (by rfl)))
  iintro %_ H
  unfold inv2
  icases H with ⟨Harg1, Harg2, Harg26, ⟨%C', %hC', Harg13⟩, %S', %hS', Harg23⟩
  have eC' : C' = codes (arg1.view.read (Elt F) farg1) (arg2.view.read (Elt F) farg2) := funext fun y => hC' y (y 0).isLt
  have eS' : S' = scales (arg1.view.read (Elt F) farg1) (arg2.view.read (Elt F) farg2) := funext fun y => hS' y (y 0).isLt
  subst eC' eS'
  unfold owns
  icases Harg1 with ⟨%g1c, %e1c, Harg1⟩
  icases Harg2 with ⟨%g2c, %e2c, Harg2⟩
  icases Harg26 with ⟨%g26c, %e26c, Harg26⟩
  icases Harg13 with ⟨%g13c, %e13c, Harg13⟩
  icases Harg23 with ⟨%g23c, %e23c, Harg23⟩
  sl_exec
  sl_step
  iapply Hk
  have hq : View.readAt (Elt F) arg23.view (Rect.unit (s := S256x128) ![0, 0] S256x1.size inb_S256x128_S256x1_0_0).toLoadRect g23c = sclCol (arg1.view.read (Elt F) farg1) (arg2.view.read (Elt F) farg2) := by
    rw [View.readAt_unit _ _ _ rfl inb_S256x128_S256x1_0_0, e23c]; rfl
  have hc : View.readAt (Elt F) arg13.view (Rect.unit (s := S256x4096) ![0, 0] S256x4096.size inb_S256x4096_S256x4096_0_0).toLoadRect g13c = codes (arg1.view.read (Elt F) farg1) (arg2.view.read (Elt F) farg2) := by
    rw [View.readAt_full, e13c]
  have hz : View.read (Elt F) arg15.view (arg15.view.writes (Elt F) farg15 [⟨Rect.unit ![0, 0] S256x1024.size inb_S256x1024_S256x1024_0_0, k0_pay30 (body_point.sl.r_7 c arg3 arg13 arg23 arg27 farg3 g13c g23c) (body_point.sl.r_8 c arg4 farg4)⟩])
      = zOf (codes (arg1.view.read (Elt F) farg1) (arg2.view.read (Elt F) farg2)) (sclCol (arg1.view.read (Elt F) farg1) (arg2.view.read (Elt F) farg2)) (arg3.view.read (Elt F) farg3) (arg4.view.read (Elt F) farg4) := by
    refine (View.read_writes_full _ _ _ _ []).trans ?_
    unfold body_point.sl.r_7 body_point.sl.r_8 body_point.sl.v170 body_point.sl.Harg27_1
    rw [hq, hc, readCov_same]
    rfl
  have hxbc : body_point.sl.r_9 c arg3 arg4 arg13 arg23 arg27 farg3 farg4 g13c g23c
      = xbcOf (codes (arg1.view.read (Elt F) farg1) (arg2.view.read (Elt F) farg2)) (sclCol (arg1.view.read (Elt F) farg1) (arg2.view.read (Elt F) farg2)) (arg3.view.read (Elt F) farg3) (arg4.view.read (Elt F) farg4) := by
    unfold body_point.sl.r_9 body_point.sl.r_5 body_point.sl.r_6 body_point.sl.v190 body_point.sl.Harg27_2
    rw [hq, hc, readCov_same]
    unfold body_point.sl.r_6
    rw [hc]
    rfl
  isplitl [Harg1]
  · iexists _; isplitr; swap; · iexact Harg1
    ipureintro; exact e1c
  isplitl [Harg2]
  · iexists _; isplitr; swap; · iexact Harg2
    ipureintro; exact e2c
  isplitl [Harg3]
  · iexists _; isplitr; swap; · iexact Harg3
    ipureintro; rfl
  isplitl [Harg4]
  · iexists _; isplitr; swap; · iexact Harg4
    ipureintro; rfl
  isplitl [Harg5]
  · iexists _; isplitr; swap; · iexact Harg5
    ipureintro; rfl
  isplitl [Harg6]
  · iexists _; isplitr; swap; · iexact Harg6
    ipureintro; rfl
  isplitl [Harg7]
  · iexists _; isplitr; swap; · iexact Harg7
    ipureintro; rfl
  isplitl [Harg8]
  · iexists _; isplitr; swap; · iexact Harg8
    ipureintro; rfl
  isplitl [Harg9]
  · iexists _; isplitr; swap; · iexact Harg9
    ipureintro; rfl
  isplitl [Harg10]
  · iexists _; isplitr; swap; · iexact Harg10
    ipureintro; rfl
  isplitl [Harg11]
  · iexists _; isplitr; swap; · iexact Harg11
    ipureintro; rfl
  isplitl [Harg12]
  · iexists _; isplitr; swap; · iexact Harg12
    ipureintro; rfl
  isplitl [Harg13]
  · iexists _; isplitr; swap; · iexact Harg13
    ipureintro; exact e13c
  isplitl [Harg14]
  · iexists _; isplitr; swap; · iexact Harg14
    ipureintro; exact (View.read_writes_full _ _ _ _ []).trans (congrArg k0_pay25 hq)
  isplitl [Harg15]
  · iexists _; isplitr; swap; · iexact Harg15
    ipureintro; exact hz
  isplitl [Harg16]
  · iexists _; isplitr; swap; · iexact Harg16
    ipureintro; rw [← hxbc]; refine funext fun y => ?_; exact (fun y hy => (congrFun (View.read_writes_cons_put _ _ _ _ _ rfl) y).trans (cc_step _ 9 (by decide) _ _ rfl (fun y hy => (congrFun (View.read_writes_cons_put _ _ _ _ _ rfl) y).trans (cc_step _ 8 (by decide) _ _ rfl (fun y hy => (congrFun (View.read_writes_cons_put _ _ _ _ _ rfl) y).trans (cc_step _ 7 (by decide) _ _ rfl (fun y hy => (congrFun (View.read_writes_cons_put _ _ _ _ _ rfl) y).trans (cc_step _ 6 (by decide) _ _ rfl (fun y hy => (congrFun (View.read_writes_cons_put _ _ _ _ _ rfl) y).trans (cc_step _ 5 (by decide) _ _ rfl (fun y hy => (congrFun (View.read_writes_cons_put _ _ _ _ _ rfl) y).trans (cc_step _ 4 (by decide) _ _ rfl (fun y hy => (congrFun (View.read_writes_cons_put _ _ _ _ _ rfl) y).trans (cc_step _ 3 (by decide) _ _ rfl (fun y hy => (congrFun (View.read_writes_cons_put _ _ _ _ _ rfl) y).trans (cc_step _ 2 (by decide) _ _ rfl (fun y hy => (congrFun (View.read_writes_cons_put _ _ _ _ _ rfl) y).trans (cc_step _ 1 (by decide) _ _ rfl (fun y hy => (congrFun (View.read_writes_cons_put _ _ _ _ _ rfl) y).trans (cc_step _ 0 (by decide) _ _ rfl (fun y hy => absurd hy (Nat.not_lt_zero _)) y hy)) y hy)) y hy)) y hy)) y hy)) y hy)) y hy)) y hy)) y hy)) y hy)) y (y 1).isLt
  isplitl [Harg17]
  · iexists _; isplitr; swap; · iexact Harg17
    ipureintro; rw [← hxbc]; exact (View.read_writes_full _ _ _ _ []).trans rfl
  isplitl [Harg18]
  · iexists _; iexists _; isplitr; swap; · iexact Harg18
    ipureintro; rfl
  isplitl [Harg19]
  · iexists _; iexists _; isplitr; swap; · iexact Harg19
    ipureintro; rfl
  isplitl [Harg20]
  · iexists _; iexists _; isplitr; swap; · iexact Harg20
    ipureintro; rfl
  isplitl [Harg21]
  · iexists _; iexists _; isplitr; swap; · iexact Harg21
    ipureintro; rfl
  isplitl [Harg22]
  · iexists _; iexists _; isplitr; swap; · iexact Harg22
    ipureintro; rfl
  isplitl [Harg23]
  · iexists _; iexists _; isplitr; swap; · iexact Harg23
    ipureintro; rfl
  isplitl [Harg24]
  · iexists _; iexists _; isplitr; swap; · iexact Harg24
    ipureintro; rfl
  isplitl [Harg25]
  · iexists _; iexists _; isplitr; swap; · iexact Harg25
    ipureintro; rfl
  isplitl [Harg26]
  · iexists _; iexists _; isplitr; swap; · iexact Harg26
    ipureintro; rfl
  · iexists _; iexists _; isplitr; swap; · iexact Harg27
    ipureintro; rfl

end Cert.InProjIdeal.Hand

end

end
-- ==== Proof.InIdealRun.lean ====
/-
  Hand-written, untrusted. The input-projection kernel over its whole grid, nine tiles of 256 tokens. No point reads what
  another left: the invariant of the pipeline owns the scratch buffers at any contents. An output window is held to a predicate: the
  codes, the scales, `z`, the convolution's codes and its scales to what the body computes of the input blocks, the others to nothing.
-/
module

public import proofs.«01_k».proof.Proof.InIdealBody
public import Idealize.ShloMosaic.Lib.Pipeline.DatRel
public import Idealize.ShloMosaic.Lib.Pipeline.ArrRel
public import Idealize.ShloMosaic.Lib.Pipeline.ValueKit

@[expose] public section

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data -/

/-- The output windows are held to a predicate, the input windows named exactly. -/
def fgt : Fin cfg0.W → Bool := fun w => decide (12 ≤ w.val)

/-- What a point leaves in an output window. -/
def Rl (c : Dev nD) : (w : Fin cfg0.W) → Fin cfg0.N → ((cfg0.win w).block.Idx → Elt F (cfg0.win w).elt) → Prop
  | ⟨12, _⟩ => fun t X => X = codes (iblk m c 0 t) (iblk m c 1 t)
  | ⟨13, _⟩ => fun t X => X = k0_pay25 (sclCol (iblk m c 0 t) (iblk m c 1 t))
  | ⟨14, _⟩ => fun t X => X = zOf (codes (iblk m c 0 t) (iblk m c 1 t)) (sclCol (iblk m c 0 t) (iblk m c 1 t)) (iblk m c 2 t) (iblk m c 3 t)
  | ⟨15, _⟩ => fun t X => X = ccOf (xbcOf (codes (iblk m c 0 t) (iblk m c 1 t)) (sclCol (iblk m c 0 t) (iblk m c 1 t)) (iblk m c 2 t) (iblk m c 3 t))
  | ⟨16, _⟩ => fun t X => X = cscOf (xbcOf (codes (iblk m c 0 t) (iblk m c 1 t)) (sclCol (iblk m c 0 t) (iblk m c 1 t)) (iblk m c 2 t) (iblk m c 3 t))
  | _ => fun _ _ => True

/-- The invariant before any point: the scratch buffers at some contents, the generator register at some state. -/
def Phi (c : Dev nD) : sProp 𝕄 :=
  iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d))
    ∗ ∃ r, prngReg c r)

/-- The proof data: the arrays as the region finds them, the input windows at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | w => Pipeline.Dat.unnamed (cfg := cfg0) w t
  Φ t := Phi c
  q _ := fullShare
  owed _ := 0

/-- The same, the output windows held to `Rl`. -/
abbrev rdat (c : Dev nD) : RDat τ (Elt F) Unit ℕ (UR sig nD τ) ℕ cfg0 c := (dats m 0 c).toRRel fgt (Rl m c)

theorem A_eq (c : Dev nD) (w : Fin cfg0.W) : (dats m 0 c).A w = V m c (Pipeline.arrRef spec0 w) := by dsimp only [dats]
theorem bef0 (c : Dev nD) (t : Fin cfg0.N) (d) : (dats m 0 c).before 0 t d = iblk m c 0 t := before0_0_of m (dats m 0 c) rfl (fun _ => rfl) t d
theorem bef1 (c : Dev nD) (t : Fin cfg0.N) (d) : (dats m 0 c).before 1 t d = iblk m c 1 t := before0_1_of m (dats m 0 c) rfl (fun _ => rfl) t d
theorem bef2 (c : Dev nD) (t : Fin cfg0.N) (d) : (dats m 0 c).before 2 t d = iblk m c 2 t := before0_2_of m (dats m 0 c) rfl (fun _ => rfl) t d
theorem bef3 (c : Dev nD) (t : Fin cfg0.N) (d) : (dats m 0 c).before 3 t d = iblk m c 3 t := before0_3_of m (dats m 0 c) rfl (fun _ => rfl) t d
theorem bef4 (c : Dev nD) (t : Fin cfg0.N) (d) : (dats m 0 c).before 4 t d = iblk m c 4 t := before0_4_of m (dats m 0 c) rfl (fun _ => rfl) t d
theorem bef5 (c : Dev nD) (t : Fin cfg0.N) (d) : (dats m 0 c).before 5 t d = iblk m c 5 t := before0_5_of m (dats m 0 c) rfl (fun _ => rfl) t d
theorem bef6 (c : Dev nD) (t : Fin cfg0.N) (d) : (dats m 0 c).before 6 t d = iblk m c 6 t := before0_6_of m (dats m 0 c) rfl (fun _ => rfl) t d
theorem bef7 (c : Dev nD) (t : Fin cfg0.N) (d) : (dats m 0 c).before 7 t d = iblk m c 7 t := before0_7_of m (dats m 0 c) rfl (fun _ => rfl) t d
theorem bef8 (c : Dev nD) (t : Fin cfg0.N) (d) : (dats m 0 c).before 8 t d = iblk m c 8 t := before0_8_of m (dats m 0 c) rfl (fun _ => rfl) t d
theorem bef9 (c : Dev nD) (t : Fin cfg0.N) (d) : (dats m 0 c).before 9 t d = iblk m c 9 t := before0_9_of m (dats m 0 c) rfl (fun _ => rfl) t d
theorem bef10 (c : Dev nD) (t : Fin cfg0.N) (d) : (dats m 0 c).before 10 t d = iblk m c 10 t := before0_10_of m (dats m 0 c) rfl (fun _ => rfl) t d
theorem bef11 (c : Dev nD) (t : Fin cfg0.N) (d) : (dats m 0 c).before 11 t d = iblk m c 11 t := before0_11_of m (dats m 0 c) rfl (fun _ => rfl) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d))
    ∗ (∃ Y, ⌜(rdat m c).Finds 12 t Y⌝ ∗ owns (c : Thread nD τ) (st0_12 t) fullShare Y) ∗ (∃ Y, ⌜(rdat m c).Finds 13 t Y⌝ ∗ owns (c : Thread nD τ) (st0_13 t) fullShare Y) ∗ (∃ Y, ⌜(rdat m c).Finds 14 t Y⌝ ∗ owns (c : Thread nD τ) (st0_14 t) fullShare Y) ∗ (∃ Y, ⌜(rdat m c).Finds 15 t Y⌝ ∗ owns (c : Thread nD τ) (st0_15 t) fullShare Y) ∗ (∃ Y, ⌜(rdat m c).Finds 16 t Y⌝ ∗ owns (c : Thread nD τ) (st0_16 t) fullShare Y) ∗ (∃ Y, ⌜(rdat m c).Finds 17 t Y⌝ ∗ owns (c : Thread nD τ) (st0_17 t) fullShare Y) ∗ (∃ Y, ⌜(rdat m c).Finds 18 t Y⌝ ∗ owns (c : Thread nD τ) (st0_18 t) fullShare Y) ∗ (∃ Y, ⌜(rdat m c).Finds 19 t Y⌝ ∗ owns (c : Thread nD τ) (st0_19 t) fullShare Y) ∗ (∃ Y, ⌜(rdat m c).Finds 20 t Y⌝ ∗ owns (c : Thread nD τ) (st0_20 t) fullShare Y) ∗ (∃ Y, ⌜(rdat m c).Finds 21 t Y⌝ ∗ owns (c : Thread nD τ) (st0_21 t) fullShare Y))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t)
    ∗ (∃ X, ⌜Rl m c 12 t X⌝ ∗ owns (c : Thread nD τ) (st0_12 t) fullShare X) ∗ (∃ X, ⌜Rl m c 13 t X⌝ ∗ owns (c : Thread nD τ) (st0_13 t) fullShare X) ∗ (∃ X, ⌜Rl m c 14 t X⌝ ∗ owns (c : Thread nD τ) (st0_14 t) fullShare X) ∗ (∃ X, ⌜Rl m c 15 t X⌝ ∗ owns (c : Thread nD τ) (st0_15 t) fullShare X) ∗ (∃ X, ⌜Rl m c 16 t X⌝ ∗ owns (c : Thread nD τ) (st0_16 t) fullShare X) ∗ (∃ X, ⌜Rl m c 17 t X⌝ ∗ owns (c : Thread nD τ) (st0_17 t) fullShare X) ∗ (∃ X, ⌜Rl m c 18 t X⌝ ∗ owns (c : Thread nD τ) (st0_18 t) fullShare X) ∗ (∃ X, ⌜Rl m c 19 t X⌝ ∗ owns (c : Thread nD τ) (st0_19 t) fullShare X) ∗ (∃ X, ⌜Rl m c 20 t X⌝ ∗ owns (c : Thread nD τ) (st0_20 t) fullShare X) ∗ (∃ X, ⌜Rl m c 21 t X⌝ ∗ owns (c : Thread nD τ) (st0_21 t) fullShare X))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Phi c from rfl, show (dats m 0 c).Φ t.succ = Phi c from rfl]
  unfold Phi
  simp only [bef0, bef1, bef2, bef3, bef4, bef5, bef6, bef7, bef8, bef9, bef10, bef11]
  simp only [show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl, show (dats m 0 c).after 5 t = iblk m c 5 t from rfl, show (dats m 0 c).after 6 t = iblk m c 6 t from rfl, show (dats m 0 c).after 7 t = iblk m c 7 t from rfl, show (dats m 0 c).after 8 t = iblk m c 8 t from rfl, show (dats m 0 c).after 9 t = iblk m c 9 t from rfl, show (dats m 0 c).after 10 t = iblk m c 10 t from rfl, show (dats m 0 c).after 11 t = iblk m c 11 t from rfl]
  iintro ⟨⟨⟨HS0, HS1, HS2, HS3, HS4⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y12, -, H12⟩, ⟨%Y13, -, H13⟩, ⟨%Y14, -, H14⟩, ⟨%Y15, -, H15⟩, ⟨%Y16, -, H16⟩, ⟨%Y17, -, H17⟩, ⟨%Y18, -, H18⟩, ⟨%Y19, -, H19⟩, ⟨%Y20, -, H20⟩, ⟨%Y21, -, H21⟩⟩
  iapply (body_point c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (st0_21 t) (hstage0_21 ((cfg0.slots t 21).cast nbuf0_21)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, ⟨%d17, H17⟩, ⟨%d18, H18⟩, ⟨%d19, H19⟩, ⟨%d20, H20⟩, ⟨%d21, H21⟩, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists (codes (iblk m c 0 t) (iblk m c 1 t)); isplitr; · ipureintro; exact rfl
    iexact H12
  isplitl [H13]
  · iexists (k0_pay25 (sclCol (iblk m c 0 t) (iblk m c 1 t))); isplitr; · ipureintro; exact rfl
    iexact H13
  isplitl [H14]
  · iexists (zOf (codes (iblk m c 0 t) (iblk m c 1 t)) (sclCol (iblk m c 0 t) (iblk m c 1 t)) (iblk m c 2 t) (iblk m c 3 t)); isplitr; · ipureintro; exact rfl
    iexact H14
  isplitl [H15]
  · iexists (ccOf (xbcOf (codes (iblk m c 0 t) (iblk m c 1 t)) (sclCol (iblk m c 0 t) (iblk m c 1 t)) (iblk m c 2 t) (iblk m c 3 t))); isplitr; · ipureintro; exact rfl
    iexact H15
  isplitl [H16]
  · iexists (cscOf (xbcOf (codes (iblk m c 0 t) (iblk m c 1 t)) (sclCol (iblk m c 0 t) (iblk m c 1 t)) (iblk m c 2 t) (iblk m c 3 t))); isplitr; · ipureintro; exact rfl
    iexact H16
  isplitl [H17]
  · iexists d17; isplitr; · ipureintro; exact trivial
    iexact H17
  isplitl [H18]
  · iexists d18; isplitr; · ipureintro; exact trivial
    iexact H18
  isplitl [H19]
  · iexists d19; isplitr; · ipureintro; exact trivial
    iexact H19
  isplitl [H20]
  · iexists d20; isplitr; · ipureintro; exact trivial
    iexact H20
  · iexists d21; isplitr; · ipureintro; exact trivial
    iexact H21

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The launch -/

theorem Phi_in (c : Dev nD) : Pipeline.ΦA spec0 c ⊢ (dats (F := F) m 0 c).Φ 0 := by
  show _ ⊢ Phi c
  unfold Pipeline.ΦA Phi
  rw [scopedRest0_eq]
  simp only [owns_whole]
  exact .rfl

theorem Phi_out (c : Dev nD) : (dats (F := F) m 0 c).Φ (Fin.last cfg0.N) ⊢ Pipeline.ΦA spec0 c := by
  show Phi c ⊢ _
  unfold Pipeline.ΦA Phi
  rw [scopedRest0_eq]
  simp only [owns_whole]
  exact .rfl

-- the launch theorem's implicit arguments are found by unifying its conclusion with this statement, which unifies only when
-- unification may unfold plain definitions in a metavariable's type
set_option backward.isDefEq.respectTransparency.types false in
set_option maxHeartbeats 800000 in
/-- The launch at any proof data: stated apart, so that the invariant of the data at hand is not unfolded. -/
theorem run_of (dat : (c : Dev nD) → Dat τ (Elt F) Unit ℕ (UR sig nD τ) ℕ cfg0 c) (fg : Fin cfg0.W → Bool)
    (R : (c : Dev nD) → (w : Fin cfg0.W) → Fin cfg0.N → ((cfg0.win w).block.Idx → Elt F (cfg0.win w).elt) → Prop)
    (hbody : ∀ c, BodyObligationRel (dat c) (defs₀ (F := F)) Variants.none () Set.univ fg (R c))
    (hshare : ∀ c w, (dat c).share w = fullShare) (howed : ∀ c t, (dat c).owed t = 0)
    (hA : ∀ c w, (dat c).A w = V m c (Pipeline.arrRef spec0 w))
    (hin : ∀ c, Pipeline.ΦA spec0 c ⊢ (dat c).Φ 0) (hout : ∀ c, (dat c).Φ (Fin.last cfg0.N) ⊢ Pipeline.ΦA spec0 c) :
    θ_run defs (onTc (τ := τ) (main (F := F))) (s₀ m ρ)
      (fun r => RDat.FramePost (cfgs 0) (fun c => (dat c).toRRel fg (R c)) (V m) r ∧ r.2.sem = fun _ => 0) :=
  RDat.θ_run_frame_track (Q' := _) cfgs (0 : Fin 1) launch0 defs₀ Variants.none (fun c => (dat c).toRRel fg (R c)) m ρ main
    (fun c => (hbody c).toRRel) hshare howed (V := V m) (hmain := hmain m Variants.none) hA hin hout

theorem run_main :
    θ_run defs (onTc (τ := τ) (main (F := F))) (s₀ m ρ)
      (fun r => RDat.FramePost (cfgs 0) (fun c => rdat m c) (V m) r ∧ r.2.sem = fun _ => 0) :=
  run_of m ρ (fun c => dats m 0 c) fgt (Rl m) (body_obligation m) (fun c => (dats m 0 c).share_full fun _ => rfl) (fun _ _ => rfl) (A_eq m)
    (Phi_in m) (Phi_out m)

variable {m ρ}

/-- The arguments are as launched. -/
def ArgsKept (m : (ℓ : Loc nD τ sig) → Buf (Elt F) ℓ) (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)

theorem args_kept {r : PUnit × MemSt nD τ sig (Elt F)} (h : RDat.FramePost (cfgs 0) (fun c => rdat m c) (V m) r) (c : Dev nD) : ArgsKept m r c :=
  ⟨(RDat.FramePost.arr_in h c 0 rfl).trans (V_main_arg0 m c),
    (h c).2 main_arg1 (Pipeline.mem_restRefs_of main_arg1 (by decide) (by decide)) |>.trans (V_main_arg1 m c),
    (h c).2 main_arg2 (Pipeline.mem_restRefs_of main_arg2 (by decide) (by decide)) |>.trans (V_main_arg2 m c),
    (h c).2 main_arg3 (Pipeline.mem_restRefs_of main_arg3 (by decide) (by decide)) |>.trans (V_main_arg3 m c),
    (RDat.FramePost.arr_in h c 4 rfl).trans (V_main_arg4 m c),
    (h c).2 main_arg5 (Pipeline.mem_restRefs_of main_arg5 (by decide) (by decide)) |>.trans (V_main_arg5 m c),
    (h c).2 main_arg6 (Pipeline.mem_restRefs_of main_arg6 (by decide) (by decide)) |>.trans (V_main_arg6 m c),
    (h c).2 main_arg7 (Pipeline.mem_restRefs_of main_arg7 (by decide) (by decide)) |>.trans (V_main_arg7 m c),
    (h c).2 main_arg8 (Pipeline.mem_restRefs_of main_arg8 (by decide) (by decide)) |>.trans (V_main_arg8 m c),
    (h c).2 main_arg9 (Pipeline.mem_restRefs_of main_arg9 (by decide) (by decide)) |>.trans (V_main_arg9 m c),
    (h c).2 main_arg10 (Pipeline.mem_restRefs_of main_arg10 (by decide) (by decide)) |>.trans (V_main_arg10 m c)⟩

end Cert.InProjIdeal.Hand

end

end
-- ==== Proof.InSpec.lean ====
/-
  Hand-written, untrusted. The mathematics of the input projection over the extended reals, free of either program: a row over its
  root mean square and weighted, its scale and its codes, the projection of the codes, and the int8 scale and codes of a group of columns.
  With it the laws by which a kernel that takes a row's sum of squares lane tile by lane tile, multiplies by reciprocals, and multiplies
  matrices in two halves computes the same.
-/
module

public import proofs.«01_k».proof.Proof.Spec
public import Idealize.ShloMosaic.Lib.KernelVsHost.SublaneAllReduce

@[expose] public section

noncomputable section

namespace Cert.Spec

open Idealize.ShloMosaic

/-- What is added to the mean square before the root. -/
def eps : EReal := Ideal.ofBits .f32 0x3727C5AC#32

/-- The root mean square, from the sum of squares of 4096 values. -/
def rms (S : EReal) : EReal := Ideal.sqrt (Ideal.div S ((4096 : ℝ) : EReal) + eps)

/-- The sum of a row's squares. -/
def sumSq {K : ℕ} (x : Fin K → EReal) : EReal := ∑ k, x k * x k

/-- An entry of the row over its root mean square, weighted. -/
def normed {K : ℕ} (x n : Fin K → EReal) (k : Fin K) : EReal := Ideal.div (x k) (rms (sumSq x)) * n k

/-- A row's greatest magnitude. -/
def absSup {K : ℕ} (v : Fin K → EReal) : EReal := Finset.univ.sup fun k => max (v k) (-(v k))

/-- The scale of a row's codes. -/
def inScale {K : ℕ} (x n : Fin K → EReal) : EReal := scale (absSup (normed x n))

/-- A row's codes. -/
def inCode {K : ℕ} (x n : Fin K → EReal) (k : Fin K) : EReal := code (normed x n k) (inScale x n)

/-- One entry of a projection: the sum of products, by the row's scale and the column's. -/
def proj {K : ℕ} (q w : Fin K → EReal) (s t : EReal) : EReal := (∑ k, q k * w k) * s * t

/-- The int8 scale of a group, from its greatest magnitude. -/
def scale8 (a : EReal) : EReal := if a = 0 then 1 else Ideal.div a ((127 : ℝ) : EReal)

/-- The int8 code of a quotient: rounded to the nearest integer, halves to even, and clipped to ±127. -/
def round8 (q : EReal) : BitVec 8 :=
  FloatOps.fptosi (F := Ideal) (φ := .f32) 8 (min (Scalar.sitofp (F := Ideal) .f32 127#32) (max (Scalar.sitofp (F := Ideal) .f32 4294967169#32) (FloatOps.roundeven (F := Ideal) (φ := .f32) q)))

/-! ## The literals -/

theorem lit_4096 : Ideal.ofBits .f32 0x45800000#32 = ((4096 : ℝ) : EReal) := by
  simp [Ideal.ofBits, Ideal.ieee, -EReal.coe_mul]; norm_num
theorem lit_inv4096 : Ideal.ofBits .f32 0x39800000#32 = ((1 / 4096 : ℝ) : EReal) := by
  simp [Ideal.ofBits, Ideal.ieee, -EReal.coe_mul]; norm_num
theorem lit_127 : Ideal.ofBits .f32 0x42FE0000#32 = ((127 : ℝ) : EReal) := by
  simp [Ideal.ofBits, Ideal.ieee, -EReal.coe_mul]; norm_num
theorem eps_pos : ∃ e : ℝ, 0 < e ∧ eps = (e : EReal) := by
  refine ⟨10995116 / 1099511627776, by norm_num, ?_⟩
  unfold eps
  simp [Ideal.ofBits, Ideal.ieee, -EReal.coe_mul]; norm_num

/-! ## The scales -/

/-- The scale as the kernel takes it, by a multiplication. -/
theorem scale8_mul (a : EReal) : (if a = 0 then 1 else a * ((1 / 127 : ℝ) : EReal)) = scale8 a := by
  unfold scale8
  rw [Ideal.div_coe (by norm_num : (127 : ℝ) ≠ 0)]

theorem scale8_ne_zero (a : EReal) : scale8 a ≠ 0 := by
  unfold scale8
  split
  · exact one_ne_zero
  · rename_i h
    rw [Ideal.div_coe (by norm_num : (127 : ℝ) ≠ 0)]
    intro e
    rcases mul_eq_zero.mp e with e | e
    · exact h e
    · norm_num at e

/-! ## The root mean square -/

theorem mul_self_nonneg' (x : EReal) : 0 ≤ x * x := by
  rcases le_total 0 x with h | h
  · exact EReal.mul_nonneg h h
  · rw [← neg_mul_neg]
    have h' : 0 ≤ -x := by rw [EReal.le_neg]; simpa using h
    exact EReal.mul_nonneg h' h'

theorem sumSq_nonneg {K : ℕ} (x : Fin K → EReal) : 0 ≤ sumSq x := Finset.sum_nonneg fun k _ => mul_self_nonneg' (x k)

/-- The root as the kernel takes it. -/
theorem rms_mul (S : EReal) : Ideal.sqrt (S * ((1 / 4096 : ℝ) : EReal) + eps) = rms S := by
  unfold rms
  rw [Ideal.div_coe (by norm_num : (4096 : ℝ) ≠ 0)]

theorem rms_ne_zero {S : EReal} (hS : 0 ≤ S) : rms S ≠ 0 := by
  obtain ⟨e, he, h⟩ := eps_pos
  rw [← rms_mul, h]
  have hk : (0 : EReal) ≤ S * ((1 / 4096 : ℝ) : EReal) := EReal.mul_nonneg hS (by exact_mod_cast (by norm_num : (0 : ℝ) ≤ 1 / 4096))
  generalize S * ((1 / 4096 : ℝ) : EReal) = z at hk
  induction z using EReal.rec with
  | bot => simp at hk
  | top => rw [EReal.top_add_coe, Ideal.sqrt_top]; exact EReal.top_ne_zero
  | coe r =>
    have hr : (0 : ℝ) ≤ r := by exact_mod_cast hk
    rw [← EReal.coe_add]
    have : ¬ (r + e < 0) := by linarith
    have hp : 0 < r + e := by linarith
    rw [Ideal.sqrt_coe, if_neg this]
    have := (Real.sqrt_pos.mpr hp).ne'
    exact_mod_cast this

/-! ## Sums -/

theorem sum_split (m n : ℕ) (f : ℕ → EReal) : ∑ k : Fin (m * n), f k.val = ∑ i : Fin m, ∑ j : Fin n, f (n * i.val + j.val) := by
  rw [← finProdFinEquiv.sum_comp, Fintype.sum_prod_type]
  refine Finset.sum_congr rfl fun i _ => Finset.sum_congr rfl fun j _ => ?_
  congr 1
  show j.val + n * i.val = _
  omega

/-- The sublanes' sums of the groups' sums of the lane tiles' sums are the row's sum. -/
theorem sum_lanes (f : Fin 4096 → EReal) :
    ∑ s : Fin 8, ∑ g : Fin 16, ∑ t : Fin 32, f ⟨128 * t.val + (8 * g.val + s.val), by omega⟩ = ∑ k, f k := by
  obtain ⟨F, e⟩ : ∃ F : ℕ → EReal, ∀ k : Fin 4096, f k = F k.val := ⟨fun n => if h : n < 4096 then f ⟨n, h⟩ else 0, fun k => by simp⟩
  simp only [e]
  have h1 := sum_split 32 128 F
  have h2 : ∀ i : ℕ, ∑ j : Fin 128, F (128 * i + j.val) = ∑ g : Fin 16, ∑ s : Fin 8, F (128 * i + (8 * g.val + s.val)) := fun i =>
    sum_split 16 8 fun n => F (128 * i + n)
  simp only [h2] at h1
  refine Eq.trans ?_ h1.symm
  rw [Finset.sum_comm]
  refine Eq.trans (Finset.sum_congr rfl fun g _ => Finset.sum_comm) ?_
  rw [Finset.sum_comm]

/-- The two halves of a sum over 4096. -/
theorem sum_halves (f : Fin 4096 → EReal) :
    (∑ k : Fin 2048, f ⟨2048 + k.val, by omega⟩) + (∑ k : Fin 2048, f ⟨k.val, by omega⟩) = ∑ k, f k := by
  obtain ⟨F, e⟩ : ∃ F : ℕ → EReal, ∀ k : Fin 4096, f k = F k.val := ⟨fun n => if h : n < 4096 then f ⟨n, h⟩ else 0, fun k => by simp⟩
  simp only [e]
  have h1 := sum_split 2 2048 F
  rw [Fin.sum_univ_two] at h1
  refine Eq.trans ?_ h1.symm
  rw [add_comm]
  congr 1

theorem combine8_add (g : Fin 8 → EReal) : SublaneAllReduce.combine8 (· + ·) g = ∑ s, g s := by
  unfold SublaneAllReduce.combine8
  rw [Fin.sum_univ_eight]
  ac_rfl

/-- A row's greatest magnitude as a row maximum from −∞. -/
theorem rowAbsSup_apply {n0 n1 : ℕ} (h : (⟨2, ![n0, n1]⟩ : Shape).Reduces [1] ⟨1, ![n0]⟩) (hφ : FKind.Formats .f32)
    (hacc : 0xFF800000#32 = FKind.maximumf.neutral .f32 hφ) (X : FVec Ideal ⟨2, ![n0, n1]⟩ .f32) (i : Fin n0) :
    multiReduction .maximumf [1] ⟨1, ![n0]⟩ (absf X) 0xFF800000#32 h hφ hacc (ix1 i)
      = absSup (fun j : Fin n1 => (X (ix2 i j) : EReal)) := by
  rw [rowMax_apply]
  rfl

/-- The same over the last of three axes. -/
theorem rowAbsSup3_apply {n0 n1 n2 : ℕ} (h : (⟨3, ![n0, n1, n2]⟩ : Shape).Reduces [2] ⟨2, ![n0, n1]⟩) (hφ : FKind.Formats .f32)
    (hacc : 0xFF800000#32 = FKind.maximumf.neutral .f32 hφ) (X : FVec Ideal ⟨3, ![n0, n1, n2]⟩ .f32) (i : Fin n0) (g : Fin n1) :
    multiReduction .maximumf [2] ⟨2, ![n0, n1]⟩ (absf X) 0xFF800000#32 h hφ hacc (ix2 i g)
      = absSup (fun j : Fin n2 => (X (ix3 i g j) : EReal)) := by
  rw [Ideal.multiReduction_maximumf_single]
  have e : (FloatOps.ofBits (F := Ideal) .f32 0xFF800000#32 : EReal) = ⊥ := lit_bot
  have e2 : (absf X ∘ h.lift (ix2 i g)) = fun j : Fin n2 => absf X (ix3 i g j) := by
    funext j
    show absf X (h.lift (ix2 i g) j) = absf X (ix3 i g j)
    congr 1
    funext a
    apply Fin.ext
    rw [h.lift_val]
    match a with
    | ⟨0, _⟩ => simp [Shape.Reduces.liftVal]
    | ⟨1, _⟩ => simp [Shape.Reduces.liftVal]
    | ⟨2, _⟩ => simp [Shape.Reduces.liftVal]
  rw [e2, e]
  rfl

/-- A row's sum. -/
theorem rowSum_apply {n0 n1 : ℕ} (h : (⟨2, ![n0, n1]⟩ : Shape).Reduces [1] ⟨1, ![n0]⟩) (hφ : FKind.Formats .f32)
    (hacc : 0x00000000#32 = FKind.add.neutral .f32 hφ) (X : FVec Ideal ⟨2, ![n0, n1]⟩ .f32) (i : Fin n0) :
    multiReduction .add [1] ⟨1, ![n0]⟩ X 0x00000000#32 h hφ hacc (ix1 i) = ∑ j : Fin n1, (X (ix2 i j) : EReal) := by
  rw [Ideal.multiReduction_add_single]
  refine Finset.sum_congr rfl fun j _ => ?_
  show X (h.lift (ix1 i) j) = X (ix2 i j)
  congr 1
  funext a
  apply Fin.ext
  rw [h.lift_val]
  match a with
  | ⟨0, _⟩ => simp [Shape.Reduces.liftVal]
  | ⟨1, _⟩ => simp [Shape.Reduces.liftVal]

end Cert.Spec

end

end
-- ==== Proof.InKerPay.lean ====
/-
  Hand-written, untrusted. What the input-projection kernel computes at each step from its blocks, element by element, over the extended
  reals.
-/
module

public import proofs.«01_k».proof.Proof.InIdealBody
public import proofs.«01_k».proof.Proof.InSpec
public import Idealize.ShloMosaic.Lib.Pointwise
public import Idealize.ShloMosaic.Lib.Pipeline.ValueKit

@[expose] public section

set_option maxRecDepth 16384

noncomputable section

namespace Cert.InProjIdeal.Hand

open Cert.InProjIdeal Cert.InProjIdeal.Gen Cert.Spec
open Idealize.ShloMosaic Idealize.ShloMosaic.Pipeline

/-! ## The sums of squares -/

theorem sum32 (f : Fin 32 → EReal) : ∑ t, f t = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 := by
  simp only [Fin.sum_univ_castSucc, Fin.sum_univ_zero, zero_add]; rfl
theorem sum16 (f : Fin 16 → EReal) : ∑ t, f t = f 0 + f 1 + f 2 + f 3 + f 4 + f 5 + f 6 + f 7 + f 8 + f 9 + f 10 + f 11 + f 12 + f 13 + f 14 + f 15 := by
  simp only [Fin.sum_univ_castSucc, Fin.sum_univ_zero, zero_add]; rfl

/-- A row's squares summed over the lane tiles. -/
theorem lanes_apply (w : Vec Ideal S32x4096 .bf16) (r : Fin 32) (l : Fin 128) :
    k0_pay15 (F := Ideal) (k0_pay1 (F := Ideal) w) (k0_pay2 (F := Ideal) w) (k0_pay3 (F := Ideal) w) (ix2 r l)
      = ∑ t : Fin 32, (w (ix2 r ⟨128 * t.val + l.val, by omega⟩) * w (ix2 r ⟨128 * t.val + l.val, by omega⟩) : EReal) := by
  obtain ⟨f, hf⟩ : ∃ f : Fin 4096 → EReal, ∀ k, f k = w (ix2 r k) * w (ix2 r k) := ⟨_, fun _ => rfl⟩
  have h1 : ∀ k, k0_pay1 (F := Ideal) w (ix2 r k) = f k := by
    intro k
    rw [hf]
    pointwise [k0_pay1]
  simp only [← hf]
  rw [sum32]
  unfold k0_pay15 k0_pay3 k0_pay2
  generalize k0_pay1 (F := Ideal) w = V at h1
  pointwise
  simp only [h1]

theorem rowsX_apply (X : Vec Ideal S256x4096 .bf16) (o : ℕ) (h : o + 32 ≤ 256) (r : Fin 32) (k : Fin 4096) :
    rowsX (F := Ideal) X o h (ix2 r k) = X (ix2 ⟨o + r.val, by omega⟩ k) := by
  unfold rowsX VecWindow.window
  congr 1
  funext a
  match a with
  | ⟨0, _⟩ => exact Fin.ext (ValueKit.rect_emb_unit_val _ _ _ _ _)
  | ⟨1, _⟩ => exact Fin.ext ((ValueKit.rect_emb_unit_val _ _ _ _ _).trans (Nat.zero_add k.val))

theorem rowsC_apply (Q : Vec Ideal S128x128 .f32) (o : ℕ) (h : o + 32 ≤ 128) (r : Fin 32) (u : Fin 1) :
    rowsC (F := Ideal) Q o h (ix2 r u) = Q (ix2 ⟨o + r.val, by omega⟩ 0) := by
  unfold rowsC VecWindow.window
  congr 1
  funext a
  match a with
  | ⟨0, _⟩ => exact Fin.ext (ValueKit.rect_emb_unit_val _ _ _ _ _)
  | ⟨1, _⟩ => exact Fin.ext ((ValueKit.rect_emb_unit_val _ _ _ _ _).trans (by show 0 + u.val = 0; omega))

/-- The entries' squares of a row. -/
def sq (X : Vec Ideal S256x4096 .bf16) (r : Fin 256) (k : Fin 4096) : EReal := X (ix2 r k) * X (ix2 r k)

theorem partA_apply (X : Vec Ideal S256x4096 .bf16) (r : Fin 128) (l : Fin 128) :
    partA (F := Ideal) X (ix2 r l) = ∑ t : Fin 32, sq X ⟨r.val, by omega⟩ ⟨128 * t.val + l.val, by omega⟩ := by
  refine (lanes_apply (rowsX (F := Ideal) X (32 * (r.val / 32)) (by omega)) ⟨r.val % 32, Nat.mod_lt _ (by decide)⟩ l).trans ?_
  refine Finset.sum_congr rfl fun t _ => ?_
  rw [rowsX_apply]
  have e : (⟨32 * (r.val / 32) + r.val % 32, by omega⟩ : Fin 256) = ⟨r.val, by omega⟩ := Fin.ext (by dsimp only <;> omega)
  exact congrArg (fun z => sq X z ⟨128 * t.val + l.val, by omega⟩) e

theorem partB_apply (X : Vec Ideal S256x4096 .bf16) (r : Fin 128) (l : Fin 128) :
    partB (F := Ideal) X (ix2 r l) = ∑ t : Fin 32, sq X ⟨128 + r.val, by omega⟩ ⟨128 * t.val + l.val, by omega⟩ := by
  refine (lanes_apply (rowsX (F := Ideal) X (32 * (r.val / 32) + 128) (by omega)) ⟨r.val % 32, Nat.mod_lt _ (by decide)⟩ l).trans ?_
  refine Finset.sum_congr rfl fun t _ => ?_
  rw [rowsX_apply]
  have e : (⟨32 * (r.val / 32) + 128 + r.val % 32, by omega⟩ : Fin 256) = ⟨128 + r.val, by omega⟩ := Fin.ext (by dsimp only <;> omega)
  exact congrArg (fun z => sq X z ⟨128 * t.val + l.val, by omega⟩) e

/-! ## The reciprocal root mean squares -/

theorem pay16_apply (P : Vec Ideal S128x128 .f32) (s : Fin 8) (c : Fin 128) :
    k0_pay16 (F := Ideal) P (ix2 s c) = ∑ g : Fin 16, (P (ix2 c ⟨8 * g.val + s.val, by omega⟩) : EReal) := by
  have h3 : ∀ (g : Fin 16) (s : Fin 8), shapeCast S16x8x128 (transpose S128x128 [1, 0] P transposes_S128x128_p1_0_S128x128) shapeCasts_S128x128_S16x8x128 (ix3 g s c)
      = P (ix2 c ⟨8 * g.val + s.val, by omega⟩) := by
    intro g s
    have e : (⟨8 * g.val + s.val, by omega⟩ : Fin 128) = ⟨g.val * 8 + s.val, by omega⟩ := Fin.ext (by dsimp only <;> omega)
    rw [e]
    pointwise
  rw [sum16]
  unfold k0_pay16
  simp only [← h3]
  generalize shapeCast S16x8x128 (transpose S128x128 [1, 0] P transposes_S128x128_p1_0_S128x128) shapeCasts_S128x128_S16x8x128 = V
  pointwise

theorem pay17_apply (V : FVec Ideal S8x128 .f32) (c l : Fin 128) :
    k0_pay17 (F := Ideal) V 4#32 (ix2 c l) = Ideal.div 1 (rms (∑ s : Fin 8, (V (ix2 s c) : EReal))) := by
  have hb := SublaneAllReduce.sublaneAllReduce_apply (α := EReal) (· + ·) rotates_S8x128_d0 V 0 c
  rw [combine8_add] at hb
  obtain ⟨Y, hY⟩ : ∃ Y : FVec Ideal S8x128 .f32, Y = addf (addf (addf V (dynamicRotate 0 4#32 none V rotates_S8x128_d0))
      (dynamicRotate 0 2#32 none (addf V (dynamicRotate 0 4#32 none V rotates_S8x128_d0)) rotates_S8x128_d0))
    (dynamicRotate 0 1#32 none (addf (addf V (dynamicRotate 0 4#32 none V rotates_S8x128_d0))
      (dynamicRotate 0 2#32 none (addf V (dynamicRotate 0 4#32 none V rotates_S8x128_d0)) rotates_S8x128_d0)) rotates_S8x128_d0) := ⟨_, rfl⟩
  have hb' : Y (ix2 0 c) = ∑ s : Fin 8, (V (ix2 s c) : EReal) := by rw [hY]; exact hb
  rw [← hb', ← rms_mul, ← lit_inv4096]
  unfold k0_pay17 eps
  dsimp only
  rw [← hY]
  clear hY hb hb'
  pointwise

/-- The reciprocal root mean squares of 128 rows, from their sums lane by lane. -/
theorem col_apply (P : Vec Ideal S128x128 .f32) (c l : Fin 128) (f : Fin 4096 → EReal)
    (hP : ∀ k : Fin 128, P (ix2 c k) = ∑ t : Fin 32, f ⟨128 * t.val + k.val, by omega⟩) :
    k0_pay17 (F := Ideal) (k0_pay16 (F := Ideal) P) 4#32 (ix2 c l) = Ideal.div 1 (rms (∑ k, f k)) := by
  rw [pay17_apply, ← sum_lanes]
  simp only [pay16_apply, hP]

theorem colA_apply (X : Vec Ideal S256x4096 .bf16) (c l : Fin 128) :
    colA (F := Ideal) X (ix2 c l) = Ideal.div 1 (rms (sumSq fun k : Fin 4096 => (X (ix2 (⟨c.val, by omega⟩ : Fin 256) k) : EReal))) :=
  col_apply _ c l (sq X ⟨c.val, by omega⟩) (partA_apply X c)

theorem colB_eq (X : Vec Ideal S256x4096 .bf16) : colB (F := Ideal) X = k0_pay17 (F := Ideal) (k0_pay16 (F := Ideal) (partB (F := Ideal) X)) 4#32 := by
  unfold colB k0_pay17 k0_pay16 k0_pay23 k0_pay22 k0_pay21 k0_pay20; rfl

theorem colB_apply (X : Vec Ideal S256x4096 .bf16) (c l : Fin 128) :
    colB (F := Ideal) X (ix2 c l) = Ideal.div 1 (rms (sumSq fun k : Fin 4096 => (X (ix2 (⟨128 + c.val, by omega⟩ : Fin 256) k) : EReal))) := by
  rw [colB_eq]
  exact col_apply _ c l (sq X ⟨128 + c.val, by omega⟩) (partB_apply X c)

/-! ## The scales and the codes -/

theorem pay4_apply (w : Vec Ideal S32x4096 .bf16) (q : Vec Ideal S32x1 .f32) (N : Vec Ideal S1x4096 .f32) (r : Fin 32) (k : Fin 4096) :
    k0_pay4 (F := Ideal) w q N (ix2 r k) = (w (ix2 r k) * q (ix2 r 0) * N (ix2 0 k) : EReal) := by
  pointwise [k0_pay4]

/-- The scales, from the rows' greatest magnitudes. -/
def kScl (M : FVec Ideal S32 .f32) : FVec Ideal S32x1 .f32 :=
  select (cmpf .oeq (shapeCast S32x1 M shapeCasts_S32_S32x1) (broadcast S32x1 (Scalar.ofBits .f32 0x00000000#32))) (broadcast S32x1 (Scalar.ofBits .f32 0x3F800000#32))
    (mulf (shapeCast S32x1 M shapeCasts_S32_S32x1) (broadcast S32x1 (Named.named (F := Ideal) κ "inv_fp8_max" 0x3B124925#32)))

theorem kScl_apply (M : FVec Ideal S32 .f32) (r : Fin 32) (u : Fin 1) : kScl M (ix2 r u) = scale (M (ix1 r)) := by
  have hk : (Named.named (F := Ideal) κ "inv_fp8_max" 0x3B124925#32 : Ideal .f32) = ((1 / 448 : ℝ) : EReal) :=
    IdealRules.named_const.ideal_named_scalar _ _ _ _ rfl
  rw [← scale_mul]
  unfold kScl
  rw [hk]
  generalize ((1 / 448 : ℝ) : EReal) = k
  pointwise

theorem pay5_apply (w : Vec Ideal S32x4096 .bf16) (q : Vec Ideal S32x1 .f32) (N : Vec Ideal S1x4096 .f32) (r : Fin 32) (u : Fin 1) :
    k0_pay5 (F := Ideal) w q N (ix2 r u) = scale (absSup fun k : Fin 4096 => (k0_pay4 (F := Ideal) w q N (ix2 r k) : EReal)) := by
  have e := rowAbsSup_apply reduces_S32x4096_S32 (.inl rfl) rfl (k0_pay4 (F := Ideal) w q N) r
  rw [← e]
  unfold k0_pay5
  exact kScl_apply _ r u

theorem cod_gen (X : FVec Ideal S32x4096 .f32) (s : FVec Ideal S32x1 .f32) (r : Fin 32) (k : Fin 4096) :
    truncf (F := Ideal) .fp8e4m3 (minimumf (broadcast S32x4096 (Scalar.ofBits .f32 0x43E00000#32)) (maximumf (broadcast S32x4096 (Scalar.ofBits .f32 0xC3E00000#32))
      (mulf X (broadcastTo S32x4096 (divf (broadcast S32x1 (Scalar.ofBits .f32 0x3F800000#32)) s) broadcasts_S32x1_S32x4096)))) bitsLt_fp8e4m3_f32 (ix2 r k)
      = min ((448 : ℝ) : EReal) (max ((-448 : ℝ) : EReal) (X (ix2 r k) * Ideal.div 1 (s (ix2 r 0)))) := by
  rw [← lit_448, ← lit_neg448]
  pointwise

theorem pay6_apply (w : Vec Ideal S32x4096 .bf16) (q : Vec Ideal S32x1 .f32) (N : Vec Ideal S1x4096 .f32) (r : Fin 32) (k : Fin 4096) :
    k0_pay6 (F := Ideal) w q N (ix2 r k)
      = code (k0_pay4 (F := Ideal) w q N (ix2 r k)) (scale (absSup fun k : Fin 4096 => (k0_pay4 (F := Ideal) w q N (ix2 r k) : EReal))) := by
  rw [← code_recip, ← pay5_apply w q N r 0]
  unfold k0_pay6
  exact cod_gen _ _ r k

theorem pay18_apply (w : Vec Ideal S32x4096 .bf16) (q : Vec Ideal S32x1 .f32) (N : Vec Ideal S1x4096 .f32) (r : Fin 32) (l : Fin 128) :
    k0_pay18 (F := Ideal) (k0_pay7 (F := Ideal) w q N) (ix2 r l) = k0_pay5 (F := Ideal) w q N (ix2 r 0) := by
  have gen : ∀ X : FVec Ideal S32x1 .f32,
      shapeCast S32x128 (broadcastTo S32x128 (shapeCast S32x1 X shapeCasts_S32x1_S32x1) broadcasts_S32x1_S32x128) shapeCasts_S32x128_S32x128 (ix2 r l) = X (ix2 r 0) := by
    intro X; pointwise
  unfold k0_pay18 k0_pay7
  exact gen _

/-- A row of the tile over its root mean square, weighted, as the kernel computes it. -/
theorem norm_apply (w : Vec Ideal S32x4096 .bf16) (q : Vec Ideal S32x1 .f32) (N : Vec Ideal S1x4096 .f32) (r : Fin 32) (k : Fin 4096) (x : Fin 4096 → EReal)
    (hw : ∀ k, w (ix2 r k) = x k) (hq : q (ix2 r 0) = Ideal.div 1 (rms (sumSq x))) :
    k0_pay4 (F := Ideal) w q N (ix2 r k) = normed x (fun k => N (ix2 0 k)) k := by
  rw [pay4_apply, hw, hq, mul_recip _ (rms_ne_zero (sumSq_nonneg x))]; rfl

theorem code_of (w : Vec Ideal S32x4096 .bf16) (q : Vec Ideal S32x1 .f32) (N : Vec Ideal S1x4096 .f32) (r : Fin 32) (k : Fin 4096) (x : Fin 4096 → EReal)
    (hw : ∀ k, w (ix2 r k) = x k) (hq : q (ix2 r 0) = Ideal.div 1 (rms (sumSq x))) :
    k0_pay6 (F := Ideal) w q N (ix2 r k) = inCode x (fun k => N (ix2 0 k)) k := by
  rw [pay6_apply]
  simp only [norm_apply w q N r _ x hw hq]
  rfl

theorem scale_of (w : Vec Ideal S32x4096 .bf16) (q : Vec Ideal S32x1 .f32) (N : Vec Ideal S1x4096 .f32) (r : Fin 32) (l : Fin 128) (x : Fin 4096 → EReal)
    (hw : ∀ k, w (ix2 r k) = x k) (hq : q (ix2 r 0) = Ideal.div 1 (rms (sumSq x))) :
    k0_pay18 (F := Ideal) (k0_pay7 (F := Ideal) w q N) (ix2 r l) = inScale x (fun k => N (ix2 0 k)) := by
  rw [pay18_apply, pay5_apply]
  simp only [norm_apply w q N r _ x hw hq]
  rfl

variable (X : Vec Ideal S256x4096 .bf16) (N : Vec Ideal S1x4096 .f32)

theorem rowA (r : Fin 256) (h : r.val < 128) (k : Fin 4096) :
    rowsX (F := Ideal) X (32 * (r.val / 32)) (by omega) (ix2 ⟨r.val % 32, Nat.mod_lt _ (by decide)⟩ k) = X (ix2 r k) := by
  rw [rowsX_apply]
  exact congrArg (fun z => X (ix2 z k)) (Fin.ext (by show 32 * (r.val / 32) + r.val % 32 = r.val; omega))

theorem rowB (r : Fin 256) (h : ¬ r.val < 128) (k : Fin 4096) :
    rowsX (F := Ideal) X (32 * ((r.val - 128) / 32) + 128) (by omega) (ix2 ⟨r.val % 32, Nat.mod_lt _ (by decide)⟩ k) = X (ix2 r k) := by
  rw [rowsX_apply]
  exact congrArg (fun z => X (ix2 z k)) (Fin.ext (by show 32 * ((r.val - 128) / 32) + 128 + r.val % 32 = r.val; omega))

theorem invA (r : Fin 256) (h : r.val < 128) :
    rowsC (F := Ideal) (colA (F := Ideal) X) (32 * (r.val / 32)) (by omega) (ix2 ⟨r.val % 32, Nat.mod_lt _ (by decide)⟩ 0)
      = Ideal.div 1 (rms (sumSq fun k : Fin 4096 => (X (ix2 r k) : EReal))) := by
  rw [rowsC_apply, colA_apply]
  exact congrArg (fun z : Fin 256 => Ideal.div 1 (rms (sumSq fun k : Fin 4096 => (X (ix2 z k) : EReal)))) (Fin.ext (by show 32 * (r.val / 32) + r.val % 32 = r.val; omega))

theorem invB (r : Fin 256) (h : ¬ r.val < 128) :
    rowsC (F := Ideal) (colB (F := Ideal) X) (32 * ((r.val - 128) / 32)) (by omega) (ix2 ⟨r.val % 32, Nat.mod_lt _ (by decide)⟩ 0)
      = Ideal.div 1 (rms (sumSq fun k : Fin 4096 => (X (ix2 r k) : EReal))) := by
  rw [rowsC_apply, colB_apply]
  exact congrArg (fun z : Fin 256 => Ideal.div 1 (rms (sumSq fun k : Fin 4096 => (X (ix2 z k) : EReal))))
    (Fin.ext (by show 128 + (32 * ((r.val - 128) / 32) + r.val % 32) = r.val; omega))

theorem pay13_eq (w : Vec Ideal S32x4096 .bf16) (q : Vec Ideal S32x1 .f32) (N : Vec Ideal S1x4096 .f32) : k0_pay13 (F := Ideal) w q N = k0_pay6 (F := Ideal) w q N := by
  unfold k0_pay13 k0_pay6 k0_pay12 k0_pay5 k0_pay11 k0_pay4; rfl
theorem pay24_eq (w : Vec Ideal S32x4096 .bf16) (q : Vec Ideal S32x1 .f32) (N : Vec Ideal S1x4096 .f32) :
    k0_pay24 (F := Ideal) (k0_pay14 (F := Ideal) w q N) = k0_pay18 (F := Ideal) (k0_pay7 (F := Ideal) w q N) := by
  unfold k0_pay24 k0_pay14 k0_pay18 k0_pay7 k0_pay12 k0_pay5 k0_pay11 k0_pay4; rfl

theorem codes_apply (r : Fin 256) (k : Fin 4096) :
    codes (F := Ideal) X N (ix2 r k) = inCode (fun k : Fin 4096 => (X (ix2 r k) : EReal)) (fun k => N (ix2 0 k)) k := by
  by_cases h : r.val < 128
  · have e : codes (F := Ideal) X N (ix2 r k) = k0_pay6 (F := Ideal) (rowsX (F := Ideal) X (32 * (r.val / 32)) (by omega)) (rowsC (F := Ideal) (colA (F := Ideal) X) (32 * (r.val / 32)) (by omega)) N (ix2 ⟨r.val % 32, Nat.mod_lt _ (by decide)⟩ k) := by
      unfold codes
      refine (dif_pos h).trans (congrArg _ (funext fun a => ?_))
      match a with
      | ⟨0, _⟩ => rfl
      | ⟨1, _⟩ => rfl
    rw [e]
    exact code_of (rowsX (F := Ideal) X (32 * (r.val / 32)) (by omega)) (rowsC (F := Ideal) (colA (F := Ideal) X) (32 * (r.val / 32)) (by omega)) N ⟨r.val % 32, Nat.mod_lt _ (by decide)⟩ k _ (fun k => rowA X r h k) (invA X r h)
  · have e : codes (F := Ideal) X N (ix2 r k) = k0_pay13 (F := Ideal) (rowsX (F := Ideal) X (32 * ((r.val - 128) / 32) + 128) (by omega)) (rowsC (F := Ideal) (colB (F := Ideal) X) (32 * ((r.val - 128) / 32)) (by omega)) N (ix2 ⟨r.val % 32, Nat.mod_lt _ (by decide)⟩ k) := by
      unfold codes
      refine (dif_neg h).trans (congrArg _ (funext fun a => ?_))
      match a with
      | ⟨0, _⟩ => rfl
      | ⟨1, _⟩ => rfl
    rw [e, pay13_eq]
    exact code_of (rowsX (F := Ideal) X (32 * ((r.val - 128) / 32) + 128) (by omega)) (rowsC (F := Ideal) (colB (F := Ideal) X) (32 * ((r.val - 128) / 32)) (by omega)) N ⟨r.val % 32, Nat.mod_lt _ (by decide)⟩ k _ (fun k => rowB X r h k) (invB X r h)

theorem scales_apply (r : Fin 256) (l : Fin 128) :
    scales (F := Ideal) X N (ix2 r l) = inScale (fun k : Fin 4096 => (X (ix2 r k) : EReal)) (fun k => N (ix2 0 k)) := by
  by_cases h : r.val < 128
  · have e : scales (F := Ideal) X N (ix2 r l) = k0_pay18 (F := Ideal) (k0_pay7 (F := Ideal) (rowsX (F := Ideal) X (32 * (r.val / 32)) (by omega)) (rowsC (F := Ideal) (colA (F := Ideal) X) (32 * (r.val / 32)) (by omega)) N) (ix2 ⟨r.val % 32, Nat.mod_lt _ (by decide)⟩ l) := by
      unfold scales
      refine (dif_pos h).trans (congrArg _ (funext fun a => ?_))
      match a with
      | ⟨0, _⟩ => rfl
      | ⟨1, _⟩ => rfl
    rw [e]
    exact scale_of (rowsX (F := Ideal) X (32 * (r.val / 32)) (by omega)) (rowsC (F := Ideal) (colA (F := Ideal) X) (32 * (r.val / 32)) (by omega)) N ⟨r.val % 32, Nat.mod_lt _ (by decide)⟩ l _ (fun k => rowA X r h k) (invA X r h)
  · have e : scales (F := Ideal) X N (ix2 r l) = k0_pay24 (F := Ideal) (k0_pay14 (F := Ideal) (rowsX (F := Ideal) X (32 * ((r.val - 128) / 32) + 128) (by omega)) (rowsC (F := Ideal) (colB (F := Ideal) X) (32 * ((r.val - 128) / 32)) (by omega)) N) (ix2 ⟨r.val % 32, Nat.mod_lt _ (by decide)⟩ l) := by
      unfold scales
      refine (dif_neg h).trans (congrArg _ (funext fun a => ?_))
      match a with
      | ⟨0, _⟩ => rfl
      | ⟨1, _⟩ => rfl
    rw [e, pay24_eq]
    exact scale_of (rowsX (F := Ideal) X (32 * ((r.val - 128) / 32) + 128) (by omega)) (rowsC (F := Ideal) (colB (F := Ideal) X) (32 * ((r.val - 128) / 32)) (by omega)) N ⟨r.val % 32, Nat.mod_lt _ (by decide)⟩ l _ (fun k => rowB X r h k) (invB X r h)

theorem sclCol_apply (r : Fin 256) (u : Fin 1) :
    sclCol (F := Ideal) X N (ix2 r u) = inScale (fun k : Fin 4096 => (X (ix2 r k) : EReal)) (fun k => N (ix2 0 k)) := by
  refine Eq.trans ?_ (scales_apply X N r 0)
  unfold sclCol VecWindow.window
  congr 1
  funext a
  match a with
  | ⟨0, _⟩ => exact Fin.ext ((ValueKit.rect_emb_unit_val _ _ _ _ _).trans (Nat.zero_add r.val))
  | ⟨1, _⟩ => exact Fin.ext ((ValueKit.rect_emb_unit_val _ _ _ _ _).trans (by show 0 + u.val = 0; omega))

theorem pay25_apply (Q : Vec Ideal S256x1 .f32) (u : Fin 1) (r : Fin 256) : k0_pay25 (F := Ideal) Q (ix2 u r) = Q (ix2 r 0) := by
  have e : k0_pay25 (F := Ideal) Q (ix2 u r) = if h : r.val < 128 then Q (ix2 r 0) else Q (ix2 ⟨128 + (r.val - 128), by omega⟩ 0) := by pointwise [k0_pay25]
  rw [e]
  split
  · rfl
  · rename_i h
    exact congrArg (fun z => Q (ix2 z 0)) (Fin.ext (by show 128 + (r.val - 128) = r.val; omega))

/-! ## The projection -/

theorem pay28_apply (Q : Vec Ideal S256x1 .f32) (C : Vec Ideal S256x4096 .fp8e4m3) (W1 W0 : Vec Ideal S1024x2048 .fp8e4m3) (r : Fin 256) (j : Fin 1024) :
    k0_pay28 (F := Ideal) Q C W1 (k0_pay27 (F := Ideal) C W0) (ix2 r j)
      = (((∑ k : Fin 2048, C (ix2 r ⟨2048 + k.val, by omega⟩) * W1 (ix2 j k)) + ∑ k : Fin 2048, C (ix2 r ⟨k.val, by omega⟩) * W0 (ix2 j k)) * Q (ix2 r 0) : EReal) := by
  pointwise [k0_pay28, k0_pay27, k0_pay26]

theorem pay32_apply (Q : Vec Ideal S256x1 .f32) (C : Vec Ideal S256x4096 .fp8e4m3) (W1 W0 : Vec Ideal S1280x2048 .fp8e4m3) (T : Vec Ideal S1x1280 .f32) (r : Fin 256) (j : Fin 1280) :
    k0_pay32 (F := Ideal) Q (k0_pay26 (F := Ideal) C) W1 (k0_pay31 (F := Ideal) (k0_pay26 (F := Ideal) C) W0) T (ix2 r j)
      = (((∑ k : Fin 2048, C (ix2 r ⟨2048 + k.val, by omega⟩) * W1 (ix2 j k)) + ∑ k : Fin 2048, C (ix2 r ⟨k.val, by omega⟩) * W0 (ix2 j k)) * Q (ix2 r 0) * T (ix2 0 j) : EReal) := by
  pointwise [k0_pay32, k0_pay31, k0_pay26]

theorem pay30_apply (z : FVec Ideal S256x1024 .f32) (T : Vec Ideal S1x1024 .f32) (r : Fin 256) (j : Fin 1024) :
    k0_pay30 (F := Ideal) z (k0_pay29 (F := Ideal) T) (ix2 r j) = (z (ix2 r j) * T (ix2 0 j) : EReal) := by
  pointwise [k0_pay30, k0_pay29]

/-- A window of the weights read at an index. -/
theorem winW_apply (W : Vec Ideal S2320x4096 .fp8e4m3) (a b m n : ℕ) (h : ∀ x, (![a, b] : Fin 2 → ℕ) x + (![m, n] : Fin 2 → ℕ) x ≤ S2320x4096.size x)
    (j : Fin m) (k : Fin n) (ha : a + j.val < 2320) (hb : b + k.val < 4096) :
    VecWindow.window (s := S2320x4096) W ![a, b] ![m, n] h (ix2 j k) = W (ix2 ⟨a + j.val, ha⟩ ⟨b + k.val, hb⟩) := by
  unfold VecWindow.window
  congr 1
  funext x
  match x with
  | ⟨0, _⟩ => exact Fin.ext (ValueKit.rect_emb_unit_val _ _ _ _ _)
  | ⟨1, _⟩ => exact Fin.ext (ValueKit.rect_emb_unit_val _ _ _ _ _)

theorem winS_apply (W : Vec Ideal S1x2320 .f32) (b n : ℕ) (h : ∀ x, (![0, b] : Fin 2 → ℕ) x + (![1, n] : Fin 2 → ℕ) x ≤ S1x2320.size x)
    (k : Fin n) (hb : b + k.val < 2320) :
    VecWindow.window (s := S1x2320) W ![0, b] ![1, n] h (ix2 (0 : Fin 1) k) = W (ix2 0 ⟨b + k.val, hb⟩) := by
  unfold VecWindow.window
  congr 1
  funext x
  match x with
  | ⟨0, _⟩ => exact Fin.ext (ValueKit.rect_emb_unit_val _ _ _ _ _)
  | ⟨1, _⟩ => exact Fin.ext (ValueKit.rect_emb_unit_val _ _ _ _ _)

variable (C : Vec Ideal S256x4096 .fp8e4m3) (Q : Vec Ideal S256x1 .f32) (W : Vec Ideal S2320x4096 .fp8e4m3) (Ws : Vec Ideal S1x2320 .f32)

theorem zOf_apply (r : Fin 256) (j : Fin 1024) :
    zOf (F := Ideal) C Q W Ws (ix2 r j)
      = proj (fun k : Fin 4096 => (C (ix2 r k) : EReal)) (fun k => W (ix2 ⟨j.val, by omega⟩ k)) (Q (ix2 r 0)) (Ws (ix2 0 ⟨j.val, by omega⟩)) := by
  unfold zOf proj
  rw [pay30_apply, pay28_apply, ← sum_halves]
  have w1 : ∀ k : Fin 2048, VecWindow.window (s := S2320x4096) W ![0, 2048] ![1024, 2048] inb_S2320x4096_S1024x2048_0_2048 (ix2 j k) = W (ix2 ⟨j.val, by omega⟩ ⟨2048 + k.val, by omega⟩) := fun k =>
    (winW_apply W 0 2048 1024 2048 _ j k (by omega) (by omega)).trans (congrArg (fun z => W (ix2 z _)) (Fin.ext (Nat.zero_add _)))
  have w0 : ∀ k : Fin 2048, VecWindow.window (s := S2320x4096) W ![0, 0] ![1024, 2048] inb_S2320x4096_S1024x2048_0_0 (ix2 j k) = W (ix2 ⟨j.val, by omega⟩ ⟨k.val, by omega⟩) := fun k =>
    (winW_apply W 0 0 1024 2048 _ j k (by omega) (by omega)).trans (congrArg₂ (fun z y => W (ix2 z y)) (Fin.ext (Nat.zero_add _)) (Fin.ext (Nat.zero_add _)))
  have s0 : VecWindow.window (s := S1x2320) Ws ![0, 0] ![1, 1024] inb_S1x2320_S1x1024_0_0 (ix2 0 j) = Ws (ix2 0 ⟨j.val, by omega⟩) :=
    (winS_apply Ws 0 1024 _ j (by omega)).trans (congrArg (fun z => Ws (ix2 0 z)) (Fin.ext (Nat.zero_add _)))
  rw [s0]
  simp only [w1, w0]

theorem xbcOf_apply (r : Fin 256) (j : Fin 1280) :
    xbcOf (F := Ideal) C Q W Ws (ix2 r j)
      = proj (fun k : Fin 4096 => (C (ix2 r k) : EReal)) (fun k => W (ix2 ⟨1024 + j.val, by omega⟩ k)) (Q (ix2 r 0)) (Ws (ix2 0 ⟨1024 + j.val, by omega⟩)) := by
  unfold xbcOf proj
  rw [pay32_apply, ← sum_halves]
  have w1 : ∀ k : Fin 2048, VecWindow.window (s := S2320x4096) W ![1024, 2048] ![1280, 2048] inb_S2320x4096_S1280x2048_1024_2048 (ix2 j k) = W (ix2 ⟨1024 + j.val, by omega⟩ ⟨2048 + k.val, by omega⟩) := fun k =>
    winW_apply W 1024 2048 1280 2048 _ j k (by omega) (by omega)
  have w0 : ∀ k : Fin 2048, VecWindow.window (s := S2320x4096) W ![1024, 0] ![1280, 2048] inb_S2320x4096_S1280x2048_1024_0 (ix2 j k) = W (ix2 ⟨1024 + j.val, by omega⟩ ⟨k.val, by omega⟩) := fun k =>
    (winW_apply W 1024 0 1280 2048 _ j k (by omega) (by omega)).trans (congrArg (fun y => W (ix2 _ y)) (Fin.ext (Nat.zero_add _)))
  have s0 : VecWindow.window (s := S1x2320) Ws ![0, 1024] ![1, 1280] inb_S1x2320_S1x1280_0_1024 (ix2 0 j) = Ws (ix2 0 ⟨1024 + j.val, by omega⟩) :=
    winS_apply Ws 1024 1280 _ j (by omega)
  rw [s0]
  simp only [w1, w0]

/-! ## The int8 codes and scales of the groups -/

/-- The scales of a group, from its columns. -/
def gS (v : FVec Ideal S256x128 .f32) : FVec Ideal S256x1 .f32 :=
  have M : FVec Ideal S256x1 .f32 := shapeCast S256x1 (multiReduction .maximumf [1] S256 (absf v) 0xFF800000#32 reduces_S256x128_S256 (.inl rfl) rfl : FVec Ideal S256 .f32) shapeCasts_S256_S256x1
  select (cmpf .oeq M (broadcast S256x1 (Scalar.ofBits .f32 0x00000000#32))) (broadcast S256x1 (Scalar.ofBits .f32 0x3F800000#32))
    (mulf M (broadcast S256x1 (Named.named (F := Ideal) κ "inv_int8_max" 0x3C010204#32)))

/-- The codes of a group, from its columns and its scales. -/
def gC (v : FVec Ideal S256x128 .f32) (s : FVec Ideal S256x1 .f32) : IVec S256x128 8 :=
  fptosi 8 (minimumf (broadcast S256x128 (Scalar.sitofp .f32 127#32)) (maximumf (broadcast S256x128 (Scalar.sitofp .f32 4294967169#32))
    (roundeven (mulf v (broadcastTo S256x128 (divf (broadcast S256x1 (Scalar.ofBits .f32 0x3F800000#32)) s) broadcasts_S256x1_S256x128)))))

/-- A column put in lane `n`. -/
def gSel (n : BitVec 32) (s : FVec Ideal S256x1 .f32) (acc : FVec Ideal S256x128 .f32) : FVec Ideal S256x128 .f32 :=
  select (cmpi .eq (iota .tc S256x128 32 [1] iota_S256x128_d1_w32) (broadcast S256x128 n)) (broadcastTo S256x128 (shapeCast S256x1 s shapeCasts_S256x1_S256x1) broadcasts_S256x1_S256x128) acc

theorem gS_apply (v : FVec Ideal S256x128 .f32) (r : Fin 256) (u : Fin 1) : gS v (ix2 r u) = scale8 (absSup fun l : Fin 128 => (v (ix2 r l) : EReal)) := by
  have hk : (Named.named (F := Ideal) κ "inv_int8_max" 0x3C010204#32 : Ideal .f32) = ((1 / 127 : ℝ) : EReal) :=
    IdealRules.named_const.ideal_named_scalar _ _ _ _ rfl
  have e := rowAbsSup_apply reduces_S256x128_S256 (.inl rfl) rfl v r
  rw [← scale8_mul, ← e]
  unfold gS
  rw [hk]
  generalize (multiReduction .maximumf [1] S256 (absf v) 0xFF800000#32 reduces_S256x128_S256 (.inl rfl) rfl : FVec Ideal S256 .f32) = M
  generalize ((1 / 127 : ℝ) : EReal) = k
  pointwise

theorem gC_apply (v : FVec Ideal S256x128 .f32) (s : FVec Ideal S256x1 .f32) (r : Fin 256) (l : Fin 128) (hs : s (ix2 r 0) ≠ (0 : EReal)) :
    gC v s (ix2 r l) = round8 (Ideal.div (v (ix2 r l)) (s (ix2 r 0))) := by
  rw [← mul_recip _ hs]
  unfold round8
  pointwise [gC]

theorem gSel_apply (n : ℕ) (hn : n < 128) (s : FVec Ideal S256x1 .f32) (acc : FVec Ideal S256x128 .f32) (r : Fin 256) (l : Fin 128) :
    gSel (BitVec.ofNat 32 n) s acc (ix2 r l) = if l.val = n then s (ix2 r 0) else acc (ix2 r l) := by
  have e : (BitVec.ofNat 32 l.val = BitVec.ofNat 32 n) ↔ l.val = n := by
    constructor
    · intro h
      have := congrArg BitVec.toNat h
      simp only [BitVec.toNat_ofNat] at this
      omega
    · rintro rfl; rfl
  have h : gSel (BitVec.ofNat 32 n) s acc (ix2 r l) = Scalar.select (IntOp.cmpi .eq (BitVec.ofNat 32 l.val) (BitVec.ofNat 32 n)) (s (ix2 r 0)) (acc (ix2 r l)) := by pointwise [gSel]
  rw [h]
  by_cases c : l.val = n
  · rw [if_pos c, e.mpr c]; simp [Scalar.select, IntOp.cmpi]
  · rw [if_neg c]
    have c' : ¬ BitVec.ofNat 32 l.val = BitVec.ofNat 32 n := fun h => c (e.mp h)
    have cb : (BitVec.ofNat 32 l.val == BitVec.ofNat 32 n) = false := by rw [beq_eq_false_iff_ne]; exact c'
    simp [Scalar.select, IntOp.cmpi, cb]

/-- The columns of group `g`. -/
def gV (x : FVec Ideal S256x1280 .f32) : ℕ → FVec Ideal S256x128 .f32
  | 0 => k0_pay40 (F := Ideal) x
  | 1 => k0_pay48 (F := Ideal) x
  | 2 => k0_pay55 (F := Ideal) x
  | 3 => k0_pay61 (F := Ideal) x
  | 4 => k0_pay69 (F := Ideal) x
  | 5 => k0_pay77 (F := Ideal) x
  | 6 => k0_pay84 (F := Ideal) x
  | 7 => k0_pay90 (F := Ideal) x
  | 8 => k0_pay98 (F := Ideal) x
  | _ => k0_pay106 (F := Ideal) x

theorem gV_apply (x : FVec Ideal S256x1280 .f32) (g : ℕ) (hg : g < 10) (r : Fin 256) (l : Fin 128) : gV x g (ix2 r l) = x (ix2 r ⟨g * 128 + l.val, by omega⟩) := by
  interval_cases g
  · refine (show k0_pay40 (F := Ideal) x (ix2 r l) = x (ix2 r ⟨l.val, by omega⟩) from by pointwise [k0_pay40]).trans (congrArg (fun z => x (ix2 r z)) (Fin.ext (by dsimp only <;> omega)))
  · refine (show k0_pay48 (F := Ideal) x (ix2 r l) = x (ix2 r ⟨128 + l.val, by omega⟩) from by pointwise [k0_pay48]).trans (congrArg (fun z => x (ix2 r z)) (Fin.ext (by dsimp only <;> omega)))
  · refine (show k0_pay55 (F := Ideal) x (ix2 r l) = x (ix2 r ⟨256 + l.val, by omega⟩) from by pointwise [k0_pay55]).trans (congrArg (fun z => x (ix2 r z)) (Fin.ext (by dsimp only <;> omega)))
  · refine (show k0_pay61 (F := Ideal) x (ix2 r l) = x (ix2 r ⟨384 + l.val, by omega⟩) from by pointwise [k0_pay61]).trans (congrArg (fun z => x (ix2 r z)) (Fin.ext (by dsimp only <;> omega)))
  · refine (show k0_pay69 (F := Ideal) x (ix2 r l) = x (ix2 r ⟨512 + l.val, by omega⟩) from by pointwise [k0_pay69]).trans (congrArg (fun z => x (ix2 r z)) (Fin.ext (by dsimp only <;> omega)))
  · refine (show k0_pay77 (F := Ideal) x (ix2 r l) = x (ix2 r ⟨640 + l.val, by omega⟩) from by pointwise [k0_pay77]).trans (congrArg (fun z => x (ix2 r z)) (Fin.ext (by dsimp only <;> omega)))
  · refine (show k0_pay84 (F := Ideal) x (ix2 r l) = x (ix2 r ⟨768 + l.val, by omega⟩) from by pointwise [k0_pay84]).trans (congrArg (fun z => x (ix2 r z)) (Fin.ext (by dsimp only <;> omega)))
  · refine (show k0_pay90 (F := Ideal) x (ix2 r l) = x (ix2 r ⟨896 + l.val, by omega⟩) from by pointwise [k0_pay90]).trans (congrArg (fun z => x (ix2 r z)) (Fin.ext (by dsimp only <;> omega)))
  · refine (show k0_pay98 (F := Ideal) x (ix2 r l) = x (ix2 r ⟨1024 + l.val, by omega⟩) from by pointwise [k0_pay98]).trans (congrArg (fun z => x (ix2 r z)) (Fin.ext (by dsimp only <;> omega)))
  · refine (show k0_pay106 (F := Ideal) x (ix2 r l) = x (ix2 r ⟨1152 + l.val, by omega⟩) from by pointwise [k0_pay106]).trans (congrArg (fun z => x (ix2 r z)) (Fin.ext (by dsimp only <;> omega)))

theorem ccG_eq (x : FVec Ideal S256x1280 .f32) (g : ℕ) (hg : g < 10) : ccG (F := Ideal) x g = gC (gV x g) (gS (gV x g)) := by
  interval_cases g <;> rfl

/-- The scale of group `g` of row `r`. -/
def gsc (x : FVec Ideal S256x1280 .f32) (r : Fin 256) (g : ℕ) (hg : g < 10) : EReal := scale8 (absSup fun l : Fin 128 => (x (ix2 r ⟨g * 128 + l.val, by omega⟩) : EReal))

theorem ccOf_apply (x : FVec Ideal S256x1280 .f32) (r : Fin 256) (j : Fin 1280) :
    ccOf (F := Ideal) x (ix2 r j) = round8 (Ideal.div (x (ix2 r j)) (gsc x r (j.val / 128) (by omega))) := by
  have hg : j.val / 128 < 10 := by omega
  have e : ccOf (F := Ideal) x (ix2 r j) = ccG (F := Ideal) x (j.val / 128) (ix2 r ⟨j.val % 128, Nat.mod_lt _ (by decide)⟩) := by
    unfold ccOf
    congr 1
    funext a
    match a with
    | ⟨0, _⟩ => rfl
    | ⟨1, _⟩ => rfl
  have hs := gS_apply (gV x (j.val / 128)) r 0
  rw [e, ccG_eq x _ hg, gC_apply _ _ _ _ (by rw [hs]; exact scale8_ne_zero _), hs]
  simp only [gV_apply x _ hg]
  have hj : (⟨j.val / 128 * 128 + j.val % 128, by omega⟩ : Fin 1280) = j := Fin.ext (by dsimp only <;> omega)
  exact congrArg (fun z => round8 (Ideal.div (x (ix2 r z)) _)) hj

theorem cscAcc_eq (x : FVec Ideal S256x1280 .f32) :
    cscAcc (F := Ideal) x = gSel 9#32 (gS (gV x 9)) (gSel 8#32 (gS (gV x 8)) (gSel 7#32 (gS (gV x 7)) (gSel 6#32 (gS (gV x 6)) (gSel 5#32 (gS (gV x 5)) (gSel 4#32 (gS (gV x 4)) (gSel 3#32 (gS (gV x 3)) (gSel 2#32 (gS (gV x 2)) (gSel 1#32 (gS (gV x 1)) (gSel 0#32 (gS (gV x 0)) (k0_pay39 (F := Ideal))))))))))) := rfl

theorem cscAcc_apply (x : FVec Ideal S256x1280 .f32) (r : Fin 256) (l : Fin 128) (hl : l.val < 10) : cscAcc (F := Ideal) x (ix2 r l) = gsc x r l.val hl := by
  have e : cscAcc (F := Ideal) x (ix2 r l) = gS (gV x l.val) (ix2 r 0) := by
    rw [cscAcc_eq]
    obtain ⟨l, h⟩ := l
    dsimp only at hl
    simp only [gSel_apply _ (by decide : (0:ℕ) < 128), gSel_apply _ (by decide : (1:ℕ) < 128), gSel_apply _ (by decide : (2:ℕ) < 128), gSel_apply _ (by decide : (3:ℕ) < 128),
      gSel_apply _ (by decide : (4:ℕ) < 128), gSel_apply _ (by decide : (5:ℕ) < 128), gSel_apply _ (by decide : (6:ℕ) < 128), gSel_apply _ (by decide : (7:ℕ) < 128),
      gSel_apply _ (by decide : (8:ℕ) < 128), gSel_apply _ (by decide : (9:ℕ) < 128)]
    interval_cases l <;> simp
  rw [e, gS_apply]
  simp only [gV_apply x _ hl]
  rfl

theorem cscOf_apply (x : FVec Ideal S256x1280 .f32) (g : Fin 10) (r : Fin 256) : cscOf (F := Ideal) x (ix2 g r) = gsc x r g.val g.isLt := by
  have gen : ∀ A : FVec Ideal S256x128 .f32, k0_pay112 (F := Ideal) A (ix2 g r) = A (ix2 r ⟨g.val, by omega⟩) := by
    intro A; pointwise [k0_pay112]
  unfold cscOf
  exact (gen _).trans (cscAcc_apply x r ⟨g.val, by omega⟩ g.isLt)

end Cert.InProjIdeal.Hand

end

end
-- ==== Proof.InIdealValue.lean ====
/-
  Hand-written, untrusted. What the five claimed output arrays of the input-projection kernel hold after the run, element by element: row `i`
  belongs to the `i / 256`-th tile of 256 tokens, and each is then read in terms of the arguments, over the extended reals.
-/
module

public import proofs.«01_k».proof.Proof.InIdealRun
public import proofs.«01_k».proof.Proof.InKerPay
public import Idealize.ShloMosaic.Lib.Pointwise
public import Idealize.ShloMosaic.Lib.Claim

@[expose] public section

set_option maxRecDepth 16384

noncomputable section

namespace Cert.InProjIdeal.Hand

open Cert.InProjIdeal Cert.InProjIdeal.Gen Cert.Spec
open Idealize.ShloMosaic Idealize.ShloMosaic.TcCoe Idealize.ShloMosaic.Tactic
open Idealize.SL Idealize.SL.RA Idealize.SL.BI Idealize.SL.Sem
open Idealize.ShloMosaic.Pipeline (Dat RDat)

section Arrays

variable {F : FTy → Type} [FloatOps F] [Named F]

variable (m : (ℓ : Loc nD τ sig) → Buf (Elt F) ℓ)

/-! ## The blocks' places -/

theorem ix0_0 : ∀ t : Fin cfg0.N, win0_0.index t = ![t.val, 0] := by decide +kernel
theorem ix0_1 : ∀ t : Fin cfg0.N, win0_1.index t = ![0, 0] := by decide +kernel
theorem ix0_2 : ∀ t : Fin cfg0.N, win0_2.index t = ![0, 0] := by decide +kernel
theorem ix0_3 : ∀ t : Fin cfg0.N, win0_3.index t = ![0, 0] := by decide +kernel
theorem ix0_12 : ∀ t : Fin cfg0.N, win0_12.index t = ![t.val, 0] := by decide +kernel
theorem ix0_13 : ∀ t : Fin cfg0.N, win0_13.index t = ![0, t.val] := by decide +kernel
theorem ix0_14 : ∀ t : Fin cfg0.N, win0_14.index t = ![t.val, 0] := by decide +kernel
theorem ix0_15 : ∀ t : Fin cfg0.N, win0_15.index t = ![t.val, 0] := by decide +kernel
theorem ix0_16 : ∀ t : Fin cfg0.N, win0_16.index t = ![0, t.val] := by decide +kernel

theorem nine : cfg0.N = 9 := by decide +kernel

/-- The point of tile `n`. -/
def pt (n : ℕ) : Fin cfg0.N := ⟨n % 9, Nat.lt_of_lt_of_eq (Nat.mod_lt _ (by decide)) nine.symm⟩

theorem pt_val (t : Fin cfg0.N) : pt t.val = t := by
  have := Nat.lt_of_lt_of_eq t.isLt nine
  apply Fin.ext
  show t.val % 9 = t.val
  omega

/-! ## The arrays -/

/-- A point's projection of the convolution's input. -/
def xbcB (c : Dev nD) (t : Fin cfg0.N) : FVec F S256x1280 .f32 :=
  xbcOf (codes (iblk m c 0 t) (iblk m c 1 t)) (sclCol (iblk m c 0 t) (iblk m c 1 t)) (iblk m c 2 t) (iblk m c 3 t)

/-- The codes. -/
def codA (c : Dev nD) : Vec F S2304x4096 .fp8e4m3 := fun y =>
  (codes (iblk m c 0 (pt ((y 0).val / 256))) (iblk m c 1 (pt ((y 0).val / 256))) : Vec F S256x4096 .fp8e4m3) (ix2 (n0 := 256) (n1 := 4096) ⟨(y 0).val % 256, Nat.mod_lt _ (by decide)⟩ (y 1))

/-- `z`. -/
def zA (c : Dev nD) : Vec F S2304x1024 .f32 := fun y =>
  (zOf (codes (iblk m c 0 (pt ((y 0).val / 256))) (iblk m c 1 (pt ((y 0).val / 256)))) (sclCol (iblk m c 0 (pt ((y 0).val / 256))) (iblk m c 1 (pt ((y 0).val / 256)))) (iblk m c 2 (pt ((y 0).val / 256))) (iblk m c 3 (pt ((y 0).val / 256))) : Vec F S256x1024 .f32) (ix2 (n0 := 256) (n1 := 1024) ⟨(y 0).val % 256, Nat.mod_lt _ (by decide)⟩ (y 1))

/-- The codes of the convolution's input. -/
def ccA (c : Dev nD) : Vec F S2304x1280 .i8 := fun y =>
  (ccOf (xbcB m c (pt ((y 0).val / 256))) : Vec F S256x1280 .i8) (ix2 (n0 := 256) (n1 := 1280) ⟨(y 0).val % 256, Nat.mod_lt _ (by decide)⟩ (y 1))

/-- The scales of the codes. -/
def insA (c : Dev nD) : Vec F S1x2304 .f32 := fun y =>
  (k0_pay25 (sclCol (iblk m c 0 (pt ((y 1).val / 256))) (iblk m c 1 (pt ((y 1).val / 256)))) : Vec F S1x256 .f32) (ix2 (n0 := 1) (n1 := 256) (y 0) ⟨(y 1).val % 256, Nat.mod_lt _ (by decide)⟩)

/-- The scales of the codes of the convolution's input. -/
def cscA (c : Dev nD) : Vec F S10x2304 .f32 := fun y =>
  (cscOf (xbcB m c (pt ((y 1).val / 256))) : Vec F S10x256 .f32) (ix2 (n0 := 10) (n1 := 256) (y 0) ⟨(y 1).val % 256, Nat.mod_lt _ (by decide)⟩)

theorem codA_at (c : Dev nD) (z : S2304x4096.Idx) (t : Fin cfg0.N) (y : S256x4096.Idx) (e0 : (z 0).val = t.val * 256 + (y 0).val)
    (e1 : (z 1).val = (y 1).val) : codA m c z = (codes (iblk m c 0 t) (iblk m c 1 t) : Vec F S256x4096 .fp8e4m3) y := by
  have y0 : (y 0).val < 256 := (y 0).isLt
  have hp : pt ((z 0).val / 256) = t := by
    refine Eq.trans (congrArg pt ?_) (pt_val t)
    omega
  unfold codA
  rw [hp]
  congr 1
  funext a
  match a with
  | ⟨0, _⟩ => apply Fin.ext; show (z 0).val % 256 = (y 0).val; omega
  | ⟨1, _⟩ => apply Fin.ext; exact e1

theorem zA_at (c : Dev nD) (z : S2304x1024.Idx) (t : Fin cfg0.N) (y : S256x1024.Idx) (e0 : (z 0).val = t.val * 256 + (y 0).val)
    (e1 : (z 1).val = (y 1).val) : zA m c z = (zOf (codes (iblk m c 0 t) (iblk m c 1 t)) (sclCol (iblk m c 0 t) (iblk m c 1 t)) (iblk m c 2 t) (iblk m c 3 t) : Vec F S256x1024 .f32) y := by
  have y0 : (y 0).val < 256 := (y 0).isLt
  have hp : pt ((z 0).val / 256) = t := by
    refine Eq.trans (congrArg pt ?_) (pt_val t)
    omega
  unfold zA
  rw [hp]
  congr 1
  funext a
  match a with
  | ⟨0, _⟩ => apply Fin.ext; show (z 0).val % 256 = (y 0).val; omega
  | ⟨1, _⟩ => apply Fin.ext; exact e1

theorem ccA_at (c : Dev nD) (z : S2304x1280.Idx) (t : Fin cfg0.N) (y : S256x1280.Idx) (e0 : (z 0).val = t.val * 256 + (y 0).val)
    (e1 : (z 1).val = (y 1).val) : ccA m c z = (ccOf (xbcB m c t) : Vec F S256x1280 .i8) y := by
  have y0 : (y 0).val < 256 := (y 0).isLt
  have hp : pt ((z 0).val / 256) = t := by
    refine Eq.trans (congrArg pt ?_) (pt_val t)
    omega
  unfold ccA
  rw [hp]
  congr 1
  funext a
  match a with
  | ⟨0, _⟩ => apply Fin.ext; show (z 0).val % 256 = (y 0).val; omega
  | ⟨1, _⟩ => apply Fin.ext; exact e1

theorem insA_at (c : Dev nD) (z : S1x2304.Idx) (t : Fin cfg0.N) (y : S1x256.Idx) (e0 : (z 0).val = (y 0).val)
    (e1 : (z 1).val = t.val * 256 + (y 1).val) : insA m c z = (k0_pay25 (sclCol (iblk m c 0 t) (iblk m c 1 t)) : Vec F S1x256 .f32) y := by
  have y1 : (y 1).val < 256 := (y 1).isLt
  have hp : pt ((z 1).val / 256) = t := by
    refine Eq.trans (congrArg pt ?_) (pt_val t)
    omega
  unfold insA
  rw [hp]
  congr 1
  funext a
  match a with
  | ⟨0, _⟩ => apply Fin.ext; exact e0
  | ⟨1, _⟩ => apply Fin.ext; show (z 1).val % 256 = (y 1).val; omega

theorem cscA_at (c : Dev nD) (z : S10x2304.Idx) (t : Fin cfg0.N) (y : S10x256.Idx) (e0 : (z 0).val = (y 0).val)
    (e1 : (z 1).val = t.val * 256 + (y 1).val) : cscA m c z = (cscOf (xbcB m c t) : Vec F S10x256 .f32) y := by
  have y1 : (y 1).val < 256 := (y 1).isLt
  have hp : pt ((z 1).val / 256) = t := by
    refine Eq.trans (congrArg pt ?_) (pt_val t)
    omega
  unfold cscA
  rw [hp]
  congr 1
  funext a
  match a with
  | ⟨0, _⟩ => apply Fin.ext; exact e0
  | ⟨1, _⟩ => apply Fin.ext; show (z 1).val % 256 = (y 1).val; omega

variable {m}

theorem final12 {r : PUnit × MemSt nD τ sig (Elt F)} (h : RDat.FramePost (cfgs 0) (fun c => rdat m c) (V m) r) (c : Dev nD) :
    r.2.mem ((c.tc : Thread nD τ).loc main_v20_0) = codA m c := by
  obtain ⟨after, hL, hA⟩ := RDat.FramePost.exists_exact h c
  refine (hA 12).trans ?_
  refine Dat.arrAt_eq_of_covers (cfg := cfg0) (c := c) ((rdat m c).withAfter after) 12 (codA m c) (by decide +kernel) (fun t hf y => ?_) (Memref.isWhole_whole _)
  have e : after 12 t = (codes (iblk m c 0 t) (iblk m c 1 t) : Vec F S256x4096 .fp8e4m3) := (dats m 0 c).toRRel_leaves (fgt := fgt) (Rl := Rl m c) (w := 12) rfl (hL 12 t hf)
  have e0 : (((cfg0.win 12).blk t).view.emb y 0).val = t.val * 256 + (y 0).val := by blk_simp [ix0_12]
  have e1 : (((cfg0.win 12).blk t).view.emb y 1).val = (y 1).val := by blk_simp [ix0_12]
  refine (show _ = after 12 t y from rfl).trans ?_
  rw [e]
  exact (codA_at m c _ t y e0 e1).symm

theorem final13 {r : PUnit × MemSt nD τ sig (Elt F)} (h : RDat.FramePost (cfgs 0) (fun c => rdat m c) (V m) r) (c : Dev nD) :
    r.2.mem ((c.tc : Thread nD τ).loc main_v20_1) = insA m c := by
  obtain ⟨after, hL, hA⟩ := RDat.FramePost.exists_exact h c
  refine (hA 13).trans ?_
  refine Dat.arrAt_eq_of_covers (cfg := cfg0) (c := c) ((rdat m c).withAfter after) 13 (insA m c) (by decide +kernel) (fun t hf y => ?_) (Memref.isWhole_whole _)
  have e : after 13 t = (k0_pay25 (sclCol (iblk m c 0 t) (iblk m c 1 t)) : Vec F S1x256 .f32) := (dats m 0 c).toRRel_leaves (fgt := fgt) (Rl := Rl m c) (w := 13) rfl (hL 13 t hf)
  have e0 : (((cfg0.win 13).blk t).view.emb y 0).val = (y 0).val := by blk_simp [ix0_13]
  have e1 : (((cfg0.win 13).blk t).view.emb y 1).val = t.val * 256 + (y 1).val := by blk_simp [ix0_13]
  refine (show _ = after 13 t y from rfl).trans ?_
  rw [e]
  exact (insA_at m c _ t y e0 e1).symm

theorem final14 {r : PUnit × MemSt nD τ sig (Elt F)} (h : RDat.FramePost (cfgs 0) (fun c => rdat m c) (V m) r) (c : Dev nD) :
    r.2.mem ((c.tc : Thread nD τ).loc main_v20_2) = zA m c := by
  obtain ⟨after, hL, hA⟩ := RDat.FramePost.exists_exact h c
  refine (hA 14).trans ?_
  refine Dat.arrAt_eq_of_covers (cfg := cfg0) (c := c) ((rdat m c).withAfter after) 14 (zA m c) (by decide +kernel) (fun t hf y => ?_) (Memref.isWhole_whole _)
  have e : after 14 t = (zOf (codes (iblk m c 0 t) (iblk m c 1 t)) (sclCol (iblk m c 0 t) (iblk m c 1 t)) (iblk m c 2 t) (iblk m c 3 t) : Vec F S256x1024 .f32) := (dats m 0 c).toRRel_leaves (fgt := fgt) (Rl := Rl m c) (w := 14) rfl (hL 14 t hf)
  have e0 : (((cfg0.win 14).blk t).view.emb y 0).val = t.val * 256 + (y 0).val := by blk_simp [ix0_14]
  have e1 : (((cfg0.win 14).blk t).view.emb y 1).val = (y 1).val := by blk_simp [ix0_14]
  refine (show _ = after 14 t y from rfl).trans ?_
  rw [e]
  exact (zA_at m c _ t y e0 e1).symm

theorem final15 {r : PUnit × MemSt nD τ sig (Elt F)} (h : RDat.FramePost (cfgs 0) (fun c => rdat m c) (V m) r) (c : Dev nD) :
    r.2.mem ((c.tc : Thread nD τ).loc main_v20_3) = ccA m c := by
  obtain ⟨after, hL, hA⟩ := RDat.FramePost.exists_exact h c
  refine (hA 15).trans ?_
  refine Dat.arrAt_eq_of_covers (cfg := cfg0) (c := c) ((rdat m c).withAfter after) 15 (ccA m c) (by decide +kernel) (fun t hf y => ?_) (Memref.isWhole_whole _)
  have e : after 15 t = (ccOf (xbcB m c t) : Vec F S256x1280 .i8) := (dats m 0 c).toRRel_leaves (fgt := fgt) (Rl := Rl m c) (w := 15) rfl (hL 15 t hf)
  have e0 : (((cfg0.win 15).blk t).view.emb y 0).val = t.val * 256 + (y 0).val := by blk_simp [ix0_15]
  have e1 : (((cfg0.win 15).blk t).view.emb y 1).val = (y 1).val := by blk_simp [ix0_15]
  refine (show _ = after 15 t y from rfl).trans ?_
  rw [e]
  exact (ccA_at m c _ t y e0 e1).symm

theorem final16 {r : PUnit × MemSt nD τ sig (Elt F)} (h : RDat.FramePost (cfgs 0) (fun c => rdat m c) (V m) r) (c : Dev nD) :
    r.2.mem ((c.tc : Thread nD τ).loc main_v20_4) = cscA m c := by
  obtain ⟨after, hL, hA⟩ := RDat.FramePost.exists_exact h c
  refine (hA 16).trans ?_
  refine Dat.arrAt_eq_of_covers (cfg := cfg0) (c := c) ((rdat m c).withAfter after) 16 (cscA m c) (by decide +kernel) (fun t hf y => ?_) (Memref.isWhole_whole _)
  have e : after 16 t = (cscOf (xbcB m c t) : Vec F S10x256 .f32) := (dats m 0 c).toRRel_leaves (fgt := fgt) (Rl := Rl m c) (w := 16) rfl (hL 16 t hf)
  have e0 : (((cfg0.win 16).blk t).view.emb y 0).val = (y 0).val := by blk_simp [ix0_16]
  have e1 : (((cfg0.win 16).blk t).view.emb y 1).val = t.val * 256 + (y 1).val := by blk_simp [ix0_16]
  refine (show _ = after 16 t y from rfl).trans ?_
  rw [e]
  exact (cscA_at m c _ t y e0 e1).symm

/-! ## The input blocks -/

variable (m)

theorem blk0 (c : Dev nD) (t : Fin cfg0.N) (r : Fin 256) (k : Fin 4096) (z : S2304x4096.Idx) (e0 : (z 0).val = t.val * 256 + r.val) (e1 : (z 1).val = k.val) :
    iblk m c 0 t (ix2 r k) = V m c main_arg0 z := by
  unfold iblk
  show V m c main_arg0 (((cfg0.win 0).blk t).view.emb (ix2 r k)) = _
  congr 1
  funext a
  apply Fin.ext
  match a with
  | ⟨0, _⟩ => rw [show (⟨0, _⟩ : Fin 2) = 0 from rfl, e0]; blk_simp [ix0_0]
  | ⟨1, _⟩ => rw [show (⟨1, _⟩ : Fin 2) = 1 from rfl, e1]; blk_simp [ix0_0]

theorem blk1 (c : Dev nD) (t : Fin cfg0.N) (r : Fin 1) (k : Fin 4096) (z : S1x4096.Idx) (e0 : (z 0).val = r.val) (e1 : (z 1).val = k.val) :
    iblk m c 1 t (ix2 r k) = V m c main_v0 z := by
  unfold iblk
  show V m c main_v0 (((cfg0.win 1).blk t).view.emb (ix2 r k)) = _
  congr 1
  funext a
  apply Fin.ext
  match a with
  | ⟨0, _⟩ => rw [show (⟨0, _⟩ : Fin 2) = 0 from rfl, e0]; blk_simp [ix0_1]
  | ⟨1, _⟩ => rw [show (⟨1, _⟩ : Fin 2) = 1 from rfl, e1]; blk_simp [ix0_1]

theorem blk2 (c : Dev nD) (t : Fin cfg0.N) (r : Fin 2320) (k : Fin 4096) (z : S2320x4096.Idx) (e0 : (z 0).val = r.val) (e1 : (z 1).val = k.val) :
    iblk m c 2 t (ix2 r k) = V m c main_v1 z := by
  unfold iblk
  show V m c main_v1 (((cfg0.win 2).blk t).view.emb (ix2 r k)) = _
  congr 1
  funext a
  apply Fin.ext
  match a with
  | ⟨0, _⟩ => rw [show (⟨0, _⟩ : Fin 2) = 0 from rfl, e0]; blk_simp [ix0_2]
  | ⟨1, _⟩ => rw [show (⟨1, _⟩ : Fin 2) = 1 from rfl, e1]; blk_simp [ix0_2]

theorem blk3 (c : Dev nD) (t : Fin cfg0.N) (r : Fin 1) (k : Fin 2320) (z : S1x2320.Idx) (e0 : (z 0).val = r.val) (e1 : (z 1).val = k.val) :
    iblk m c 3 t (ix2 r k) = V m c main_v2 z := by
  unfold iblk
  show V m c main_v2 (((cfg0.win 3).blk t).view.emb (ix2 r k)) = _
  congr 1
  funext a
  apply Fin.ext
  match a with
  | ⟨0, _⟩ => rw [show (⟨0, _⟩ : Fin 2) = 0 from rfl, e0]; blk_simp [ix0_3]
  | ⟨1, _⟩ => rw [show (⟨1, _⟩ : Fin 2) = 1 from rfl, e1]; blk_simp [ix0_3]

theorem V_main_v0 (c : Dev nD) (u : Fin 1) (j : Fin 4096) : V m c main_v0 (ix2 u j) = m ((c : Thread nD τ).loc main_arg1) (ix1 j) := by
  unfold V
  simp only [hostOps0, hostOps0_1, hostOps0_2, hostOps0_3, hostOps0_4, List.flatten_cons, List.flatten_nil, List.append_nil, List.cons_append, List.nil_append]
  entry_read
  pointwise

theorem V_main_v1 (c : Dev nD) (j : Fin 2320) (k : Fin 4096) : V m c main_v1 (ix2 j k) = m ((c : Thread nD τ).loc main_arg2) (ix2 k j) := by
  unfold V
  simp only [hostOps0, hostOps0_1, hostOps0_2, hostOps0_3, hostOps0_4, List.flatten_cons, List.flatten_nil, List.append_nil, List.cons_append, List.nil_append]
  entry_read
  pointwise

theorem V_main_v2 (c : Dev nD) (u : Fin 1) (j : Fin 2320) : V m c main_v2 (ix2 u j) = m ((c : Thread nD τ).loc main_arg3) (ix1 j) := by
  unfold V
  simp only [hostOps0, hostOps0_1, hostOps0_2, hostOps0_3, hostOps0_4, List.flatten_cons, List.flatten_nil, List.append_nil, List.cons_append, List.nil_append]
  entry_read
  pointwise

end Arrays

/-! ## In terms of the arguments -/

variable (m : (ℓ : Loc nD τ sig) → Buf (Elt Ideal) ℓ) (c : Dev nD)

/-- Row `i` of the tokens, and the weights of the normalization. -/
def tok (i : Fin 2304) (k : Fin 4096) : EReal := m ((c : Thread nD τ).loc main_arg0) (ix2 i k)
def wgt (k : Fin 4096) : EReal := m ((c : Thread nD τ).loc main_arg1) (ix1 k)

/-- Column `j` of the projection of row `i`. -/
def pr (i : Fin 2304) (j : Fin 2320) : EReal :=
  proj (inCode (tok m c i) (wgt m c)) (fun k : Fin 4096 => (m ((c : Thread nD τ).loc main_arg2) (ix2 k j) : EReal)) (inScale (tok m c i) (wgt m c))
    (m ((c : Thread nD τ).loc main_arg3) (ix1 j))

/-- The scale of group `g` of row `i`. -/
def grS (i : Fin 2304) (g : Fin 10) : EReal := scale8 (absSup fun l : Fin 128 => pr m c i ⟨1024 + (g.val * 128 + l.val), by omega⟩)

section Blocks

variable (t : Fin cfg0.N) (r : Fin 256) (i : Fin 2304) (hi : i.val = t.val * 256 + r.val)

include hi

theorem row_blk (k : Fin 4096) : iblk m c 0 t (ix2 r k) = tok m c i k := by
  rw [blk0 m c t r k (ix2 i k) hi rfl, V_main_arg0]; rfl

omit hi in
theorem wgt_blk (k : Fin 4096) : iblk m c 1 t (ix2 0 k) = wgt m c k := by
  rw [blk1 m c t 0 k (ix2 0 k) rfl rfl, V_main_v0]; rfl

theorem cod_blk (k : Fin 4096) : codes (F := Ideal) (iblk m c 0 t) (iblk m c 1 t) (ix2 r k) = inCode (tok m c i) (wgt m c) k := by
  rw [codes_apply, funext fun k => row_blk m c t r i hi k, funext fun k => wgt_blk m c t k]

theorem scl_blk (u : Fin 1) : sclCol (F := Ideal) (iblk m c 0 t) (iblk m c 1 t) (ix2 r u) = inScale (tok m c i) (wgt m c) := by
  rw [sclCol_apply, funext fun k => row_blk m c t r i hi k, funext fun k => wgt_blk m c t k]

omit hi in
theorem wt_blk (j : Fin 2320) (k : Fin 4096) : iblk m c 2 t (ix2 j k) = m ((c : Thread nD τ).loc main_arg2) (ix2 k j) := by
  rw [blk2 m c t j k (ix2 j k) rfl rfl, V_main_v1]

omit hi in
theorem ws_blk (j : Fin 2320) : iblk m c 3 t (ix2 0 j) = m ((c : Thread nD τ).loc main_arg3) (ix1 j) := by
  rw [blk3 m c t 0 j (ix2 0 j) rfl rfl, V_main_v2]

theorem z_blk (j : Fin 1024) :
    zOf (F := Ideal) (codes (iblk m c 0 t) (iblk m c 1 t)) (sclCol (iblk m c 0 t) (iblk m c 1 t)) (iblk m c 2 t) (iblk m c 3 t) (ix2 r j)
      = pr m c i ⟨j.val, by omega⟩ := by
  rw [zOf_apply, funext fun k => cod_blk m c t r i hi k, scl_blk m c t r i hi 0, ws_blk m c t, funext fun k => wt_blk m c t ⟨j.val, by omega⟩ k]
  rfl

theorem xbc_blk (j : Fin 1280) : xbcB (F := Ideal) m c t (ix2 r j) = pr m c i ⟨1024 + j.val, by omega⟩ := by
  unfold xbcB
  rw [xbcOf_apply, funext fun k => cod_blk m c t r i hi k, scl_blk m c t r i hi 0, ws_blk m c t, funext fun k => wt_blk m c t ⟨1024 + j.val, by omega⟩ k]
  rfl

theorem gsc_blk (g : ℕ) (hg : g < 10) : gsc (xbcB (F := Ideal) m c t) r g hg = grS m c i ⟨g, hg⟩ := by
  unfold gsc grS
  rw [funext fun l : Fin 128 => xbc_blk m c t r i hi ⟨g * 128 + l.val, by omega⟩]

end Blocks

variable (i : Fin 2304)

theorem pt_row (i : Fin 2304) : i.val = (pt (i.val / 256)).val * 256 + i.val % 256 := by
  have := i.isLt
  show i.val = i.val / 256 % 9 * 256 + i.val % 256
  omega

theorem codA_apply (k : Fin 4096) : codA m c (ix2 i k) = inCode (tok m c i) (wgt m c) k :=
  cod_blk m c (pt (i.val / 256)) ⟨i.val % 256, Nat.mod_lt _ (by decide)⟩ i (pt_row i) k

theorem insA_apply (u : Fin 1) : insA m c (ix2 u i) = inScale (tok m c i) (wgt m c) :=
  (pay25_apply _ u ⟨i.val % 256, Nat.mod_lt _ (by decide)⟩).trans
    (scl_blk m c (pt (i.val / 256)) ⟨i.val % 256, Nat.mod_lt _ (by decide)⟩ i (pt_row i) 0)

theorem zA_apply (j : Fin 1024) : zA m c (ix2 i j) = pr m c i ⟨j.val, by omega⟩ :=
  z_blk m c (pt (i.val / 256)) ⟨i.val % 256, Nat.mod_lt _ (by decide)⟩ i (pt_row i) j

theorem ccA_apply (j : Fin 1280) :
    ccA m c (ix2 i j) = round8 (Ideal.div (pr m c i ⟨1024 + j.val, by omega⟩) (grS m c i ⟨j.val / 128, by omega⟩)) := by
  have e : ccA m c (ix2 i j) = ccOf (F := Ideal) (xbcB m c (pt (i.val / 256))) (ix2 ⟨i.val % 256, Nat.mod_lt _ (by decide)⟩ j) := rfl
  rw [e, ccOf_apply, xbc_blk m c _ _ i (pt_row i), gsc_blk m c _ _ i (pt_row i)]

theorem cscA_apply (g : Fin 10) : cscA m c (ix2 g i) = grS m c i g := by
  have e : cscA m c (ix2 g i) = cscOf (F := Ideal) (xbcB m c (pt (i.val / 256))) (ix2 g ⟨i.val % 256, Nat.mod_lt _ (by decide)⟩) := rfl
  rw [e, cscOf_apply, gsc_blk m c _ _ i (pt_row i)]

end Cert.InProjIdeal.Hand

end

end
-- ==== Proof.InRefValue.lean ====
/-
  Hand-written, untrusted. The input projection's reference: its five results at an index, over the extended reals.
-/
module

public import proofs.«01_k».proof.Proof.Gen.InProjReferenceIdeal.Frame
public import proofs.«01_k».proof.Proof.Gen.InProjReferenceIdeal.Value
public import proofs.«01_k».proof.Proof.InSpec
public import Idealize.ShloMosaic.Lib.Pointwise

@[expose] public section

set_option maxRecDepth 16384

noncomputable section

namespace Cert.InProjReferenceIdeal.Hand

open Cert.InProjReferenceIdeal Cert.InProjReferenceIdeal.Gen Cert.Spec
open Idealize.ShloMosaic Idealize.SL.Sem

/-- The rows' sums of squares. -/
def sumsOf (x : FVec Ideal S2304x4096 .bf16) : FVec Ideal S2304 .f32 :=
  multiReduction .add [1] S2304 (mulf (extf .f32 x bitsLt_bf16_f32) (extf .f32 x bitsLt_bf16_f32)) 0x00000000#32 reduces_S2304x4096_S2304 (.inl rfl) rfl

/-- The rows over their root mean squares, weighted, from these. -/
def normOf (x : FVec Ideal S2304x4096 .bf16) (n : Vec Ideal S4096 .f32) (M : FVec Ideal S2304 .f32) : FVec Ideal S2304x4096 .f32 :=
  mulf (divf (extf .f32 x bitsLt_bf16_f32)
      (broadcastTo S2304x4096 (sqrt (addf (divf (shapeCast S2304x1 M shapeCasts_S2304_S2304x1) (broadcast S2304x1 (Scalar.ofBits .f32 0x45800000#32)))
        (broadcast S2304x1 (Scalar.ofBits .f32 0x3727C5AC#32)))) broadcasts_S2304x1_S2304x4096))
    (broadcastTo S2304x4096 (shapeCast S1x4096 n shapeCasts_S4096_S1x4096) broadcasts_S1x4096_S2304x4096)

/-- The rows' greatest magnitudes. -/
def absMax (X : FVec Ideal S2304x4096 .f32) : FVec Ideal S2304 .f32 :=
  multiReduction .maximumf [1] S2304 (absf X) 0xFF800000#32 reduces_S2304x4096_S2304 (.inl rfl) rfl

/-- The rows' scales, from these. -/
def sclOf (M : FVec Ideal S2304 .f32) : FVec Ideal S2304 .f32 :=
  select (cmpf .oeq M (broadcast S2304 (Scalar.ofBits .f32 0x00000000#32))) (broadcast S2304 (Scalar.ofBits .f32 0x3F800000#32))
    (divf M (broadcast S2304 (Scalar.ofBits .f32 0x43E00000#32)))

/-- The codes, from the values and their rows' scales. -/
def codOf (X : FVec Ideal S2304x4096 .f32) (s : FVec Ideal S2304 .f32) : FVec Ideal S2304x4096 .fp8e4m3 :=
  truncf .fp8e4m3 (minimumf (broadcast S2304x4096 (Scalar.ofBits .f32 0x43E00000#32)) (maximumf (broadcast S2304x4096 (Scalar.ofBits .f32 0xC3E00000#32))
    (divf X (broadcastTo S2304x4096 (shapeCast S2304x1 s shapeCasts_S2304_S2304x1) broadcasts_S2304x1_S2304x4096)))) bitsLt_fp8e4m3_f32

theorem sumsOf_apply (x : FVec Ideal S2304x4096 .bf16) (i : Fin 2304) : sumsOf x (ix1 i) = sumSq (fun k : Fin 4096 => (x (ix2 i k) : EReal)) := by
  unfold sumsOf
  exact (rowSum_apply reduces_S2304x4096_S2304 (.inl rfl) rfl _ i).trans rfl

theorem normOf_apply (x : FVec Ideal S2304x4096 .bf16) (n : Vec Ideal S4096 .f32) (M : FVec Ideal S2304 .f32) (i : Fin 2304) (j : Fin 4096) :
    normOf x n M (ix2 i j) = Ideal.div (x (ix2 i j)) (rms (M (ix1 i))) * n (ix1 j) := by
  unfold rms eps
  rw [← lit_4096]
  pointwise [normOf]

theorem absMax_apply (X : FVec Ideal S2304x4096 .f32) (i : Fin 2304) : absMax X (ix1 i) = absSup (fun j : Fin 4096 => (X (ix2 i j) : EReal)) := by
  unfold absMax
  exact rowAbsSup_apply reduces_S2304x4096_S2304 (.inl rfl) rfl X i

theorem sclOf_apply (M : FVec Ideal S2304 .f32) (i : Fin 2304) : sclOf M (ix1 i) = scale (M (ix1 i)) := by
  unfold sclOf scale
  rw [← lit_448]
  pointwise

theorem codOf_apply (X : FVec Ideal S2304x4096 .f32) (s : FVec Ideal S2304 .f32) (i : Fin 2304) (j : Fin 4096) :
    codOf X s (ix2 i j) = code (X (ix2 i j)) (s (ix1 i)) := by
  unfold code
  rw [← lit_448, ← lit_neg448]
  pointwise [codOf]

variable (a0 : Vec Ideal S2304x4096 .bf16) (a1 : Vec Ideal S4096 .f32) (a2 : Vec Ideal S4096x2320 .fp8e4m3) (a3 : Vec Ideal S2320 .f32)

theorem pay7_eq : k0_pay7 (F := Ideal) a0 a1 = normOf a0 a1 (sumsOf a0) := by unfold k0_pay7 normOf sumsOf; rfl
theorem pay8_eq : k0_pay8 (F := Ideal) a0 a1 = sclOf (absMax (k0_pay7 (F := Ideal) a0 a1)) := by unfold k0_pay8 sclOf absMax; rfl
theorem pay9_eq : k0_pay9 (F := Ideal) a0 a1 = codOf (k0_pay7 (F := Ideal) a0 a1) (k0_pay8 (F := Ideal) a0 a1) := by unfold k0_pay9 codOf; rfl

theorem pay7_apply (i : Fin 2304) (j : Fin 4096) :
    k0_pay7 (F := Ideal) a0 a1 (ix2 i j) = normed (fun k : Fin 4096 => (a0 (ix2 i k) : EReal)) (fun k => a1 (ix1 k)) j := by
  rw [pay7_eq, normOf_apply, sumsOf_apply]; rfl

theorem pay8_apply (i : Fin 2304) :
    k0_pay8 (F := Ideal) a0 a1 (ix1 i) = inScale (fun k : Fin 4096 => (a0 (ix2 i k) : EReal)) (fun k => a1 (ix1 k)) := by
  rw [pay8_eq, sclOf_apply, absMax_apply]
  simp only [pay7_apply]
  rfl

theorem pay9_apply (i : Fin 2304) (j : Fin 4096) :
    k0_pay9 (F := Ideal) a0 a1 (ix2 i j) = inCode (fun k : Fin 4096 => (a0 (ix2 i k) : EReal)) (fun k => a1 (ix1 k)) j := by
  rw [pay9_eq, codOf_apply, pay7_apply, pay8_apply]; rfl

theorem pay10_apply (u : Fin 1) (i : Fin 2304) :
    k0_pay10 (F := Ideal) a0 a1 (ix2 u i) = inScale (fun k : Fin 4096 => (a0 (ix2 i k) : EReal)) (fun k => a1 (ix1 k)) := by
  rw [← pay8_apply]
  have gen : ∀ X : FVec Ideal S2304 .f32, shapeCast S1x2304 X shapeCasts_S2304_S1x2304 (ix2 u i) = X (ix1 i) := by
    intro X; pointwise
  unfold k0_pay10
  exact gen _

/-- Column `j` of the projection of row `i`. -/
def projR (i : Fin 2304) (j : Fin 2320) : EReal :=
  proj (inCode (fun k : Fin 4096 => (a0 (ix2 i k) : EReal)) (fun k => a1 (ix1 k))) (fun k => a2 (ix2 k j))
    (inScale (fun k : Fin 4096 => (a0 (ix2 i k) : EReal)) (fun k => a1 (ix1 k))) (a3 (ix1 j))

theorem pay1_gen (s : FVec Ideal S2304 .f32) (t : Vec Ideal S2320 .f32) (C : FVec Ideal S2304x4096 .fp8e4m3) (W : FVec Ideal S4096x2320 .fp8e4m3) (i : Fin 2304) (j : Fin 2320) :
    k0_pay1 (F := Ideal) s t (matmul dot_S2304x4096_S4096x2320_S2304x2320_1_0_0_1_n_n none C W (constant S2304x2320 .f32 0x00000000#32)) (ix2 i j)
      = proj (fun k => C (ix2 i k)) (fun k => W (ix2 k j)) (s (ix1 i)) (t (ix1 j)) := by
  unfold proj
  pointwise [k0_pay1]

theorem pay12_eq : k0_pay12 (F := Ideal) a0 a1 a2 a3 = k0_pay8 (F := Ideal) a0 a1 := by
  unfold k0_pay12
  rw [View.ld_unit_zero (S := S2304x4096) Value.hz0 _ a0, View.ld_unit_zero (S := S4096) Value.hz1 _ a1]
theorem pay13_eq : k0_pay13 (F := Ideal) a0 a1 a2 a3 = k0_pay11 (F := Ideal) a0 a1 a2 := by
  unfold k0_pay13
  rw [View.ld_unit_zero (S := S2304x4096) Value.hz0 _ a0, View.ld_unit_zero (S := S4096) Value.hz1 _ a1, View.ld_unit_zero (S := S4096x2320) Value.hz2 _ a2]

/-- The projection. -/
def projM : FVec Ideal S2304x2320 .f32 := k0_pay1 (F := Ideal) (k0_pay12 (F := Ideal) a0 a1 a2 a3) a3 (k0_pay13 (F := Ideal) a0 a1 a2 a3)

theorem projM_apply (i : Fin 2304) (j : Fin 2320) : projM a0 a1 a2 a3 (ix2 i j) = projR a0 a1 a2 a3 i j := by
  unfold projM
  rw [pay12_eq, pay13_eq]
  refine (pay1_gen (k0_pay8 (F := Ideal) a0 a1) a3 (k0_pay9 (F := Ideal) a0 a1) a2 i j).trans ?_
  simp only [pay8_apply, pay9_apply]
  rfl

/-- The columns of the convolution's input, group by group. -/
def grpOf (P : FVec Ideal S2304x2320 .f32) : FVec Ideal S2304x10x128 .f32 :=
  shapeCast S2304x10x128 (extractStridedSlice S2304x1280 ![0, 1024] P slices_S2304x2320_o0_1024_S2304x1280) shapeCasts_S2304x1280_S2304x10x128

/-- The groups' greatest magnitudes. -/
def absMax3 (X : FVec Ideal S2304x10x128 .f32) : FVec Ideal S2304x10 .f32 :=
  multiReduction .maximumf [2] S2304x10 (absf X) 0xFF800000#32 reduces_S2304x10x128_S2304x10 (.inl rfl) rfl

/-- The groups' scales, from these. -/
def scl8Of (M : FVec Ideal S2304x10 .f32) : FVec Ideal S2304x10 .f32 :=
  select (cmpf .oeq M (broadcast S2304x10 (Scalar.ofBits .f32 0x00000000#32))) (broadcast S2304x10 (Scalar.ofBits .f32 0x3F800000#32))
    (divf M (broadcast S2304x10 (Scalar.ofBits .f32 0x42FE0000#32)))

/-- The groups' codes, from the values and the scales. -/
def cod8Of (X : FVec Ideal S2304x10x128 .f32) (s : FVec Ideal S2304x10 .f32) : IVec S2304x1280 8 :=
  shapeCast S2304x1280 (fptosi 8 (minimumf (broadcast S2304x10x128 (Scalar.sitofp .f32 127#32)) (maximumf (broadcast S2304x10x128 (Scalar.sitofp .f32 4294967169#32))
    (roundeven (divf X (broadcastTo S2304x10x128 (shapeCast S2304x10x1 s shapeCasts_S2304x10_S2304x10x1) broadcasts_S2304x10x1_S2304x10x128)))))) shapeCasts_S2304x10x128_S2304x1280

theorem grpOf_apply (P : FVec Ideal S2304x2320 .f32) (i : Fin 2304) (g : Fin 10) (l : Fin 128) :
    grpOf P (ix3 i g l) = P (ix2 i ⟨1024 + (g.val * 128 + l.val), by omega⟩) := by
  pointwise [grpOf]

theorem absMax3_apply (X : FVec Ideal S2304x10x128 .f32) (i : Fin 2304) (g : Fin 10) : absMax3 X (ix2 i g) = absSup (fun l : Fin 128 => (X (ix3 i g l) : EReal)) := by
  unfold absMax3
  exact rowAbsSup3_apply reduces_S2304x10x128_S2304x10 (.inl rfl) rfl X i g

theorem scl8Of_apply (M : FVec Ideal S2304x10 .f32) (i : Fin 2304) (g : Fin 10) : scl8Of M (ix2 i g) = scale8 (M (ix2 i g)) := by
  unfold scl8Of scale8
  rw [← lit_127]
  pointwise

theorem cod8Of_apply (X : FVec Ideal S2304x10x128 .f32) (s : FVec Ideal S2304x10 .f32) (i : Fin 2304) (j : Fin 1280) :
    cod8Of X s (ix2 i j) = round8 (Ideal.div (X (ix3 i ⟨j.val / 128, by omega⟩ ⟨j.val % 128, Nat.mod_lt _ (by decide)⟩)) (s (ix2 i ⟨j.val / 128, by omega⟩))) := by
  unfold round8
  pointwise [cod8Of]

/-- The scale of group `g` of row `i`. -/
def gScale (i : Fin 2304) (g : Fin 10) : EReal :=
  scale8 (absSup fun l : Fin 128 => projR a0 a1 a2 a3 i ⟨1024 + (g.val * 128 + l.val), by omega⟩)

theorem pay4_apply (i : Fin 2304) (g : Fin 10) :
    k0_pay4 (F := Ideal) (k0_pay12 (F := Ideal) a0 a1 a2 a3) a3 (k0_pay13 (F := Ideal) a0 a1 a2 a3) (ix2 i g) = gScale a0 a1 a2 a3 i g := by
  have e : k0_pay4 (F := Ideal) (k0_pay12 (F := Ideal) a0 a1 a2 a3) a3 (k0_pay13 (F := Ideal) a0 a1 a2 a3) = scl8Of (absMax3 (grpOf (projM a0 a1 a2 a3))) := by
    unfold k0_pay4 k0_pay3 scl8Of absMax3 grpOf projM; rfl
  rw [e, scl8Of_apply, absMax3_apply]
  simp only [grpOf_apply, projM_apply]
  rfl

/-! ## The five results -/

theorem G4_apply (i : Fin 2304) (j : Fin 4096) :
    Value.G4 a0 a1 a2 a3 (ix2 i j) = inCode (fun k : Fin 4096 => (a0 (ix2 i k) : EReal)) (fun k => a1 (ix1 k)) j := pay9_apply a0 a1 i j

theorem G5_apply (u : Fin 1) (i : Fin 2304) :
    Value.G5 a0 a1 a2 a3 (ix2 u i) = inScale (fun k : Fin 4096 => (a0 (ix2 i k) : EReal)) (fun k => a1 (ix1 k)) := pay10_apply a0 a1 u i

theorem G6_apply (i : Fin 2304) (j : Fin 1024) : Value.G6 a0 a1 a2 a3 (ix2 i j) = projR a0 a1 a2 a3 i ⟨j.val, by omega⟩ := by
  have gen : ∀ P : FVec Ideal S2304x2320 .f32, extractStridedSlice S2304x1024 ![0, 0] P slices_S2304x2320_o0_0_S2304x1024 (ix2 i j) = P (ix2 i ⟨j.val, by omega⟩) := by
    intro P; pointwise
  unfold Value.G6 k0_pay2
  exact (gen _).trans (projM_apply a0 a1 a2 a3 i _)

theorem G7_apply (i : Fin 2304) (j : Fin 1280) :
    Value.G7 a0 a1 a2 a3 (ix2 i j) = round8 (Ideal.div (projR a0 a1 a2 a3 i ⟨1024 + j.val, by omega⟩) (gScale a0 a1 a2 a3 i ⟨j.val / 128, by omega⟩)) := by
  have e : Value.G7 a0 a1 a2 a3 = cod8Of (grpOf (projM a0 a1 a2 a3)) (k0_pay4 (F := Ideal) (k0_pay12 (F := Ideal) a0 a1 a2 a3) a3 (k0_pay13 (F := Ideal) a0 a1 a2 a3)) := by
    unfold Value.G7 k0_pay5 k0_pay3 cod8Of grpOf projM; rfl
  rw [e, cod8Of_apply, grpOf_apply, projM_apply, pay4_apply]
  have hj : (⟨1024 + (j.val / 128 * 128 + j.val % 128), by omega⟩ : Fin 2320) = ⟨1024 + j.val, by omega⟩ := Fin.ext (by show 1024 + _ = 1024 + _; omega)
  exact congrArg (fun z => round8 (Ideal.div (projR a0 a1 a2 a3 i z) _)) hj

theorem G8_apply (g : Fin 10) (i : Fin 2304) : Value.G8 a0 a1 a2 a3 (ix2 g i) = gScale a0 a1 a2 a3 i g := by
  have gen : ∀ P : FVec Ideal S2304x10 .f32, transpose S10x2304 [1, 0] P transposes_S2304x10_p1_0_S10x2304 (ix2 g i) = P (ix2 i g) := by
    intro P; pointwise
  unfold Value.G8 k0_pay6
  exact (gen _).trans (pay4_apply a0 a1 a2 a3 i g)

end Cert.InProjReferenceIdeal.Hand

end

end
-- ==== Proof.CombKernelBody.lean ====
/-
  Hand-written, untrusted. The body of the combining kernel at one point of its grid, run once by `sl_exec` and its two counted
  loops by hand: eight tokens a trip, each the weighted sum of the two rows of `e` that its two words name, and then thirty-two tokens
  a trip quantized. The first loop assumes, of each word it reads, that the row it names is in `e`; here it is because every word of
  the table is below 4608.
-/
module

public import proofs.«01_k».proof.Proof.Gen.Combine.Frame
public import proofs.«01_k».proof.Proof.Gen.Combine.Skeleton
public import Idealize.ShloMosaic.Lib.Pipeline.Frame
public import Idealize.ShloMosaic.Lib.Tactic
public import Idealize.ShloMosaic.Lib.VecWindow

@[expose] public section

set_option maxRecDepth 8192

noncomputable section

namespace Cert.Combine.Hand

open Cert.Combine Cert.Combine.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the body computes -/

/-- Row `n` of `e`, taken modulo the number of rows so that it is defined of every `n`. -/
def rowE (E : Vec F S4608x1024 .f32) (n : ℕ) : Vec F S1x1024 .f32 := fun j =>
  E (fun a => match a with | 0 => ⟨n % 4608, Nat.mod_lt _ (by decide)⟩ | 1 => ⟨(j 1).val, (j 1).isLt⟩)
/-- The word at column `n` of row `s` of a table of two rows. -/
def wordAt {α : Type} (T : S2x2304.Idx → α) (s : Fin 2) (n : ℕ) (h : n < 2304) : α :=
  T (fun a => match a with | 0 => s | 1 => ⟨n, h⟩)
/-- Token `n`: the weighted sum of the two rows of `e` that its words name. -/
def tokRow (T : Vec F S2x2304 .i32) (W : Vec F S2x2304 .f32) (E : Vec F S4608x1024 .f32) (n : ℕ) (h : n < 2304) : Vec F S1x1024 .f32 :=
  k0_pay6 (wordAt W 0 n h) (rowE E (BitVec.toNat (w := 32) (wordAt T 0 n h))) (wordAt W 1 n h) (rowE E (BitVec.toNat (w := 32) (wordAt T 1 n h)))
/-- The tile of tokens of point `i`. -/
def tile (i : grid0.Coords) (T : Vec F S2x2304 .i32) (W : Vec F S2x2304 .f32) (E : Vec F S4608x1024 .f32) : Vec F S128x1024 .f32 := fun y =>
  tokRow T W E (128 * (i 0).val + (y 0).val) (by have h : (y 0).val < 128 := (y 0).isLt; have h' : (i 0).val < 18 := (i 0).isLt; omega)
    (fun a => match a with | 0 => ⟨0, by decide⟩ | 1 => ⟨(y 1).val, (y 1).isLt⟩)

/-- Rows `o` to `o + 31` of the tile. -/
def rowsX (X : Vec F S128x1024 .f32) (o : ℕ) (h : o + 32 ≤ 128) : Vec F S32x1024 .f32 :=
  VecWindow.window (s := S128x1024) X ![o, 0] ![32, 1024] (fun a => match a with | 0 => h | 1 => Nat.le_refl 1024)
/-- The codes of the tile, thirty-two rows at a time. -/
def codes (X : Vec F S128x1024 .f32) : Vec F S128x1024 .fp8e4m3 := fun y =>
  have h : (y 0).val < 128 := (y 0).isLt
  k0_pay3 (rowsX X (32 * ((y 0).val / 32)) (by omega))
    (fun a => match a with | 0 => ⟨(y 0).val % 32, Nat.mod_lt _ (by decide)⟩ | 1 => ⟨(y 1).val, (y 1).isLt⟩)
/-- The scales of the tile's rows, over the lanes. -/
def scales (X : Vec F S128x1024 .f32) : Vec F S128x128 .f32 := fun y =>
  have h : (y 0).val < 128 := (y 0).isLt
  k0_pay4 (rowsX X (32 * ((y 0).val / 32)) (by omega))
    (fun a => match a with | 0 => ⟨(y 0).val % 32, Nat.mod_lt _ (by decide)⟩ | 1 => ⟨(y 1).val, (y 1).isLt⟩)
/-- The scales' first column. -/
def sclCol (X : Vec F S128x1024 .f32) : Vec F S128x1 .f32 :=
  VecWindow.window (s := S128x128) (scales X) ![0, 0] ![128, 1] inb_S128x128_S128x1_0_0

/-! ## Reading the words and the rows -/

theorem chk_row (w : BitVec 32) (h : w.toNat < 4608) : ∀ a, (![w.toNat, 0] : Fin 2 → ℕ) a + S1x1024.size a ≤ S4608x1024.size a := by
  intro a
  match a with
  | 0 => show w.toNat + 1 ≤ 4608; omega
  | 1 => show 0 + 1024 ≤ 1024; omega

/-- A load of a row of `e` at the row a word names. -/
theorem row_read (v : View sig .tc .vmem S4608x1024 .f32) (f : v.ty.Contents (Elt F)) (w w' : BitVec 32) (off : Fin 2 → ℕ) (hoff : off = ![w.toNat, 0]) (e : w = w')
    (hw : w'.toNat < 4608) (inb : ∀ a, off a + S1x1024.size a ≤ S4608x1024.size a) :
    v.readAt (Elt F) (Rect.unit (s := S4608x1024) off S1x1024.size inb).toLoadRect f = rowE (v.read (Elt F) f) w'.toNat := by
  subst e
  rw [View.readAt_unit v f inb hoff (chk_row w hw)]
  funext j
  unfold VecWindow.window rowE
  congr 1
  funext a
  match a with
  | 0 =>
    apply Fin.ext
    have h : (j 0).val < 1 := (j 0).isLt
    show w.toNat + 1 * (j 0).val = w.toNat % 4608
    omega
  | 1 => apply Fin.ext; show 0 + 1 * (j 1).val = (j 1).val; omega

/-- A load of one word of a table of two rows. -/
theorem word_read {e : EltTy} (v : View sig .tc .smem S2x2304 e) (f : v.ty.Contents (Elt F)) (s : Fin 2) (n : ℕ) (h : n < 2304) (off : Fin 2 → ℕ) (hoff : off = ![s.val, n])
    (inb : ∀ a, off a + S1x1.size a ≤ S2x2304.size a) (x : S1x1.Idx) :
    v.readAt (Elt F) (Rect.unit (s := S2x2304) off S1x1.size inb).toLoadRect f x = wordAt (v.read (Elt F) f) s n h := by
  subst hoff
  show v.read (Elt F) f _ = v.read (Elt F) f _
  congr 1
  funext a
  match a with
  | 0 =>
    apply Fin.ext
    have h : (x 0).val < 1 := (x 0).isLt
    show s.val + 1 * (x 0).val = s.val
    omega
  | 1 =>
    apply Fin.ext
    have h : (x 1).val < 1 := (x 1).isLt
    show n + 1 * (x 1).val = n
    omega

theorem tok_of {a a' b b' : Elt F .f32} {x x' y y' : Vec F S1x1024 .f32} (ha : a = a') (hx : x = x') (hb : b = b') (hy : y = y') :
    k0_pay6 a x b y = k0_pay6 a' x' b' y' := by rw [ha, hx, hb, hy]

/-! ## The loops' invariants -/

/-- A store of a block of a buffer: if the block is `G`'s and the buffer was `G` where `p` says so, then it is `G` wherever `p'`
    does, so long as what `p'` adds lies in the block. -/
theorem put_step {α : Type} {s : Shape} (X G : s.Idx → α) (off size : Fin s.rank → ℕ) (w : ((a : Fin s.rank) → Fin (size a)) → α)
    (p p' : s.Idx → Prop)
    (hw : ∀ (y : s.Idx) (h : ∀ a, off a ≤ (y a).val ∧ (y a).val < off a + size a), w (Rect.unitLocal (s := s) (off := off) (size := size) y h) = G y)
    (hX : ∀ y, p y → X y = G y) (hp : ∀ y, p' y → (¬ ∀ a, off a ≤ (y a).val ∧ (y a).val < off a + size a) → p y)
    (y : s.Idx) (hy : p' y) : VecWindow.put X off size w y = G y := by
  unfold VecWindow.put
  split
  · exact hw y _
  · exact hX y (hp y hy ‹_›)

/-- One row of the tile stored: what the row before it left done, and the row `r`. -/
theorem put_row (i : grid0.Coords) (T : Vec F S2x2304 .i32) (W : Vec F S2x2304 .f32) (E : Vec F S4608x1024 .f32) (X : Vec F S128x1024 .f32)
    (r : ℕ) (hr : r < 128) (off : Fin 2 → ℕ) (hoff : off = ![r, 0]) (w : Vec F S1x1024 .f32)
    (hw : ∀ h, w = tokRow T W E (128 * (i 0).val + r) h)
    (hX : ∀ y : S128x1024.Idx, (y 0).val < r → X y = tile i T W E y) (y : S128x1024.Idx) (hy : (y 0).val < r + 1) :
    VecWindow.put X off S1x1024.size w y = tile i T W E y := by
  subst hoff
  have hi : (i 0).val < 18 := (i 0).isLt
  refine put_step _ _ _ _ _ (fun y => (y 0).val < r) (fun y => (y 0).val < r + 1) ?_ hX ?_ y hy
  · intro y h
    have h0 : r ≤ (y 0).val ∧ (y 0).val < r + 1 := h 0
    obtain rfl : r = (y 0).val := by omega
    unfold tile
    rw [hw (by omega)]
    congr 1
    funext a
    match a with
    | 0 => apply Fin.ext; show (y 0).val - (y 0).val = 0; omega
    | 1 => apply Fin.ext; show (y 1).val - 0 = (y 1).val; omega
  · intro y hy hn
    by_contra hc
    apply hn
    have h1 : (y 1).val < 1024 := (y 1).isLt
    intro a
    match a with
    | 0 => exact ⟨by show r ≤ (y 0).val; omega, by show (y 0).val < r + 1; omega⟩
    | 1 => exact ⟨Nat.zero_le _, by show (y 1).val < 0 + 1024; omega⟩

def inv1 (c : Dev nD) (i : grid0.Coords) (arg1 : Memref sig .tc .smem S2x2304 .i32) (arg2 : Memref sig .tc .smem S2x2304 .f32) (arg3 : Memref sig .tc .vmem S4608x1024 .f32)
    (arg6 : Memref sig .tc .vmem S128x1024 .f32) (T : Vec F S2x2304 .i32) (W : Vec F S2x2304 .f32) (E : Vec F S4608x1024 .f32) (k : ℕ) (_ : Unit) : sProp 𝕄 :=
  iprop(owns (c : Thread nD τ) arg1 fullShare T ∗ owns (c : Thread nD τ) arg2 fullShare W ∗ owns (c : Thread nD τ) arg3 fullShare E
    ∗ ∃ X, ⌜∀ y : S128x1024.Idx, (y 0).val < 8 * k → X y = tile i T W E y⌝ ∗ owns (c : Thread nD τ) arg6 fullShare X)

def inv2 (c : Dev nD) (arg6 : Memref sig .tc .vmem S128x1024 .f32) (arg4 : Memref sig .tc .vmem S128x1024 .fp8e4m3) (arg7 : Memref sig .tc .vmem S128x128 .f32)
    (X : Vec F S128x1024 .f32) (k : ℕ) (_ : Unit) : sProp 𝕄 :=
  iprop(owns (c : Thread nD τ) arg6 fullShare X
    ∗ (∃ C, ⌜∀ y : S128x1024.Idx, (y 0).val < 32 * k → C y = codes X y⌝ ∗ owns (c : Thread nD τ) arg4 fullShare C)
    ∗ ∃ S, ⌜∀ y : S128x128.Idx, (y 0).val < 32 * k → S y = scales X y⌝ ∗ owns (c : Thread nD τ) arg7 fullShare S)

set_option maxHeartbeats 4000000 in
/-- Loop 1: one trip. -/
theorem trip1 (c : Dev nD) (E : Set ℕ) (i : grid0.Coords) (arg1 : Memref sig .tc .smem S2x2304 .i32) (harg1 : arg1.IsWhole) (arg2 : Memref sig .tc .smem S2x2304 .f32) (harg2 : arg2.IsWhole) (arg3 : Memref sig .tc .vmem S4608x1024 .f32) (harg3 : arg3.IsWhole) (arg4 : Memref sig .tc .vmem S128x1024 .fp8e4m3) (harg4 : arg4.IsWhole) (arg5 : Memref sig .tc .vmem S1x128 .f32) (harg5 : arg5.IsWhole) (arg6 : Memref sig .tc .vmem S128x1024 .f32) (harg6 : arg6.IsWhole) (arg7 : Memref sig .tc .vmem S128x128 .f32) (harg7 : arg7.IsWhole)
    (v0 : BitVec 32) (T : Vec F S2x2304 .i32) (W : Vec F S2x2304 .f32) (X3 : Vec F S4608x1024 .f32) (hT : ∀ j, BitVec.toNat (w := 32) (T j) < 4608) (k : Fin k0_t1_loop.trips) :
    inv1 (F := F) c i arg1 arg2 arg3 arg6 T W X3 k.val () ⊢ wp frame (wpE (defs₀ (F := F)) Variants.none c none) E
      (k0_t1_body (F := F) i arg1 harg1 arg2 harg2 arg3 harg3 arg4 harg4 arg5 harg5 arg6 harg6 arg7 harg7 v0 k ()) (fun a => inv1 (F := F) c i arg1 arg2 arg3 arg6 T W X3 (k.val + 1) a) := by
  have hk : k.val < 16 := k.isLt
  have hi : (i 0).val < 18 := (i 0).isLt
  unfold inv1 owns k0_t1_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  iintro ⟨⟨%f1, %e1, H1⟩, ⟨%f2, %e2, H2⟩, ⟨%f3, %e3, H3⟩, %P, %hP, %f6, %e6, H6⟩
  subst e1 e2 e3 e6
  have hrd : ∀ (r : LoadRect S2x2304) x, BitVec.toNat (w := 32) (View.readAt (Elt F) arg1.view r f1 x) < 4608 := fun r x => hT _
  sl_exec (disch := exact chk_row _ (hrd _ _))
  sl_step
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  iexists _; isplitr; swap
  · iexists _; isplitr; swap; · iexact H6
    ipureintro; rfl
  ipureintro
  intro y hy
  refine (congrFun (View.read_writes_cons_put _ _ _ _ _ (k0_off40_eq k)) y).trans ?_
  refine put_row i _ _ _ _ (8 * k.val + 7) (by omega) _ rfl _ (fun h => ?_) ?_ y (by omega)
  · have hi0 : 128 * (i 0).val + (8 * k.val + 7) < 2304 := by omega
    have ha : trip1.sl.r_28 i arg2 k f2 = wordAt (arg2.view.read (Elt F) f2) 0 (128 * (i 0).val + (8 * k.val + 7)) h := by
      unfold trip1.sl.r_28; exact word_read _ _ 0 _ h _ ((k0_off36_eq i k).trans (by rw [← Nat.add_assoc]; rfl)) _ _
    have hb : trip1.sl.r_29 i arg1 k f1 = wordAt (arg1.view.read (Elt F) f1) 0 (128 * (i 0).val + (8 * k.val + 7)) h := by
      unfold trip1.sl.r_29; exact word_read _ _ 0 _ h _ ((k0_off36_eq i k).trans (by rw [← Nat.add_assoc]; rfl)) _ _
    have hc : trip1.sl.r_30 i arg2 k f2 = wordAt (arg2.view.read (Elt F) f2) 1 (128 * (i 0).val + (8 * k.val + 7)) h := by
      unfold trip1.sl.r_30; exact word_read _ _ 1 _ h _ ((k0_off38_eq i k).trans (by rw [← Nat.add_assoc]; rfl)) _ _
    have hd : trip1.sl.r_31 i arg1 k f1 = wordAt (arg1.view.read (Elt F) f1) 1 (128 * (i 0).val + (8 * k.val + 7)) h := by
      unfold trip1.sl.r_31; exact word_read _ _ 1 _ h _ ((k0_off38_eq i k).trans (by rw [← Nat.add_assoc]; rfl)) _ _
    exact tok_of ha (row_read _ _ _ _ _ rfl hb (hT _) _) hc (row_read _ _ _ _ _ rfl hd (hT _) _)
  clear y hy
  intro y hy
  refine (congrFun (View.read_writes_cons_put _ _ _ _ _ (k0_off35_eq k)) y).trans ?_
  refine put_row i _ _ _ _ (8 * k.val + 6) (by omega) _ rfl _ (fun h => ?_) ?_ y (by omega)
  · have hi0 : 128 * (i 0).val + (8 * k.val + 6) < 2304 := by omega
    have ha : trip1.sl.r_24 i arg2 k f2 = wordAt (arg2.view.read (Elt F) f2) 0 (128 * (i 0).val + (8 * k.val + 6)) h := by
      unfold trip1.sl.r_24; exact word_read _ _ 0 _ h _ ((k0_off31_eq i k).trans (by rw [← Nat.add_assoc]; rfl)) _ _
    have hb : trip1.sl.r_25 i arg1 k f1 = wordAt (arg1.view.read (Elt F) f1) 0 (128 * (i 0).val + (8 * k.val + 6)) h := by
      unfold trip1.sl.r_25; exact word_read _ _ 0 _ h _ ((k0_off31_eq i k).trans (by rw [← Nat.add_assoc]; rfl)) _ _
    have hc : trip1.sl.r_26 i arg2 k f2 = wordAt (arg2.view.read (Elt F) f2) 1 (128 * (i 0).val + (8 * k.val + 6)) h := by
      unfold trip1.sl.r_26; exact word_read _ _ 1 _ h _ ((k0_off33_eq i k).trans (by rw [← Nat.add_assoc]; rfl)) _ _
    have hd : trip1.sl.r_27 i arg1 k f1 = wordAt (arg1.view.read (Elt F) f1) 1 (128 * (i 0).val + (8 * k.val + 6)) h := by
      unfold trip1.sl.r_27; exact word_read _ _ 1 _ h _ ((k0_off33_eq i k).trans (by rw [← Nat.add_assoc]; rfl)) _ _
    exact tok_of ha (row_read _ _ _ _ _ rfl hb (hT _) _) hc (row_read _ _ _ _ _ rfl hd (hT _) _)
  clear y hy
  intro y hy
  refine (congrFun (View.read_writes_cons_put _ _ _ _ _ (k0_off30_eq k)) y).trans ?_
  refine put_row i _ _ _ _ (8 * k.val + 5) (by omega) _ rfl _ (fun h => ?_) ?_ y (by omega)
  · have hi0 : 128 * (i 0).val + (8 * k.val + 5) < 2304 := by omega
    have ha : trip1.sl.r_20 i arg2 k f2 = wordAt (arg2.view.read (Elt F) f2) 0 (128 * (i 0).val + (8 * k.val + 5)) h := by
      unfold trip1.sl.r_20; exact word_read _ _ 0 _ h _ ((k0_off26_eq i k).trans (by rw [← Nat.add_assoc]; rfl)) _ _
    have hb : trip1.sl.r_21 i arg1 k f1 = wordAt (arg1.view.read (Elt F) f1) 0 (128 * (i 0).val + (8 * k.val + 5)) h := by
      unfold trip1.sl.r_21; exact word_read _ _ 0 _ h _ ((k0_off26_eq i k).trans (by rw [← Nat.add_assoc]; rfl)) _ _
    have hc : trip1.sl.r_22 i arg2 k f2 = wordAt (arg2.view.read (Elt F) f2) 1 (128 * (i 0).val + (8 * k.val + 5)) h := by
      unfold trip1.sl.r_22; exact word_read _ _ 1 _ h _ ((k0_off28_eq i k).trans (by rw [← Nat.add_assoc]; rfl)) _ _
    have hd : trip1.sl.r_23 i arg1 k f1 = wordAt (arg1.view.read (Elt F) f1) 1 (128 * (i 0).val + (8 * k.val + 5)) h := by
      unfold trip1.sl.r_23; exact word_read _ _ 1 _ h _ ((k0_off28_eq i k).trans (by rw [← Nat.add_assoc]; rfl)) _ _
    exact tok_of ha (row_read _ _ _ _ _ rfl hb (hT _) _) hc (row_read _ _ _ _ _ rfl hd (hT _) _)
  clear y hy
  intro y hy
  refine (congrFun (View.read_writes_cons_put _ _ _ _ _ (k0_off25_eq k)) y).trans ?_
  refine put_row i _ _ _ _ (8 * k.val + 4) (by omega) _ rfl _ (fun h => ?_) ?_ y (by omega)
  · have hi0 : 128 * (i 0).val + (8 * k.val + 4) < 2304 := by omega
    have ha : trip1.sl.r_16 i arg2 k f2 = wordAt (arg2.view.read (Elt F) f2) 0 (128 * (i 0).val + (8 * k.val + 4)) h := by
      unfold trip1.sl.r_16; exact word_read _ _ 0 _ h _ ((k0_off21_eq i k).trans (by rw [← Nat.add_assoc]; rfl)) _ _
    have hb : trip1.sl.r_17 i arg1 k f1 = wordAt (arg1.view.read (Elt F) f1) 0 (128 * (i 0).val + (8 * k.val + 4)) h := by
      unfold trip1.sl.r_17; exact word_read _ _ 0 _ h _ ((k0_off21_eq i k).trans (by rw [← Nat.add_assoc]; rfl)) _ _
    have hc : trip1.sl.r_18 i arg2 k f2 = wordAt (arg2.view.read (Elt F) f2) 1 (128 * (i 0).val + (8 * k.val + 4)) h := by
      unfold trip1.sl.r_18; exact word_read _ _ 1 _ h _ ((k0_off23_eq i k).trans (by rw [← Nat.add_assoc]; rfl)) _ _
    have hd : trip1.sl.r_19 i arg1 k f1 = wordAt (arg1.view.read (Elt F) f1) 1 (128 * (i 0).val + (8 * k.val + 4)) h := by
      unfold trip1.sl.r_19; exact word_read _ _ 1 _ h _ ((k0_off23_eq i k).trans (by rw [← Nat.add_assoc]; rfl)) _ _
    exact tok_of ha (row_read _ _ _ _ _ rfl hb (hT _) _) hc (row_read _ _ _ _ _ rfl hd (hT _) _)
  clear y hy
  intro y hy
  refine (congrFun (View.read_writes_cons_put _ _ _ _ _ (k0_off20_eq k)) y).trans ?_
  refine put_row i _ _ _ _ (8 * k.val + 3) (by omega) _ rfl _ (fun h => ?_) ?_ y (by omega)
  · have hi0 : 128 * (i 0).val + (8 * k.val + 3) < 2304 := by omega
    have ha : trip1.sl.r_12 i arg2 k f2 = wordAt (arg2.view.read (Elt F) f2) 0 (128 * (i 0).val + (8 * k.val + 3)) h := by
      unfold trip1.sl.r_12; exact word_read _ _ 0 _ h _ ((k0_off16_eq i k).trans (by rw [← Nat.add_assoc]; rfl)) _ _
    have hb : trip1.sl.r_13 i arg1 k f1 = wordAt (arg1.view.read (Elt F) f1) 0 (128 * (i 0).val + (8 * k.val + 3)) h := by
      unfold trip1.sl.r_13; exact word_read _ _ 0 _ h _ ((k0_off16_eq i k).trans (by rw [← Nat.add_assoc]; rfl)) _ _
    have hc : trip1.sl.r_14 i arg2 k f2 = wordAt (arg2.view.read (Elt F) f2) 1 (128 * (i 0).val + (8 * k.val + 3)) h := by
      unfold trip1.sl.r_14; exact word_read _ _ 1 _ h _ ((k0_off18_eq i k).trans (by rw [← Nat.add_assoc]; rfl)) _ _
    have hd : trip1.sl.r_15 i arg1 k f1 = wordAt (arg1.view.read (Elt F) f1) 1 (128 * (i 0).val + (8 * k.val + 3)) h := by
      unfold trip1.sl.r_15; exact word_read _ _ 1 _ h _ ((k0_off18_eq i k).trans (by rw [← Nat.add_assoc]; rfl)) _ _
    exact tok_of ha (row_read _ _ _ _ _ rfl hb (hT _) _) hc (row_read _ _ _ _ _ rfl hd (hT _) _)
  clear y hy
  intro y hy
  refine (congrFun (View.read_writes_cons_put _ _ _ _ _ (k0_off15_eq k)) y).trans ?_
  refine put_row i _ _ _ _ (8 * k.val + 2) (by omega) _ rfl _ (fun h => ?_) ?_ y (by omega)
  · have hi0 : 128 * (i 0).val + (8 * k.val + 2) < 2304 := by omega
    have ha : trip1.sl.r_8 i arg2 k f2 = wordAt (arg2.view.read (Elt F) f2) 0 (128 * (i 0).val + (8 * k.val + 2)) h := by
      unfold trip1.sl.r_8; exact word_read _ _ 0 _ h _ ((k0_off11_eq i k).trans (by rw [← Nat.add_assoc]; rfl)) _ _
    have hb : trip1.sl.r_9 i arg1 k f1 = wordAt (arg1.view.read (Elt F) f1) 0 (128 * (i 0).val + (8 * k.val + 2)) h := by
      unfold trip1.sl.r_9; exact word_read _ _ 0 _ h _ ((k0_off11_eq i k).trans (by rw [← Nat.add_assoc]; rfl)) _ _
    have hc : trip1.sl.r_10 i arg2 k f2 = wordAt (arg2.view.read (Elt F) f2) 1 (128 * (i 0).val + (8 * k.val + 2)) h := by
      unfold trip1.sl.r_10; exact word_read _ _ 1 _ h _ ((k0_off13_eq i k).trans (by rw [← Nat.add_assoc]; rfl)) _ _
    have hd : trip1.sl.r_11 i arg1 k f1 = wordAt (arg1.view.read (Elt F) f1) 1 (128 * (i 0).val + (8 * k.val + 2)) h := by
      unfold trip1.sl.r_11; exact word_read _ _ 1 _ h _ ((k0_off13_eq i k).trans (by rw [← Nat.add_assoc]; rfl)) _ _
    exact tok_of ha (row_read _ _ _ _ _ rfl hb (hT _) _) hc (row_read _ _ _ _ _ rfl hd (hT _) _)
  clear y hy
  intro y hy
  refine (congrFun (View.read_writes_cons_put _ _ _ _ _ (k0_off10_eq k)) y).trans ?_
  refine put_row i _ _ _ _ (8 * k.val + 1) (by omega) _ rfl _ (fun h => ?_) ?_ y (by omega)
  · have hi0 : 128 * (i 0).val + (8 * k.val + 1) < 2304 := by omega
    have ha : trip1.sl.r_4 i arg2 k f2 = wordAt (arg2.view.read (Elt F) f2) 0 (128 * (i 0).val + (8 * k.val + 1)) h := by
      unfold trip1.sl.r_4; exact word_read _ _ 0 _ h _ ((k0_off6_eq i k).trans (by rw [← Nat.add_assoc]; rfl)) _ _
    have hb : trip1.sl.r_5 i arg1 k f1 = wordAt (arg1.view.read (Elt F) f1) 0 (128 * (i 0).val + (8 * k.val + 1)) h := by
      unfold trip1.sl.r_5; exact word_read _ _ 0 _ h _ ((k0_off6_eq i k).trans (by rw [← Nat.add_assoc]; rfl)) _ _
    have hc : trip1.sl.r_6 i arg2 k f2 = wordAt (arg2.view.read (Elt F) f2) 1 (128 * (i 0).val + (8 * k.val + 1)) h := by
      unfold trip1.sl.r_6; exact word_read _ _ 1 _ h _ ((k0_off8_eq i k).trans (by rw [← Nat.add_assoc]; rfl)) _ _
    have hd : trip1.sl.r_7 i arg1 k f1 = wordAt (arg1.view.read (Elt F) f1) 1 (128 * (i 0).val + (8 * k.val + 1)) h := by
      unfold trip1.sl.r_7; exact word_read _ _ 1 _ h _ ((k0_off8_eq i k).trans (by rw [← Nat.add_assoc]; rfl)) _ _
    exact tok_of ha (row_read _ _ _ _ _ rfl hb (hT _) _) hc (row_read _ _ _ _ _ rfl hd (hT _) _)
  clear y hy
  intro y hy
  refine (congrFun (View.read_writes_cons_put _ _ _ _ _ (k0_off5_eq k)) y).trans ?_
  refine put_row i _ _ _ _ (8 * k.val) (by omega) _ rfl _ (fun h => ?_) ?_ y (by omega)
  · have hi0 : 128 * (i 0).val + (8 * k.val) < 2304 := by omega
    have ha : trip1.sl.r i arg2 k f2 = wordAt (arg2.view.read (Elt F) f2) 0 (128 * (i 0).val + (8 * k.val)) h := by
      unfold trip1.sl.r; exact word_read _ _ 0 _ h _ ((k0_off1_eq i k).trans rfl) _ _
    have hb : trip1.sl.r_1 i arg1 k f1 = wordAt (arg1.view.read (Elt F) f1) 0 (128 * (i 0).val + (8 * k.val)) h := by
      unfold trip1.sl.r_1; exact word_read _ _ 0 _ h _ ((k0_off1_eq i k).trans rfl) _ _
    have hc : trip1.sl.r_2 i arg2 k f2 = wordAt (arg2.view.read (Elt F) f2) 1 (128 * (i 0).val + (8 * k.val)) h := by
      unfold trip1.sl.r_2; exact word_read _ _ 1 _ h _ ((k0_off3_eq i k).trans rfl) _ _
    have hd : trip1.sl.r_3 i arg1 k f1 = wordAt (arg1.view.read (Elt F) f1) 1 (128 * (i 0).val + (8 * k.val)) h := by
      unfold trip1.sl.r_3; exact word_read _ _ 1 _ h _ ((k0_off3_eq i k).trans rfl) _ _
    exact tok_of ha (row_read _ _ _ _ _ rfl hb (hT _) _) hc (row_read _ _ _ _ _ rfl hd (hT _) _)
  exact hP

/-- Loop 2: one trip. -/
theorem trip2 (c : Dev nD) (E : Set ℕ) (i : grid0.Coords) (arg1 : Memref sig .tc .smem S2x2304 .i32) (harg1 : arg1.IsWhole) (arg2 : Memref sig .tc .smem S2x2304 .f32) (harg2 : arg2.IsWhole) (arg3 : Memref sig .tc .vmem S4608x1024 .f32) (harg3 : arg3.IsWhole) (arg4 : Memref sig .tc .vmem S128x1024 .fp8e4m3) (harg4 : arg4.IsWhole) (arg5 : Memref sig .tc .vmem S1x128 .f32) (harg5 : arg5.IsWhole) (arg6 : Memref sig .tc .vmem S128x1024 .f32) (harg6 : arg6.IsWhole) (arg7 : Memref sig .tc .vmem S128x128 .f32) (harg7 : arg7.IsWhole)
    (X : Vec F S128x1024 .f32) (k : Fin k0_t2_loop.trips) :
    inv2 (F := F) c arg6 arg4 arg7 X k.val () ⊢ wp frame (wpE (defs₀ (F := F)) Variants.none c none) E
      (k0_t2_body (F := F) i arg1 harg1 arg2 harg2 arg3 harg3 arg4 harg4 arg5 harg5 arg6 harg6 arg7 harg7 k ()) (fun a => inv2 (F := F) c arg6 arg4 arg7 X (k.val + 1) a) := by
  have hk : k.val < 4 := k.isLt
  unfold inv2 owns k0_t2_body
  iintro ⟨⟨%f6, %e6, H6⟩, ⟨%C, %hC, %f4, %e4, H4⟩, %S, %hS, %f7, %e7, H7⟩
  subst e6 e4 e7
  sl_exec
  sl_step
  have hb : ∀ a, (![32 * k.val, 0] : Fin 2 → ℕ) a + (![32, 1024] : Fin 2 → ℕ) a ≤ S128x1024.size a := fun a => match a with
      | 0 => by show 32 * k.val + 32 ≤ 128; omega
      | 1 => by show 0 + 1024 ≤ 1024; omega
  isplitl [H6]
  · iexists _; isplitr; swap; · iexact H6
    ipureintro; rfl
  isplitl [H4]
  · iexists _; isplitr; swap
    · iexists _; isplitr; swap; · iexact H4
      ipureintro; rfl
    ipureintro
    intro y hy
    refine (congrFun (View.read_writes_cons_put _ _ _ _ [] (k0_off42_eq k)) y).trans ?_
    rw [View.readAt_unit _ _ _ (k0_off41_eq k) hb]
    refine put_step _ _ _ _ _ (fun y => (y 0).val < 32 * k.val) (fun y => (y 0).val < 32 * (k.val + 1)) ?_ hC ?_ y hy
    · intro y h
      have h0 : 32 * k.val ≤ (y 0).val ∧ (y 0).val < 32 * k.val + 32 := h 0
      obtain ⟨kv, hkv⟩ := k
      dsimp only at h0 hk
      obtain rfl : kv = (y 0).val / 32 := by omega
      unfold codes rowsX
      congr 1
      funext a
      match a with
      | 0 => apply Fin.ext; show (y 0).val - (32 * ((y 0).val / 32)) = (y 0).val % 32; omega
      | 1 => apply Fin.ext; show (y 1).val - 0 = (y 1).val; omega
    · intro y hy hn
      by_contra hc
      apply hn
      have h1 : (y 1).val < 1024 := (y 1).isLt
      intro a
      match a with
      | 0 => exact ⟨by show 32 * k.val ≤ (y 0).val; omega, by show (y 0).val < 32 * k.val + 32; omega⟩
      | 1 => exact ⟨Nat.zero_le _, by show (y 1).val < 0 + 1024; omega⟩
  · iexists _; isplitr; swap
    · iexists _; isplitr; swap; · iexact H7
      ipureintro; rfl
    ipureintro
    intro y hy
    refine (congrFun (View.read_writes_cons_put _ _ _ _ [] (k0_off43_eq k)) y).trans ?_
    rw [View.readAt_unit _ _ _ (k0_off41_eq k) hb]
    refine put_step _ _ _ _ _ (fun y => (y 0).val < 32 * k.val) (fun y => (y 0).val < 32 * (k.val + 1)) ?_ hS ?_ y hy
    · intro y h
      have h0 : 32 * k.val ≤ (y 0).val ∧ (y 0).val < 32 * k.val + 32 := h 0
      obtain ⟨kv, hkv⟩ := k
      dsimp only at h0 hk
      obtain rfl : kv = (y 0).val / 32 := by omega
      unfold scales rowsX
      congr 1
      funext a
      match a with
      | 0 => apply Fin.ext; show (y 0).val - (32 * ((y 0).val / 32)) = (y 0).val % 32; omega
      | 1 => apply Fin.ext; show (y 1).val - 0 = (y 1).val; omega
    · intro y hy hn
      by_contra hc
      apply hn
      have h1 : (y 1).val < 128 := (y 1).isLt
      intro a
      match a with
      | 0 => exact ⟨by show 32 * k.val ≤ (y 0).val; omega, by show (y 0).val < 32 * k.val + 32; omega⟩
      | 1 => exact ⟨Nat.zero_le _, by show (y 1).val < 0 + 128; omega⟩

/-! ## The body -/

/-- The body at a point: from the tables, whose words are below 4608, and `e`, it leaves the codes and the scales of its tile. -/
theorem body_point (c : Dev nD) (E : Set ℕ) (i : grid0.Coords) (arg1 : Memref sig .tc .smem S2x2304 .i32) (harg1 : arg1.IsWhole) (arg2 : Memref sig .tc .smem S2x2304 .f32) (harg2 : arg2.IsWhole) (arg3 : Memref sig .tc .vmem S4608x1024 .f32) (harg3 : arg3.IsWhole) (arg4 : Memref sig .tc .vmem S128x1024 .fp8e4m3) (harg4 : arg4.IsWhole) (arg5 : Memref sig .tc .vmem S1x128 .f32) (harg5 : arg5.IsWhole) (arg6 : Memref sig .tc .vmem S128x1024 .f32) (harg6 : arg6.IsWhole) (arg7 : Memref sig .tc .vmem S128x128 .f32) (harg7 : arg7.IsWhole)
    (T : Vec F S2x2304 .i32) (W : Vec F S2x2304 .f32) (X3 : Vec F S4608x1024 .f32) (hT : ∀ j, BitVec.toNat (w := 32) (T j) < 4608) (Q : PUnit → sProp 𝕄) :
    iprop(owns (c : Thread nD τ) arg1 fullShare T ∗ owns (c : Thread nD τ) arg2 fullShare W ∗ owns (c : Thread nD τ) arg3 fullShare X3
      ∗ (∃ d, owns (c : Thread nD τ) arg4 fullShare d) ∗ (∃ d, owns (c : Thread nD τ) arg5 fullShare d)
      ∗ (∃ d, owns (c : Thread nD τ) arg6 fullShare d) ∗ (∃ d, owns (c : Thread nD τ) arg7 fullShare d)
      ∗ (iprop(owns (c : Thread nD τ) arg1 fullShare T ∗ owns (c : Thread nD τ) arg2 fullShare W ∗ owns (c : Thread nD τ) arg3 fullShare X3
          ∗ owns (c : Thread nD τ) arg4 fullShare (codes (tile i T W X3)) ∗ owns (c : Thread nD τ) arg5 fullShare (k0_pay5 (sclCol (tile i T W X3)))
          ∗ (∃ d, owns (c : Thread nD τ) arg6 fullShare d) ∗ (∃ d, owns (c : Thread nD τ) arg7 fullShare d)) -∗ Q ⟨⟩))
    ⊢ wp frame (wpE (defs₀ (F := F)) Variants.none c none) E (cc0_combine (F := F) i arg1 harg1 arg2 harg2 arg3 harg3 arg4 harg4 arg5 harg5 arg6 harg6 arg7 harg7) Q := by
  rw [cc0_combine_eq_skeleton]
  unfold cc0_combine_skel
  unfold owns
  iintro ⟨⟨%f1, %e1, H1⟩, ⟨%f2, %e2, H2⟩, ⟨%f3, %e3, H3⟩, ⟨%d4, %f4, %e4, H4⟩, ⟨%d5, %f5, %e5, H5⟩, ⟨%d6, %f6, %e6, H6⟩, ⟨%d7, %f7, %e7, H7⟩, Hk⟩
  dsimp only
  sl_for (inv1 c i arg1 arg2 arg3 arg6 T W X3) $$ [H1 H2 H3 H6]
  case region => intro k _; dsimp only; exact trip1 c E i arg1 harg1 arg2 harg2 arg3 harg3 arg4 harg4 arg5 harg5 arg6 harg6 arg7 harg7 _ T W X3 hT k
  · unfold inv1 owns
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    iexists _; isplitr; swap
    · iexists _; isplitr; swap; · iexact H6
      ipureintro; rfl
    ipureintro
    intro y hy
    exact absurd hy (by omega)
  iintro %_ H
  unfold inv1
  icases H with ⟨H1, H2, H3, %P, %hP, H6⟩
  have eP : P = tile i T W X3 := funext fun y => hP y (y 0).isLt
  subst eP
  sl_for (inv2 c arg6 arg4 arg7 (tile i T W X3)) $$ [H6 H4 H7]
  case region => intro k _; dsimp only; exact trip2 c E i arg1 harg1 arg2 harg2 arg3 harg3 arg4 harg4 arg5 harg5 arg6 harg6 arg7 harg7 (tile i T W X3) k
  · unfold inv2
    isplitl [H6]
    · iexact H6
    isplitl [H4]
    · iexists _; isplitr; swap
      · unfold owns; iexists _; isplitr; swap; · iexact H4
        ipureintro; exact e4
      ipureintro
      intro y hy
      exact absurd hy (by omega)
    · iexists _; isplitr; swap
      · unfold owns; iexists _; isplitr; swap; · iexact H7
        ipureintro; exact e7
      ipureintro
      intro y hy
      exact absurd hy (by omega)
  iintro %_ H
  unfold inv2
  icases H with ⟨H6, ⟨%C, %hC, H4⟩, %S, %hS, H7⟩
  have eC : C = codes (tile i T W X3) := funext fun y => hC y (y 0).isLt
  have eS : S = scales (tile i T W X3) := funext fun y => hS y (y 0).isLt
  subst eC eS
  unfold owns
  icases H7 with ⟨%g7, %e7', H7⟩
  sl_exec
  sl_step
  iapply Hk
  have hq : View.readAt (Elt F) arg7.view (Rect.unit (s := S128x128) ![0, 0] S128x1.size inb_S128x128_S128x1_0_0).toLoadRect g7 = sclCol (tile i T W X3) := by
    rw [View.readAt_unit _ _ _ rfl inb_S128x128_S128x1_0_0, e7']; rfl
  isplitl [H1]
  · iexact H1
  isplitl [H2]
  · iexact H2
  isplitl [H3]
  · iexact H3
  isplitl [H4]
  · iexact H4
  isplitl [H5]
  · iexists _; isplitr; swap; · iexact H5
    ipureintro; exact (View.read_writes_full _ _ _ _ []).trans (congrArg k0_pay5 hq)
  isplitl [H6]
  · iexists _; iexact H6
  · iexists _; iexists _; isplitr; swap; · iexact H7
    ipureintro; rfl

end Cert.Combine.Hand

end

end
-- ==== Proof.CombKernelRun.lean ====
/-
  Hand-written, untrusted. The combining kernel over its whole grid, eighteen tiles of 128 tokens. No point reads what another left: the
  invariant of the pipeline owns the scratch buffers at any contents. The output windows are held to a predicate: the codes and the
  scales to what the body computes of the input blocks. Every point needs of its block of the table of rows that each word is below 4608;
  the last section gets it from the same of the argument.
-/
module

public import proofs.«01_k».proof.Proof.CombKernelBody
public import Idealize.ShloMosaic.Lib.Pipeline.DatRel
public import Idealize.ShloMosaic.Lib.Pipeline.ArrRel
public import Idealize.ShloMosaic.Lib.Pipeline.ValueKit
public import Idealize.ShloMosaic.Lib.Pointwise
public import Idealize.ShloMosaic.Lib.Claim

@[expose] public section

noncomputable section

namespace Cert.Combine.Hand

open Cert.Combine Cert.Combine.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The output windows are held to a predicate, the input windows named exactly. -/
def fgt : Fin cfg0.W → Bool := fun w => decide (3 ≤ w.val)

/-- What a point leaves in an output window. -/
def Rl (c : Dev nD) : (w : Fin cfg0.W) → Fin cfg0.N → ((cfg0.win w).block.Idx → Elt F (cfg0.win w).elt) → Prop
  | ⟨3, _⟩ => fun t X => X = codes (tile (grid0.coords t) (iblk m c 0 t) (iblk m c 1 t) (iblk m c 2 t))
  | ⟨4, _⟩ => fun t X => X = k0_pay5 (sclCol (tile (grid0.coords t) (iblk m c 0 t) (iblk m c 1 t) (iblk m c 2 t)))
  | _ => fun _ _ => True

/-- The invariant before any point: the scratch buffers at some contents, the generator register at some state. -/
def Phi (c : Dev nD) : sProp 𝕄 :=
  iprop(((∃ d, owns (c : Thread nD τ) (Memref.whole cc0_scratch0) fullShare d) ∗ (∃ d, owns (c : Thread nD τ) (Memref.whole cc0_scratch1) fullShare d))
    ∗ ∃ r, prngReg c r)

/-- The proof data: the arrays as the region finds them, the input windows at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | w => Pipeline.Dat.unnamed (cfg := cfg0) w t
  Φ t := Phi c
  q _ := fullShare
  owed _ := 0

/-- The same, the output windows held to `Rl`. -/
abbrev rdat (c : Dev nD) : RDat τ (Elt F) Unit ℕ (UR sig nD τ) ℕ cfg0 c := (dats m 0 c).toRRel fgt (Rl m c)

theorem A_eq (c : Dev nD) (w : Fin cfg0.W) : (dats m 0 c).A w = V m c (Pipeline.arrRef spec0 w) := by dsimp only [dats]
theorem bef0 (c : Dev nD) (t : Fin cfg0.N) (d) : (dats m 0 c).before 0 t d = iblk m c 0 t := before0_0_of m (dats m 0 c) rfl (fun _ => rfl) t d
theorem bef1 (c : Dev nD) (t : Fin cfg0.N) (d) : (dats m 0 c).before 1 t d = iblk m c 1 t := before0_1_of m (dats m 0 c) rfl (fun _ => rfl) t d
theorem bef2 (c : Dev nD) (t : Fin cfg0.N) (d) : (dats m 0 c).before 2 t d = iblk m c 2 t := before0_2_of m (dats m 0 c) rfl (fun _ => rfl) t d

/-! ## The body at a point -/

/-- Every word of every block of the table of rows is below 4608. -/
def RowsOk : Prop := ∀ (c : Dev nD) (t : Fin cfg0.N) (j : S2x2304.Idx), BitVec.toNat (w := 32) (iblk m c 0 t j) < 4608

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d))
    ∗ (∃ Y, ⌜(rdat m c).Finds 3 t Y⌝ ∗ owns (c : Thread nD τ) (st0_3 t) fullShare Y) ∗ (∃ Y, ⌜(rdat m c).Finds 4 t Y⌝ ∗ owns (c : Thread nD τ) (st0_4 t) fullShare Y))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t)
    ∗ (∃ X, ⌜Rl m c 3 t X⌝ ∗ owns (c : Thread nD τ) (st0_3 t) fullShare X) ∗ (∃ X, ⌜Rl m c 4 t X⌝ ∗ owns (c : Thread nD τ) (st0_4 t) fullShare X))

set_option maxHeartbeats 1000000 in
theorem sound_body (hrow : RowsOk m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Phi c from rfl, show (dats m 0 c).Φ t.succ = Phi c from rfl]
  unfold Phi
  simp only [bef0, bef1, bef2]
  simp only [show (dats m 0 c).after 0 t = iblk m c 0 t from rfl, show (dats m 0 c).after 1 t = iblk m c 1 t from rfl, show (dats m 0 c).after 2 t = iblk m c 2 t from rfl]
  iintro ⟨⟨⟨HS0, HS1⟩, Hg⟩, HO, ⟨%d0, H0⟩, ⟨%d1, H1⟩, ⟨%d2, H2⟩, ⟨%Y3, -, H3⟩, ⟨%Y4, -, H4⟩⟩
  iapply (body_point c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole cc0_scratch0) (Memref.isWhole_whole _) (Memref.whole cc0_scratch1) (Memref.isWhole_whole _)
    (iblk m c 0 t) (iblk m c 1 t) (iblk m c 2 t) (hrow c t) _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]; · iexact HS0
      iexact HS1
    iexact Hg
  isplitl [HO]; · iexact HO
  isplitl [H0]; · iexact H0
  isplitl [H1]; · iexact H1
  isplitl [H2]; · iexact H2
  isplitl [H3]
  · iexists (codes (tile (grid0.coords t) (iblk m c 0 t) (iblk m c 1 t) (iblk m c 2 t))); isplitr; · ipureintro; exact rfl
    iexact H3
  · iexists (k0_pay5 (sclCol (tile (grid0.coords t) (iblk m c 0 t) (iblk m c 1 t) (iblk m c 2 t)))); isplitr; · ipureintro; exact rfl
    iexact H4

theorem defs₀_row (t : Fin cfg0.N) : defs₀ (F := F) .tc cfg0.body (cfg0.bodyArgs t (cfg0.slots t)) = bodyAt0 t := by
  unfold defs₀; rw [Defs.onTc_tc]

theorem body_obligation (hrow : RowsOk m) (c : Dev nD) :
    BodyObligationRel (dats (F := F) m 0 c) (defs₀ (F := F)) Variants.none () Set.univ fgt (Rl m c) := fun t => by
  rw [bigSep_W0, bigSep_W0, defs₀_row]
  exact triple_restated (sound_body m hrow c t) rfl .rfl fun _ => .rfl

/-! ## The launch -/

theorem Phi_in (c : Dev nD) : Pipeline.ΦA spec0 c ⊢ (dats (F := F) m 0 c).Φ 0 := by
  show _ ⊢ Phi c
  unfold Pipeline.ΦA Phi
  rw [scopedRest0_eq]
  simp only [owns_whole]
  exact .rfl

theorem Phi_out (c : Dev nD) : (dats (F := F) m 0 c).Φ (Fin.last cfg0.N) ⊢ Pipeline.ΦA spec0 c := by
  show Phi c ⊢ _
  unfold Pipeline.ΦA Phi
  rw [scopedRest0_eq]
  simp only [owns_whole]
  exact .rfl

-- the launch theorem's implicit arguments are found by unifying its conclusion with this statement, which unifies only when
-- unification may unfold plain definitions in a metavariable's type
set_option backward.isDefEq.respectTransparency.types false in
set_option maxHeartbeats 800000 in
/-- The launch at any proof data: stated apart, so that the invariant of the data at hand is not unfolded. -/
theorem run_of (dat : (c : Dev nD) → Dat τ (Elt F) Unit ℕ (UR sig nD τ) ℕ cfg0 c) (fg : Fin cfg0.W → Bool)
    (R : (c : Dev nD) → (w : Fin cfg0.W) → Fin cfg0.N → ((cfg0.win w).block.Idx → Elt F (cfg0.win w).elt) → Prop)
    (hbody : ∀ c, BodyObligationRel (dat c) (defs₀ (F := F)) Variants.none () Set.univ fg (R c))
    (hshare : ∀ c w, (dat c).share w = fullShare) (howed : ∀ c t, (dat c).owed t = 0)
    (hA : ∀ c w, (dat c).A w = V m c (Pipeline.arrRef spec0 w))
    (hin : ∀ c, Pipeline.ΦA spec0 c ⊢ (dat c).Φ 0) (hout : ∀ c, (dat c).Φ (Fin.last cfg0.N) ⊢ Pipeline.ΦA spec0 c) :
    θ_run defs (onTc (τ := τ) (main (F := F))) (s₀ m ρ)
      (fun r => RDat.FramePost (cfgs 0) (fun c => (dat c).toRRel fg (R c)) (V m) r ∧ r.2.sem = fun _ => 0) :=
  RDat.θ_run_frame_track (Q' := _) cfgs (0 : Fin 1) launch0 defs₀ Variants.none (fun c => (dat c).toRRel fg (R c)) m ρ main
    (fun c => (hbody c).toRRel) hshare howed (V := V m) (hmain := hmain m Variants.none) hA hin hout

theorem run_main (hrow : RowsOk m) :
    θ_run defs (onTc (τ := τ) (main (F := F))) (s₀ m ρ)
      (fun r => RDat.FramePost (cfgs 0) (fun c => rdat m c) (V m) r ∧ r.2.sem = fun _ => 0) :=
  run_of m ρ (fun c => dats m 0 c) fgt (Rl m) (body_obligation m hrow) (fun c => (dats m 0 c).share_full fun _ => rfl) (fun _ _ => rfl) (A_eq m)
    (Phi_in m) (Phi_out m)

/-! ## The table's words -/

theorem ix0_0 : ∀ t : Fin cfg0.N, win0_0.index t = ![0, 0] := by decide +kernel

theorem blk0 (c : Dev nD) (t : Fin cfg0.N) (r : Fin 2) (k : Fin 2304) : iblk m c 0 t (ix2 r k) = V m c main_v0 (ix2 r k) := by
  unfold iblk
  show V m c main_v0 (((cfg0.win 0).blk t).view.emb (ix2 r k)) = _
  congr 1
  funext a
  apply Fin.ext
  match a with
  | ⟨0, _⟩ => blk_simp [ix0_0]
  | ⟨1, _⟩ => blk_simp [ix0_0]

theorem V_main_v0 (c : Dev nD) (r : Fin 2) (k : Fin 2304) : V m c main_v0 (ix2 r k) = m ((c : Thread nD τ).loc main_arg0) (ix2 k r) := by
  unfold V
  simp only [hostOps0, List.flatten_cons, List.flatten_nil, List.append_nil, List.cons_append, List.nil_append]
  entry_read
  pointwise

/-- The blocks' words are the argument's. -/
theorem rows_ok (h : ∀ (c : Dev nD) (j : S2304x2.Idx), BitVec.toNat (w := 32) (m ((c : Thread nD τ).loc main_arg0) j) < 4608) : RowsOk m := by
  intro c t j
  have e : iblk m c 0 t j = m ((c : Thread nD τ).loc main_arg0) (ix2 (j 1) (j 0)) := by
    rw [eq_ix2 j]
    exact (blk0 m c t (j 0) (j 1)).trans (V_main_v0 m c (j 0) (j 1))
  rw [e]
  exact h c _

variable {m ρ}

/-- The arguments are as launched. -/
def ArgsKept (m : (ℓ : Loc nD τ sig) → Buf (Elt F) ℓ) (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

theorem args_kept {r : PUnit × MemSt nD τ sig (Elt F)} (h : RDat.FramePost (cfgs 0) (fun c => rdat m c) (V m) r) (c : Dev nD) : ArgsKept m r c :=
  ⟨(h c).2 main_arg0 (Pipeline.mem_restRefs_of main_arg0 (by decide) (by decide)) |>.trans (V_main_arg0 m c),
    (h c).2 main_arg1 (Pipeline.mem_restRefs_of main_arg1 (by decide) (by decide)) |>.trans (V_main_arg1 m c),
    (RDat.FramePost.arr_in h c 2 rfl).trans (V_main_arg2 m c)⟩

end Cert.Combine.Hand

end

end
-- ==== Proof.CombIdealBody.lean ====
/-
  Hand-written, untrusted. The body of the combining kernel at one point of its grid, run once by `sl_exec` and its two counted
  loops by hand: eight tokens a trip, each the weighted sum of the two rows of `e` that its two words name, and then thirty-two tokens
  a trip quantized. The first loop assumes, of each word it reads, that the row it names is in `e`; here it is because every word of
  the table is below 4608.
-/
module

public import proofs.«01_k».proof.Proof.Gen.CombineIdeal.Frame
public import proofs.«01_k».proof.Proof.Gen.CombineIdeal.Skeleton
public import Idealize.ShloMosaic.Lib.Pipeline.Frame
public import Idealize.ShloMosaic.Lib.Tactic
public import Idealize.ShloMosaic.Lib.VecWindow

@[expose] public section

set_option maxRecDepth 8192

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## What the body computes -/

/-- Row `n` of `e`, taken modulo the number of rows so that it is defined of every `n`. -/
def rowE (E : Vec F S4608x1024 .f32) (n : ℕ) : Vec F S1x1024 .f32 := fun j =>
  E (fun a => match a with | 0 => ⟨n % 4608, Nat.mod_lt _ (by decide)⟩ | 1 => ⟨(j 1).val, (j 1).isLt⟩)
/-- The word at column `n` of row `s` of a table of two rows. -/
def wordAt {α : Type} (T : S2x2304.Idx → α) (s : Fin 2) (n : ℕ) (h : n < 2304) : α :=
  T (fun a => match a with | 0 => s | 1 => ⟨n, h⟩)
/-- Token `n`: the weighted sum of the two rows of `e` that its words name. -/
def tokRow (T : Vec F S2x2304 .i32) (W : Vec F S2x2304 .f32) (E : Vec F S4608x1024 .f32) (n : ℕ) (h : n < 2304) : Vec F S1x1024 .f32 :=
  k0_pay6 (wordAt W 0 n h) (rowE E (BitVec.toNat (w := 32) (wordAt T 0 n h))) (wordAt W 1 n h) (rowE E (BitVec.toNat (w := 32) (wordAt T 1 n h)))
/-- The tile of tokens of point `i`. -/
def tile (i : grid0.Coords) (T : Vec F S2x2304 .i32) (W : Vec F S2x2304 .f32) (E : Vec F S4608x1024 .f32) : Vec F S128x1024 .f32 := fun y =>
  tokRow T W E (128 * (i 0).val + (y 0).val) (by have h : (y 0).val < 128 := (y 0).isLt; have h' : (i 0).val < 18 := (i 0).isLt; omega)
    (fun a => match a with | 0 => ⟨0, by decide⟩ | 1 => ⟨(y 1).val, (y 1).isLt⟩)

/-- Rows `o` to `o + 31` of the tile. -/
def rowsX (X : Vec F S128x1024 .f32) (o : ℕ) (h : o + 32 ≤ 128) : Vec F S32x1024 .f32 :=
  VecWindow.window (s := S128x1024) X ![o, 0] ![32, 1024] (fun a => match a with | 0 => h | 1 => Nat.le_refl 1024)
/-- The codes of the tile, thirty-two rows at a time. -/
def codes (X : Vec F S128x1024 .f32) : Vec F S128x1024 .fp8e4m3 := fun y =>
  have h : (y 0).val < 128 := (y 0).isLt
  k0_pay3 (rowsX X (32 * ((y 0).val / 32)) (by omega))
    (fun a => match a with | 0 => ⟨(y 0).val % 32, Nat.mod_lt _ (by decide)⟩ | 1 => ⟨(y 1).val, (y 1).isLt⟩)
/-- The scales of the tile's rows, over the lanes. -/
def scales (X : Vec F S128x1024 .f32) : Vec F S128x128 .f32 := fun y =>
  have h : (y 0).val < 128 := (y 0).isLt
  k0_pay4 (rowsX X (32 * ((y 0).val / 32)) (by omega))
    (fun a => match a with | 0 => ⟨(y 0).val % 32, Nat.mod_lt _ (by decide)⟩ | 1 => ⟨(y 1).val, (y 1).isLt⟩)
/-- The scales' first column. -/
def sclCol (X : Vec F S128x1024 .f32) : Vec F S128x1 .f32 :=
  VecWindow.window (s := S128x128) (scales X) ![0, 0] ![128, 1] inb_S128x128_S128x1_0_0

/-! ## Reading the words and the rows -/

theorem chk_row (w : BitVec 32) (h : w.toNat < 4608) : ∀ a, (![w.toNat, 0] : Fin 2 → ℕ) a + S1x1024.size a ≤ S4608x1024.size a := by
  intro a
  match a with
  | 0 => show w.toNat + 1 ≤ 4608; omega
  | 1 => show 0 + 1024 ≤ 1024; omega

/-- A load of a row of `e` at the row a word names. -/
theorem row_read (v : View sig .tc .vmem S4608x1024 .f32) (f : v.ty.Contents (Elt F)) (w w' : BitVec 32) (off : Fin 2 → ℕ) (hoff : off = ![w.toNat, 0]) (e : w = w')
    (hw : w'.toNat < 4608) (inb : ∀ a, off a + S1x1024.size a ≤ S4608x1024.size a) :
    v.readAt (Elt F) (Rect.unit (s := S4608x1024) off S1x1024.size inb).toLoadRect f = rowE (v.read (Elt F) f) w'.toNat := by
  subst e
  rw [View.readAt_unit v f inb hoff (chk_row w hw)]
  funext j
  unfold VecWindow.window rowE
  congr 1
  funext a
  match a with
  | 0 =>
    apply Fin.ext
    have h : (j 0).val < 1 := (j 0).isLt
    show w.toNat + 1 * (j 0).val = w.toNat % 4608
    omega
  | 1 => apply Fin.ext; show 0 + 1 * (j 1).val = (j 1).val; omega

/-- A load of one word of a table of two rows. -/
theorem word_read {e : EltTy} (v : View sig .tc .smem S2x2304 e) (f : v.ty.Contents (Elt F)) (s : Fin 2) (n : ℕ) (h : n < 2304) (off : Fin 2 → ℕ) (hoff : off = ![s.val, n])
    (inb : ∀ a, off a + S1x1.size a ≤ S2x2304.size a) (x : S1x1.Idx) :
    v.readAt (Elt F) (Rect.unit (s := S2x2304) off S1x1.size inb).toLoadRect f x = wordAt (v.read (Elt F) f) s n h := by
  subst hoff
  show v.read (Elt F) f _ = v.read (Elt F) f _
  congr 1
  funext a
  match a with
  | 0 =>
    apply Fin.ext
    have h : (x 0).val < 1 := (x 0).isLt
    show s.val + 1 * (x 0).val = s.val
    omega
  | 1 =>
    apply Fin.ext
    have h : (x 1).val < 1 := (x 1).isLt
    show n + 1 * (x 1).val = n
    omega

theorem tok_of {a a' b b' : Elt F .f32} {x x' y y' : Vec F S1x1024 .f32} (ha : a = a') (hx : x = x') (hb : b = b') (hy : y = y') :
    k0_pay6 a x b y = k0_pay6 a' x' b' y' := by rw [ha, hx, hb, hy]

/-! ## The loops' invariants -/

/-- A store of a block of a buffer: if the block is `G`'s and the buffer was `G` where `p` says so, then it is `G` wherever `p'`
    does, so long as what `p'` adds lies in the block. -/
theorem put_step {α : Type} {s : Shape} (X G : s.Idx → α) (off size : Fin s.rank → ℕ) (w : ((a : Fin s.rank) → Fin (size a)) → α)
    (p p' : s.Idx → Prop)
    (hw : ∀ (y : s.Idx) (h : ∀ a, off a ≤ (y a).val ∧ (y a).val < off a + size a), w (Rect.unitLocal (s := s) (off := off) (size := size) y h) = G y)
    (hX : ∀ y, p y → X y = G y) (hp : ∀ y, p' y → (¬ ∀ a, off a ≤ (y a).val ∧ (y a).val < off a + size a) → p y)
    (y : s.Idx) (hy : p' y) : VecWindow.put X off size w y = G y := by
  unfold VecWindow.put
  split
  · exact hw y _
  · exact hX y (hp y hy ‹_›)

/-- One row of the tile stored: what the row before it left done, and the row `r`. -/
theorem put_row (i : grid0.Coords) (T : Vec F S2x2304 .i32) (W : Vec F S2x2304 .f32) (E : Vec F S4608x1024 .f32) (X : Vec F S128x1024 .f32)
    (r : ℕ) (hr : r < 128) (off : Fin 2 → ℕ) (hoff : off = ![r, 0]) (w : Vec F S1x1024 .f32)
    (hw : ∀ h, w = tokRow T W E (128 * (i 0).val + r) h)
    (hX : ∀ y : S128x1024.Idx, (y 0).val < r → X y = tile i T W E y) (y : S128x1024.Idx) (hy : (y 0).val < r + 1) :
    VecWindow.put X off S1x1024.size w y = tile i T W E y := by
  subst hoff
  have hi : (i 0).val < 18 := (i 0).isLt
  refine put_step _ _ _ _ _ (fun y => (y 0).val < r) (fun y => (y 0).val < r + 1) ?_ hX ?_ y hy
  · intro y h
    have h0 : r ≤ (y 0).val ∧ (y 0).val < r + 1 := h 0
    obtain rfl : r = (y 0).val := by omega
    unfold tile
    rw [hw (by omega)]
    congr 1
    funext a
    match a with
    | 0 => apply Fin.ext; show (y 0).val - (y 0).val = 0; omega
    | 1 => apply Fin.ext; show (y 1).val - 0 = (y 1).val; omega
  · intro y hy hn
    by_contra hc
    apply hn
    have h1 : (y 1).val < 1024 := (y 1).isLt
    intro a
    match a with
    | 0 => exact ⟨by show r ≤ (y 0).val; omega, by show (y 0).val < r + 1; omega⟩
    | 1 => exact ⟨Nat.zero_le _, by show (y 1).val < 0 + 1024; omega⟩

def inv1 (c : Dev nD) (i : grid0.Coords) (arg1 : Memref sig .tc .smem S2x2304 .i32) (arg2 : Memref sig .tc .smem S2x2304 .f32) (arg3 : Memref sig .tc .vmem S4608x1024 .f32)
    (arg6 : Memref sig .tc .vmem S128x1024 .f32) (T : Vec F S2x2304 .i32) (W : Vec F S2x2304 .f32) (E : Vec F S4608x1024 .f32) (k : ℕ) (_ : Unit) : sProp 𝕄 :=
  iprop(owns (c : Thread nD τ) arg1 fullShare T ∗ owns (c : Thread nD τ) arg2 fullShare W ∗ owns (c : Thread nD τ) arg3 fullShare E
    ∗ ∃ X, ⌜∀ y : S128x1024.Idx, (y 0).val < 8 * k → X y = tile i T W E y⌝ ∗ owns (c : Thread nD τ) arg6 fullShare X)

def inv2 (c : Dev nD) (arg6 : Memref sig .tc .vmem S128x1024 .f32) (arg4 : Memref sig .tc .vmem S128x1024 .fp8e4m3) (arg7 : Memref sig .tc .vmem S128x128 .f32)
    (X : Vec F S128x1024 .f32) (k : ℕ) (_ : Unit) : sProp 𝕄 :=
  iprop(owns (c : Thread nD τ) arg6 fullShare X
    ∗ (∃ C, ⌜∀ y : S128x1024.Idx, (y 0).val < 32 * k → C y = codes X y⌝ ∗ owns (c : Thread nD τ) arg4 fullShare C)
    ∗ ∃ S, ⌜∀ y : S128x128.Idx, (y 0).val < 32 * k → S y = scales X y⌝ ∗ owns (c : Thread nD τ) arg7 fullShare S)

set_option maxHeartbeats 4000000 in
/-- Loop 1: one trip. -/
theorem trip1 (c : Dev nD) (E : Set ℕ) (i : grid0.Coords) (arg1 : Memref sig .tc .smem S2x2304 .i32) (harg1 : arg1.IsWhole) (arg2 : Memref sig .tc .smem S2x2304 .f32) (harg2 : arg2.IsWhole) (arg3 : Memref sig .tc .vmem S4608x1024 .f32) (harg3 : arg3.IsWhole) (arg4 : Memref sig .tc .vmem S128x1024 .fp8e4m3) (harg4 : arg4.IsWhole) (arg5 : Memref sig .tc .vmem S1x128 .f32) (harg5 : arg5.IsWhole) (arg6 : Memref sig .tc .vmem S128x1024 .f32) (harg6 : arg6.IsWhole) (arg7 : Memref sig .tc .vmem S128x128 .f32) (harg7 : arg7.IsWhole)
    (v0 : BitVec 32) (T : Vec F S2x2304 .i32) (W : Vec F S2x2304 .f32) (X3 : Vec F S4608x1024 .f32) (hT : ∀ j, BitVec.toNat (w := 32) (T j) < 4608) (k : Fin k0_t1_loop.trips) :
    inv1 (F := F) c i arg1 arg2 arg3 arg6 T W X3 k.val () ⊢ wp frame (wpE (defs₀ (F := F)) Variants.none c none) E
      (k0_t1_body (F := F) i arg1 harg1 arg2 harg2 arg3 harg3 arg4 harg4 arg5 harg5 arg6 harg6 arg7 harg7 v0 k ()) (fun a => inv1 (F := F) c i arg1 arg2 arg3 arg6 T W X3 (k.val + 1) a) := by
  have hk : k.val < 16 := k.isLt
  have hi : (i 0).val < 18 := (i 0).isLt
  unfold inv1 owns k0_t1_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  iintro ⟨⟨%f1, %e1, H1⟩, ⟨%f2, %e2, H2⟩, ⟨%f3, %e3, H3⟩, %P, %hP, %f6, %e6, H6⟩
  subst e1 e2 e3 e6
  have hrd : ∀ (r : LoadRect S2x2304) x, BitVec.toNat (w := 32) (View.readAt (Elt F) arg1.view r f1 x) < 4608 := fun r x => hT _
  sl_exec (disch := exact chk_row _ (hrd _ _))
  sl_step
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  iexists _; isplitr; swap
  · iexists _; isplitr; swap; · iexact H6
    ipureintro; rfl
  ipureintro
  intro y hy
  refine (congrFun (View.read_writes_cons_put _ _ _ _ _ (k0_off40_eq k)) y).trans ?_
  refine put_row i _ _ _ _ (8 * k.val + 7) (by omega) _ rfl _ (fun h => ?_) ?_ y (by omega)
  · have hi0 : 128 * (i 0).val + (8 * k.val + 7) < 2304 := by omega
    have ha : trip1.sl.r_28 i arg2 k f2 = wordAt (arg2.view.read (Elt F) f2) 0 (128 * (i 0).val + (8 * k.val + 7)) h := by
      unfold trip1.sl.r_28; exact word_read _ _ 0 _ h _ ((k0_off36_eq i k).trans (by rw [← Nat.add_assoc]; rfl)) _ _
    have hb : trip1.sl.r_29 i arg1 k f1 = wordAt (arg1.view.read (Elt F) f1) 0 (128 * (i 0).val + (8 * k.val + 7)) h := by
      unfold trip1.sl.r_29; exact word_read _ _ 0 _ h _ ((k0_off36_eq i k).trans (by rw [← Nat.add_assoc]; rfl)) _ _
    have hc : trip1.sl.r_30 i arg2 k f2 = wordAt (arg2.view.read (Elt F) f2) 1 (128 * (i 0).val + (8 * k.val + 7)) h := by
      unfold trip1.sl.r_30; exact word_read _ _ 1 _ h _ ((k0_off38_eq i k).trans (by rw [← Nat.add_assoc]; rfl)) _ _
    have hd : trip1.sl.r_31 i arg1 k f1 = wordAt (arg1.view.read (Elt F) f1) 1 (128 * (i 0).val + (8 * k.val + 7)) h := by
      unfold trip1.sl.r_31; exact word_read _ _ 1 _ h _ ((k0_off38_eq i k).trans (by rw [← Nat.add_assoc]; rfl)) _ _
    exact tok_of ha (row_read _ _ _ _ _ rfl hb (hT _) _) hc (row_read _ _ _ _ _ rfl hd (hT _) _)
  clear y hy
  intro y hy
  refine (congrFun (View.read_writes_cons_put _ _ _ _ _ (k0_off35_eq k)) y).trans ?_
  refine put_row i _ _ _ _ (8 * k.val + 6) (by omega) _ rfl _ (fun h => ?_) ?_ y (by omega)
  · have hi0 : 128 * (i 0).val + (8 * k.val + 6) < 2304 := by omega
    have ha : trip1.sl.r_24 i arg2 k f2 = wordAt (arg2.view.read (Elt F) f2) 0 (128 * (i 0).val + (8 * k.val + 6)) h := by
      unfold trip1.sl.r_24; exact word_read _ _ 0 _ h _ ((k0_off31_eq i k).trans (by rw [← Nat.add_assoc]; rfl)) _ _
    have hb : trip1.sl.r_25 i arg1 k f1 = wordAt (arg1.view.read (Elt F) f1) 0 (128 * (i 0).val + (8 * k.val + 6)) h := by
      unfold trip1.sl.r_25; exact word_read _ _ 0 _ h _ ((k0_off31_eq i k).trans (by rw [← Nat.add_assoc]; rfl)) _ _
    have hc : trip1.sl.r_26 i arg2 k f2 = wordAt (arg2.view.read (Elt F) f2) 1 (128 * (i 0).val + (8 * k.val + 6)) h := by
      unfold trip1.sl.r_26; exact word_read _ _ 1 _ h _ ((k0_off33_eq i k).trans (by rw [← Nat.add_assoc]; rfl)) _ _
    have hd : trip1.sl.r_27 i arg1 k f1 = wordAt (arg1.view.read (Elt F) f1) 1 (128 * (i 0).val + (8 * k.val + 6)) h := by
      unfold trip1.sl.r_27; exact word_read _ _ 1 _ h _ ((k0_off33_eq i k).trans (by rw [← Nat.add_assoc]; rfl)) _ _
    exact tok_of ha (row_read _ _ _ _ _ rfl hb (hT _) _) hc (row_read _ _ _ _ _ rfl hd (hT _) _)
  clear y hy
  intro y hy
  refine (congrFun (View.read_writes_cons_put _ _ _ _ _ (k0_off30_eq k)) y).trans ?_
  refine put_row i _ _ _ _ (8 * k.val + 5) (by omega) _ rfl _ (fun h => ?_) ?_ y (by omega)
  · have hi0 : 128 * (i 0).val + (8 * k.val + 5) < 2304 := by omega
    have ha : trip1.sl.r_20 i arg2 k f2 = wordAt (arg2.view.read (Elt F) f2) 0 (128 * (i 0).val + (8 * k.val + 5)) h := by
      unfold trip1.sl.r_20; exact word_read _ _ 0 _ h _ ((k0_off26_eq i k).trans (by rw [← Nat.add_assoc]; rfl)) _ _
    have hb : trip1.sl.r_21 i arg1 k f1 = wordAt (arg1.view.read (Elt F) f1) 0 (128 * (i 0).val + (8 * k.val + 5)) h := by
      unfold trip1.sl.r_21; exact word_read _ _ 0 _ h _ ((k0_off26_eq i k).trans (by rw [← Nat.add_assoc]; rfl)) _ _
    have hc : trip1.sl.r_22 i arg2 k f2 = wordAt (arg2.view.read (Elt F) f2) 1 (128 * (i 0).val + (8 * k.val + 5)) h := by
      unfold trip1.sl.r_22; exact word_read _ _ 1 _ h _ ((k0_off28_eq i k).trans (by rw [← Nat.add_assoc]; rfl)) _ _
    have hd : trip1.sl.r_23 i arg1 k f1 = wordAt (arg1.view.read (Elt F) f1) 1 (128 * (i 0).val + (8 * k.val + 5)) h := by
      unfold trip1.sl.r_23; exact word_read _ _ 1 _ h _ ((k0_off28_eq i k).trans (by rw [← Nat.add_assoc]; rfl)) _ _
    exact tok_of ha (row_read _ _ _ _ _ rfl hb (hT _) _) hc (row_read _ _ _ _ _ rfl hd (hT _) _)
  clear y hy
  intro y hy
  refine (congrFun (View.read_writes_cons_put _ _ _ _ _ (k0_off25_eq k)) y).trans ?_
  refine put_row i _ _ _ _ (8 * k.val + 4) (by omega) _ rfl _ (fun h => ?_) ?_ y (by omega)
  · have hi0 : 128 * (i 0).val + (8 * k.val + 4) < 2304 := by omega
    have ha : trip1.sl.r_16 i arg2 k f2 = wordAt (arg2.view.read (Elt F) f2) 0 (128 * (i 0).val + (8 * k.val + 4)) h := by
      unfold trip1.sl.r_16; exact word_read _ _ 0 _ h _ ((k0_off21_eq i k).trans (by rw [← Nat.add_assoc]; rfl)) _ _
    have hb : trip1.sl.r_17 i arg1 k f1 = wordAt (arg1.view.read (Elt F) f1) 0 (128 * (i 0).val + (8 * k.val + 4)) h := by
      unfold trip1.sl.r_17; exact word_read _ _ 0 _ h _ ((k0_off21_eq i k).trans (by rw [← Nat.add_assoc]; rfl)) _ _
    have hc : trip1.sl.r_18 i arg2 k f2 = wordAt (arg2.view.read (Elt F) f2) 1 (128 * (i 0).val + (8 * k.val + 4)) h := by
      unfold trip1.sl.r_18; exact word_read _ _ 1 _ h _ ((k0_off23_eq i k).trans (by rw [← Nat.add_assoc]; rfl)) _ _
    have hd : trip1.sl.r_19 i arg1 k f1 = wordAt (arg1.view.read (Elt F) f1) 1 (128 * (i 0).val + (8 * k.val + 4)) h := by
      unfold trip1.sl.r_19; exact word_read _ _ 1 _ h _ ((k0_off23_eq i k).trans (by rw [← Nat.add_assoc]; rfl)) _ _
    exact tok_of ha (row_read _ _ _ _ _ rfl hb (hT _) _) hc (row_read _ _ _ _ _ rfl hd (hT _) _)
  clear y hy
  intro y hy
  refine (congrFun (View.read_writes_cons_put _ _ _ _ _ (k0_off20_eq k)) y).trans ?_
  refine put_row i _ _ _ _ (8 * k.val + 3) (by omega) _ rfl _ (fun h => ?_) ?_ y (by omega)
  · have hi0 : 128 * (i 0).val + (8 * k.val + 3) < 2304 := by omega
    have ha : trip1.sl.r_12 i arg2 k f2 = wordAt (arg2.view.read (Elt F) f2) 0 (128 * (i 0).val + (8 * k.val + 3)) h := by
      unfold trip1.sl.r_12; exact word_read _ _ 0 _ h _ ((k0_off16_eq i k).trans (by rw [← Nat.add_assoc]; rfl)) _ _
    have hb : trip1.sl.r_13 i arg1 k f1 = wordAt (arg1.view.read (Elt F) f1) 0 (128 * (i 0).val + (8 * k.val + 3)) h := by
      unfold trip1.sl.r_13; exact word_read _ _ 0 _ h _ ((k0_off16_eq i k).trans (by rw [← Nat.add_assoc]; rfl)) _ _
    have hc : trip1.sl.r_14 i arg2 k f2 = wordAt (arg2.view.read (Elt F) f2) 1 (128 * (i 0).val + (8 * k.val + 3)) h := by
      unfold trip1.sl.r_14; exact word_read _ _ 1 _ h _ ((k0_off18_eq i k).trans (by rw [← Nat.add_assoc]; rfl)) _ _
    have hd : trip1.sl.r_15 i arg1 k f1 = wordAt (arg1.view.read (Elt F) f1) 1 (128 * (i 0).val + (8 * k.val + 3)) h := by
      unfold trip1.sl.r_15; exact word_read _ _ 1 _ h _ ((k0_off18_eq i k).trans (by rw [← Nat.add_assoc]; rfl)) _ _
    exact tok_of ha (row_read _ _ _ _ _ rfl hb (hT _) _) hc (row_read _ _ _ _ _ rfl hd (hT _) _)
  clear y hy
  intro y hy
  refine (congrFun (View.read_writes_cons_put _ _ _ _ _ (k0_off15_eq k)) y).trans ?_
  refine put_row i _ _ _ _ (8 * k.val + 2) (by omega) _ rfl _ (fun h => ?_) ?_ y (by omega)
  · have hi0 : 128 * (i 0).val + (8 * k.val + 2) < 2304 := by omega
    have ha : trip1.sl.r_8 i arg2 k f2 = wordAt (arg2.view.read (Elt F) f2) 0 (128 * (i 0).val + (8 * k.val + 2)) h := by
      unfold trip1.sl.r_8; exact word_read _ _ 0 _ h _ ((k0_off11_eq i k).trans (by rw [← Nat.add_assoc]; rfl)) _ _
    have hb : trip1.sl.r_9 i arg1 k f1 = wordAt (arg1.view.read (Elt F) f1) 0 (128 * (i 0).val + (8 * k.val + 2)) h := by
      unfold trip1.sl.r_9; exact word_read _ _ 0 _ h _ ((k0_off11_eq i k).trans (by rw [← Nat.add_assoc]; rfl)) _ _
    have hc : trip1.sl.r_10 i arg2 k f2 = wordAt (arg2.view.read (Elt F) f2) 1 (128 * (i 0).val + (8 * k.val + 2)) h := by
      unfold trip1.sl.r_10; exact word_read _ _ 1 _ h _ ((k0_off13_eq i k).trans (by rw [← Nat.add_assoc]; rfl)) _ _
    have hd : trip1.sl.r_11 i arg1 k f1 = wordAt (arg1.view.read (Elt F) f1) 1 (128 * (i 0).val + (8 * k.val + 2)) h := by
      unfold trip1.sl.r_11; exact word_read _ _ 1 _ h _ ((k0_off13_eq i k).trans (by rw [← Nat.add_assoc]; rfl)) _ _
    exact tok_of ha (row_read _ _ _ _ _ rfl hb (hT _) _) hc (row_read _ _ _ _ _ rfl hd (hT _) _)
  clear y hy
  intro y hy
  refine (congrFun (View.read_writes_cons_put _ _ _ _ _ (k0_off10_eq k)) y).trans ?_
  refine put_row i _ _ _ _ (8 * k.val + 1) (by omega) _ rfl _ (fun h => ?_) ?_ y (by omega)
  · have hi0 : 128 * (i 0).val + (8 * k.val + 1) < 2304 := by omega
    have ha : trip1.sl.r_4 i arg2 k f2 = wordAt (arg2.view.read (Elt F) f2) 0 (128 * (i 0).val + (8 * k.val + 1)) h := by
      unfold trip1.sl.r_4; exact word_read _ _ 0 _ h _ ((k0_off6_eq i k).trans (by rw [← Nat.add_assoc]; rfl)) _ _
    have hb : trip1.sl.r_5 i arg1 k f1 = wordAt (arg1.view.read (Elt F) f1) 0 (128 * (i 0).val + (8 * k.val + 1)) h := by
      unfold trip1.sl.r_5; exact word_read _ _ 0 _ h _ ((k0_off6_eq i k).trans (by rw [← Nat.add_assoc]; rfl)) _ _
    have hc : trip1.sl.r_6 i arg2 k f2 = wordAt (arg2.view.read (Elt F) f2) 1 (128 * (i 0).val + (8 * k.val + 1)) h := by
      unfold trip1.sl.r_6; exact word_read _ _ 1 _ h _ ((k0_off8_eq i k).trans (by rw [← Nat.add_assoc]; rfl)) _ _
    have hd : trip1.sl.r_7 i arg1 k f1 = wordAt (arg1.view.read (Elt F) f1) 1 (128 * (i 0).val + (8 * k.val + 1)) h := by
      unfold trip1.sl.r_7; exact word_read _ _ 1 _ h _ ((k0_off8_eq i k).trans (by rw [← Nat.add_assoc]; rfl)) _ _
    exact tok_of ha (row_read _ _ _ _ _ rfl hb (hT _) _) hc (row_read _ _ _ _ _ rfl hd (hT _) _)
  clear y hy
  intro y hy
  refine (congrFun (View.read_writes_cons_put _ _ _ _ _ (k0_off5_eq k)) y).trans ?_
  refine put_row i _ _ _ _ (8 * k.val) (by omega) _ rfl _ (fun h => ?_) ?_ y (by omega)
  · have hi0 : 128 * (i 0).val + (8 * k.val) < 2304 := by omega
    have ha : trip1.sl.r i arg2 k f2 = wordAt (arg2.view.read (Elt F) f2) 0 (128 * (i 0).val + (8 * k.val)) h := by
      unfold trip1.sl.r; exact word_read _ _ 0 _ h _ ((k0_off1_eq i k).trans rfl) _ _
    have hb : trip1.sl.r_1 i arg1 k f1 = wordAt (arg1.view.read (Elt F) f1) 0 (128 * (i 0).val + (8 * k.val)) h := by
      unfold trip1.sl.r_1; exact word_read _ _ 0 _ h _ ((k0_off1_eq i k).trans rfl) _ _
    have hc : trip1.sl.r_2 i arg2 k f2 = wordAt (arg2.view.read (Elt F) f2) 1 (128 * (i 0).val + (8 * k.val)) h := by
      unfold trip1.sl.r_2; exact word_read _ _ 1 _ h _ ((k0_off3_eq i k).trans rfl) _ _
    have hd : trip1.sl.r_3 i arg1 k f1 = wordAt (arg1.view.read (Elt F) f1) 1 (128 * (i 0).val + (8 * k.val)) h := by
      unfold trip1.sl.r_3; exact word_read _ _ 1 _ h _ ((k0_off3_eq i k).trans rfl) _ _
    exact tok_of ha (row_read _ _ _ _ _ rfl hb (hT _) _) hc (row_read _ _ _ _ _ rfl hd (hT _) _)
  exact hP

/-- Loop 2: one trip. -/
theorem trip2 (c : Dev nD) (E : Set ℕ) (i : grid0.Coords) (arg1 : Memref sig .tc .smem S2x2304 .i32) (harg1 : arg1.IsWhole) (arg2 : Memref sig .tc .smem S2x2304 .f32) (harg2 : arg2.IsWhole) (arg3 : Memref sig .tc .vmem S4608x1024 .f32) (harg3 : arg3.IsWhole) (arg4 : Memref sig .tc .vmem S128x1024 .fp8e4m3) (harg4 : arg4.IsWhole) (arg5 : Memref sig .tc .vmem S1x128 .f32) (harg5 : arg5.IsWhole) (arg6 : Memref sig .tc .vmem S128x1024 .f32) (harg6 : arg6.IsWhole) (arg7 : Memref sig .tc .vmem S128x128 .f32) (harg7 : arg7.IsWhole)
    (X : Vec F S128x1024 .f32) (k : Fin k0_t2_loop.trips) :
    inv2 (F := F) c arg6 arg4 arg7 X k.val () ⊢ wp frame (wpE (defs₀ (F := F)) Variants.none c none) E
      (k0_t2_body (F := F) i arg1 harg1 arg2 harg2 arg3 harg3 arg4 harg4 arg5 harg5 arg6 harg6 arg7 harg7 k ()) (fun a => inv2 (F := F) c arg6 arg4 arg7 X (k.val + 1) a) := by
  have hk : k.val < 4 := k.isLt
  unfold inv2 owns k0_t2_body
  iintro ⟨⟨%f6, %e6, H6⟩, ⟨%C, %hC, %f4, %e4, H4⟩, %S, %hS, %f7, %e7, H7⟩
  subst e6 e4 e7
  sl_exec
  sl_step
  have hb : ∀ a, (![32 * k.val, 0] : Fin 2 → ℕ) a + (![32, 1024] : Fin 2 → ℕ) a ≤ S128x1024.size a := fun a => match a with
      | 0 => by show 32 * k.val + 32 ≤ 128; omega
      | 1 => by show 0 + 1024 ≤ 1024; omega
  isplitl [H6]
  · iexists _; isplitr; swap; · iexact H6
    ipureintro; rfl
  isplitl [H4]
  · iexists _; isplitr; swap
    · iexists _; isplitr; swap; · iexact H4
      ipureintro; rfl
    ipureintro
    intro y hy
    refine (congrFun (View.read_writes_cons_put _ _ _ _ [] (k0_off42_eq k)) y).trans ?_
    rw [View.readAt_unit _ _ _ (k0_off41_eq k) hb]
    refine put_step _ _ _ _ _ (fun y => (y 0).val < 32 * k.val) (fun y => (y 0).val < 32 * (k.val + 1)) ?_ hC ?_ y hy
    · intro y h
      have h0 : 32 * k.val ≤ (y 0).val ∧ (y 0).val < 32 * k.val + 32 := h 0
      obtain ⟨kv, hkv⟩ := k
      dsimp only at h0 hk
      obtain rfl : kv = (y 0).val / 32 := by omega
      unfold codes rowsX
      congr 1
      funext a
      match a with
      | 0 => apply Fin.ext; show (y 0).val - (32 * ((y 0).val / 32)) = (y 0).val % 32; omega
      | 1 => apply Fin.ext; show (y 1).val - 0 = (y 1).val; omega
    · intro y hy hn
      by_contra hc
      apply hn
      have h1 : (y 1).val < 1024 := (y 1).isLt
      intro a
      match a with
      | 0 => exact ⟨by show 32 * k.val ≤ (y 0).val; omega, by show (y 0).val < 32 * k.val + 32; omega⟩
      | 1 => exact ⟨Nat.zero_le _, by show (y 1).val < 0 + 1024; omega⟩
  · iexists _; isplitr; swap
    · iexists _; isplitr; swap; · iexact H7
      ipureintro; rfl
    ipureintro
    intro y hy
    refine (congrFun (View.read_writes_cons_put _ _ _ _ [] (k0_off43_eq k)) y).trans ?_
    rw [View.readAt_unit _ _ _ (k0_off41_eq k) hb]
    refine put_step _ _ _ _ _ (fun y => (y 0).val < 32 * k.val) (fun y => (y 0).val < 32 * (k.val + 1)) ?_ hS ?_ y hy
    · intro y h
      have h0 : 32 * k.val ≤ (y 0).val ∧ (y 0).val < 32 * k.val + 32 := h 0
      obtain ⟨kv, hkv⟩ := k
      dsimp only at h0 hk
      obtain rfl : kv = (y 0).val / 32 := by omega
      unfold scales rowsX
      congr 1
      funext a
      match a with
      | 0 => apply Fin.ext; show (y 0).val - (32 * ((y 0).val / 32)) = (y 0).val % 32; omega
      | 1 => apply Fin.ext; show (y 1).val - 0 = (y 1).val; omega
    · intro y hy hn
      by_contra hc
      apply hn
      have h1 : (y 1).val < 128 := (y 1).isLt
      intro a
      match a with
      | 0 => exact ⟨by show 32 * k.val ≤ (y 0).val; omega, by show (y 0).val < 32 * k.val + 32; omega⟩
      | 1 => exact ⟨Nat.zero_le _, by show (y 1).val < 0 + 128; omega⟩

/-! ## The body -/

/-- The body at a point: from the tables, whose words are below 4608, and `e`, it leaves the codes and the scales of its tile. -/
theorem body_point (c : Dev nD) (E : Set ℕ) (i : grid0.Coords) (arg1 : Memref sig .tc .smem S2x2304 .i32) (harg1 : arg1.IsWhole) (arg2 : Memref sig .tc .smem S2x2304 .f32) (harg2 : arg2.IsWhole) (arg3 : Memref sig .tc .vmem S4608x1024 .f32) (harg3 : arg3.IsWhole) (arg4 : Memref sig .tc .vmem S128x1024 .fp8e4m3) (harg4 : arg4.IsWhole) (arg5 : Memref sig .tc .vmem S1x128 .f32) (harg5 : arg5.IsWhole) (arg6 : Memref sig .tc .vmem S128x1024 .f32) (harg6 : arg6.IsWhole) (arg7 : Memref sig .tc .vmem S128x128 .f32) (harg7 : arg7.IsWhole)
    (T : Vec F S2x2304 .i32) (W : Vec F S2x2304 .f32) (X3 : Vec F S4608x1024 .f32) (hT : ∀ j, BitVec.toNat (w := 32) (T j) < 4608) (Q : PUnit → sProp 𝕄) :
    iprop(owns (c : Thread nD τ) arg1 fullShare T ∗ owns (c : Thread nD τ) arg2 fullShare W ∗ owns (c : Thread nD τ) arg3 fullShare X3
      ∗ (∃ d, owns (c : Thread nD τ) arg4 fullShare d) ∗ (∃ d, owns (c : Thread nD τ) arg5 fullShare d)
      ∗ (∃ d, owns (c : Thread nD τ) arg6 fullShare d) ∗ (∃ d, owns (c : Thread nD τ) arg7 fullShare d)
      ∗ (iprop(owns (c : Thread nD τ) arg1 fullShare T ∗ owns (c : Thread nD τ) arg2 fullShare W ∗ owns (c : Thread nD τ) arg3 fullShare X3
          ∗ owns (c : Thread nD τ) arg4 fullShare (codes (tile i T W X3)) ∗ owns (c : Thread nD τ) arg5 fullShare (k0_pay5 (sclCol (tile i T W X3)))
          ∗ (∃ d, owns (c : Thread nD τ) arg6 fullShare d) ∗ (∃ d, owns (c : Thread nD τ) arg7 fullShare d)) -∗ Q ⟨⟩))
    ⊢ wp frame (wpE (defs₀ (F := F)) Variants.none c none) E (cc0_combine (F := F) i arg1 harg1 arg2 harg2 arg3 harg3 arg4 harg4 arg5 harg5 arg6 harg6 arg7 harg7) Q := by
  rw [cc0_combine_eq_skeleton]
  unfold cc0_combine_skel
  unfold owns
  iintro ⟨⟨%f1, %e1, H1⟩, ⟨%f2, %e2, H2⟩, ⟨%f3, %e3, H3⟩, ⟨%d4, %f4, %e4, H4⟩, ⟨%d5, %f5, %e5, H5⟩, ⟨%d6, %f6, %e6, H6⟩, ⟨%d7, %f7, %e7, H7⟩, Hk⟩
  dsimp only
  sl_for (inv1 c i arg1 arg2 arg3 arg6 T W X3) $$ [H1 H2 H3 H6]
  case region => intro k _; dsimp only; exact trip1 c E i arg1 harg1 arg2 harg2 arg3 harg3 arg4 harg4 arg5 harg5 arg6 harg6 arg7 harg7 _ T W X3 hT k
  · unfold inv1 owns
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    iexists _; isplitr; swap
    · iexists _; isplitr; swap; · iexact H6
      ipureintro; rfl
    ipureintro
    intro y hy
    exact absurd hy (by omega)
  iintro %_ H
  unfold inv1
  icases H with ⟨H1, H2, H3, %P, %hP, H6⟩
  have eP : P = tile i T W X3 := funext fun y => hP y (y 0).isLt
  subst eP
  sl_for (inv2 c arg6 arg4 arg7 (tile i T W X3)) $$ [H6 H4 H7]
  case region => intro k _; dsimp only; exact trip2 c E i arg1 harg1 arg2 harg2 arg3 harg3 arg4 harg4 arg5 harg5 arg6 harg6 arg7 harg7 (tile i T W X3) k
  · unfold inv2
    isplitl [H6]
    · iexact H6
    isplitl [H4]
    · iexists _; isplitr; swap
      · unfold owns; iexists _; isplitr; swap; · iexact H4
        ipureintro; exact e4
      ipureintro
      intro y hy
      exact absurd hy (by omega)
    · iexists _; isplitr; swap
      · unfold owns; iexists _; isplitr; swap; · iexact H7
        ipureintro; exact e7
      ipureintro
      intro y hy
      exact absurd hy (by omega)
  iintro %_ H
  unfold inv2
  icases H with ⟨H6, ⟨%C, %hC, H4⟩, %S, %hS, H7⟩
  have eC : C = codes (tile i T W X3) := funext fun y => hC y (y 0).isLt
  have eS : S = scales (tile i T W X3) := funext fun y => hS y (y 0).isLt
  subst eC eS
  unfold owns
  icases H7 with ⟨%g7, %e7', H7⟩
  sl_exec
  sl_step
  iapply Hk
  have hq : View.readAt (Elt F) arg7.view (Rect.unit (s := S128x128) ![0, 0] S128x1.size inb_S128x128_S128x1_0_0).toLoadRect g7 = sclCol (tile i T W X3) := by
    rw [View.readAt_unit _ _ _ rfl inb_S128x128_S128x1_0_0, e7']; rfl
  isplitl [H1]
  · iexact H1
  isplitl [H2]
  · iexact H2
  isplitl [H3]
  · iexact H3
  isplitl [H4]
  · iexact H4
  isplitl [H5]
  · iexists _; isplitr; swap; · iexact H5
    ipureintro; exact (View.read_writes_full _ _ _ _ []).trans (congrArg k0_pay5 hq)
  isplitl [H6]
  · iexists _; iexact H6
  · iexists _; iexists _; isplitr; swap; · iexact H7
    ipureintro; rfl

end Cert.CombineIdeal.Hand

end

end
-- ==== Proof.CombIdealRun.lean ====
/-
  Hand-written, untrusted. The combining kernel over its whole grid, eighteen tiles of 128 tokens. No point reads what another left: the
  invariant of the pipeline owns the scratch buffers at any contents. The output windows are held to a predicate: the codes and the
  scales to what the body computes of the input blocks. Every point needs of its block of the table of rows that each word is below 4608;
  the last section gets it from the same of the argument.
-/
module

public import proofs.«01_k».proof.Proof.CombIdealBody
public import Idealize.ShloMosaic.Lib.Pipeline.DatRel
public import Idealize.ShloMosaic.Lib.Pipeline.ArrRel
public import Idealize.ShloMosaic.Lib.Pipeline.ValueKit
public import Idealize.ShloMosaic.Lib.Pointwise
public import Idealize.ShloMosaic.Lib.Claim

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data -/

/-- The output windows are held to a predicate, the input windows named exactly. -/
def fgt : Fin cfg0.W → Bool := fun w => decide (3 ≤ w.val)

/-- What a point leaves in an output window. -/
def Rl (c : Dev nD) : (w : Fin cfg0.W) → Fin cfg0.N → ((cfg0.win w).block.Idx → Elt F (cfg0.win w).elt) → Prop
  | ⟨3, _⟩ => fun t X => X = codes (tile (grid0.coords t) (iblk m c 0 t) (iblk m c 1 t) (iblk m c 2 t))
  | ⟨4, _⟩ => fun t X => X = k0_pay5 (sclCol (tile (grid0.coords t) (iblk m c 0 t) (iblk m c 1 t) (iblk m c 2 t)))
  | _ => fun _ _ => True

/-- The invariant before any point: the scratch buffers at some contents, the generator register at some state. -/
def Phi (c : Dev nD) : sProp 𝕄 :=
  iprop(((∃ d, owns (c : Thread nD τ) (Memref.whole cc0_scratch0) fullShare d) ∗ (∃ d, owns (c : Thread nD τ) (Memref.whole cc0_scratch1) fullShare d))
    ∗ ∃ r, prngReg c r)

/-- The proof data: the arrays as the region finds them, the input windows at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | w => Pipeline.Dat.unnamed (cfg := cfg0) w t
  Φ t := Phi c
  q _ := fullShare
  owed _ := 0

/-- The same, the output windows held to `Rl`. -/
abbrev rdat (c : Dev nD) : RDat τ (Elt F) Unit ℕ (UR sig nD τ) ℕ cfg0 c := (dats m 0 c).toRRel fgt (Rl m c)

theorem A_eq (c : Dev nD) (w : Fin cfg0.W) : (dats m 0 c).A w = V m c (Pipeline.arrRef spec0 w) := by dsimp only [dats]
theorem bef0 (c : Dev nD) (t : Fin cfg0.N) (d) : (dats m 0 c).before 0 t d = iblk m c 0 t := before0_0_of m (dats m 0 c) rfl (fun _ => rfl) t d
theorem bef1 (c : Dev nD) (t : Fin cfg0.N) (d) : (dats m 0 c).before 1 t d = iblk m c 1 t := before0_1_of m (dats m 0 c) rfl (fun _ => rfl) t d
theorem bef2 (c : Dev nD) (t : Fin cfg0.N) (d) : (dats m 0 c).before 2 t d = iblk m c 2 t := before0_2_of m (dats m 0 c) rfl (fun _ => rfl) t d

/-! ## The body at a point -/

/-- Every word of every block of the table of rows is below 4608. -/
def RowsOk : Prop := ∀ (c : Dev nD) (t : Fin cfg0.N) (j : S2x2304.Idx), BitVec.toNat (w := 32) (iblk m c 0 t j) < 4608

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d))
    ∗ (∃ Y, ⌜(rdat m c).Finds 3 t Y⌝ ∗ owns (c : Thread nD τ) (st0_3 t) fullShare Y) ∗ (∃ Y, ⌜(rdat m c).Finds 4 t Y⌝ ∗ owns (c : Thread nD τ) (st0_4 t) fullShare Y))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t)
    ∗ (∃ X, ⌜Rl m c 3 t X⌝ ∗ owns (c : Thread nD τ) (st0_3 t) fullShare X) ∗ (∃ X, ⌜Rl m c 4 t X⌝ ∗ owns (c : Thread nD τ) (st0_4 t) fullShare X))

set_option maxHeartbeats 1000000 in
theorem sound_body (hrow : RowsOk m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Phi c from rfl, show (dats m 0 c).Φ t.succ = Phi c from rfl]
  unfold Phi
  simp only [bef0, bef1, bef2]
  simp only [show (dats m 0 c).after 0 t = iblk m c 0 t from rfl, show (dats m 0 c).after 1 t = iblk m c 1 t from rfl, show (dats m 0 c).after 2 t = iblk m c 2 t from rfl]
  iintro ⟨⟨⟨HS0, HS1⟩, Hg⟩, HO, ⟨%d0, H0⟩, ⟨%d1, H1⟩, ⟨%d2, H2⟩, ⟨%Y3, -, H3⟩, ⟨%Y4, -, H4⟩⟩
  iapply (body_point c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole cc0_scratch0) (Memref.isWhole_whole _) (Memref.whole cc0_scratch1) (Memref.isWhole_whole _)
    (iblk m c 0 t) (iblk m c 1 t) (iblk m c 2 t) (hrow c t) _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]; · iexact HS0
      iexact HS1
    iexact Hg
  isplitl [HO]; · iexact HO
  isplitl [H0]; · iexact H0
  isplitl [H1]; · iexact H1
  isplitl [H2]; · iexact H2
  isplitl [H3]
  · iexists (codes (tile (grid0.coords t) (iblk m c 0 t) (iblk m c 1 t) (iblk m c 2 t))); isplitr; · ipureintro; exact rfl
    iexact H3
  · iexists (k0_pay5 (sclCol (tile (grid0.coords t) (iblk m c 0 t) (iblk m c 1 t) (iblk m c 2 t)))); isplitr; · ipureintro; exact rfl
    iexact H4

theorem defs₀_row (t : Fin cfg0.N) : defs₀ (F := F) .tc cfg0.body (cfg0.bodyArgs t (cfg0.slots t)) = bodyAt0 t := by
  unfold defs₀; rw [Defs.onTc_tc]

theorem body_obligation (hrow : RowsOk m) (c : Dev nD) :
    BodyObligationRel (dats (F := F) m 0 c) (defs₀ (F := F)) Variants.none () Set.univ fgt (Rl m c) := fun t => by
  rw [bigSep_W0, bigSep_W0, defs₀_row]
  exact triple_restated (sound_body m hrow c t) rfl .rfl fun _ => .rfl

/-! ## The launch -/

theorem Phi_in (c : Dev nD) : Pipeline.ΦA spec0 c ⊢ (dats (F := F) m 0 c).Φ 0 := by
  show _ ⊢ Phi c
  unfold Pipeline.ΦA Phi
  rw [scopedRest0_eq]
  simp only [owns_whole]
  exact .rfl

theorem Phi_out (c : Dev nD) : (dats (F := F) m 0 c).Φ (Fin.last cfg0.N) ⊢ Pipeline.ΦA spec0 c := by
  show Phi c ⊢ _
  unfold Pipeline.ΦA Phi
  rw [scopedRest0_eq]
  simp only [owns_whole]
  exact .rfl

-- the launch theorem's implicit arguments are found by unifying its conclusion with this statement, which unifies only when
-- unification may unfold plain definitions in a metavariable's type
set_option backward.isDefEq.respectTransparency.types false in
set_option maxHeartbeats 800000 in
/-- The launch at any proof data: stated apart, so that the invariant of the data at hand is not unfolded. -/
theorem run_of (dat : (c : Dev nD) → Dat τ (Elt F) Unit ℕ (UR sig nD τ) ℕ cfg0 c) (fg : Fin cfg0.W → Bool)
    (R : (c : Dev nD) → (w : Fin cfg0.W) → Fin cfg0.N → ((cfg0.win w).block.Idx → Elt F (cfg0.win w).elt) → Prop)
    (hbody : ∀ c, BodyObligationRel (dat c) (defs₀ (F := F)) Variants.none () Set.univ fg (R c))
    (hshare : ∀ c w, (dat c).share w = fullShare) (howed : ∀ c t, (dat c).owed t = 0)
    (hA : ∀ c w, (dat c).A w = V m c (Pipeline.arrRef spec0 w))
    (hin : ∀ c, Pipeline.ΦA spec0 c ⊢ (dat c).Φ 0) (hout : ∀ c, (dat c).Φ (Fin.last cfg0.N) ⊢ Pipeline.ΦA spec0 c) :
    θ_run defs (onTc (τ := τ) (main (F := F))) (s₀ m ρ)
      (fun r => RDat.FramePost (cfgs 0) (fun c => (dat c).toRRel fg (R c)) (V m) r ∧ r.2.sem = fun _ => 0) :=
  RDat.θ_run_frame_track (Q' := _) cfgs (0 : Fin 1) launch0 defs₀ Variants.none (fun c => (dat c).toRRel fg (R c)) m ρ main
    (fun c => (hbody c).toRRel) hshare howed (V := V m) (hmain := hmain m Variants.none) hA hin hout

theorem run_main (hrow : RowsOk m) :
    θ_run defs (onTc (τ := τ) (main (F := F))) (s₀ m ρ)
      (fun r => RDat.FramePost (cfgs 0) (fun c => rdat m c) (V m) r ∧ r.2.sem = fun _ => 0) :=
  run_of m ρ (fun c => dats m 0 c) fgt (Rl m) (body_obligation m hrow) (fun c => (dats m 0 c).share_full fun _ => rfl) (fun _ _ => rfl) (A_eq m)
    (Phi_in m) (Phi_out m)

/-! ## The table's words -/

theorem ix0_0 : ∀ t : Fin cfg0.N, win0_0.index t = ![0, 0] := by decide +kernel

theorem blk0 (c : Dev nD) (t : Fin cfg0.N) (r : Fin 2) (k : Fin 2304) : iblk m c 0 t (ix2 r k) = V m c main_v0 (ix2 r k) := by
  unfold iblk
  show V m c main_v0 (((cfg0.win 0).blk t).view.emb (ix2 r k)) = _
  congr 1
  funext a
  apply Fin.ext
  match a with
  | ⟨0, _⟩ => blk_simp [ix0_0]
  | ⟨1, _⟩ => blk_simp [ix0_0]

theorem V_main_v0 (c : Dev nD) (r : Fin 2) (k : Fin 2304) : V m c main_v0 (ix2 r k) = m ((c : Thread nD τ).loc main_arg0) (ix2 k r) := by
  unfold V
  simp only [hostOps0, List.flatten_cons, List.flatten_nil, List.append_nil, List.cons_append, List.nil_append]
  entry_read
  pointwise

/-- The blocks' words are the argument's. -/
theorem rows_ok (h : ∀ (c : Dev nD) (j : S2304x2.Idx), BitVec.toNat (w := 32) (m ((c : Thread nD τ).loc main_arg0) j) < 4608) : RowsOk m := by
  intro c t j
  have e : iblk m c 0 t j = m ((c : Thread nD τ).loc main_arg0) (ix2 (j 1) (j 0)) := by
    rw [eq_ix2 j]
    exact (blk0 m c t (j 0) (j 1)).trans (V_main_v0 m c (j 0) (j 1))
  rw [e]
  exact h c _

variable {m ρ}

/-- The arguments are as launched. -/
def ArgsKept (m : (ℓ : Loc nD τ sig) → Buf (Elt F) ℓ) (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

theorem args_kept {r : PUnit × MemSt nD τ sig (Elt F)} (h : RDat.FramePost (cfgs 0) (fun c => rdat m c) (V m) r) (c : Dev nD) : ArgsKept m r c :=
  ⟨(h c).2 main_arg0 (Pipeline.mem_restRefs_of main_arg0 (by decide) (by decide)) |>.trans (V_main_arg0 m c),
    (h c).2 main_arg1 (Pipeline.mem_restRefs_of main_arg1 (by decide) (by decide)) |>.trans (V_main_arg1 m c),
    (RDat.FramePost.arr_in h c 2 rfl).trans (V_main_arg2 m c)⟩

end Cert.CombineIdeal.Hand

end

end
-- ==== Proof.CombSpec.lean ====
/-
  Hand-written, untrusted. The mathematics of combining the experts' rows over the extended reals, free of either program: a token's row is
  the weighted sum of the two rows that its words name.
-/
module

public import proofs.«01_k».proof.Proof.InSpec
public import Idealize.ShloMosaic.Lib.Pointwise

@[expose] public section

noncomputable section

namespace Cert.Spec

open Idealize.ShloMosaic

variable (T : (⟨2, ![2304, 2]⟩ : Shape).Idx → BitVec 32) (W : (⟨2, ![2304, 2]⟩ : Shape).Idx → EReal) (E : (⟨2, ![4608, 1024]⟩ : Shape).Idx → EReal)

/-- The row that word `s` of token `i` names, taken modulo the number of rows so that it is defined of every word. -/
def rowOf (i : Fin 2304) (s : Fin 2) : Fin 4608 := ⟨(T (ix2 i s)).toNat % 4608, Nat.mod_lt _ (by decide)⟩

/-- Entry `k` of token `i`'s row. -/
def comb (i : Fin 2304) (k : Fin 1024) : EReal := W (ix2 i 0) * E (ix2 (rowOf T i 0) k) + W (ix2 i 1) * E (ix2 (rowOf T i 1) k)

/-- The scale of token `i`'s row. -/
def combScale (i : Fin 2304) : EReal := scale (absSup (comb T W E i))

/-- The codes of token `i`'s row. -/
def combCode (i : Fin 2304) (k : Fin 1024) : EReal := code (comb T W E i k) (combScale T W E i)

end Cert.Spec

end

end
-- ==== Proof.CombIdealValue.lean ====
/-
  Hand-written, untrusted. What the two output arrays of the combining kernel hold after the run, element by element: token `i` belongs to
  the `i / 128`-th tile of 128 tokens, and each is then read in terms of the arguments, over the extended reals.
-/
module

public import proofs.«01_k».proof.Proof.CombIdealRun
public import proofs.«01_k».proof.Proof.CombSpec

@[expose] public section

set_option maxRecDepth 16384

noncomputable section

namespace Cert.CombineIdeal.Hand

open Cert.CombineIdeal Cert.CombineIdeal.Gen Cert.Spec
open Idealize.ShloMosaic Idealize.ShloMosaic.TcCoe Idealize.ShloMosaic.Tactic
open Idealize.SL Idealize.SL.RA Idealize.SL.BI Idealize.SL.Sem
open Idealize.ShloMosaic.Pipeline (Dat RDat)

section Arrays

variable {F : FTy → Type} [FloatOps F] [Named F]

variable (m : (ℓ : Loc nD τ sig) → Buf (Elt F) ℓ)

/-! ## The blocks' places -/

theorem ix0_1 : ∀ t : Fin cfg0.N, win0_1.index t = ![0, 0] := by decide +kernel
theorem ix0_2 : ∀ t : Fin cfg0.N, win0_2.index t = ![0, 0] := by decide +kernel
theorem ix0_3 : ∀ t : Fin cfg0.N, win0_3.index t = ![t.val, 0] := by decide +kernel
theorem ix0_4 : ∀ t : Fin cfg0.N, win0_4.index t = ![0, t.val] := by decide +kernel
theorem eighteen : cfg0.N = 18 := by decide +kernel
theorem coord0 : ∀ t : Fin cfg0.N, ((grid0.coords t) 0).val = t.val := by decide +kernel

/-- The point of tile `n`. -/
def pt (n : ℕ) : Fin cfg0.N := ⟨n % 18, Nat.lt_of_lt_of_eq (Nat.mod_lt _ (by decide)) eighteen.symm⟩

theorem pt_val (t : Fin cfg0.N) : pt t.val = t := by
  have := Nat.lt_of_lt_of_eq t.isLt eighteen
  apply Fin.ext
  show t.val % 18 = t.val
  omega

/-! ## The arrays -/

/-- A point's tile of weighted sums. -/
def tileB (c : Dev nD) (t : Fin cfg0.N) : Vec F S128x1024 .f32 := tile (grid0.coords t) (iblk m c 0 t) (iblk m c 1 t) (iblk m c 2 t)

/-- The codes. -/
def codA (c : Dev nD) : Vec F S2304x1024 .fp8e4m3 := fun y =>
  (codes (tileB m c (pt ((y 0).val / 128))) : Vec F S128x1024 .fp8e4m3) (ix2 (n0 := 128) (n1 := 1024) ⟨(y 0).val % 128, Nat.mod_lt _ (by decide)⟩ (y 1))

/-- The scales. -/
def sclA (c : Dev nD) : Vec F S1x2304 .f32 := fun y =>
  (k0_pay5 (sclCol (tileB m c (pt ((y 1).val / 128)))) : Vec F S1x128 .f32) (ix2 (n0 := 1) (n1 := 128) (y 0) ⟨(y 1).val % 128, Nat.mod_lt _ (by decide)⟩)

theorem codA_at (c : Dev nD) (z : S2304x1024.Idx) (t : Fin cfg0.N) (y : S128x1024.Idx) (e0 : (z 0).val = t.val * 128 + (y 0).val)
    (e1 : (z 1).val = (y 1).val) : codA m c z = (codes (tileB m c t) : Vec F S128x1024 .fp8e4m3) y := by
  have y0 : (y 0).val < 128 := (y 0).isLt
  have hp : pt ((z 0).val / 128) = t := by
    refine Eq.trans (congrArg pt ?_) (pt_val t)
    omega
  unfold codA
  rw [hp]
  congr 1
  funext a
  match a with
  | ⟨0, _⟩ => apply Fin.ext; show (z 0).val % 128 = (y 0).val; omega
  | ⟨1, _⟩ => apply Fin.ext; exact e1

theorem sclA_at (c : Dev nD) (z : S1x2304.Idx) (t : Fin cfg0.N) (y : S1x128.Idx) (e0 : (z 0).val = (y 0).val)
    (e1 : (z 1).val = t.val * 128 + (y 1).val) : sclA m c z = (k0_pay5 (sclCol (tileB m c t)) : Vec F S1x128 .f32) y := by
  have y1 : (y 1).val < 128 := (y 1).isLt
  have hp : pt ((z 1).val / 128) = t := by
    refine Eq.trans (congrArg pt ?_) (pt_val t)
    omega
  unfold sclA
  rw [hp]
  congr 1
  funext a
  match a with
  | ⟨0, _⟩ => apply Fin.ext; exact e0
  | ⟨1, _⟩ => apply Fin.ext; show (z 1).val % 128 = (y 1).val; omega

variable {m}

theorem final3 {r : PUnit × MemSt nD τ sig (Elt F)} (h : RDat.FramePost (cfgs 0) (fun c => rdat m c) (V m) r) (c : Dev nD) :
    r.2.mem ((c.tc : Thread nD τ).loc main_v2_0) = codA m c := by
  obtain ⟨after, hL, hA⟩ := RDat.FramePost.exists_exact h c
  refine (hA 3).trans ?_
  refine Dat.arrAt_eq_of_covers (cfg := cfg0) (c := c) ((rdat m c).withAfter after) 3 (codA m c) (by decide +kernel) (fun t hf y => ?_) (Memref.isWhole_whole _)
  have e : after 3 t = (codes (tileB m c t) : Vec F S128x1024 .fp8e4m3) := (dats m 0 c).toRRel_leaves (fgt := fgt) (Rl := Rl m c) (w := 3) rfl (hL 3 t hf)
  have e0 : (((cfg0.win 3).blk t).view.emb y 0).val = t.val * 128 + (y 0).val := by blk_simp [ix0_3]
  have e1 : (((cfg0.win 3).blk t).view.emb y 1).val = (y 1).val := by blk_simp [ix0_3]
  refine (show _ = after 3 t y from rfl).trans ?_
  rw [e]
  exact (codA_at m c _ t y e0 e1).symm

theorem final4 {r : PUnit × MemSt nD τ sig (Elt F)} (h : RDat.FramePost (cfgs 0) (fun c => rdat m c) (V m) r) (c : Dev nD) :
    r.2.mem ((c.tc : Thread nD τ).loc main_v2_1) = sclA m c := by
  obtain ⟨after, hL, hA⟩ := RDat.FramePost.exists_exact h c
  refine (hA 4).trans ?_
  refine Dat.arrAt_eq_of_covers (cfg := cfg0) (c := c) ((rdat m c).withAfter after) 4 (sclA m c) (by decide +kernel) (fun t hf y => ?_) (Memref.isWhole_whole _)
  have e : after 4 t = (k0_pay5 (sclCol (tileB m c t)) : Vec F S1x128 .f32) := (dats m 0 c).toRRel_leaves (fgt := fgt) (Rl := Rl m c) (w := 4) rfl (hL 4 t hf)
  have e0 : (((cfg0.win 4).blk t).view.emb y 0).val = (y 0).val := by blk_simp [ix0_4]
  have e1 : (((cfg0.win 4).blk t).view.emb y 1).val = t.val * 128 + (y 1).val := by blk_simp [ix0_4]
  refine (show _ = after 4 t y from rfl).trans ?_
  rw [e]
  exact (sclA_at m c _ t y e0 e1).symm

/-! ## The input blocks -/

variable (m)

theorem blk1 (c : Dev nD) (t : Fin cfg0.N) (r : Fin 2) (k : Fin 2304) : iblk m c 1 t (ix2 r k) = V m c main_v1 (ix2 r k) := by
  unfold iblk
  show V m c main_v1 (((cfg0.win 1).blk t).view.emb (ix2 r k)) = _
  congr 1
  funext a
  apply Fin.ext
  match a with
  | ⟨0, _⟩ => blk_simp [ix0_1]
  | ⟨1, _⟩ => blk_simp [ix0_1]

theorem blk2 (c : Dev nD) (t : Fin cfg0.N) (r : Fin 4608) (k : Fin 1024) : iblk m c 2 t (ix2 r k) = V m c main_arg2 (ix2 r k) := by
  unfold iblk
  show V m c main_arg2 (((cfg0.win 2).blk t).view.emb (ix2 r k)) = _
  congr 1
  funext a
  apply Fin.ext
  match a with
  | ⟨0, _⟩ => blk_simp [ix0_2]
  | ⟨1, _⟩ => blk_simp [ix0_2]

theorem V_main_v1 (c : Dev nD) (r : Fin 2) (k : Fin 2304) : V m c main_v1 (ix2 r k) = m ((c : Thread nD τ).loc main_arg1) (ix2 k r) := by
  unfold V
  simp only [hostOps0, List.flatten_cons, List.flatten_nil, List.append_nil, List.cons_append, List.nil_append]
  entry_read
  pointwise

end Arrays

/-! ## The tile over the extended reals -/

theorem pay6_apply (a b : EReal) (x y : Vec Ideal S1x1024 .f32) (u : Fin 1) (k : Fin 1024) :
    k0_pay6 (F := Ideal) a x b y (ix2 u k) = (a * x (ix2 u k) + b * y (ix2 u k) : EReal) := by
  pointwise [k0_pay6]

/-- The tile's rows are the tokens' weighted sums. -/
theorem tile_apply (i : grid0.Coords) (T : Vec Ideal S2x2304 .i32) (W : Vec Ideal S2x2304 .f32) (E : Vec Ideal S4608x1024 .f32)
    (T' : S2304x2.Idx → BitVec 32) (W' : S2304x2.Idx → EReal) (E' : S4608x1024.Idx → EReal)
    (hT : ∀ s n, T (ix2 s n) = T' (ix2 n s)) (hW : ∀ s n, W (ix2 s n) = W' (ix2 n s)) (hE : ∀ n k, E (ix2 n k) = E' (ix2 n k))
    (r : Fin 128) (k : Fin 1024) (n : Fin 2304) (hn : n.val = (i 0).val * 128 + r.val) :
    tile (F := Ideal) i T W E (ix2 r k) = comb T' W' E' n k := by
  have hw : ∀ (α : Type) (X : S2x2304.Idx → α) (s : Fin 2) (h : 128 * (i 0).val + r.val < 2304), wordAt X s (128 * (i 0).val + r.val) h = X (ix2 s n) := by
    intro α X s h
    unfold wordAt
    congr 1
    funext a
    match a with
    | ⟨0, _⟩ => rfl
    | ⟨1, _⟩ => exact Fin.ext (by show 128 * (i 0).val + r.val = n.val; omega)
  have hr : ∀ w : ℕ, rowE (F := Ideal) E w (ix2 0 k) = E (ix2 ⟨w % 4608, Nat.mod_lt _ (by decide)⟩ k) := by
    intro w
    unfold rowE
    congr 1
    funext a
    match a with
    | ⟨0, _⟩ => rfl
    | ⟨1, _⟩ => rfl
  have h' : 128 * (i 0).val + r.val < 2304 := by omega
  have e : tile (F := Ideal) i T W E (ix2 r k) = tokRow (F := Ideal) T W E (128 * (i 0).val + r.val) h' (ix2 0 k) := by
    unfold tile
    congr 1
    funext a
    match a with
    | ⟨0, _⟩ => rfl
    | ⟨1, _⟩ => rfl
  rw [e]
  unfold tokRow
  rw [hw, hw, hw, hw, hT, hT, hW, hW]
  refine (pay6_apply _ _ _ _ 0 k).trans ?_
  rw [hr, hr, hE, hE]
  rfl

/-! ## The scales and the codes -/

/-- The scales, from the rows' greatest magnitudes. -/
def kScl (M : FVec Ideal S32 .f32) : FVec Ideal S32x1 .f32 :=
  select (cmpf .oeq (shapeCast S32x1 M shapeCasts_S32_S32x1) (broadcast S32x1 (Scalar.ofBits .f32 0x00000000#32))) (broadcast S32x1 (Scalar.ofBits .f32 0x3F800000#32))
    (mulf (shapeCast S32x1 M shapeCasts_S32_S32x1) (broadcast S32x1 (Named.named (F := Ideal) κ "inv_fp8_max" 0x3B124925#32)))

theorem kScl_apply (M : FVec Ideal S32 .f32) (r : Fin 32) (u : Fin 1) : kScl M (ix2 r u) = scale (M (ix1 r)) := by
  have hk : (Named.named (F := Ideal) κ "inv_fp8_max" 0x3B124925#32 : Ideal .f32) = ((1 / 448 : ℝ) : EReal) :=
    IdealRules.named_const.ideal_named_scalar _ _ _ _ rfl
  rw [← scale_mul]
  unfold kScl
  rw [hk]
  generalize ((1 / 448 : ℝ) : EReal) = k
  pointwise

theorem pay2_apply (w : Vec Ideal S32x1024 .f32) (r : Fin 32) (u : Fin 1) :
    k0_pay2 (F := Ideal) w (ix2 r u) = scale (absSup fun k : Fin 1024 => (w (ix2 r k) : EReal)) := by
  have e := rowAbsSup_apply reduces_S32x1024_S32 (.inl rfl) rfl w r
  rw [← e]
  unfold k0_pay2
  exact kScl_apply _ r u

theorem cod_gen (X : FVec Ideal S32x1024 .f32) (s : FVec Ideal S32x1 .f32) (r : Fin 32) (k : Fin 1024) :
    truncf (F := Ideal) .fp8e4m3 (minimumf (broadcast S32x1024 (Scalar.ofBits .f32 0x43E00000#32)) (maximumf (broadcast S32x1024 (Scalar.ofBits .f32 0xC3E00000#32))
      (mulf X (broadcastTo S32x1024 (divf (broadcast S32x1 (Scalar.ofBits .f32 0x3F800000#32)) s) broadcasts_S32x1_S32x1024)))) bitsLt_fp8e4m3_f32 (ix2 r k)
      = min ((448 : ℝ) : EReal) (max ((-448 : ℝ) : EReal) (X (ix2 r k) * Ideal.div 1 (s (ix2 r 0)))) := by
  rw [← lit_448, ← lit_neg448]
  pointwise

theorem pay3_apply (w : Vec Ideal S32x1024 .f32) (r : Fin 32) (k : Fin 1024) :
    k0_pay3 (F := Ideal) w (ix2 r k) = code (w (ix2 r k)) (scale (absSup fun k : Fin 1024 => (w (ix2 r k) : EReal))) := by
  rw [← code_recip, ← pay2_apply w r 0]
  unfold k0_pay3
  exact cod_gen _ _ r k

theorem pay4_apply (w : Vec Ideal S32x1024 .f32) (r : Fin 32) (l : Fin 128) :
    k0_pay4 (F := Ideal) w (ix2 r l) = k0_pay2 (F := Ideal) w (ix2 r 0) := by
  have gen : ∀ X : FVec Ideal S32x1 .f32,
      shapeCast S32x128 (broadcastTo S32x128 (shapeCast S32x1 X shapeCasts_S32x1_S32x1) broadcasts_S32x1_S32x128) shapeCasts_S32x128_S32x128 (ix2 r l) = X (ix2 r 0) := by
    intro X; pointwise
  unfold k0_pay4
  exact gen _

theorem pay5_apply (Q : Vec Ideal S128x1 .f32) (u : Fin 1) (r : Fin 128) : k0_pay5 (F := Ideal) Q (ix2 u r) = Q (ix2 r 0) := by
  pointwise [k0_pay5]

theorem rowsX_apply (X : Vec Ideal S128x1024 .f32) (r : Fin 128) (k : Fin 1024) :
    rowsX (F := Ideal) X (32 * (r.val / 32)) (by omega) (ix2 ⟨r.val % 32, Nat.mod_lt _ (by decide)⟩ k) = X (ix2 r k) := by
  unfold rowsX VecWindow.window
  congr 1
  funext a
  match a with
  | ⟨0, _⟩ => exact Fin.ext ((ValueKit.rect_emb_unit_val _ _ _ _ _).trans (by show 32 * (r.val / 32) + r.val % 32 = r.val; omega))
  | ⟨1, _⟩ => exact Fin.ext ((ValueKit.rect_emb_unit_val _ _ _ _ _).trans (Nat.zero_add k.val))

theorem codes_apply (X : Vec Ideal S128x1024 .f32) (r : Fin 128) (k : Fin 1024) :
    codes (F := Ideal) X (ix2 r k) = code (X (ix2 r k)) (scale (absSup fun k : Fin 1024 => (X (ix2 r k) : EReal))) := by
  have e : codes (F := Ideal) X (ix2 r k) = k0_pay3 (F := Ideal) (rowsX (F := Ideal) X (32 * (r.val / 32)) (by omega)) (ix2 ⟨r.val % 32, Nat.mod_lt _ (by decide)⟩ k) := by
    unfold codes
    dsimp only
    congr 1
    funext a
    match a with
    | ⟨0, _⟩ => rfl
    | ⟨1, _⟩ => rfl
  rw [e, pay3_apply]
  simp only [rowsX_apply]

theorem scales_apply (X : Vec Ideal S128x1024 .f32) (r : Fin 128) (l : Fin 128) :
    scales (F := Ideal) X (ix2 r l) = scale (absSup fun k : Fin 1024 => (X (ix2 r k) : EReal)) := by
  have e : scales (F := Ideal) X (ix2 r l) = k0_pay4 (F := Ideal) (rowsX (F := Ideal) X (32 * (r.val / 32)) (by omega)) (ix2 ⟨r.val % 32, Nat.mod_lt _ (by decide)⟩ l) := by
    unfold scales
    dsimp only
    congr 1
    funext a
    match a with
    | ⟨0, _⟩ => rfl
    | ⟨1, _⟩ => rfl
  rw [e, pay4_apply, pay2_apply]
  simp only [rowsX_apply]

theorem sclCol_apply (X : Vec Ideal S128x1024 .f32) (r : Fin 128) (u : Fin 1) :
    sclCol (F := Ideal) X (ix2 r u) = scale (absSup fun k : Fin 1024 => (X (ix2 r k) : EReal)) := by
  refine Eq.trans ?_ (scales_apply X r 0)
  unfold sclCol VecWindow.window
  congr 1
  funext a
  match a with
  | ⟨0, _⟩ => exact Fin.ext ((ValueKit.rect_emb_unit_val _ _ _ _ _).trans (Nat.zero_add r.val))
  | ⟨1, _⟩ => exact Fin.ext ((ValueKit.rect_emb_unit_val _ _ _ _ _).trans (by show 0 + u.val = 0; omega))

/-! ## The arrays in terms of the arguments -/

variable (m : (ℓ : Loc nD τ sig) → Buf (Elt Ideal) ℓ)

theorem tileB_apply (c : Dev nD) (t : Fin cfg0.N) (r : Fin 128) (k : Fin 1024) (n : Fin 2304) (hn : n.val = t.val * 128 + r.val) :
    tileB m c t (ix2 r k)
      = comb (m ((c : Thread nD τ).loc main_arg0)) (m ((c : Thread nD τ).loc main_arg1)) (m ((c : Thread nD τ).loc main_arg2)) n k := by
  unfold tileB
  refine tile_apply _ _ _ _ _ _ _ (fun s n => ?_) (fun s n => ?_) (fun n k => ?_) r k n (by rw [coord0]; exact hn)
  · exact (blk0 m c t s n).trans (V_main_v0 m c s n)
  · exact (blk1 m c t s n).trans (V_main_v1 m c s n)
  · exact (blk2 m c t n k).trans (congrFun (V_main_arg2 m c) _)

/-- A token's point. -/
theorem pt_row (i : Fin 2304) : i.val = (pt (i.val / 128)).val * 128 + i.val % 128 := by
  show i.val = (i.val / 128 % 18) * 128 + i.val % 128
  omega

theorem codA_apply (c : Dev nD) (i : Fin 2304) (k : Fin 1024) :
    codA m c (ix2 i k) = combCode (m ((c : Thread nD τ).loc main_arg0)) (m ((c : Thread nD τ).loc main_arg1)) (m ((c : Thread nD τ).loc main_arg2)) i k := by
  refine (codA_at m c (ix2 i k) (pt (i.val / 128)) (ix2 ⟨i.val % 128, Nat.mod_lt _ (by decide)⟩ k) (pt_row i) rfl).trans ?_
  rw [codes_apply]
  unfold combCode combScale
  rw [funext fun k => tileB_apply m c (pt (i.val / 128)) ⟨i.val % 128, Nat.mod_lt _ (by decide)⟩ k i (pt_row i),
    tileB_apply m c (pt (i.val / 128)) ⟨i.val % 128, Nat.mod_lt _ (by decide)⟩ k i (pt_row i)]

theorem sclA_apply (c : Dev nD) (u : Fin 1) (i : Fin 2304) :
    sclA m c (ix2 u i) = combScale (m ((c : Thread nD τ).loc main_arg0)) (m ((c : Thread nD τ).loc main_arg1)) (m ((c : Thread nD τ).loc main_arg2)) i := by
  refine (sclA_at m c (ix2 u i) (pt (i.val / 128)) (ix2 u ⟨i.val % 128, Nat.mod_lt _ (by decide)⟩) rfl (pt_row i)).trans ?_
  rw [pay5_apply, sclCol_apply]
  unfold combScale
  rw [funext fun k => tileB_apply m c (pt (i.val / 128)) ⟨i.val % 128, Nat.mod_lt _ (by decide)⟩ k i (pt_row i)]

end Cert.CombineIdeal.Hand

end

end
-- ==== Proof.CombRefValue.lean ====
/-
  Hand-written, untrusted. The combining step's reference: its run, and its two results at an index over the extended reals.
-/
module

public import proofs.«01_k».proof.Defs
public import proofs.«01_k».proof.Proof.Gen.CombineReferenceIdeal
public import proofs.«01_k».proof.Proof.CombSpec
public import Idealize.ShloMosaic.Lib.Claim
public import Idealize.ShloMosaic.Lib.Pointwise
public import Idealize.ShloMosaic.Lib.KernelVsHost
public import Idealize.ShloMosaic.Lib.Quiescent

@[expose] public section

set_option maxRecDepth 16384

noncomputable section

namespace Cert.CombineReferenceIdeal.Hand

open Cert.CombineReferenceIdeal Cert.CombineReferenceIdeal.Gen Cert.Spec
open Idealize.ShloMosaic Idealize.ShloMosaic.TcCoe Idealize.SL.Sem

/-! ## The steps -/

/-- The words, a negative one counted from the end. -/
def wrapped (T : IVec S2304x2 32) : IVec S2304x2 32 :=
  select (cmpi .slt T (broadcastInDim S2304x2 ![] bcast_S_S2304x2 (constantI S_ 32 0#32))) (addi T (broadcastInDim S2304x2 ![] bcast_S_S2304x2 (constantI S_ 32 4608#32))) T

/-- The rows that the words name. -/
def rowsOf (T : IVec S2304x2 32) (E : FVec Ideal S4608x1024 .f32) : FVec Ideal S2304x2x1024 .f32 :=
  Host.gather gather_S4608x1024_S2304x2x1_S2304x2x1024_2_0_n_n_0_2_11024 E (broadcastInDim S2304x2x1 ![0, 1] bcast_S2304x2_S2304x2x1_0_1 (wrapped T))

/-- The weighted sums, from the rows. -/
def sumOf (W : FVec Ideal S2304x2 .f32) (R : FVec Ideal S2304x2x1024 .f32) : FVec Ideal S2304x1024 .f32 :=
  Host.reduceAdd (mulf (broadcastInDim S2304x2x1024 ![0, 1, 2] bcast_S2304x2x1_S2304x2x1024_0_1_2 (broadcastInDim S2304x2x1 ![0, 1] bcast_S2304x2_S2304x2x1_0_1 W)) R)
    (constant S_ .f32 0x00000000#32) reducesTo_S2304x2x1024_S2304x1024_d1 h_S_

/-- The rows' greatest magnitudes. -/
def maxOf (X : FVec Ideal S2304x1024 .f32) : FVec Ideal S2304 .f32 :=
  Host.reduce FloatOps.maximumf (Host.absf X) (constant S_ .f32 0xFF800000#32) reducesTo_S2304x1024_S2304_d1 h_S_

/-- The scales, from these. -/
def sclOf (M : FVec Ideal S2304 .f32) : FVec Ideal S2304 .f32 :=
  select (cmpf .oeq M (broadcastInDim S2304 ![] bcast_S_S2304 (constant S_ .f32 0x00000000#32)))
    (broadcastInDim S2304 ![] bcast_S_S2304 (constant S_ .f32 0x3F800000#32))
    (Host.divf M (broadcastInDim S2304 ![] bcast_S_S2304 (constant S_ .f32 0x43E00000#32)))

/-- The codes, from the sums and their scales. -/
def codOf (X : FVec Ideal S2304x1024 .f32) (s : FVec Ideal S2304 .f32) : FVec Ideal S2304x1024 .fp8e4m3 :=
  Host.convertf .fp8e4m3 (minimumf (broadcastInDim S2304x1024 ![] bcast_S_S2304x1024 (constant S_ .f32 0x43E00000#32))
    (maximumf (broadcastInDim S2304x1024 ![] bcast_S_S2304x1024 (constant S_ .f32 0xC3E00000#32))
      (Host.divf X (broadcastInDim S2304x1024 ![0, 1] bcast_S2304x1_S2304x1024_0_1 (broadcastInDim S2304x1 ![0] bcast_S2304_S2304x1_0 s)))))

/-- The scales as one row. -/
def lieOf (s : FVec Ideal S2304 .f32) : FVec Ideal S1x2304 .f32 := broadcastInDim S1x2304 ![1] bcast_S2304_S1x2304_1 s

variable (T : IVec S2304x2 32) (W : FVec Ideal S2304x2 .f32) (E : FVec Ideal S4608x1024 .f32)

def sumsA : FVec Ideal S2304x1024 .f32 := sumOf W (rowsOf T E)
def sclA : FVec Ideal S2304 .f32 := sclOf (maxOf (sumsA T W E))
def codA : FVec Ideal S2304x1024 .fp8e4m3 := codOf (sumsA T W E) (sclA T W E)

/-! ## The run -/

/-- The reference's run: its results, its arguments as launched. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v22)
          = codA (m ((c.tc : Thread nD τ).loc main_arg0)) (m ((c.tc : Thread nD τ).loc main_arg1)) (m ((c.tc : Thread nD τ).loc main_arg2))
      ∧ r.2.mem ((c.tc : Thread nD τ).loc main_v23)
          = lieOf (sclA (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  · simp only [StableHlo.TRef.ofBuf_toBuf]
    simp -implicitDefEqProofs only [StableHlo.TRef.toBuf, StableHlo.TRef.ofBuf, cast_eq]
    unfold codA sclA sumsA codOf sclOf maxOf sumOf rowsOf wrapped
    rfl
  · simp only [StableHlo.TRef.ofBuf_toBuf]
    simp -implicitDefEqProofs only [StableHlo.TRef.toBuf, StableHlo.TRef.ofBuf, cast_eq]
    unfold lieOf sclA sumsA sclOf maxOf sumOf rowsOf wrapped
    rfl

set_option maxHeartbeats 1000000 in
/-- The reference's frame: its arguments as launched, every semaphore counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  hlo_run
  · exact fun _ => ⟨trivial, trivial, trivial⟩
  · exact sem_eq_zero_of_no_sems (by decide) _

/-! ## The results at an index -/

/-- The gather at an index: the row that the word names, read signed and held inside the array. -/
theorem gather_apply (x : FVec Ideal S4608x1024 .f32) (idx : IVec S2304x2x1 32) (i : Fin 2304) (s : Fin 2) (k : Fin 1024) :
    Host.gather gather_S4608x1024_S2304x2x1_S2304x2x1024_2_0_n_n_0_2_11024 x idx (ix3 i s k)
      = x (ix2 ⟨min (idx (ix3 i s 0)).toInt.toNat 4607, by omega⟩ k) := by
  unfold Host.gather
  congr 1
  funext a
  refine Fin.ext ?_
  show (gather_S4608x1024_S2304x2x1_S2304x2x1024_2_0_n_n_0_2_11024).start (ix3 i s k) idx a
      + (gather_S4608x1024_S2304x2x1_S2304x2x1024_2_0_n_n_0_2_11024).batchCoord (ix3 i s k) a
      + (gather_S4608x1024_S2304x2x1_S2304x2x1024_2_0_n_n_0_2_11024).offCoord (ix3 i s k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S4608x1024_S2304x2x1_S2304x2x1024_2_0_n_n_0_2_11024).startIndexMap from List.mem_singleton.mpr rfl)]
    have hsi : (gather_S4608x1024_S2304x2x1_S2304x2x1024_2_0_n_n_0_2_11024).siIdx (ix3 i s k)
        ⟨List.idxOf (0 : Fin 2) (gather_S4608x1024_S2304x2x1_S2304x2x1024_2_0_n_n_0_2_11024).startIndexMap,
          List.idxOf_lt_length_iff.2 (List.mem_singleton.mpr rfl)⟩ = ix3 i s 0 := by
      funext b; refine Fin.ext ?_
      match b with
      | ⟨0, _⟩ => rfl
      | ⟨1, _⟩ => rfl
      | ⟨2, _⟩ => rfl
    rw [hsi]
    rfl
  · unfold GatherDims.start
    rw [dif_neg (show ¬ (1 : Fin 2) ∈ (gather_S4608x1024_S2304x2x1_S2304x2x1024_2_0_n_n_0_2_11024).startIndexMap from
      fun h => absurd (List.mem_singleton.mp h) (by decide))]
    simp only [Nat.zero_add]
    unfold GatherDims.offCoord
    rw [dif_pos ((GatherDims.mem_sKept _ _).mpr ⟨fun h => absurd (List.mem_singleton.mp h) (by decide), List.not_mem_nil⟩)]
    rfl

/-- A word that names a row is what it is. -/
theorem wrapped_apply (j : S2304x2.Idx) (h : (T j).toNat < 4608) : wrapped T j = T j := by
  have e : wrapped T j = if (T j).slt 0#32 then T j + 4608#32 else T j := by
    pointwise [wrapped]
    unfold Scalar.select IntOp.cmpi IntOp.addi
    cases h0 : (T j).slt 0#32 <;> simp [h0]
  rw [e, if_neg]
  rw [BitVec.slt_iff_toInt_lt, BitVec.toInt_eq_toNat_of_lt (by omega)]
  simp

theorem rowsOf_apply (hT : ∀ j, (T j).toNat < 4608) (i : Fin 2304) (s : Fin 2) (k : Fin 1024) :
    rowsOf T E (ix3 i s k) = E (ix2 (rowOf T i s) k) := by
  have e : broadcastInDim S2304x2x1 ![0, 1] bcast_S2304x2_S2304x2x1_0_1 (wrapped T) (ix3 i s 0) = T (ix2 i s) := by
    refine Eq.trans ?_ (wrapped_apply T (ix2 i s) (hT _))
    generalize wrapped T = V
    pointwise
  unfold rowsOf
  rw [gather_apply]
  refine congrArg (fun z => E (ix2 z k)) (Fin.ext ?_)
  have h := hT (ix2 i s)
  show min _ 4607 = (T (ix2 i s)).toNat % 4608
  rw [e, BitVec.toInt_eq_toNat_of_lt (by omega)]
  omega

theorem sumOf_apply (R : FVec Ideal S2304x2x1024 .f32) (i : Fin 2304) (k : Fin 1024) :
    sumOf W R (ix2 i k) = W (ix2 i 0) * R (ix3 i 0 k) + W (ix2 i 1) * R (ix3 i 1 k) := by
  have e : sumOf W R (ix2 i k) = ∑ s : Fin 2, (W (ix2 i s) * R (ix3 i s k) : EReal) := by
    pointwise [sumOf]
  rw [e, Fin.sum_univ_two]

theorem sumsA_apply (hT : ∀ j, (T j).toNat < 4608) (i : Fin 2304) (k : Fin 1024) : sumsA T W E (ix2 i k) = comb T W E i k := by
  unfold sumsA
  rw [sumOf_apply, rowsOf_apply T E hT, rowsOf_apply T E hT]
  rfl

theorem maxOf_apply (X : FVec Ideal S2304x1024 .f32) (i : Fin 2304) : maxOf X (ix1 i) = absSup (fun k : Fin 1024 => (X (ix2 i k) : EReal)) := by
  have h : S2304x1024.Reduces [1] S2304 := by decide
  unfold maxOf
  refine Eq.trans ?_ (rowAbsSup_apply h (.inl rfl) rfl X i)
  exact congrFun (hostReduce_maximumf_eq_multiReduction (absf X) 0xFF800000#32 reducesTo_S2304x1024_S2304_d1 h_S_ h (.inl rfl) rfl) (ix1 i)

theorem sclOf_apply (M : FVec Ideal S2304 .f32) (i : Fin 2304) : sclOf M (ix1 i) = scale (M (ix1 i)) := by
  unfold sclOf scale
  rw [← lit_448]
  pointwise

theorem codOf_apply (X : FVec Ideal S2304x1024 .f32) (s : FVec Ideal S2304 .f32) (i : Fin 2304) (k : Fin 1024) :
    codOf X s (ix2 i k) = code (X (ix2 i k)) (s (ix1 i)) := by
  unfold code
  rw [← lit_448, ← lit_neg448]
  pointwise [codOf]

theorem lieOf_apply (s : FVec Ideal S2304 .f32) (u : Fin 1) (i : Fin 2304) : lieOf s (ix2 u i) = s (ix1 i) := by
  pointwise [lieOf]

theorem sclA_apply (hT : ∀ j, (T j).toNat < 4608) (i : Fin 2304) : sclA T W E (ix1 i) = combScale T W E i := by
  unfold sclA combScale
  rw [sclOf_apply, maxOf_apply, funext fun k => sumsA_apply T W E hT i k]

theorem codA_apply (hT : ∀ j, (T j).toNat < 4608) (i : Fin 2304) (k : Fin 1024) : codA T W E (ix2 i k) = combCode T W E i k := by
  unfold codA combCode
  rw [codOf_apply, sumsA_apply T W E hT, sclA_apply T W E hT]

end Cert.CombineReferenceIdeal.Hand

end

end
-- ==== Proof.lean ====
module

public import proofs.«01_k».proof.Defs
public import proofs.«01_k».proof.Proof.Gen.ReferenceIdeal.Value
public import proofs.«01_k».proof.Proof.KernelRun
public import proofs.«01_k».proof.Proof.IdealRun
public import proofs.«01_k».proof.Proof.IdealFinal
public import proofs.«01_k».proof.Proof.IdealValue
public import proofs.«01_k».proof.Proof.RefValue
public import proofs.«01_k».proof.Proof.Gen.InProjReferenceIdeal.Value
public import proofs.«01_k».proof.Proof.InKernelRun
public import proofs.«01_k».proof.Proof.InIdealRun
public import proofs.«01_k».proof.Proof.InIdealValue
public import proofs.«01_k».proof.Proof.InRefValue
public import proofs.«01_k».proof.Proof.CombKernelRun
public import proofs.«01_k».proof.Proof.CombIdealRun
public import proofs.«01_k».proof.Proof.CombIdealValue
public import proofs.«01_k».proof.Proof.CombRefValue
public import Idealize.ShloMosaic.Adequacy
public import Idealize.ShloMosaic.Init
public import Idealize.ShloMosaic.Lib.Affine

@[expose] public section

set_option maxRecDepth 16384

noncomputable section

-- The frame claims also say that every semaphore counter ends at zero; the proof must show that too.

namespace Cert.Proof

open Idealize.ShloMosaic Idealize.ShloMosaic.TcCoe Idealize.SL.Sem

section Values

open Cert.KernelIdeal Cert.KernelIdeal.Hand

variable (m : (ℓ : Loc Cert.KernelIdeal.nD Cert.KernelIdeal.τ Cert.KernelIdeal.sig) → Buf (Elt Ideal) ℓ) (c : Dev Cert.KernelIdeal.nD)

/-- The reference's scales of the kernel's arguments are the kernel's. -/
theorem scales_at (i : Fin 2304) (u : Fin 1) : Cert.ReferenceIdeal.Gen.k0_pay5 (F := Ideal) (m ((c : Thread nD τ).loc main_arg0)) (m ((c : Thread nD τ).loc main_arg1))
      (m ((c : Thread nD τ).loc main_arg2)) (m ((c : Thread nD τ).loc main_arg3)) (ix2 i u) = sclA m c (ix2 i u) := by
  rw [sclA_apply, Cert.ReferenceIdeal.Hand.pay5_apply, Cert.ReferenceIdeal.Hand.pay3_apply]
  rfl

theorem scales_eq : Cert.ReferenceIdeal.Gen.k0_pay5 (F := Ideal) (m ((c : Thread nD τ).loc main_arg0)) (m ((c : Thread nD τ).loc main_arg1))
      (m ((c : Thread nD τ).loc main_arg2)) (m ((c : Thread nD τ).loc main_arg3)) = sclA m c := by
  funext y
  rw [eq_ix2 y]
  exact scales_at m c _ _

/-- The reference's codes of the kernel's arguments are the kernel's. -/
theorem codes_at (i : Fin 2304) (j : Fin 5376) : Cert.ReferenceIdeal.Gen.k0_pay4 (F := Ideal) (m ((c : Thread nD τ).loc main_arg0)) (m ((c : Thread nD τ).loc main_arg1))
      (m ((c : Thread nD τ).loc main_arg2)) (m ((c : Thread nD τ).loc main_arg3)) (ix2 i j) = codA m c (ix2 i j) := by
  rw [codA_apply, Cert.ReferenceIdeal.Hand.pay4_apply]
  rfl

theorem codes_eq : Cert.ReferenceIdeal.Gen.k0_pay4 (F := Ideal) (m ((c : Thread nD τ).loc main_arg0)) (m ((c : Thread nD τ).loc main_arg1))
      (m ((c : Thread nD τ).loc main_arg2)) (m ((c : Thread nD τ).loc main_arg3)) = codA m c := by
  funext y
  rw [eq_ix2 y]
  exact codes_at m c _ _

/-- The reference's output of the kernel's arguments is the kernel's. -/
theorem out_at (i : Fin 2304) (j : Fin 4096) : Cert.ReferenceIdeal.Gen.k0_pay1 (F := Ideal)
      (Cert.ReferenceIdeal.Gen.k0_pay3 (F := Ideal) (m ((c : Thread nD τ).loc main_arg0)) (m ((c : Thread nD τ).loc main_arg1))
      (m ((c : Thread nD τ).loc main_arg2)) (m ((c : Thread nD τ).loc main_arg3)))
      (Cert.ReferenceIdeal.Gen.k0_pay4 (F := Ideal) (m ((c : Thread nD τ).loc main_arg0)) (m ((c : Thread nD τ).loc main_arg1))
      (m ((c : Thread nD τ).loc main_arg2)) (m ((c : Thread nD τ).loc main_arg3)))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (ix2 i j) = outA m c (ix2 i j) := by
  rw [outA_apply, Cert.ReferenceIdeal.Hand.pay1_apply, codes_eq m c,
    funext fun k => codA_apply m c i k, Cert.ReferenceIdeal.Hand.pay3_apply]
  rfl

theorem out_eq : Cert.ReferenceIdeal.Gen.k0_pay1 (F := Ideal)
      (Cert.ReferenceIdeal.Gen.k0_pay3 (F := Ideal) (m ((c : Thread nD τ).loc main_arg0)) (m ((c : Thread nD τ).loc main_arg1))
      (m ((c : Thread nD τ).loc main_arg2)) (m ((c : Thread nD τ).loc main_arg3)))
      (Cert.ReferenceIdeal.Gen.k0_pay4 (F := Ideal) (m ((c : Thread nD τ).loc main_arg0)) (m ((c : Thread nD τ).loc main_arg1))
      (m ((c : Thread nD τ).loc main_arg2)) (m ((c : Thread nD τ).loc main_arg3)))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) = outA m c := by
  funext y
  rw [eq_ix2 y]
  exact out_at m c _ _

end Values

theorem algebraic : @Cert.algebraic_KernelIdeal_ReferenceIdeal Cert.KernelIdeal.Gen.facts Cert.ReferenceIdeal.Gen.facts := by
  intro m g m' g' _ hargs
  refine ⟨fun c => Cert.KernelIdeal.Hand.outA m c, fun c => Cert.KernelIdeal.Hand.codA m c, fun c => Cert.KernelIdeal.Hand.sclA m c, ?_, ?_⟩
  · exact (θ_run _ _ _).mono (fun r h c => ⟨Cert.KernelIdeal.Hand.final11 h.1 c, Cert.KernelIdeal.Hand.final12 h.1 c,
      Cert.KernelIdeal.Hand.final13 h.1 c, Cert.KernelIdeal.Hand.args_kept h.1 c⟩) (Cert.KernelIdeal.Hand.run_main m g)
  · refine (θ_run _ _ _).mono (fun r h c => ?_) (Cert.ReferenceIdeal.Value.run m' g')
    obtain ⟨h0, h1, h2, h3⟩ := h c
    obtain ⟨e0, e1, e2, e3, e4, e5, e6, e7, e8, e9, e10⟩ := hargs c
    refine ⟨h0.trans ?_, h1.trans ?_, h2.trans ?_, h3⟩
    · refine Eq.trans ?_ (out_eq m c)
      rw [e0, e1, e2, e3, e4, e5, e6, e7, e8, e9, e10]
    · refine Eq.trans ?_ (codes_eq m c)
      rw [e0, e1, e2, e3]
    · refine Eq.trans ?_ (scales_eq m c)
      rw [e0, e1, e2, e3]

section InValues

open Cert.InProjIdeal Cert.InProjIdeal.Hand

variable (m : (ℓ : Loc Cert.InProjIdeal.nD Cert.InProjIdeal.τ Cert.InProjIdeal.sig) → Buf (Elt Ideal) ℓ) (c : Dev Cert.InProjIdeal.nD)

/-- The reference's codes of the normalized tokens, of the kernel's arguments, are the kernel's. -/
theorem inCodes_at (i : Fin 2304) (j : Fin 4096) : Cert.InProjReferenceIdeal.Value.G4 (m ((c : Thread nD τ).loc main_arg0)) (m ((c : Thread nD τ).loc main_arg1)) (m ((c : Thread nD τ).loc main_arg2)) (m ((c : Thread nD τ).loc main_arg3))
      (ix2 i j) = codA m c (ix2 i j) := by
  rw [codA_apply, Cert.InProjReferenceIdeal.Hand.G4_apply]
  rfl

theorem inCodes_eq : Cert.InProjReferenceIdeal.Value.G4 (m ((c : Thread nD τ).loc main_arg0)) (m ((c : Thread nD τ).loc main_arg1)) (m ((c : Thread nD τ).loc main_arg2)) (m ((c : Thread nD τ).loc main_arg3))
      = codA m c := by
  funext y
  rw [eq_ix2 y]
  exact inCodes_at m c _ _

/-- The reference's scales of the normalized tokens, of the kernel's arguments, are the kernel's. -/
theorem inScales_at (u : Fin 1) (i : Fin 2304) : Cert.InProjReferenceIdeal.Value.G5 (m ((c : Thread nD τ).loc main_arg0)) (m ((c : Thread nD τ).loc main_arg1)) (m ((c : Thread nD τ).loc main_arg2)) (m ((c : Thread nD τ).loc main_arg3))
      (ix2 u i) = insA m c (ix2 u i) := by
  rw [insA_apply, Cert.InProjReferenceIdeal.Hand.G5_apply]
  rfl

theorem inScales_eq : Cert.InProjReferenceIdeal.Value.G5 (m ((c : Thread nD τ).loc main_arg0)) (m ((c : Thread nD τ).loc main_arg1)) (m ((c : Thread nD τ).loc main_arg2)) (m ((c : Thread nD τ).loc main_arg3))
      = insA m c := by
  funext y
  rw [eq_ix2 y]
  exact inScales_at m c _ _

/-- The reference's `z`, of the kernel's arguments, is the kernel's. -/
theorem z_at (i : Fin 2304) (j : Fin 1024) : Cert.InProjReferenceIdeal.Value.G6 (m ((c : Thread nD τ).loc main_arg0)) (m ((c : Thread nD τ).loc main_arg1)) (m ((c : Thread nD τ).loc main_arg2)) (m ((c : Thread nD τ).loc main_arg3))
      (ix2 i j) = zA m c (ix2 i j) := by
  rw [zA_apply, Cert.InProjReferenceIdeal.Hand.G6_apply]
  rfl

theorem z_eq : Cert.InProjReferenceIdeal.Value.G6 (m ((c : Thread nD τ).loc main_arg0)) (m ((c : Thread nD τ).loc main_arg1)) (m ((c : Thread nD τ).loc main_arg2)) (m ((c : Thread nD τ).loc main_arg3))
      = zA m c := by
  funext y
  rw [eq_ix2 y]
  exact z_at m c _ _

/-- The reference's codes of the convolution's input, of the kernel's arguments, are the kernel's. -/
theorem convCodes_at (i : Fin 2304) (j : Fin 1280) : Cert.InProjReferenceIdeal.Value.G7 (m ((c : Thread nD τ).loc main_arg0)) (m ((c : Thread nD τ).loc main_arg1)) (m ((c : Thread nD τ).loc main_arg2)) (m ((c : Thread nD τ).loc main_arg3))
      (ix2 i j) = ccA m c (ix2 i j) := by
  rw [ccA_apply, Cert.InProjReferenceIdeal.Hand.G7_apply]
  rfl

theorem convCodes_eq : Cert.InProjReferenceIdeal.Value.G7 (m ((c : Thread nD τ).loc main_arg0)) (m ((c : Thread nD τ).loc main_arg1)) (m ((c : Thread nD τ).loc main_arg2)) (m ((c : Thread nD τ).loc main_arg3))
      = ccA m c := by
  funext y
  rw [eq_ix2 y]
  exact convCodes_at m c _ _

/-- The reference's scales of the convolution's input, of the kernel's arguments, are the kernel's. -/
theorem convScales_at (g : Fin 10) (i : Fin 2304) : Cert.InProjReferenceIdeal.Value.G8 (m ((c : Thread nD τ).loc main_arg0)) (m ((c : Thread nD τ).loc main_arg1)) (m ((c : Thread nD τ).loc main_arg2)) (m ((c : Thread nD τ).loc main_arg3))
      (ix2 g i) = cscA m c (ix2 g i) := by
  rw [cscA_apply, Cert.InProjReferenceIdeal.Hand.G8_apply]
  rfl

theorem convScales_eq : Cert.InProjReferenceIdeal.Value.G8 (m ((c : Thread nD τ).loc main_arg0)) (m ((c : Thread nD τ).loc main_arg1)) (m ((c : Thread nD τ).loc main_arg2)) (m ((c : Thread nD τ).loc main_arg3))
      = cscA m c := by
  funext y
  rw [eq_ix2 y]
  exact convScales_at m c _ _

end InValues

theorem algebraicIn : @Cert.algebraic_InProjIdeal_InProjReferenceIdeal Cert.InProjIdeal.Gen.facts Cert.InProjReferenceIdeal.Gen.facts := by
  intro m g m' g' _ hargs
  refine ⟨fun c => Cert.InProjIdeal.Hand.codA m c, fun c => Cert.InProjIdeal.Hand.insA m c, fun c => Cert.InProjIdeal.Hand.zA m c,
    fun c => Cert.InProjIdeal.Hand.ccA m c, fun c => Cert.InProjIdeal.Hand.cscA m c, ?_, ?_⟩
  · exact (θ_run _ _ _).mono (fun r h c => ⟨Cert.InProjIdeal.Hand.final12 h.1 c, Cert.InProjIdeal.Hand.final13 h.1 c,
      Cert.InProjIdeal.Hand.final14 h.1 c, Cert.InProjIdeal.Hand.final15 h.1 c, Cert.InProjIdeal.Hand.final16 h.1 c,
      Cert.InProjIdeal.Hand.args_kept h.1 c⟩) (Cert.InProjIdeal.Hand.run_main m g)
  · refine (θ_run _ _ _).mono (fun r h c => ?_) (Cert.InProjReferenceIdeal.Value.run m' g')
    obtain ⟨h0, h1, h2, h3, h4, h5⟩ := h c
    obtain ⟨e0, e1, e2, e3, -⟩ := hargs c
    refine ⟨h0.trans ?_, h1.trans ?_, h2.trans ?_, h3.trans ?_, h4.trans ?_, h5⟩
    · refine Eq.trans ?_ (inCodes_eq m c)
      rw [e0, e1, e2, e3]
    · refine Eq.trans ?_ (inScales_eq m c)
      rw [e0, e1, e2, e3]
    · refine Eq.trans ?_ (z_eq m c)
      rw [e0, e1, e2, e3]
    · refine Eq.trans ?_ (convCodes_eq m c)
      rw [e0, e1, e2, e3]
    · refine Eq.trans ?_ (convScales_eq m c)
      rw [e0, e1, e2, e3]

/-! ## The combining of the experts' rows -/

/-- The precondition's side condition. -/
instance preFacts : Cert.Pre_rows_exist.Facts where
  bcast_S_S2304x2 := by decide

theorem and_one : ∀ a b : BitVec 1, a &&& b = 1#1 → a = 1#1 ∧ b = 1#1 := by decide

/-- Where the precondition holds, every word names a row. -/
theorem word_lt {F : FTy → Type} [FloatOps F] (T : IVec Cert.Pre_rows_exist.S2304x2 32) (W : FVec F Cert.Pre_rows_exist.S2304x2 .f32)
    (E : FVec F Cert.Pre_rows_exist.S4608x1024 .f32) (h : Cert.Pre_rows_exist.fn (F := F) T W E = fun _ => 1#1) (j : Cert.Pre_rows_exist.S2304x2.Idx) :
    (T j).toNat < 4608 := by
  have hj : IntOp.cmpi .sge (T j) 0#32 &&& IntOp.cmpi .slt (T j) 4608#32 = 1#1 := congrFun h j
  obtain ⟨h0, h1⟩ := and_one _ _ hj
  have h0 := IntOp.cmpi_sge.mp h0
  have h1 := IntOp.cmpi_slt.mp h1
  rw [show (0#32 : BitVec 32).toInt = 0 from by decide] at h0
  rw [show (4608#32 : BitVec 32).toInt = 4608 from by decide] at h1
  rw [BitVec.toInt_eq_toNat_cond] at h0 h1
  split at h0 <;> omega

theorem combRows {m : (ℓ : Loc Cert.Combine.nD Cert.Combine.τ Cert.Combine.sig) → Buf (Elt Bits) ℓ} (h : Cert.Pre_Combine m) : Cert.Combine.Hand.RowsOk m :=
  Cert.Combine.Hand.rows_ok m fun c j => word_lt (F := Bits) _ _ _ (h c) j

theorem combWords {m : (ℓ : Loc Cert.CombineIdeal.nD Cert.CombineIdeal.τ Cert.CombineIdeal.sig) → Buf (Elt Ideal) ℓ} (h : Cert.Pre_CombineIdeal m)
    (c : Dev Cert.CombineIdeal.nD) (j : Cert.CombineIdeal.S2304x2.Idx) :
    BitVec.toNat (w := 32) (m ((c.tc : Thread Cert.CombineIdeal.nD Cert.CombineIdeal.τ).loc Cert.CombineIdeal.main_arg0) j) < 4608 :=
  word_lt (F := Ideal) _ _ _ (h c) j

theorem combRowsIdeal {m : (ℓ : Loc Cert.CombineIdeal.nD Cert.CombineIdeal.τ Cert.CombineIdeal.sig) → Buf (Elt Ideal) ℓ} (h : Cert.Pre_CombineIdeal m) :
    Cert.CombineIdeal.Hand.RowsOk m :=
  Cert.CombineIdeal.Hand.rows_ok m (combWords h)

section CombValues

open Cert.CombineIdeal Cert.CombineIdeal.Hand

variable {m : (ℓ : Loc Cert.CombineIdeal.nD Cert.CombineIdeal.τ Cert.CombineIdeal.sig) → Buf (Elt Ideal) ℓ} (hm : Cert.Pre_CombineIdeal m)
  (c : Dev Cert.CombineIdeal.nD)

include hm

theorem combCodes_eq : Cert.CombineReferenceIdeal.Hand.codA (m ((c : Thread nD τ).loc main_arg0)) (m ((c : Thread nD τ).loc main_arg1)) (m ((c : Thread nD τ).loc main_arg2))
    = codA m c := by
  funext y
  rw [eq_ix2 y]
  exact (Cert.CombineReferenceIdeal.Hand.codA_apply _ _ _ (combWords hm c) (y 0) (y 1)).trans (codA_apply m c (y 0) (y 1)).symm

theorem combScales_eq : Cert.CombineReferenceIdeal.Hand.lieOf (Cert.CombineReferenceIdeal.Hand.sclA (m ((c : Thread nD τ).loc main_arg0))
    (m ((c : Thread nD τ).loc main_arg1)) (m ((c : Thread nD τ).loc main_arg2))) = sclA m c := by
  funext y
  rw [eq_ix2 y]
  refine (Cert.CombineReferenceIdeal.Hand.lieOf_apply _ (y 0) (y 1)).trans ?_
  exact (Cert.CombineReferenceIdeal.Hand.sclA_apply _ _ _ (combWords hm c) (y 1)).trans (sclA_apply m c (y 0) (y 1)).symm

end CombValues

theorem algebraicComb : @Cert.algebraic_CombineIdeal_CombineReferenceIdeal Cert.CombineIdeal.Gen.facts Cert.CombineReferenceIdeal.Gen.facts preFacts := by
  intro m g m' g' hpre hargs
  refine ⟨fun c => Cert.CombineIdeal.Hand.codA m c, fun c => Cert.CombineIdeal.Hand.sclA m c, ?_, ?_⟩
  · exact (θ_run _ _ _).mono (fun r h c => ⟨Cert.CombineIdeal.Hand.final3 h.1 c, Cert.CombineIdeal.Hand.final4 h.1 c,
      Cert.CombineIdeal.Hand.args_kept h.1 c⟩) (Cert.CombineIdeal.Hand.run_main m g (combRowsIdeal hpre))
  · refine (θ_run _ _ _).mono (fun r h c => ?_) (Cert.CombineReferenceIdeal.Hand.run m' g')
    obtain ⟨h0, h1, h2⟩ := h c
    obtain ⟨e0, e1, e2⟩ := hargs c
    refine ⟨h0.trans ?_, h1.trans ?_, h2⟩
    · refine Eq.trans ?_ (combCodes_eq hpre c)
      rw [e0, e1, e2]
    · refine Eq.trans ?_ (combScales_eq hpre c)
      rw [e0, e1, e2]

theorem claim : Cert.Claim := ⟨Cert.Kernel.Gen.facts, Cert.KernelIdeal.Gen.facts, Cert.ReferenceIdeal.Gen.facts,
  Cert.InProj.Gen.facts, Cert.InProjIdeal.Gen.facts, Cert.InProjReferenceIdeal.Gen.facts,
  Cert.Combine.Gen.facts, Cert.CombineIdeal.Gen.facts, Cert.CombineReferenceIdeal.Gen.facts, preFacts,
  fun m g _ => (θ_run _ _ _).mono (fun r h => ⟨fun c => Cert.Kernel.Hand.args_kept h.1 c, h.2⟩) (Cert.Kernel.Hand.run_main m g),
  fun m g _ => (θ_run _ _ _).mono (fun r h => ⟨fun c => Cert.KernelIdeal.Hand.args_kept h.1 c, h.2⟩) (Cert.KernelIdeal.Hand.run_main m g),
  fun m g _ => Cert.ReferenceIdeal.Gen.frame m g,
  fun m g _ => (θ_run _ _ _).mono (fun r h => ⟨fun c => Cert.InProj.Hand.args_kept h.1 c, h.2⟩) (Cert.InProj.Hand.run_main m g),
  fun m g _ => (θ_run _ _ _).mono (fun r h => ⟨fun c => Cert.InProjIdeal.Hand.args_kept h.1 c, h.2⟩) (Cert.InProjIdeal.Hand.run_main m g),
  fun m g _ => Cert.InProjReferenceIdeal.Gen.frame m g,
  fun m g h => (θ_run _ _ _).mono (fun r h => ⟨fun c => Cert.Combine.Hand.args_kept h.1 c, h.2⟩) (Cert.Combine.Hand.run_main m g (combRows h)),
  fun m g h => (θ_run _ _ _).mono (fun r h => ⟨fun c => Cert.CombineIdeal.Hand.args_kept h.1 c, h.2⟩) (Cert.CombineIdeal.Hand.run_main m g (combRowsIdeal h)),
  fun m g _ => Cert.CombineReferenceIdeal.Hand.frame m g,
  fun m g _ => Cert.CombineReferenceIdeal.Hand.frame m g,
  IdealRules.named_const.statement Cert.KernelIdeal.κ "inv_fp8_max" .f32 0x3B124925#32 ((1 / 448 : ℝ) : EReal) rfl,
  algebraic,
  ⟨IdealRules.named_const.statement Cert.InProjIdeal.κ "inv_fp8_max" .f32 0x3B124925#32 ((1 / 448 : ℝ) : EReal) rfl,
    IdealRules.named_const.statement Cert.InProjIdeal.κ "inv_int8_max" .f32 0x3C010204#32 ((1 / 127 : ℝ) : EReal) rfl⟩,
  algebraicIn,
  IdealRules.named_const.statement Cert.CombineIdeal.κ "inv_fp8_max" .f32 0x3B124925#32 ((1 / 448 : ℝ) : EReal) rfl,
  algebraicComb⟩

end Cert.Proof

end
